-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Params (m : (ℓ : Loc Cert.Params.nD Cert.Params.τ Cert.Params.sig) → Buf (Elt Bits) ℓ) : Prop :=
  True

def Pre_ParamsIdeal (m : (ℓ : Loc Cert.ParamsIdeal.nD Cert.ParamsIdeal.τ Cert.ParamsIdeal.sig) → Buf (Elt Ideal) ℓ) : Prop :=
  True

def Pre_ParamsReferenceIdeal (m : (ℓ : Loc Cert.ParamsReferenceIdeal.nD Cert.ParamsReferenceIdeal.τ Cert.ParamsReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Params [hParams : Cert.Params.Facts] : Prop :=
  ∀ (m : (ℓ : Loc Cert.Params.nD Cert.Params.τ Cert.Params.sig) → Buf (Elt Bits) ℓ) (g : Dev Cert.Params.nD → PrngReg), Pre_Params m →
    θ_run (Cert.Params.defs (F := Bits)) (onTc (τ := Cert.Params.τ) (Cert.Params.main (F := Bits))) ⟨m, fun _ => 0, g⟩ (fun r => (∀ c : Dev Cert.Params.nD,
      r.2.mem ((c.tc : Thread Cert.Params.nD Cert.Params.τ).loc Cert.Params.main_arg0) = m ((c.tc : Thread Cert.Params.nD Cert.Params.τ).loc Cert.Params.main_arg0)
      ∧ r.2.mem ((c.tc : Thread Cert.Params.nD Cert.Params.τ).loc Cert.Params.main_arg1) = m ((c.tc : Thread Cert.Params.nD Cert.Params.τ).loc Cert.Params.main_arg1)
      ∧ r.2.mem ((c.tc : Thread Cert.Params.nD Cert.Params.τ).loc Cert.Params.main_arg2) = m ((c.tc : Thread Cert.Params.nD Cert.Params.τ).loc Cert.Params.main_arg2)
      ∧ r.2.mem ((c.tc : Thread Cert.Params.nD Cert.Params.τ).loc Cert.Params.main_arg3) = m ((c.tc : Thread Cert.Params.nD Cert.Params.τ).loc Cert.Params.main_arg3)
      ∧ r.2.mem ((c.tc : Thread Cert.Params.nD Cert.Params.τ).loc Cert.Params.main_arg4) = m ((c.tc : Thread Cert.Params.nD Cert.Params.τ).loc Cert.Params.main_arg4)
      ∧ r.2.mem ((c.tc : Thread Cert.Params.nD Cert.Params.τ).loc Cert.Params.main_arg5) = m ((c.tc : Thread Cert.Params.nD Cert.Params.τ).loc Cert.Params.main_arg5)
      ∧ r.2.mem ((c.tc : Thread Cert.Params.nD Cert.Params.τ).loc Cert.Params.main_arg6) = m ((c.tc : Thread Cert.Params.nD Cert.Params.τ).loc Cert.Params.main_arg6)
      ∧ r.2.mem ((c.tc : Thread Cert.Params.nD Cert.Params.τ).loc Cert.Params.main_arg7) = m ((c.tc : Thread Cert.Params.nD Cert.Params.τ).loc Cert.Params.main_arg7))
      ∧ r.2.sem = fun _ => 0)

def quiescent_ParamsIdeal [hParamsIdeal : Cert.ParamsIdeal.Facts] : Prop :=
  ∀ (m : (ℓ : Loc Cert.ParamsIdeal.nD Cert.ParamsIdeal.τ Cert.ParamsIdeal.sig) → Buf (Elt Ideal) ℓ) (g : Dev Cert.ParamsIdeal.nD → PrngReg), Pre_ParamsIdeal m →
    θ_run (Cert.ParamsIdeal.defs (F := Ideal)) (onTc (τ := Cert.ParamsIdeal.τ) (Cert.ParamsIdeal.main (F := Ideal))) ⟨m, fun _ => 0, g⟩ (fun r => (∀ c : Dev Cert.ParamsIdeal.nD,
      r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
      ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
      ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
      ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
      ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4)
      ∧ r.2.mem ((c.tc : Thread Cert.ParamsIdeal.nD Cert.ParamsIdeal.τ).loc Cert.ParamsIdeal.main_arg5) = m ((c.tc : Thread Cert.ParamsIdeal.nD Cert.ParamsIdeal.τ).loc Cert.ParamsIdeal.main_arg5)
      ∧ r.2.mem ((c.tc : Thread Cert.ParamsIdeal.nD Cert.ParamsIdeal.τ).loc Cert.ParamsIdeal.main_arg6) = m ((c.tc : Thread Cert.ParamsIdeal.nD Cert.ParamsIdeal.τ).loc Cert.ParamsIdeal.main_arg6)
      ∧ r.2.mem ((c.tc : Thread Cert.ParamsIdeal.nD Cert.ParamsIdeal.τ).loc Cert.ParamsIdeal.main_arg7) = m ((c.tc : Thread Cert.ParamsIdeal.nD Cert.ParamsIdeal.τ).loc Cert.ParamsIdeal.main_arg7))
      ∧ r.2.sem = fun _ => 0)

def quiescent_ParamsReferenceIdeal [hParamsReferenceIdeal : Cert.ParamsReferenceIdeal.Facts] : Prop :=
  ∀ (m : (ℓ : Loc Cert.ParamsReferenceIdeal.nD Cert.ParamsReferenceIdeal.τ Cert.ParamsReferenceIdeal.sig) → Buf (Elt Ideal) ℓ) (g : Dev Cert.ParamsReferenceIdeal.nD → PrngReg), Pre_ParamsReferenceIdeal m →
    θ_run (Cert.ParamsReferenceIdeal.defs (F := Ideal)) (onTc (τ := Cert.ParamsReferenceIdeal.τ) (Cert.ParamsReferenceIdeal.main (F := Ideal))) ⟨m, fun _ => 0, g⟩ (fun r => (∀ c : Dev Cert.ParamsReferenceIdeal.nD,
      r.2.mem ((c.tc : Thread Cert.ParamsReferenceIdeal.nD Cert.ParamsReferenceIdeal.τ).loc Cert.ParamsReferenceIdeal.main_arg0) = m ((c.tc : Thread Cert.ParamsReferenceIdeal.nD Cert.ParamsReferenceIdeal.τ).loc Cert.ParamsReferenceIdeal.main_arg0)
      ∧ r.2.mem ((c.tc : Thread Cert.ParamsReferenceIdeal.nD Cert.ParamsReferenceIdeal.τ).loc Cert.ParamsReferenceIdeal.main_arg1) = m ((c.tc : Thread Cert.ParamsReferenceIdeal.nD Cert.ParamsReferenceIdeal.τ).loc Cert.ParamsReferenceIdeal.main_arg1)
      ∧ r.2.mem ((c.tc : Thread Cert.ParamsReferenceIdeal.nD Cert.ParamsReferenceIdeal.τ).loc Cert.ParamsReferenceIdeal.main_arg2) = m ((c.tc : Thread Cert.ParamsReferenceIdeal.nD Cert.ParamsReferenceIdeal.τ).loc Cert.ParamsReferenceIdeal.main_arg2)
      ∧ r.2.mem ((c.tc : Thread Cert.ParamsReferenceIdeal.nD Cert.ParamsReferenceIdeal.τ).loc Cert.ParamsReferenceIdeal.main_arg3) = m ((c.tc : Thread Cert.ParamsReferenceIdeal.nD Cert.ParamsReferenceIdeal.τ).loc Cert.ParamsReferenceIdeal.main_arg3)
      ∧ r.2.mem ((c.tc : Thread Cert.ParamsReferenceIdeal.nD Cert.ParamsReferenceIdeal.τ).loc Cert.ParamsReferenceIdeal.main_arg4) = m ((c.tc : Thread Cert.ParamsReferenceIdeal.nD Cert.ParamsReferenceIdeal.τ).loc Cert.ParamsReferenceIdeal.main_arg4)
      ∧ r.2.mem ((c.tc : Thread Cert.ParamsReferenceIdeal.nD Cert.ParamsReferenceIdeal.τ).loc Cert.ParamsReferenceIdeal.main_arg5) = m ((c.tc : Thread Cert.ParamsReferenceIdeal.nD Cert.ParamsReferenceIdeal.τ).loc Cert.ParamsReferenceIdeal.main_arg5)
      ∧ r.2.mem ((c.tc : Thread Cert.ParamsReferenceIdeal.nD Cert.ParamsReferenceIdeal.τ).loc Cert.ParamsReferenceIdeal.main_arg6) = m ((c.tc : Thread Cert.ParamsReferenceIdeal.nD Cert.ParamsReferenceIdeal.τ).loc Cert.ParamsReferenceIdeal.main_arg6)
      ∧ r.2.mem ((c.tc : Thread Cert.ParamsReferenceIdeal.nD Cert.ParamsReferenceIdeal.τ).loc Cert.ParamsReferenceIdeal.main_arg7) = m ((c.tc : Thread Cert.ParamsReferenceIdeal.nD Cert.ParamsReferenceIdeal.τ).loc Cert.ParamsReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v7) = v0 c
          ∧ r.2.mem ((c.tc : Thread Cert.UpReferenceIdeal.nD Cert.UpReferenceIdeal.τ).loc Cert.UpReferenceIdeal.main_v9) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v16) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Params_ParamsIdeal : Prop :=
  True

def algebraic_ParamsIdeal_ParamsReferenceIdeal [hParamsIdeal : Cert.ParamsIdeal.Facts] [hParamsReferenceIdeal : Cert.ParamsReferenceIdeal.Facts] : Prop :=
  ∀ (m : (ℓ : Loc Cert.ParamsIdeal.nD Cert.ParamsIdeal.τ Cert.ParamsIdeal.sig) → Buf (Elt Ideal) ℓ) (g : Dev Cert.ParamsIdeal.nD → PrngReg)
    (m' : (ℓ : Loc Cert.ParamsReferenceIdeal.nD Cert.ParamsReferenceIdeal.τ Cert.ParamsReferenceIdeal.sig) → Buf (Elt Ideal) ℓ) (g' : Dev Cert.ParamsReferenceIdeal.nD → PrngReg), Pre_ParamsIdeal m →
    (∀ c : Dev Cert.ParamsIdeal.nD,
      m' ((c.tc : Thread Cert.ParamsReferenceIdeal.nD Cert.ParamsReferenceIdeal.τ).loc Cert.ParamsReferenceIdeal.main_arg0) = m ((c.tc : Thread Cert.ParamsIdeal.nD Cert.ParamsIdeal.τ).loc Cert.ParamsIdeal.main_arg0)
      ∧ m' ((c.tc : Thread Cert.ParamsReferenceIdeal.nD Cert.ParamsReferenceIdeal.τ).loc Cert.ParamsReferenceIdeal.main_arg1) = m ((c.tc : Thread Cert.ParamsIdeal.nD Cert.ParamsIdeal.τ).loc Cert.ParamsIdeal.main_arg1)
      ∧ m' ((c.tc : Thread Cert.ParamsReferenceIdeal.nD Cert.ParamsReferenceIdeal.τ).loc Cert.ParamsReferenceIdeal.main_arg2) = m ((c.tc : Thread Cert.ParamsIdeal.nD Cert.ParamsIdeal.τ).loc Cert.ParamsIdeal.main_arg2)
      ∧ m' ((c.tc : Thread Cert.ParamsReferenceIdeal.nD Cert.ParamsReferenceIdeal.τ).loc Cert.ParamsReferenceIdeal.main_arg3) = m ((c.tc : Thread Cert.ParamsIdeal.nD Cert.ParamsIdeal.τ).loc Cert.ParamsIdeal.main_arg3)
      ∧ m' ((c.tc : Thread Cert.ParamsReferenceIdeal.nD Cert.ParamsReferenceIdeal.τ).loc Cert.ParamsReferenceIdeal.main_arg4) = m ((c.tc : Thread Cert.ParamsIdeal.nD Cert.ParamsIdeal.τ).loc Cert.ParamsIdeal.main_arg4)
      ∧ m' ((c.tc : Thread Cert.ParamsReferenceIdeal.nD Cert.ParamsReferenceIdeal.τ).loc Cert.ParamsReferenceIdeal.main_arg5) = m ((c.tc : Thread Cert.ParamsIdeal.nD Cert.ParamsIdeal.τ).loc Cert.ParamsIdeal.main_arg5)
      ∧ m' ((c.tc : Thread Cert.ParamsReferenceIdeal.nD Cert.ParamsReferenceIdeal.τ).loc Cert.ParamsReferenceIdeal.main_arg6) = m ((c.tc : Thread Cert.ParamsIdeal.nD Cert.ParamsIdeal.τ).loc Cert.ParamsIdeal.main_arg6)
      ∧ m' ((c.tc : Thread Cert.ParamsReferenceIdeal.nD Cert.ParamsReferenceIdeal.τ).loc Cert.ParamsReferenceIdeal.main_arg7) = m ((c.tc : Thread Cert.ParamsIdeal.nD Cert.ParamsIdeal.τ).loc Cert.ParamsIdeal.main_arg7)) →
    ∃ (v0 : (c : Dev Cert.ParamsIdeal.nD) → Buf (Elt Ideal) ((c.tc : Thread Cert.ParamsIdeal.nD Cert.ParamsIdeal.τ).loc Cert.ParamsIdeal.main_v11_0)) (v1 : (c : Dev Cert.ParamsIdeal.nD) → Buf (Elt Ideal) ((c.tc : Thread Cert.ParamsIdeal.nD Cert.ParamsIdeal.τ).loc Cert.ParamsIdeal.main_v11_1)) (v2 : (c : Dev Cert.ParamsIdeal.nD) → Buf (Elt Ideal) ((c.tc : Thread Cert.ParamsIdeal.nD Cert.ParamsIdeal.τ).loc Cert.ParamsIdeal.main_v11_2)) (v3 : (c : Dev Cert.ParamsIdeal.nD) → Buf (Elt Ideal) ((c.tc : Thread Cert.ParamsIdeal.nD Cert.ParamsIdeal.τ).loc Cert.ParamsIdeal.main_v11_3)) (v4 : (c : Dev Cert.ParamsIdeal.nD) → Buf (Elt Ideal) ((c.tc : Thread Cert.ParamsIdeal.nD Cert.ParamsIdeal.τ).loc Cert.ParamsIdeal.main_v11_4)),
      θ_run (Cert.ParamsIdeal.defs (F := Ideal)) (onTc (τ := Cert.ParamsIdeal.τ) (Cert.ParamsIdeal.main (F := Ideal))) ⟨m, fun _ => 0, g⟩ (fun r => ∀ c : Dev Cert.ParamsIdeal.nD,
          r.2.mem ((c.tc : Thread Cert.ParamsIdeal.nD Cert.ParamsIdeal.τ).loc Cert.ParamsIdeal.main_v11_0) = v0 c
          ∧ r.2.mem ((c.tc : Thread Cert.ParamsIdeal.nD Cert.ParamsIdeal.τ).loc Cert.ParamsIdeal.main_v11_1) = v1 c
          ∧ r.2.mem ((c.tc : Thread Cert.ParamsIdeal.nD Cert.ParamsIdeal.τ).loc Cert.ParamsIdeal.main_v11_2) = v2 c
          ∧ r.2.mem ((c.tc : Thread Cert.ParamsIdeal.nD Cert.ParamsIdeal.τ).loc Cert.ParamsIdeal.main_v11_3) = v3 c
          ∧ r.2.mem ((c.tc : Thread Cert.ParamsIdeal.nD Cert.ParamsIdeal.τ).loc Cert.ParamsIdeal.main_v11_4) = v4 c
          ∧ r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
          ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
          ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
          ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
          ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4)
          ∧ r.2.mem ((c.tc : Thread Cert.ParamsIdeal.nD Cert.ParamsIdeal.τ).loc Cert.ParamsIdeal.main_arg5) = m ((c.tc : Thread Cert.ParamsIdeal.nD Cert.ParamsIdeal.τ).loc Cert.ParamsIdeal.main_arg5)
          ∧ r.2.mem ((c.tc : Thread Cert.ParamsIdeal.nD Cert.ParamsIdeal.τ).loc Cert.ParamsIdeal.main_arg6) = m ((c.tc : Thread Cert.ParamsIdeal.nD Cert.ParamsIdeal.τ).loc Cert.ParamsIdeal.main_arg6)
          ∧ r.2.mem ((c.tc : Thread Cert.ParamsIdeal.nD Cert.ParamsIdeal.τ).loc Cert.ParamsIdeal.main_arg7) = m ((c.tc : Thread Cert.ParamsIdeal.nD Cert.ParamsIdeal.τ).loc Cert.ParamsIdeal.main_arg7))
      ∧ θ_run (Cert.ParamsReferenceIdeal.defs (F := Ideal)) (onTc (τ := Cert.ParamsReferenceIdeal.τ) (Cert.ParamsReferenceIdeal.main (F := Ideal))) ⟨m', fun _ => 0, g'⟩ (fun r => ∀ c : Dev Cert.ParamsReferenceIdeal.nD,
          r.2.mem ((c.tc : Thread Cert.ParamsReferenceIdeal.nD Cert.ParamsReferenceIdeal.τ).loc Cert.ParamsReferenceIdeal.main_v11) = v0 c
          ∧ r.2.mem ((c.tc : Thread Cert.ParamsReferenceIdeal.nD Cert.ParamsReferenceIdeal.τ).loc Cert.ParamsReferenceIdeal.main_v15) = v1 c
          ∧ r.2.mem ((c.tc : Thread Cert.ParamsReferenceIdeal.nD Cert.ParamsReferenceIdeal.τ).loc Cert.ParamsReferenceIdeal.main_v92) = v2 c
          ∧ r.2.mem ((c.tc : Thread Cert.ParamsReferenceIdeal.nD Cert.ParamsReferenceIdeal.τ).loc Cert.ParamsReferenceIdeal.main_v93) = v3 c
          ∧ r.2.mem ((c.tc : Thread Cert.ParamsReferenceIdeal.nD Cert.ParamsReferenceIdeal.τ).loc Cert.ParamsReferenceIdeal.main_v102) = v4 c
          ∧ r.2.mem ((c.tc : Thread Cert.ParamsReferenceIdeal.nD Cert.ParamsReferenceIdeal.τ).loc Cert.ParamsReferenceIdeal.main_arg0) = m' ((c.tc : Thread Cert.ParamsReferenceIdeal.nD Cert.ParamsReferenceIdeal.τ).loc Cert.ParamsReferenceIdeal.main_arg0)
          ∧ r.2.mem ((c.tc : Thread Cert.ParamsReferenceIdeal.nD Cert.ParamsReferenceIdeal.τ).loc Cert.ParamsReferenceIdeal.main_arg1) = m' ((c.tc : Thread Cert.ParamsReferenceIdeal.nD Cert.ParamsReferenceIdeal.τ).loc Cert.ParamsReferenceIdeal.main_arg1)
          ∧ r.2.mem ((c.tc : Thread Cert.ParamsReferenceIdeal.nD Cert.ParamsReferenceIdeal.τ).loc Cert.ParamsReferenceIdeal.main_arg2) = m' ((c.tc : Thread Cert.ParamsReferenceIdeal.nD Cert.ParamsReferenceIdeal.τ).loc Cert.ParamsReferenceIdeal.main_arg2)
          ∧ r.2.mem ((c.tc : Thread Cert.ParamsReferenceIdeal.nD Cert.ParamsReferenceIdeal.τ).loc Cert.ParamsReferenceIdeal.main_arg3) = m' ((c.tc : Thread Cert.ParamsReferenceIdeal.nD Cert.ParamsReferenceIdeal.τ).loc Cert.ParamsReferenceIdeal.main_arg3)
          ∧ r.2.mem ((c.tc : Thread Cert.ParamsReferenceIdeal.nD Cert.ParamsReferenceIdeal.τ).loc Cert.ParamsReferenceIdeal.main_arg4) = m' ((c.tc : Thread Cert.ParamsReferenceIdeal.nD Cert.ParamsReferenceIdeal.τ).loc Cert.ParamsReferenceIdeal.main_arg4)
          ∧ r.2.mem ((c.tc : Thread Cert.ParamsReferenceIdeal.nD Cert.ParamsReferenceIdeal.τ).loc Cert.ParamsReferenceIdeal.main_arg5) = m' ((c.tc : Thread Cert.ParamsReferenceIdeal.nD Cert.ParamsReferenceIdeal.τ).loc Cert.ParamsReferenceIdeal.main_arg5)
          ∧ r.2.mem ((c.tc : Thread Cert.ParamsReferenceIdeal.nD Cert.ParamsReferenceIdeal.τ).loc Cert.ParamsReferenceIdeal.main_arg6) = m' ((c.tc : Thread Cert.ParamsReferenceIdeal.nD Cert.ParamsReferenceIdeal.τ).loc Cert.ParamsReferenceIdeal.main_arg6)
          ∧ r.2.mem ((c.tc : Thread Cert.ParamsReferenceIdeal.nD Cert.ParamsReferenceIdeal.τ).loc Cert.ParamsReferenceIdeal.main_arg7) = m' ((c.tc : Thread Cert.ParamsReferenceIdeal.nD Cert.ParamsReferenceIdeal.τ).loc Cert.ParamsReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hParams : Cert.Params.Facts) (hParamsIdeal : Cert.ParamsIdeal.Facts) (hParamsReferenceIdeal : Cert.ParamsReferenceIdeal.Facts) (hFfn : Cert.Ffn.Facts) (hFfnIdeal : Cert.FfnIdeal.Facts) (hFfnReferenceIdeal : Cert.FfnReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Params (hParams := hParams)
    ∧ quiescent_ParamsIdeal (hParamsIdeal := hParamsIdeal)
    ∧ quiescent_ParamsReferenceIdeal (hParamsReferenceIdeal := hParamsReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Params_ParamsIdeal
    ∧ algebraic_ParamsIdeal_ParamsReferenceIdeal (hParamsIdeal := hParamsIdeal) (hParamsReferenceIdeal := hParamsReferenceIdeal)
    ∧ preserves_Ffn_FfnIdeal
    ∧ algebraic_FfnIdeal_FfnReferenceIdeal (hFfnIdeal := hFfnIdeal) (hFfnReferenceIdeal := hFfnReferenceIdeal)
-- ==== Kernel.lean ====
abbrev S1x8192x2048 : Shape := ⟨3, ![1, 8192, 2048]⟩
abbrev S8192x1024 : Shape := ⟨2, ![8192, 1024]⟩
abbrev S2048x2048 : Shape := ⟨2, ![2048, 2048]⟩
abbrev S1x2048 : Shape := ⟨2, ![1, 2048]⟩
abbrev S8192x2048 : Shape := ⟨2, ![8192, 2048]⟩
abbrev S2048 : Shape := ⟨1, ![2048]⟩
abbrev S3x512x2048 : Shape := ⟨3, ![3, 512, 2048]⟩
abbrev S3 : Shape := ⟨1, ![3]⟩
abbrev S3x512x1024 : Shape := ⟨3, ![3, 512, 1024]⟩
abbrev S2x1024x2048 : Shape := ⟨3, ![2, 1024, 2048]⟩
abbrev S2 : Shape := ⟨1, ![2]⟩
abbrev S2x512x2048 : Shape := ⟨3, ![2, 512, 2048]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x512x1024 : Shape := ⟨3, ![1, 512, 1024]⟩
abbrev S512x1024 : Shape := ⟨2, ![512, 1024]⟩
abbrev S1x1024x2048 : Shape := ⟨3, ![1, 1024, 2048]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩

abbrev nBuf : Space → Nat
  | .hbm => 10
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S1x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S3x512x2048, .f32⟩
  | .local _ .vmem, ⟨1, _⟩ => ⟨S3x512x1024, .bf16⟩
  | .local _ .vmem, ⟨2, _⟩ => ⟨S3x512x1024, .bf16⟩
  | .local _ .vmem, ⟨3, _⟩ => ⟨S2x1024x2048, .bf16⟩
  | .local _ .vmem, ⟨4, _⟩ => ⟨S2x1024x2048, .bf16⟩
  | .local _ .vmem, ⟨5, _⟩ => ⟨S1x2048, .f32⟩
  | .local _ .vmem, ⟨6, _⟩ => ⟨S2x512x2048, .f32⟩
  | .local _ .vmem, ⟨7, _⟩ => ⟨S2x512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩
abbrev cc0_scoped11 : Ref sig .tc := ⟨.vmem, 6, rfl⟩
abbrev cc0_scoped13 : Ref sig .tc := ⟨.vmem, 7, rfl⟩

abbrev nD : Nat := 1
abbrev τ : Topo := Topo.v7x

variable {F : FTy → Type} [FloatOps F]

abbrev grid0 : Pipeline.Grid := .none

def k0_off1 : Fin 1 → Nat :=
  let c0_i32_23_r0 : BitVec 32 := 0#32
  let c3_i32_r0 : BitVec 32 := 3#32
  let v25_r0 : BitVec 32 := Scalar.remui c0_i32_23_r0 c3_i32_r0
  ![v25_r0.toNat]
def k0_off2 : Fin 3 → Nat :=
  let c0_i32_23_r0 : BitVec 32 := 0#32
  let c3_i32_r0 : BitVec 32 := 3#32
  let v25_r0 : BitVec 32 := Scalar.remui c0_i32_23_r0 c3_i32_r0
  let c0_i32_24_r0 : BitVec 32 := 0#32
  let c0_i32_25_r0 : BitVec 32 := 0#32
  ![v25_r0.toNat, 0, 0]
def k0_off3 : Fin 3 → Nat :=
  let c0_i32_30_r0 : BitVec 32 := 0#32
  let c3_i32_31_r0 : BitVec 32 := 3#32
  let v32_r0 : BitVec 32 := Scalar.remui c0_i32_30_r0 c3_i32_31_r0
  let c0_i32_32_r0 : BitVec 32 := 0#32
  let c0_i32_33_r0 : BitVec 32 := 0#32
  ![v32_r0.toNat, 0, 0]
def k0_off4 : Fin 1 → Nat :=
  let c0_i32_46_r0 : BitVec 32 := 0#32
  let c2_i32_r0 : BitVec 32 := 2#32
  let v46_r0 : BitVec 32 := Scalar.remui c0_i32_46_r0 c2_i32_r0
  ![v46_r0.toNat]
def k0_off5 : Fin 3 → Nat :=
  let c0_i32_46_r0 : BitVec 32 := 0#32
  let c2_i32_r0 : BitVec 32 := 2#32
  let v46_r0 : BitVec 32 := Scalar.remui c0_i32_46_r0 c2_i32_r0
  let c0_i32_47_r0 : BitVec 32 := 0#32
  let c0_i32_48_r0 : BitVec 32 := 0#32
  ![v46_r0.toNat, 0, 0]
def k0_cond1 : BitVec 1 :=
  let true_61_r0 : BitVec 1 := 1#1
  let true_9_r0 : BitVec 1 := 1#1
  let c1_i32_r0 : BitVec 32 := 1#32
  let c0_i32_10_r0 : BitVec 32 := 0#32
  let v11_r0 : BitVec 32 := Scalar.select true_9_r0 c1_i32_r0 c0_i32_10_r0
  let c16_i32_r0 : BitVec 32 := 16#32
  let v12_r0 : BitVec 1 := Scalar.cmpi .eq v11_r0 c16_i32_r0
  let c0_i32_11_r0 : BitVec 32 := 0#32
  let v13_r0 : BitVec 32 := Scalar.select v12_r0 c0_i32_11_r0 v11_r0
  let c0_i32_12_r0 : BitVec 32 := 0#32
  let v14_r0 : BitVec 32 := Scalar.addi v13_r0 c0_i32_12_r0
  let c0_i32_60_r0 : BitVec 32 := 0#32
  let v60_r0 : BitVec 1 := Scalar.cmpi .ne v14_r0 c0_i32_60_r0
  let v61_r0 : BitVec 1 := Scalar.andi true_61_r0 v60_r0
  let true_62_r0 : BitVec 1 := 1#1
  let v62_r0 : BitVec 1 := Scalar.andi v61_r0 true_62_r0
  let v63_r0 : BitVec 32 := Scalar.extui v62_r0
  let c0_i32_63_r0 : BitVec 32 := 0#32
  let v64_r0 : BitVec 1 := Scalar.cmpi .ne v63_r0 c0_i32_63_r0
  v64_r0

def k0_off6 : Fin 1 → Nat :=
  let c0_i32_28_r0 : BitVec 32 := 0#32
  let c1_i32_29_r0 : BitVec 32 := 1#32
  let v31_r0 : BitVec 32 := Scalar.addi c0_i32_28_r0 c1_i32_29_r0
  let c3_i32_125_r0 : BitVec 32 := 3#32
  let v122_r0 : BitVec 32 := Scalar.remui v31_r0 c3_i32_125_r0
  ![v122_r0.toNat]
def k0_off7 : Fin 3 → Nat :=
  let c0_i32_28_r0 : BitVec 32 := 0#32
  let c1_i32_29_r0 : BitVec 32 := 1#32
  let v31_r0 : BitVec 32 := Scalar.addi c0_i32_28_r0 c1_i32_29_r0
  let c3_i32_125_r0 : BitVec 32 := 3#32
  let v122_r0 : BitVec 32 := Scalar.remui v31_r0 c3_i32_125_r0
  let c0_i32_127_r0 : BitVec 32 := 0#32
  let c0_i32_128_r0 : BitVec 32 := 0#32
  ![v122_r0.toNat, 0, 0]
def k0_off8 : Fin 2 → Nat :=
  let c512_i32_126_r0 : BitVec 32 := 512#32
  let true_9_r0 : BitVec 1 := 1#1
  let c1_i32_r0 : BitVec 32 := 1#32
  let c0_i32_10_r0 : BitVec 32 := 0#32
  let v11_r0 : BitVec 32 := Scalar.select true_9_r0 c1_i32_r0 c0_i32_10_r0
  let c16_i32_r0 : BitVec 32 := 16#32
  let v12_r0 : BitVec 1 := Scalar.cmpi .eq v11_r0 c16_i32_r0
  let c0_i32_11_r0 : BitVec 32 := 0#32
  let v13_r0 : BitVec 32 := Scalar.select v12_r0 c0_i32_11_r0 v11_r0
  let c0_i32_12_r0 : BitVec 32 := 0#32
  let v14_r0 : BitVec 32 := Scalar.addi v13_r0 c0_i32_12_r0
  let v123_r0 : BitVec 32 := Scalar.muli c512_i32_126_r0 v14_r0
  let c0_i32_129_r0 : BitVec 32 := 0#32
  ![v123_r0.toNat, 0]
def k0_cond2 : BitVec 1 :=
  let true_66_r0 : BitVec 1 := 1#1
  let true_9_r0 : BitVec 1 := 1#1
  let c1_i32_r0 : BitVec 32 := 1#32
  let c0_i32_10_r0 : BitVec 32 := 0#32
  let v11_r0 : BitVec 32 := Scalar.select true_9_r0 c1_i32_r0 c0_i32_10_r0
  let c16_i32_r0 : BitVec 32 := 16#32
  let v12_r0 : BitVec 1 := Scalar.cmpi .eq v11_r0 c16_i32_r0
  let c0_i32_11_r0 : BitVec 32 := 0#32
  let v13_r0 : BitVec 32 := Scalar.select v12_r0 c0_i32_11_r0 v11_r0
  let c0_i32_12_r0 : BitVec 32 := 0#32
  let v14_r0 : BitVec 32 := Scalar.addi v13_r0 c0_i32_12_r0
  let c0_i32_65_r0 : BitVec 32 := 0#32
  let v67_r0 : BitVec 1 := Scalar.cmpi .ne v14_r0 c0_i32_65_r0
  let v68_r0 : BitVec 1 := Scalar.andi true_66_r0 v67_r0
  let true_67_r0 : BitVec 1 := 1#1
  let v69_r0 : BitVec 1 := Scalar.andi v68_r0 true_67_r0
  let v70_r0 : BitVec 32 := Scalar.extui v69_r0
  let c0_i32_68_r0 : BitVec 32 := 0#32
  let v71_r0 : BitVec 1 := Scalar.cmpi .ne v70_r0 c0_i32_68_r0
  v71_r0

def k0_off9 : Fin 1 → Nat :=
  let c0_i32_36_r0 : BitVec 32 := 0#32
  let c1_i32_37_r0 : BitVec 32 := 1#32
  let v38_r0 : BitVec 32 := Scalar.addi c0_i32_36_r0 c1_i32_37_r0
  let c3_i32_125_r0 : BitVec 32 := 3#32
  let v122_r0 : BitVec 32 := Scalar.remui v38_r0 c3_i32_125_r0
  ![v122_r0.toNat]
def k0_off10 : Fin 3 → Nat :=
  let c0_i32_36_r0 : BitVec 32 := 0#32
  let c1_i32_37_r0 : BitVec 32 := 1#32
  let v38_r0 : BitVec 32 := Scalar.addi c0_i32_36_r0 c1_i32_37_r0
  let c3_i32_125_r0 : BitVec 32 := 3#32
  let v122_r0 : BitVec 32 := Scalar.remui v38_r0 c3_i32_125_r0
  let c0_i32_127_r0 : BitVec 32 := 0#32
  let c0_i32_128_r0 : BitVec 32 := 0#32
  ![v122_r0.toNat, 0, 0]
def k0_off11 : Fin 2 → Nat :=
  let c512_i32_126_r0 : BitVec 32 := 512#32
  let true_9_r0 : BitVec 1 := 1#1
  let c1_i32_r0 : BitVec 32 := 1#32
  let c0_i32_10_r0 : BitVec 32 := 0#32
  let v11_r0 : BitVec 32 := Scalar.select true_9_r0 c1_i32_r0 c0_i32_10_r0
  let c16_i32_r0 : BitVec 32 := 16#32
  let v12_r0 : BitVec 1 := Scalar.cmpi .eq v11_r0 c16_i32_r0
  let c0_i32_11_r0 : BitVec 32 := 0#32
  let v13_r0 : BitVec 32 := Scalar.select v12_r0 c0_i32_11_r0 v11_r0
  let c0_i32_12_r0 : BitVec 32 := 0#32
  let v14_r0 : BitVec 32 := Scalar.addi v13_r0 c0_i32_12_r0
  let v123_r0 : BitVec 32 := Scalar.muli c512_i32_126_r0 v14_r0
  let c0_i32_129_r0 : BitVec 32 := 0#32
  ![v123_r0.toNat, 0]
def k0_cond3 : BitVec 1 :=
  let true_71_r0 : BitVec 1 := 1#1
  let true_9_r0 : BitVec 1 := 1#1
  let c1_i32_r0 : BitVec 32 := 1#32
  let c0_i32_10_r0 : BitVec 32 := 0#32
  let v11_r0 : BitVec 32 := Scalar.select true_9_r0 c1_i32_r0 c0_i32_10_r0
  let c16_i32_r0 : BitVec 32 := 16#32
  let v12_r0 : BitVec 1 := Scalar.cmpi .eq v11_r0 c16_i32_r0
  let c0_i32_11_r0 : BitVec 32 := 0#32
  let v13_r0 : BitVec 32 := Scalar.select v12_r0 c0_i32_11_r0 v11_r0
  let c0_i32_12_r0 : BitVec 32 := 0#32
  let v14_r0 : BitVec 32 := Scalar.addi v13_r0 c0_i32_12_r0
  let c0_i32_70_r0 : BitVec 32 := 0#32
  let v74_r0 : BitVec 1 := Scalar.cmpi .ne v14_r0 c0_i32_70_r0
  let v75_r0 : BitVec 1 := Scalar.andi true_71_r0 v74_r0
  let true_72_r0 : BitVec 1 := 1#1
  let v76_r0 : BitVec 1 := Scalar.andi v75_r0 true_72_r0
  let v77_r0 : BitVec 32 := Scalar.extui v76_r0
  let c0_i32_73_r0 : BitVec 32 := 0#32
  let v78_r0 : BitVec 1 := Scalar.cmpi .ne v77_r0 c0_i32_73_r0
  v78_r0

def k0_off12 : Fin 1 → Nat :=
  let c0_i32_44_r0 : BitVec 32 := 0#32
  let c1_i32_45_r0 : BitVec 32 := 1#32
  let v45_r0 : BitVec 32 := Scalar.addi c0_i32_44_r0 c1_i32_45_r0
  let c3_i32_125_r0 : BitVec 32 := 3#32
  let v122_r0 : BitVec 32 := Scalar.remui v45_r0 c3_i32_125_r0
  ![v122_r0.toNat]
def k0_off13 : Fin 3 → Nat :=
  let c0_i32_44_r0 : BitVec 32 := 0#32
  let c1_i32_45_r0 : BitVec 32 := 1#32
  let v45_r0 : BitVec 32 := Scalar.addi c0_i32_44_r0 c1_i32_45_r0
  let c3_i32_125_r0 : BitVec 32 := 3#32
  let v122_r0 : BitVec 32 := Scalar.remui v45_r0 c3_i32_125_r0
  let c0_i32_127_r0 : BitVec 32 := 0#32
  let c0_i32_128_r0 : BitVec 32 := 0#32
  ![v122_r0.toNat, 0, 0]
def k0_off14 : Fin 2 → Nat :=
  let c512_i32_126_r0 : BitVec 32 := 512#32
  let true_9_r0 : BitVec 1 := 1#1
  let c1_i32_r0 : BitVec 32 := 1#32
  let c0_i32_10_r0 : BitVec 32 := 0#32
  let v11_r0 : BitVec 32 := Scalar.select true_9_r0 c1_i32_r0 c0_i32_10_r0
  let c16_i32_r0 : BitVec 32 := 16#32
  let v12_r0 : BitVec 1 := Scalar.cmpi .eq v11_r0 c16_i32_r0
  let c0_i32_11_r0 : BitVec 32 := 0#32
  let v13_r0 : BitVec 32 := Scalar.select v12_r0 c0_i32_11_r0 v11_r0
  let c0_i32_12_r0 : BitVec 32 := 0#32
  let v14_r0 : BitVec 32 := Scalar.addi v13_r0 c0_i32_12_r0
  let v123_r0 : BitVec 32 := Scalar.muli c512_i32_126_r0 v14_r0
  let c0_i32_129_r0 : BitVec 32 := 0#32
  ![v123_r0.toNat, 0]
@[reducible] def k0_t1_loop : Scf.Loop 32 :=
  let c0_i32_87_r0 : BitVec 32 := 0#32
  let c16_i32_88_r0 : BitVec 32 := 16#32
  let v81_r0 : BitVec 32 := Scalar.addi c0_i32_87_r0 c16_i32_88_r0
  let c1_i32_89_r0 : BitVec 32 := 1#32
  ⟨c0_i32_87_r0, v81_r0, c1_i32_89_r0⟩
def k0_off15 (arg9_r0 : BitVec 32) : Fin 1 → Nat :=
  let c3_i32_320_r0 : BitVec 32 := 3#32
  let v436_r0 : BitVec 32 := Scalar.remui arg9_r0 c3_i32_320_r0
  ![v436_r0.toNat]
def k0_cond4 (k0_t1 : Fin k0_t1_loop.trips) (arg24_r0 : BitVec 32) : BitVec 1 :=
  let true_134_r0 : BitVec 1 := 1#1
  let c1_i32_133_r0 : BitVec 32 := 1#32
  let v130_r0 : BitVec 32 := Scalar.addi arg24_r0 c1_i32_133_r0
  let v131_r0 : BitVec 32 := Scalar.select true_134_r0 v130_r0 arg24_r0
  let c16_i32_135_r0 : BitVec 32 := 16#32
  let v132_r0 : BitVec 1 := Scalar.cmpi .eq v131_r0 c16_i32_135_r0
  let c0_i32_136_r0 : BitVec 32 := 0#32
  let v133_r0 : BitVec 32 := Scalar.select v132_r0 c0_i32_136_r0 v131_r0
  let c0_i32_137_r0 : BitVec 32 := 0#32
  let v134_r0 : BitVec 32 := Scalar.addi v133_r0 c0_i32_137_r0
  let true_139_r0 : BitVec 1 := 1#1
  let c1_i32_138_r0 : BitVec 32 := 1#32
  let v135_r0 : BitVec 32 := Scalar.addi v133_r0 c1_i32_138_r0
  let v136_r0 : BitVec 32 := Scalar.select true_139_r0 v135_r0 v133_r0
  let c16_i32_140_r0 : BitVec 32 := 16#32
  let v137_r0 : BitVec 1 := Scalar.cmpi .eq v136_r0 c16_i32_140_r0
  let c0_i32_141_r0 : BitVec 32 := 0#32
  let v138_r0 : BitVec 32 := Scalar.select v137_r0 c0_i32_141_r0 v136_r0
  let c0_i32_142_r0 : BitVec 32 := 0#32
  let v139_r0 : BitVec 32 := Scalar.addi v138_r0 c0_i32_142_r0
  let v145_r0 : BitVec 1 := Scalar.cmpi .ne v134_r0 v139_r0
  let c0_i32_87_r0 : BitVec 32 := 0#32
  let c1_i32_89_r0 : BitVec 32 := 1#32
  let arg8_r0 : BitVec 32 := Scf.iv c0_i32_87_r0 c1_i32_89_r0 k0_t1
  let c14_i32_r0 : BitVec 32 := 14#32
  let v146_r0 : BitVec 1 := Scalar.cmpi .sge arg8_r0 c14_i32_r0
  let true_148_r0 : BitVec 1 := 1#1
  let v147_r0 : BitVec 1 := Scalar.xori v146_r0 true_148_r0
  let v148_r0 : BitVec 1 := Scalar.andi v145_r0 v147_r0
  let true_149_r0 : BitVec 1 := 1#1
  let v149_r0 : BitVec 1 := Scalar.andi v148_r0 true_149_r0
  let v150_r0 : BitVec 32 := Scalar.extui v149_r0
  let c0_i32_150_r0 : BitVec 32 := 0#32
  let v151_r0 : BitVec 1 := Scalar.cmpi .ne v150_r0 c0_i32_150_r0
  v151_r0

def k0_off16 (arg9_r0 : BitVec 32) : Fin 3 → Nat :=
  let c3_i32_320_r0 : BitVec 32 := 3#32
  let v436_r0 : BitVec 32 := Scalar.remui arg9_r0 c3_i32_320_r0
  let c0_i32_322_r0 : BitVec 32 := 0#32
  let c0_i32_323_r0 : BitVec 32 := 0#32
  ![v436_r0.toNat, 0, 0]
def k0_off17 (arg24_r0 : BitVec 32) : Fin 2 → Nat :=
  let c512_i32_321_r0 : BitVec 32 := 512#32
  let true_139_r0 : BitVec 1 := 1#1
  let true_134_r0 : BitVec 1 := 1#1
  let c1_i32_133_r0 : BitVec 32 := 1#32
  let v130_r0 : BitVec 32 := Scalar.addi arg24_r0 c1_i32_133_r0
  let v131_r0 : BitVec 32 := Scalar.select true_134_r0 v130_r0 arg24_r0
  let c16_i32_135_r0 : BitVec 32 := 16#32
  let v132_r0 : BitVec 1 := Scalar.cmpi .eq v131_r0 c16_i32_135_r0
  let c0_i32_136_r0 : BitVec 32 := 0#32
  let v133_r0 : BitVec 32 := Scalar.select v132_r0 c0_i32_136_r0 v131_r0
  let c1_i32_138_r0 : BitVec 32 := 1#32
  let v135_r0 : BitVec 32 := Scalar.addi v133_r0 c1_i32_138_r0
  let v136_r0 : BitVec 32 := Scalar.select true_139_r0 v135_r0 v133_r0
  let c16_i32_140_r0 : BitVec 32 := 16#32
  let v137_r0 : BitVec 1 := Scalar.cmpi .eq v136_r0 c16_i32_140_r0
  let c0_i32_141_r0 : BitVec 32 := 0#32
  let v138_r0 : BitVec 32 := Scalar.select v137_r0 c0_i32_141_r0 v136_r0
  let c0_i32_142_r0 : BitVec 32 := 0#32
  let v139_r0 : BitVec 32 := Scalar.addi v138_r0 c0_i32_142_r0
  let v437_r0 : BitVec 32 := Scalar.muli c512_i32_321_r0 v139_r0
  let c0_i32_324_r0 : BitVec 32 := 0#32
  ![v437_r0.toNat, 0]
def k0_off18 (arg11_r0 : BitVec 32) : Fin 1 → Nat :=
  let c3_i32_320_r0 : BitVec 32 := 3#32
  let v436_r0 : BitVec 32 := Scalar.remui arg11_r0 c3_i32_320_r0
  ![v436_r0.toNat]
def k0_cond5 (k0_t1 : Fin k0_t1_loop.trips) (arg24_r0 : BitVec 32) : BitVec 1 :=
  let true_134_r0 : BitVec 1 := 1#1
  let c1_i32_133_r0 : BitVec 32 := 1#32
  let v130_r0 : BitVec 32 := Scalar.addi arg24_r0 c1_i32_133_r0
  let v131_r0 : BitVec 32 := Scalar.select true_134_r0 v130_r0 arg24_r0
  let c16_i32_135_r0 : BitVec 32 := 16#32
  let v132_r0 : BitVec 1 := Scalar.cmpi .eq v131_r0 c16_i32_135_r0
  let c0_i32_136_r0 : BitVec 32 := 0#32
  let v133_r0 : BitVec 32 := Scalar.select v132_r0 c0_i32_136_r0 v131_r0
  let c0_i32_137_r0 : BitVec 32 := 0#32
  let v134_r0 : BitVec 32 := Scalar.addi v133_r0 c0_i32_137_r0
  let true_139_r0 : BitVec 1 := 1#1
  let c1_i32_138_r0 : BitVec 32 := 1#32
  let v135_r0 : BitVec 32 := Scalar.addi v133_r0 c1_i32_138_r0
  let v136_r0 : BitVec 32 := Scalar.select true_139_r0 v135_r0 v133_r0
  let c16_i32_140_r0 : BitVec 32 := 16#32
  let v137_r0 : BitVec 1 := Scalar.cmpi .eq v136_r0 c16_i32_140_r0
  let c0_i32_141_r0 : BitVec 32 := 0#32
  let v138_r0 : BitVec 32 := Scalar.select v137_r0 c0_i32_141_r0 v136_r0
  let c0_i32_142_r0 : BitVec 32 := 0#32
  let v139_r0 : BitVec 32 := Scalar.addi v138_r0 c0_i32_142_r0
  let v155_r0 : BitVec 1 := Scalar.cmpi .ne v134_r0 v139_r0
  let c0_i32_87_r0 : BitVec 32 := 0#32
  let c1_i32_89_r0 : BitVec 32 := 1#32
  let arg8_r0 : BitVec 32 := Scf.iv c0_i32_87_r0 c1_i32_89_r0 k0_t1
  let c14_i32_153_r0 : BitVec 32 := 14#32
  let v156_r0 : BitVec 1 := Scalar.cmpi .sge arg8_r0 c14_i32_153_r0
  let true_154_r0 : BitVec 1 := 1#1
  let v157_r0 : BitVec 1 := Scalar.xori v156_r0 true_154_r0
  let v158_r0 : BitVec 1 := Scalar.andi v155_r0 v157_r0
  let true_155_r0 : BitVec 1 := 1#1
  let v159_r0 : BitVec 1 := Scalar.andi v158_r0 true_155_r0
  let v160_r0 : BitVec 32 := Scalar.extui v159_r0
  let c0_i32_156_r0 : BitVec 32 := 0#32
  let v161_r0 : BitVec 1 := Scalar.cmpi .ne v160_r0 c0_i32_156_r0
  v161_r0

def k0_off19 (arg11_r0 : BitVec 32) : Fin 3 → Nat :=
  let c3_i32_320_r0 : BitVec 32 := 3#32
  let v436_r0 : BitVec 32 := Scalar.remui arg11_r0 c3_i32_320_r0
  let c0_i32_322_r0 : BitVec 32 := 0#32
  let c0_i32_323_r0 : BitVec 32 := 0#32
  ![v436_r0.toNat, 0, 0]
def k0_off20 (arg24_r0 : BitVec 32) : Fin 2 → Nat :=
  let c512_i32_321_r0 : BitVec 32 := 512#32
  let true_139_r0 : BitVec 1 := 1#1
  let true_134_r0 : BitVec 1 := 1#1
  let c1_i32_133_r0 : BitVec 32 := 1#32
  let v130_r0 : BitVec 32 := Scalar.addi arg24_r0 c1_i32_133_r0
  let v131_r0 : BitVec 32 := Scalar.select true_134_r0 v130_r0 arg24_r0
  let c16_i32_135_r0 : BitVec 32 := 16#32
  let v132_r0 : BitVec 1 := Scalar.cmpi .eq v131_r0 c16_i32_135_r0
  let c0_i32_136_r0 : BitVec 32 := 0#32
  let v133_r0 : BitVec 32 := Scalar.select v132_r0 c0_i32_136_r0 v131_r0
  let c1_i32_138_r0 : BitVec 32 := 1#32
  let v135_r0 : BitVec 32 := Scalar.addi v133_r0 c1_i32_138_r0
  let v136_r0 : BitVec 32 := Scalar.select true_139_r0 v135_r0 v133_r0
  let c16_i32_140_r0 : BitVec 32 := 16#32
  let v137_r0 : BitVec 1 := Scalar.cmpi .eq v136_r0 c16_i32_140_r0
  let c0_i32_141_r0 : BitVec 32 := 0#32
  let v138_r0 : BitVec 32 := Scalar.select v137_r0 c0_i32_141_r0 v136_r0
  let c0_i32_142_r0 : BitVec 32 := 0#32
  let v139_r0 : BitVec 32 := Scalar.addi v138_r0 c0_i32_142_r0
  let v437_r0 : BitVec 32 := Scalar.muli c512_i32_321_r0 v139_r0
  let c0_i32_324_r0 : BitVec 32 := 0#32
  ![v437_r0.toNat, 0]
def k0_off21 (arg13_r0 : BitVec 32) : Fin 1 → Nat :=
  let c3_i32_320_r0 : BitVec 32 := 3#32
  let v436_r0 : BitVec 32 := Scalar.remui arg13_r0 c3_i32_320_r0
  ![v436_r0.toNat]
def k0_cond6 (k0_t1 : Fin k0_t1_loop.trips) (arg24_r0 : BitVec 32) : BitVec 1 :=
  let true_134_r0 : BitVec 1 := 1#1
  let c1_i32_133_r0 : BitVec 32 := 1#32
  let v130_r0 : BitVec 32 := Scalar.addi arg24_r0 c1_i32_133_r0
  let v131_r0 : BitVec 32 := Scalar.select true_134_r0 v130_r0 arg24_r0
  let c16_i32_135_r0 : BitVec 32 := 16#32
  let v132_r0 : BitVec 1 := Scalar.cmpi .eq v131_r0 c16_i32_135_r0
  let c0_i32_136_r0 : BitVec 32 := 0#32
  let v133_r0 : BitVec 32 := Scalar.select v132_r0 c0_i32_136_r0 v131_r0
  let c0_i32_137_r0 : BitVec 32 := 0#32
  let v134_r0 : BitVec 32 := Scalar.addi v133_r0 c0_i32_137_r0
  let true_139_r0 : BitVec 1 := 1#1
  let c1_i32_138_r0 : BitVec 32 := 1#32
  let v135_r0 : BitVec 32 := Scalar.addi v133_r0 c1_i32_138_r0
  let v136_r0 : BitVec 32 := Scalar.select true_139_r0 v135_r0 v133_r0
  let c16_i32_140_r0 : BitVec 32 := 16#32
  let v137_r0 : BitVec 1 := Scalar.cmpi .eq v136_r0 c16_i32_140_r0
  let c0_i32_141_r0 : BitVec 32 := 0#32
  let v138_r0 : BitVec 32 := Scalar.select v137_r0 c0_i32_141_r0 v136_r0
  let c0_i32_142_r0 : BitVec 32 := 0#32
  let v139_r0 : BitVec 32 := Scalar.addi v138_r0 c0_i32_142_r0
  let v165_r0 : BitVec 1 := Scalar.cmpi .ne v134_r0 v139_r0
  let c0_i32_87_r0 : BitVec 32 := 0#32
  let c1_i32_89_r0 : BitVec 32 := 1#32
  let arg8_r0 : BitVec 32 := Scf.iv c0_i32_87_r0 c1_i32_89_r0 k0_t1
  let c14_i32_159_r0 : BitVec 32 := 14#32
  let v166_r0 : BitVec 1 := Scalar.cmpi .sge arg8_r0 c14_i32_159_r0
  let true_160_r0 : BitVec 1 := 1#1
  let v167_r0 : BitVec 1 := Scalar.xori v166_r0 true_160_r0
  let v168_r0 : BitVec 1 := Scalar.andi v165_r0 v167_r0
  let true_161_r0 : BitVec 1 := 1#1
  let v169_r0 : BitVec 1 := Scalar.andi v168_r0 true_161_r0
  let v170_r0 : BitVec 32 := Scalar.extui v169_r0
  let c0_i32_162_r0 : BitVec 32 := 0#32
  let v171_r0 : BitVec 1 := Scalar.cmpi .ne v170_r0 c0_i32_162_r0
  v171_r0

def k0_off22 (arg13_r0 : BitVec 32) : Fin 3 → Nat :=
  let c3_i32_320_r0 : BitVec 32 := 3#32
  let v436_r0 : BitVec 32 := Scalar.remui arg13_r0 c3_i32_320_r0
  let c0_i32_322_r0 : BitVec 32 := 0#32
  let c0_i32_323_r0 : BitVec 32 := 0#32
  ![v436_r0.toNat, 0, 0]
def k0_off23 (arg24_r0 : BitVec 32) : Fin 2 → Nat :=
  let c512_i32_321_r0 : BitVec 32 := 512#32
  let true_139_r0 : BitVec 1 := 1#1
  let true_134_r0 : BitVec 1 := 1#1
  let c1_i32_133_r0 : BitVec 32 := 1#32
  let v130_r0 : BitVec 32 := Scalar.addi arg24_r0 c1_i32_133_r0
  let v131_r0 : BitVec 32 := Scalar.select true_134_r0 v130_r0 arg24_r0
  let c16_i32_135_r0 : BitVec 32 := 16#32
  let v132_r0 : BitVec 1 := Scalar.cmpi .eq v131_r0 c16_i32_135_r0
  let c0_i32_136_r0 : BitVec 32 := 0#32
  let v133_r0 : BitVec 32 := Scalar.select v132_r0 c0_i32_136_r0 v131_r0
  let c1_i32_138_r0 : BitVec 32 := 1#32
  let v135_r0 : BitVec 32 := Scalar.addi v133_r0 c1_i32_138_r0
  let v136_r0 : BitVec 32 := Scalar.select true_139_r0 v135_r0 v133_r0
  let c16_i32_140_r0 : BitVec 32 := 16#32
  let v137_r0 : BitVec 1 := Scalar.cmpi .eq v136_r0 c16_i32_140_r0
  let c0_i32_141_r0 : BitVec 32 := 0#32
  let v138_r0 : BitVec 32 := Scalar.select v137_r0 c0_i32_141_r0 v136_r0
  let c0_i32_142_r0 : BitVec 32 := 0#32
  let v139_r0 : BitVec 32 := Scalar.addi v138_r0 c0_i32_142_r0
  let v437_r0 : BitVec 32 := Scalar.muli c512_i32_321_r0 v139_r0
  let c0_i32_324_r0 : BitVec 32 := 0#32
  ![v437_r0.toNat, 0]
def k0_cond7 (k0_t1 : Fin k0_t1_loop.trips) : BitVec 1 :=
  let v_false_r0 : BitVec 1 := 0#1
  let c0_i32_87_r0 : BitVec 32 := 0#32
  let c1_i32_89_r0 : BitVec 32 := 1#32
  let arg8_r0 : BitVec 32 := Scf.iv c0_i32_87_r0 c1_i32_89_r0 k0_t1
  let c15_i32_165_r0 : BitVec 32 := 15#32
  let v175_r0 : BitVec 1 := Scalar.cmpi .sge arg8_r0 c15_i32_165_r0
  let true_166_r0 : BitVec 1 := 1#1
  let v176_r0 : BitVec 1 := Scalar.xori v175_r0 true_166_r0
  let v177_r0 : BitVec 1 := Scalar.andi v_false_r0 v176_r0
  let true_167_r0 : BitVec 1 := 1#1
  let v178_r0 : BitVec 1 := Scalar.andi v177_r0 true_167_r0
  let v179_r0 : BitVec 32 := Scalar.extui v178_r0
  let c0_i32_168_r0 : BitVec 32 := 0#32
  let v180_r0 : BitVec 1 := Scalar.cmpi .ne v179_r0 c0_i32_168_r0
  v180_r0

def k0_off24 (arg15_r0 : BitVec 32) : Fin 1 → Nat :=
  let c2_i32_320_r0 : BitVec 32 := 2#32
  let v436_r0 : BitVec 32 := Scalar.remui arg15_r0 c2_i32_320_r0
  ![v436_r0.toNat]

def k0_off25 (arg15_r0 : BitVec 32) : Fin 3 → Nat :=
  let c2_i32_320_r0 : BitVec 32 := 2#32
  let v436_r0 : BitVec 32 := Scalar.remui arg15_r0 c2_i32_320_r0
  let c0_i32_321_r0 : BitVec 32 := 0#32
  let c0_i32_322_r0 : BitVec 32 := 0#32
  ![v436_r0.toNat, 0, 0]

def k0_chk2 (k0_t1 : Fin k0_t1_loop.trips) (arg15_r0 : BitVec 32) : Prop :=
  (∀ (k0_h7 : k0_cond7 k0_t1 = 1#1), ∀ a, (k0_off24 arg15_r0) a + S1.size a ≤ S2.size a) ∧
  (∀ (k0_h7 : k0_cond7 k0_t1 = 1#1), ∀ a, (k0_off25 arg15_r0) a + S1x1024x2048.size a ≤ S2x1024x2048.size a) ∧
  (∀ (k0_h7 : k0_cond7 k0_t1 = 1#1), ∀ (hinb : ∀ a, (k0_off25 arg15_r0) a + S1x1024x2048.size a ≤ S2x1024x2048.size a), (Rect.unit (s := S2x1024x2048) (k0_off25 arg15_r0) S1x1024x2048.size hinb).WholeWords (EltTy.packing .bf16))
theorem k0_off24_inb : ∀ (k0_t1 : Fin k0_t1_loop.trips) (arg15_r0 : BitVec 32) (k0_hw2 : k0_chk2 k0_t1 arg15_r0), ∀ (k0_h7 : k0_cond7 k0_t1 = 1#1), ∀ a, (k0_off24 arg15_r0) a + S1.size a ≤ S2.size a := fun k0_t1 arg15_r0 k0_hw2 k0_h7 => k0_hw2.1 k0_h7
theorem k0_off25_inb : ∀ (k0_t1 : Fin k0_t1_loop.trips) (arg15_r0 : BitVec 32) (k0_hw2 : k0_chk2 k0_t1 arg15_r0), ∀ (k0_h7 : k0_cond7 k0_t1 = 1#1), ∀ a, (k0_off25 arg15_r0) a + S1x1024x2048.size a ≤ S2x1024x2048.size a := fun k0_t1 arg15_r0 k0_hw2 k0_h7 => k0_hw2.2.1 k0_h7
theorem k0_off25_wordsbf16 : ∀ (k0_t1 : Fin k0_t1_loop.trips) (arg15_r0 : BitVec 32) (k0_hw2 : k0_chk2 k0_t1 arg15_r0), ∀ (k0_h7 : k0_cond7 k0_t1 = 1#1), (Rect.unit (s := S2x1024x2048) (k0_off25 arg15_r0) S1x1024x2048.size (k0_off25_inb k0_t1 arg15_r0 k0_hw2 k0_h7)).WholeWords (EltTy.packing .bf16) := fun k0_t1 arg15_r0 k0_hw2 k0_h7 => k0_hw2.2.2 k0_h7 (k0_off25_inb k0_t1 arg15_r0 k0_hw2 k0_h7)

def k0_cond8 (k0_t1 : Fin k0_t1_loop.trips) : BitVec 1 :=
  let false_173_r0 : BitVec 1 := 0#1
  let c0_i32_87_r0 : BitVec 32 := 0#32
  let c1_i32_89_r0 : BitVec 32 := 1#32
  let arg8_r0 : BitVec 32 := Scf.iv c0_i32_87_r0 c1_i32_89_r0 k0_t1
  let c15_i32_171_r0 : BitVec 32 := 15#32
  let v184_r0 : BitVec 1 := Scalar.cmpi .sge arg8_r0 c15_i32_171_r0
  let true_172_r0 : BitVec 1 := 1#1
  let v185_r0 : BitVec 1 := Scalar.xori v184_r0 true_172_r0
  let v186_r0 : BitVec 1 := Scalar.andi false_173_r0 v185_r0
  let true_174_r0 : BitVec 1 := 1#1
  let v187_r0 : BitVec 1 := Scalar.andi v186_r0 true_174_r0
  let v188_r0 : BitVec 32 := Scalar.extui v187_r0
  let c0_i32_175_r0 : BitVec 32 := 0#32
  let v189_r0 : BitVec 1 := Scalar.cmpi .ne v188_r0 c0_i32_175_r0
  v189_r0

def k0_off26 (arg17_r0 : BitVec 32) : Fin 1 → Nat :=
  let c2_i32_320_r0 : BitVec 32 := 2#32
  let v436_r0 : BitVec 32 := Scalar.remui arg17_r0 c2_i32_320_r0
  ![v436_r0.toNat]

def k0_off27 (arg17_r0 : BitVec 32) : Fin 3 → Nat :=
  let c2_i32_320_r0 : BitVec 32 := 2#32
  let v436_r0 : BitVec 32 := Scalar.remui arg17_r0 c2_i32_320_r0
  let c0_i32_321_r0 : BitVec 32 := 0#32
  let c0_i32_322_r0 : BitVec 32 := 0#32
  ![v436_r0.toNat, 0, 0]

def k0_chk3 (k0_t1 : Fin k0_t1_loop.trips) (arg17_r0 : BitVec 32) : Prop :=
  (∀ (k0_h8 : k0_cond8 k0_t1 = 1#1), ∀ a, (k0_off26 arg17_r0) a + S1.size a ≤ S2.size a) ∧
  (∀ (k0_h8 : k0_cond8 k0_t1 = 1#1), ∀ a, (k0_off27 arg17_r0) a + S1x1024x2048.size a ≤ S2x1024x2048.size a) ∧
  (∀ (k0_h8 : k0_cond8 k0_t1 = 1#1), ∀ (hinb : ∀ a, (k0_off27 arg17_r0) a + S1x1024x2048.size a ≤ S2x1024x2048.size a), (Rect.unit (s := S2x1024x2048) (k0_off27 arg17_r0) S1x1024x2048.size hinb).WholeWords (EltTy.packing .bf16))
theorem k0_off26_inb : ∀ (k0_t1 : Fin k0_t1_loop.trips) (arg17_r0 : BitVec 32) (k0_hw3 : k0_chk3 k0_t1 arg17_r0), ∀ (k0_h8 : k0_cond8 k0_t1 = 1#1), ∀ a, (k0_off26 arg17_r0) a + S1.size a ≤ S2.size a := fun k0_t1 arg17_r0 k0_hw3 k0_h8 => k0_hw3.1 k0_h8
theorem k0_off27_inb : ∀ (k0_t1 : Fin k0_t1_loop.trips) (arg17_r0 : BitVec 32) (k0_hw3 : k0_chk3 k0_t1 arg17_r0), ∀ (k0_h8 : k0_cond8 k0_t1 = 1#1), ∀ a, (k0_off27 arg17_r0) a + S1x1024x2048.size a ≤ S2x1024x2048.size a := fun k0_t1 arg17_r0 k0_hw3 k0_h8 => k0_hw3.2.1 k0_h8
theorem k0_off27_wordsbf16 : ∀ (k0_t1 : Fin k0_t1_loop.trips) (arg17_r0 : BitVec 32) (k0_hw3 : k0_chk3 k0_t1 arg17_r0), ∀ (k0_h8 : k0_cond8 k0_t1 = 1#1), (Rect.unit (s := S2x1024x2048) (k0_off27 arg17_r0) S1x1024x2048.size (k0_off27_inb k0_t1 arg17_r0 k0_hw3 k0_h8)).WholeWords (EltTy.packing .bf16) := fun k0_t1 arg17_r0 k0_hw3 k0_h8 => k0_hw3.2.2 k0_h8 (k0_off27_inb k0_t1 arg17_r0 k0_hw3 k0_h8)

def k0_off28 (arg10_r0 : BitVec 32) : Fin 1 → Nat :=
  let c3_i32_321_r0 : BitVec 32 := 3#32
  let v437_r0 : BitVec 32 := Scalar.remui arg10_r0 c3_i32_321_r0
  ![v437_r0.toNat]
def k0_cond9 (k0_t1 : Fin k0_t1_loop.trips) (arg24_r0 : BitVec 32) : BitVec 1 :=
  let c0_i32_127_r0 : BitVec 32 := 0#32
  let v124_r0 : BitVec 32 := Scalar.addi arg24_r0 c0_i32_127_r0
  let true_129_r0 : BitVec 1 := 1#1
  let c1_i32_128_r0 : BitVec 32 := 1#32
  let v125_r0 : BitVec 32 := Scalar.subi arg24_r0 c1_i32_128_r0
  let v126_r0 : BitVec 32 := Scalar.select true_129_r0 v125_r0 arg24_r0
  let c_m1_i32_130_r0 : BitVec 32 := 4294967295#32
  let v127_r0 : BitVec 1 := Scalar.cmpi .eq v126_r0 c_m1_i32_130_r0
  let c15_i32_131_r0 : BitVec 32 := 15#32
  let v128_r0 : BitVec 32 := Scalar.select v127_r0 c15_i32_131_r0 v126_r0
  let c0_i32_132_r0 : BitVec 32 := 0#32
  let v129_r0 : BitVec 32 := Scalar.addi v128_r0 c0_i32_132_r0
  let v201_r0 : BitVec 1 := Scalar.cmpi .ne v124_r0 v129_r0
  let c0_i32_87_r0 : BitVec 32 := 0#32
  let c1_i32_89_r0 : BitVec 32 := 1#32
  let arg8_r0 : BitVec 32 := Scf.iv c0_i32_87_r0 c1_i32_89_r0 k0_t1
  let c0_i32_125_r0 : BitVec 32 := 0#32
  let v122_r0 : BitVec 1 := Scalar.cmpi .eq arg8_r0 c0_i32_125_r0
  let v202_r0 : BitVec 1 := Scalar.ori v201_r0 v122_r0
  let c0_i32_182_r0 : BitVec 32 := 0#32
  let v203_r0 : BitVec 1 := Scalar.cmpi .sge arg8_r0 c0_i32_182_r0
  let v204_r0 : BitVec 1 := Scalar.andi v202_r0 v203_r0
  let v205_r0 : BitVec 32 := Scalar.extui v204_r0
  let c0_i32_183_r0 : BitVec 32 := 0#32
  let v206_r0 : BitVec 1 := Scalar.cmpi .ne v205_r0 c0_i32_183_r0
  v206_r0

def k0_off29 (arg10_r0 : BitVec 32) : Fin 3 → Nat :=
  let c3_i32_321_r0 : BitVec 32 := 3#32
  let v437_r0 : BitVec 32 := Scalar.remui arg10_r0 c3_i32_321_r0
  let c0_i32_322_r0 : BitVec 32 := 0#32
  let c0_i32_323_r0 : BitVec 32 := 0#32
  ![v437_r0.toNat, 0, 0]
def k0_off30 (arg24_r0 : BitVec 32) : Fin 2 → Nat :=
  let c512_i32_320_r0 : BitVec 32 := 512#32
  let c0_i32_127_r0 : BitVec 32 := 0#32
  let v124_r0 : BitVec 32 := Scalar.addi arg24_r0 c0_i32_127_r0
  let v436_r0 : BitVec 32 := Scalar.muli c512_i32_320_r0 v124_r0
  let c0_i32_324_r0 : BitVec 32 := 0#32
  ![v436_r0.toNat, 0]
def k0_off31 (arg12_r0 : BitVec 32) : Fin 1 → Nat :=
  let c3_i32_321_r0 : BitVec 32 := 3#32
  let v437_r0 : BitVec 32 := Scalar.remui arg12_r0 c3_i32_321_r0
  ![v437_r0.toNat]
def k0_cond10 (k0_t1 : Fin k0_t1_loop.trips) (arg24_r0 : BitVec 32) : BitVec 1 :=
  let c0_i32_127_r0 : BitVec 32 := 0#32
  let v124_r0 : BitVec 32 := Scalar.addi arg24_r0 c0_i32_127_r0
  let true_129_r0 : BitVec 1 := 1#1
  let c1_i32_128_r0 : BitVec 32 := 1#32
  let v125_r0 : BitVec 32 := Scalar.subi arg24_r0 c1_i32_128_r0
  let v126_r0 : BitVec 32 := Scalar.select true_129_r0 v125_r0 arg24_r0
  let c_m1_i32_130_r0 : BitVec 32 := 4294967295#32
  let v127_r0 : BitVec 1 := Scalar.cmpi .eq v126_r0 c_m1_i32_130_r0
  let c15_i32_131_r0 : BitVec 32 := 15#32
  let v128_r0 : BitVec 32 := Scalar.select v127_r0 c15_i32_131_r0 v126_r0
  let c0_i32_132_r0 : BitVec 32 := 0#32
  let v129_r0 : BitVec 32 := Scalar.addi v128_r0 c0_i32_132_r0
  let v207_r0 : BitVec 1 := Scalar.cmpi .ne v124_r0 v129_r0
  let c0_i32_87_r0 : BitVec 32 := 0#32
  let c1_i32_89_r0 : BitVec 32 := 1#32
  let arg8_r0 : BitVec 32 := Scf.iv c0_i32_87_r0 c1_i32_89_r0 k0_t1
  let c0_i32_125_r0 : BitVec 32 := 0#32
  let v122_r0 : BitVec 1 := Scalar.cmpi .eq arg8_r0 c0_i32_125_r0
  let v208_r0 : BitVec 1 := Scalar.ori v207_r0 v122_r0
  let c0_i32_184_r0 : BitVec 32 := 0#32
  let v209_r0 : BitVec 1 := Scalar.cmpi .sge arg8_r0 c0_i32_184_r0
  let v210_r0 : BitVec 1 := Scalar.andi v208_r0 v209_r0
  let v211_r0 : BitVec 32 := Scalar.extui v210_r0
  let c0_i32_185_r0 : BitVec 32 := 0#32
  let v212_r0 : BitVec 1 := Scalar.cmpi .ne v211_r0 c0_i32_185_r0
  v212_r0

def k0_off32 (arg12_r0 : BitVec 32) : Fin 3 → Nat :=
  let c3_i32_321_r0 : BitVec 32 := 3#32
  let v437_r0 : BitVec 32 := Scalar.remui arg12_r0 c3_i32_321_r0
  let c0_i32_322_r0 : BitVec 32 := 0#32
  let c0_i32_323_r0 : BitVec 32 := 0#32
  ![v437_r0.toNat, 0, 0]
def k0_off33 (arg24_r0 : BitVec 32) : Fin 2 → Nat :=
  let c512_i32_320_r0 : BitVec 32 := 512#32
  let c0_i32_127_r0 : BitVec 32 := 0#32
  let v124_r0 : BitVec 32 := Scalar.addi arg24_r0 c0_i32_127_r0
  let v436_r0 : BitVec 32 := Scalar.muli c512_i32_320_r0 v124_r0
  let c0_i32_324_r0 : BitVec 32 := 0#32
  ![v436_r0.toNat, 0]
def k0_off34 (arg14_r0 : BitVec 32) : Fin 1 → Nat :=
  let c3_i32_321_r0 : BitVec 32 := 3#32
  let v437_r0 : BitVec 32 := Scalar.remui arg14_r0 c3_i32_321_r0
  ![v437_r0.toNat]
def k0_cond11 (k0_t1 : Fin k0_t1_loop.trips) (arg24_r0 : BitVec 32) : BitVec 1 :=
  let c0_i32_127_r0 : BitVec 32 := 0#32
  let v124_r0 : BitVec 32 := Scalar.addi arg24_r0 c0_i32_127_r0
  let true_129_r0 : BitVec 1 := 1#1
  let c1_i32_128_r0 : BitVec 32 := 1#32
  let v125_r0 : BitVec 32 := Scalar.subi arg24_r0 c1_i32_128_r0
  let v126_r0 : BitVec 32 := Scalar.select true_129_r0 v125_r0 arg24_r0
  let c_m1_i32_130_r0 : BitVec 32 := 4294967295#32
  let v127_r0 : BitVec 1 := Scalar.cmpi .eq v126_r0 c_m1_i32_130_r0
  let c15_i32_131_r0 : BitVec 32 := 15#32
  let v128_r0 : BitVec 32 := Scalar.select v127_r0 c15_i32_131_r0 v126_r0
  let c0_i32_132_r0 : BitVec 32 := 0#32
  let v129_r0 : BitVec 32 := Scalar.addi v128_r0 c0_i32_132_r0
  let v213_r0 : BitVec 1 := Scalar.cmpi .ne v124_r0 v129_r0
  let c0_i32_87_r0 : BitVec 32 := 0#32
  let c1_i32_89_r0 : BitVec 32 := 1#32
  let arg8_r0 : BitVec 32 := Scf.iv c0_i32_87_r0 c1_i32_89_r0 k0_t1
  let c0_i32_125_r0 : BitVec 32 := 0#32
  let v122_r0 : BitVec 1 := Scalar.cmpi .eq arg8_r0 c0_i32_125_r0
  let v214_r0 : BitVec 1 := Scalar.ori v213_r0 v122_r0
  let c0_i32_186_r0 : BitVec 32 := 0#32
  let v215_r0 : BitVec 1 := Scalar.cmpi .sge arg8_r0 c0_i32_186_r0
  let v216_r0 : BitVec 1 := Scalar.andi v214_r0 v215_r0
  let v217_r0 : BitVec 32 := Scalar.extui v216_r0
  let c0_i32_187_r0 : BitVec 32 := 0#32
  let v218_r0 : BitVec 1 := Scalar.cmpi .ne v217_r0 c0_i32_187_r0
  v218_r0

def k0_off35 (arg14_r0 : BitVec 32) : Fin 3 → Nat :=
  let c3_i32_321_r0 : BitVec 32 := 3#32
  let v437_r0 : BitVec 32 := Scalar.remui arg14_r0 c3_i32_321_r0
  let c0_i32_322_r0 : BitVec 32 := 0#32
  let c0_i32_323_r0 : BitVec 32 := 0#32
  ![v437_r0.toNat, 0, 0]
def k0_off36 (arg24_r0 : BitVec 32) : Fin 2 → Nat :=
  let c512_i32_320_r0 : BitVec 32 := 512#32
  let c0_i32_127_r0 : BitVec 32 := 0#32
  let v124_r0 : BitVec 32 := Scalar.addi arg24_r0 c0_i32_127_r0
  let v436_r0 : BitVec 32 := Scalar.muli c512_i32_320_r0 v124_r0
  let c0_i32_324_r0 : BitVec 32 := 0#32
  ![v436_r0.toNat, 0]
def k0_cond12 (k0_t1 : Fin k0_t1_loop.trips) : BitVec 1 :=
  let false_188_r0 : BitVec 1 := 0#1
  let c0_i32_87_r0 : BitVec 32 := 0#32
  let c1_i32_89_r0 : BitVec 32 := 1#32
  let arg8_r0 : BitVec 32 := Scf.iv c0_i32_87_r0 c1_i32_89_r0 k0_t1
  let c0_i32_125_r0 : BitVec 32 := 0#32
  let v122_r0 : BitVec 1 := Scalar.cmpi .eq arg8_r0 c0_i32_125_r0
  let v219_r0 : BitVec 1 := Scalar.ori false_188_r0 v122_r0
  let c0_i32_189_r0 : BitVec 32 := 0#32
  let v220_r0 : BitVec 1 := Scalar.cmpi .sge arg8_r0 c0_i32_189_r0
  let v221_r0 : BitVec 1 := Scalar.andi v219_r0 v220_r0
  let v222_r0 : BitVec 32 := Scalar.extui v221_r0
  let c0_i32_190_r0 : BitVec 32 := 0#32
  let v223_r0 : BitVec 1 := Scalar.cmpi .ne v222_r0 c0_i32_190_r0
  v223_r0

def k0_off37 (arg16_r0 : BitVec 32) : Fin 1 → Nat :=
  let c2_i32_320_r0 : BitVec 32 := 2#32
  let v436_r0 : BitVec 32 := Scalar.remui arg16_r0 c2_i32_320_r0
  ![v436_r0.toNat]

def k0_off38 (arg16_r0 : BitVec 32) : Fin 3 → Nat :=
  let c2_i32_320_r0 : BitVec 32 := 2#32
  let v436_r0 : BitVec 32 := Scalar.remui arg16_r0 c2_i32_320_r0
  let c0_i32_321_r0 : BitVec 32 := 0#32
  let c0_i32_322_r0 : BitVec 32 := 0#32
  ![v436_r0.toNat, 0, 0]
def k0_cond13 (k0_t1 : Fin k0_t1_loop.trips) : BitVec 1 :=
  let false_191_r0 : BitVec 1 := 0#1
  let c0_i32_87_r0 : BitVec 32 := 0#32
  let c1_i32_89_r0 : BitVec 32 := 1#32
  let arg8_r0 : BitVec 32 := Scf.iv c0_i32_87_r0 c1_i32_89_r0 k0_t1
  let c0_i32_125_r0 : BitVec 32 := 0#32
  let v122_r0 : BitVec 1 := Scalar.cmpi .eq arg8_r0 c0_i32_125_r0
  let v224_r0 : BitVec 1 := Scalar.ori false_191_r0 v122_r0
  let c0_i32_192_r0 : BitVec 32 := 0#32
  let v225_r0 : BitVec 1 := Scalar.cmpi .sge arg8_r0 c0_i32_192_r0
  let v226_r0 : BitVec 1 := Scalar.andi v224_r0 v225_r0
  let v227_r0 : BitVec 32 := Scalar.extui v226_r0
  let c0_i32_193_r0 : BitVec 32 := 0#32
  let v228_r0 : BitVec 1 := Scalar.cmpi .ne v227_r0 c0_i32_193_r0
  v228_r0

def k0_off39 (arg18_r0 : BitVec 32) : Fin 1 → Nat :=
  let c2_i32_320_r0 : BitVec 32 := 2#32
  let v436_r0 : BitVec 32 := Scalar.remui arg18_r0 c2_i32_320_r0
  ![v436_r0.toNat]

def k0_off40 (arg18_r0 : BitVec 32) : Fin 3 → Nat :=
  let c2_i32_320_r0 : BitVec 32 := 2#32
  let v436_r0 : BitVec 32 := Scalar.remui arg18_r0 c2_i32_320_r0
  let c0_i32_321_r0 : BitVec 32 := 0#32
  let c0_i32_322_r0 : BitVec 32 := 0#32
  ![v436_r0.toNat, 0, 0]
def k0_off41 (arg12_r0 : BitVec 32) : Fin 3 → Nat :=
  let c3_i32_199_r0 : BitVec 32 := 3#32
  let v242_r0 : BitVec 32 := Scalar.remui arg12_r0 c3_i32_199_r0
  let c0_i32_205_r0 : BitVec 32 := 0#32
  let c0_i32_206_r0 : BitVec 32 := 0#32
  ![v242_r0.toNat, 0, 0]

def k0_off42 (arg16_r0 : BitVec 32) : Fin 3 → Nat :=
  let c2_i32_201_r0 : BitVec 32 := 2#32
  let v244_r0 : BitVec 32 := Scalar.remui arg16_r0 c2_i32_201_r0
  let v251_r0 : Index := Scalar.indexCast v244_r0
  let c0_208_r0 : Index := 0#32
  let c0_209_r0 : Index := 0#32
  ![v251_r0.toNat, 0, 0]
def k0_off43 (arg14_r0 : BitVec 32) : Fin 3 → Nat :=
  let c3_i32_200_r0 : BitVec 32 := 3#32
  let v243_r0 : BitVec 32 := Scalar.remui arg14_r0 c3_i32_200_r0
  let c0_i32_210_r0 : BitVec 32 := 0#32
  let c0_i32_211_r0 : BitVec 32 := 0#32
  ![v243_r0.toNat, 0, 0]

def k0_off44 (arg18_r0 : BitVec 32) : Fin 3 → Nat :=
  let c2_i32_202_r0 : BitVec 32 := 2#32
  let v245_r0 : BitVec 32 := Scalar.remui arg18_r0 c2_i32_202_r0
  let v258_r0 : Index := Scalar.indexCast v245_r0
  let c0_214_r0 : Index := 0#32
  let c0_215_r0 : Index := 0#32
  ![v258_r0.toNat, 0, 0]
def k0_off45 (arg10_r0 : BitVec 32) : Fin 3 → Nat :=
  let c3_i32_198_r0 : BitVec 32 := 3#32
  let v241_r0 : BitVec 32 := Scalar.remui arg10_r0 c3_i32_198_r0
  let c0_i32_217_r0 : BitVec 32 := 0#32
  let c0_i32_218_r0 : BitVec 32 := 0#32
  ![v241_r0.toNat, 0, 0]

def k0_off46 (arg20_r0 : BitVec 32) : Fin 3 → Nat :=
  let c2_i32_203_r0 : BitVec 32 := 2#32
  let v246_r0 : BitVec 32 := Scalar.remui arg20_r0 c2_i32_203_r0
  let c0_i32_221_r0 : BitVec 32 := 0#32
  let c0_i32_222_r0 : BitVec 32 := 0#32
  ![v246_r0.toNat, 0, 0]

def k0_off47 (arg22_r0 : BitVec 32) : Fin 3 → Nat :=
  let c2_i32_204_r0 : BitVec 32 := 2#32
  let v247_r0 : BitVec 32 := Scalar.remui arg22_r0 c2_i32_204_r0
  let c0_i32_230_r0 : BitVec 32 := 0#32
  let c0_i32_231_r0 : BitVec 32 := 0#32
  ![v247_r0.toNat, 0, 0]

def k0_off48 (arg22_r0 : BitVec 32) : Fin 3 → Nat :=
  let c2_i32_204_r0 : BitVec 32 := 2#32
  let v247_r0 : BitVec 32 := Scalar.remui arg22_r0 c2_i32_204_r0
  let c0_i32_230_r0 : BitVec 32 := 0#32
  let c0_i32_231_r0 : BitVec 32 := 0#32
  ![v247_r0.toNat, 0, 0]
def k0_off49 (arg12_r0 : BitVec 32) : Fin 3 → Nat :=
  let c3_i32_199_r0 : BitVec 32 := 3#32
  let v242_r0 : BitVec 32 := Scalar.remui arg12_r0 c3_i32_199_r0
  let c0_i32_234_r0 : BitVec 32 := 0#32
  let c0_i32_235_r0 : BitVec 32 := 0#32
  ![v242_r0.toNat, 0, 0]

def k0_chk6 (arg12_r0 : BitVec 32) : Prop :=
  (∀ a, (k0_off41 arg12_r0) a + S1x512x1024.size a ≤ S3x512x1024.size a) ∧
  (∀ a, (k0_off49 arg12_r0) a + S1x512x1024.size a ≤ S3x512x1024.size a)
theorem k0_off41_inb : ∀ (arg12_r0 : BitVec 32) (k0_hw6 : k0_chk6 arg12_r0), ∀ a, (k0_off41 arg12_r0) a + S1x512x1024.size a ≤ S3x512x1024.size a := fun arg12_r0 k0_hw6 => k0_hw6.1
theorem k0_off49_inb : ∀ (arg12_r0 : BitVec 32) (k0_hw6 : k0_chk6 arg12_r0), ∀ a, (k0_off49 arg12_r0) a + S1x512x1024.size a ≤ S3x512x1024.size a := fun arg12_r0 k0_hw6 => k0_hw6.2

def k0_off50 (arg16_r0 : BitVec 32) : Fin 3 → Nat :=
  let c2_i32_201_r0 : BitVec 32 := 2#32
  let v244_r0 : BitVec 32 := Scalar.remui arg16_r0 c2_i32_201_r0
  let v292_r0 : Index := Scalar.indexCast v244_r0
  let c0_237_r0 : Index := 0#32
  let c0_238_r0 : Index := 0#32
  ![v292_r0.toNat, 0, 0]

def k0_chk4 (k0_t1 : Fin k0_t1_loop.trips) (arg16_r0 : BitVec 32) : Prop :=
  (∀ (k0_h12 : k0_cond12 k0_t1 = 1#1), ∀ a, (k0_off37 arg16_r0) a + S1.size a ≤ S2.size a) ∧
  (∀ (k0_h12 : k0_cond12 k0_t1 = 1#1), ∀ a, (k0_off38 arg16_r0) a + S1x1024x2048.size a ≤ S2x1024x2048.size a) ∧
  (∀ (k0_h12 : k0_cond12 k0_t1 = 1#1), ∀ (hinb : ∀ a, (k0_off38 arg16_r0) a + S1x1024x2048.size a ≤ S2x1024x2048.size a), (Rect.unit (s := S2x1024x2048) (k0_off38 arg16_r0) S1x1024x2048.size hinb).WholeWords (EltTy.packing .bf16)) ∧
  (∀ a, (k0_off42 arg16_r0) a + S1x1024x2048.size a ≤ S2x1024x2048.size a) ∧
  (∀ a, (k0_off50 arg16_r0) a + S1x1024x2048.size a ≤ S2x1024x2048.size a)
theorem k0_off37_inb : ∀ (k0_t1 : Fin k0_t1_loop.trips) (arg16_r0 : BitVec 32) (k0_hw4 : k0_chk4 k0_t1 arg16_r0), ∀ (k0_h12 : k0_cond12 k0_t1 = 1#1), ∀ a, (k0_off37 arg16_r0) a + S1.size a ≤ S2.size a := fun k0_t1 arg16_r0 k0_hw4 k0_h12 => k0_hw4.1 k0_h12
theorem k0_off38_inb : ∀ (k0_t1 : Fin k0_t1_loop.trips) (arg16_r0 : BitVec 32) (k0_hw4 : k0_chk4 k0_t1 arg16_r0), ∀ (k0_h12 : k0_cond12 k0_t1 = 1#1), ∀ a, (k0_off38 arg16_r0) a + S1x1024x2048.size a ≤ S2x1024x2048.size a := fun k0_t1 arg16_r0 k0_hw4 k0_h12 => k0_hw4.2.1 k0_h12
theorem k0_off38_wordsbf16 : ∀ (k0_t1 : Fin k0_t1_loop.trips) (arg16_r0 : BitVec 32) (k0_hw4 : k0_chk4 k0_t1 arg16_r0), ∀ (k0_h12 : k0_cond12 k0_t1 = 1#1), (Rect.unit (s := S2x1024x2048) (k0_off38 arg16_r0) S1x1024x2048.size (k0_off38_inb k0_t1 arg16_r0 k0_hw4 k0_h12)).WholeWords (EltTy.packing .bf16) := fun k0_t1 arg16_r0 k0_hw4 k0_h12 => k0_hw4.2.2.1 k0_h12 (k0_off38_inb k0_t1 arg16_r0 k0_hw4 k0_h12)
theorem k0_off42_inb : ∀ (k0_t1 : Fin k0_t1_loop.trips) (arg16_r0 : BitVec 32) (k0_hw4 : k0_chk4 k0_t1 arg16_r0), ∀ a, (k0_off42 arg16_r0) a + S1x1024x2048.size a ≤ S2x1024x2048.size a := fun k0_t1 arg16_r0 k0_hw4 => k0_hw4.2.2.2.1
theorem k0_off50_inb : ∀ (k0_t1 : Fin k0_t1_loop.trips) (arg16_r0 : BitVec 32) (k0_hw4 : k0_chk4 k0_t1 arg16_r0), ∀ a, (k0_off50 arg16_r0) a + S1x1024x2048.size a ≤ S2x1024x2048.size a := fun k0_t1 arg16_r0 k0_hw4 => k0_hw4.2.2.2.2

def k0_off51 (arg14_r0 : BitVec 32) : Fin 3 → Nat :=
  let c3_i32_200_r0 : BitVec 32 := 3#32
  let v243_r0 : BitVec 32 := Scalar.remui arg14_r0 c3_i32_200_r0
  let c0_i32_240_r0 : BitVec 32 := 0#32
  let c0_i32_241_r0 : BitVec 32 := 0#32
  ![v243_r0.toNat, 0, 0]

def k0_chk7 (arg14_r0 : BitVec 32) : Prop :=
  (∀ a, (k0_off43 arg14_r0) a + S1x512x1024.size a ≤ S3x512x1024.size a) ∧
  (∀ a, (k0_off51 arg14_r0) a + S1x512x1024.size a ≤ S3x512x1024.size a)
theorem k0_off43_inb : ∀ (arg14_r0 : BitVec 32) (k0_hw7 : k0_chk7 arg14_r0), ∀ a, (k0_off43 arg14_r0) a + S1x512x1024.size a ≤ S3x512x1024.size a := fun arg14_r0 k0_hw7 => k0_hw7.1
theorem k0_off51_inb : ∀ (arg14_r0 : BitVec 32) (k0_hw7 : k0_chk7 arg14_r0), ∀ a, (k0_off51 arg14_r0) a + S1x512x1024.size a ≤ S3x512x1024.size a := fun arg14_r0 k0_hw7 => k0_hw7.2

def k0_off52 (arg18_r0 : BitVec 32) : Fin 3 → Nat :=
  let c2_i32_202_r0 : BitVec 32 := 2#32
  let v245_r0 : BitVec 32 := Scalar.remui arg18_r0 c2_i32_202_r0
  let v299_r0 : Index := Scalar.indexCast v245_r0
  let c0_244_r0 : Index := 0#32
  let c0_245_r0 : Index := 0#32
  ![v299_r0.toNat, 0, 0]

def k0_chk5 (k0_t1 : Fin k0_t1_loop.trips) (arg18_r0 : BitVec 32) : Prop :=
  (∀ (k0_h13 : k0_cond13 k0_t1 = 1#1), ∀ a, (k0_off39 arg18_r0) a + S1.size a ≤ S2.size a) ∧
  (∀ (k0_h13 : k0_cond13 k0_t1 = 1#1), ∀ a, (k0_off40 arg18_r0) a + S1x1024x2048.size a ≤ S2x1024x2048.size a) ∧
  (∀ (k0_h13 : k0_cond13 k0_t1 = 1#1), ∀ (hinb : ∀ a, (k0_off40 arg18_r0) a + S1x1024x2048.size a ≤ S2x1024x2048.size a), (Rect.unit (s := S2x1024x2048) (k0_off40 arg18_r0) S1x1024x2048.size hinb).WholeWords (EltTy.packing .bf16)) ∧
  (∀ a, (k0_off44 arg18_r0) a + S1x1024x2048.size a ≤ S2x1024x2048.size a) ∧
  (∀ a, (k0_off52 arg18_r0) a + S1x1024x2048.size a ≤ S2x1024x2048.size a)
theorem k0_off39_inb : ∀ (k0_t1 : Fin k0_t1_loop.trips) (arg18_r0 : BitVec 32) (k0_hw5 : k0_chk5 k0_t1 arg18_r0), ∀ (k0_h13 : k0_cond13 k0_t1 = 1#1), ∀ a, (k0_off39 arg18_r0) a + S1.size a ≤ S2.size a := fun k0_t1 arg18_r0 k0_hw5 k0_h13 => k0_hw5.1 k0_h13
theorem k0_off40_inb : ∀ (k0_t1 : Fin k0_t1_loop.trips) (arg18_r0 : BitVec 32) (k0_hw5 : k0_chk5 k0_t1 arg18_r0), ∀ (k0_h13 : k0_cond13 k0_t1 = 1#1), ∀ a, (k0_off40 arg18_r0) a + S1x1024x2048.size a ≤ S2x1024x2048.size a := fun k0_t1 arg18_r0 k0_hw5 k0_h13 => k0_hw5.2.1 k0_h13
theorem k0_off40_wordsbf16 : ∀ (k0_t1 : Fin k0_t1_loop.trips) (arg18_r0 : BitVec 32) (k0_hw5 : k0_chk5 k0_t1 arg18_r0), ∀ (k0_h13 : k0_cond13 k0_t1 = 1#1), (Rect.unit (s := S2x1024x2048) (k0_off40 arg18_r0) S1x1024x2048.size (k0_off40_inb k0_t1 arg18_r0 k0_hw5 k0_h13)).WholeWords (EltTy.packing .bf16) := fun k0_t1 arg18_r0 k0_hw5 k0_h13 => k0_hw5.2.2.1 k0_h13 (k0_off40_inb k0_t1 arg18_r0 k0_hw5 k0_h13)
theorem k0_off44_inb : ∀ (k0_t1 : Fin k0_t1_loop.trips) (arg18_r0 : BitVec 32) (k0_hw5 : k0_chk5 k0_t1 arg18_r0), ∀ a, (k0_off44 arg18_r0) a + S1x1024x2048.size a ≤ S2x1024x2048.size a := fun k0_t1 arg18_r0 k0_hw5 => k0_hw5.2.2.2.1
theorem k0_off52_inb : ∀ (k0_t1 : Fin k0_t1_loop.trips) (arg18_r0 : BitVec 32) (k0_hw5 : k0_chk5 k0_t1 arg18_r0), ∀ a, (k0_off52 arg18_r0) a + S1x1024x2048.size a ≤ S2x1024x2048.size a := fun k0_t1 arg18_r0 k0_hw5 => k0_hw5.2.2.2.2

def k0_off53 (arg10_r0 : BitVec 32) : Fin 3 → Nat :=
  let c3_i32_198_r0 : BitVec 32 := 3#32
  let v241_r0 : BitVec 32 := Scalar.remui arg10_r0 c3_i32_198_r0
  let c0_i32_247_r0 : BitVec 32 := 0#32
  let c0_i32_248_r0 : BitVec 32 := 0#32
  ![v241_r0.toNat, 0, 0]

def k0_chk8 (arg10_r0 : BitVec 32) : Prop :=
  (∀ a, (k0_off45 arg10_r0) a + S1x512x2048.size a ≤ S3x512x2048.size a) ∧
  (∀ a, (k0_off53 arg10_r0) a + S1x512x2048.size a ≤ S3x512x2048.size a)
theorem k0_off45_inb : ∀ (arg10_r0 : BitVec 32) (k0_hw8 : k0_chk8 arg10_r0), ∀ a, (k0_off45 arg10_r0) a + S1x512x2048.size a ≤ S3x512x2048.size a := fun arg10_r0 k0_hw8 => k0_hw8.1
theorem k0_off53_inb : ∀ (arg10_r0 : BitVec 32) (k0_hw8 : k0_chk8 arg10_r0), ∀ a, (k0_off53 arg10_r0) a + S1x512x2048.size a ≤ S3x512x2048.size a := fun arg10_r0 k0_hw8 => k0_hw8.2

def k0_off54 (arg20_r0 : BitVec 32) : Fin 3 → Nat :=
  let c2_i32_203_r0 : BitVec 32 := 2#32
  let v246_r0 : BitVec 32 := Scalar.remui arg20_r0 c2_i32_203_r0
  let c0_i32_251_r0 : BitVec 32 := 0#32
  let c0_i32_252_r0 : BitVec 32 := 0#32
  ![v246_r0.toNat, 0, 0]

def k0_chk9 (arg20_r0 : BitVec 32) : Prop :=
  (∀ a, (k0_off46 arg20_r0) a + S1x512x2048.size a ≤ S2x512x2048.size a) ∧
  (∀ a, (k0_off54 arg20_r0) a + S1x512x2048.size a ≤ S2x512x2048.size a)
theorem k0_off46_inb : ∀ (arg20_r0 : BitVec 32) (k0_hw9 : k0_chk9 arg20_r0), ∀ a, (k0_off46 arg20_r0) a + S1x512x2048.size a ≤ S2x512x2048.size a := fun arg20_r0 k0_hw9 => k0_hw9.1
theorem k0_off54_inb : ∀ (arg20_r0 : BitVec 32) (k0_hw9 : k0_chk9 arg20_r0), ∀ a, (k0_off54 arg20_r0) a + S1x512x2048.size a ≤ S2x512x2048.size a := fun arg20_r0 k0_hw9 => k0_hw9.2

def k0_off55 (arg22_r0 : BitVec 32) : Fin 3 → Nat :=
  let c2_i32_204_r0 : BitVec 32 := 2#32
  let v247_r0 : BitVec 32 := Scalar.remui arg22_r0 c2_i32_204_r0
  let c0_i32_261_r0 : BitVec 32 := 0#32
  ![v247_r0.toNat, 256, 0]

def k0_chk10 (arg22_r0 : BitVec 32) : Prop :=
  (∀ a, (k0_off47 arg22_r0) a + S1x512x2048.size a ≤ S2x512x2048.size a) ∧
  (∀ a, (k0_off48 arg22_r0) a + S1x256x2048.size a ≤ S2x512x2048.size a) ∧
  (∀ (hinb : ∀ a, (k0_off48 arg22_r0) a + S1x256x2048.size a ≤ S2x512x2048.size a), (Rect.unit (s := S2x512x2048) (k0_off48 arg22_r0) S1x256x2048.size hinb).PackedRows (EltTy.packing .bf16)) ∧
  (∀ a, (k0_off55 arg22_r0) a + S1x256x2048.size a ≤ S2x512x2048.size a) ∧
  (∀ (hinb : ∀ a, (k0_off55 arg22_r0) a + S1x256x2048.size a ≤ S2x512x2048.size a), (Rect.unit (s := S2x512x2048) (k0_off55 arg22_r0) S1x256x2048.size hinb).PackedRows (EltTy.packing .bf16))
theorem k0_off47_inb : ∀ (arg22_r0 : BitVec 32) (k0_hw10 : k0_chk10 arg22_r0), ∀ a, (k0_off47 arg22_r0) a + S1x512x2048.size a ≤ S2x512x2048.size a := fun arg22_r0 k0_hw10 => k0_hw10.1
theorem k0_off48_inb : ∀ (arg22_r0 : BitVec 32) (k0_hw10 : k0_chk10 arg22_r0), ∀ a, (k0_off48 arg22_r0) a + S1x256x2048.size a ≤ S2x512x2048.size a := fun arg22_r0 k0_hw10 => k0_hw10.2.1
theorem k0_off48_packedbf16 : ∀ (arg22_r0 : BitVec 32) (k0_hw10 : k0_chk10 arg22_r0), (Rect.unit (s := S2x512x2048) (k0_off48 arg22_r0) S1x256x2048.size (k0_off48_inb arg22_r0 k0_hw10)).PackedRows (EltTy.packing .bf16) := fun arg22_r0 k0_hw10 => k0_hw10.2.2.1 (k0_off48_inb arg22_r0 k0_hw10)
theorem k0_off55_inb : ∀ (arg22_r0 : BitVec 32) (k0_hw10 : k0_chk10 arg22_r0), ∀ a, (k0_off55 arg22_r0) a + S1x256x2048.size a ≤ S2x512x2048.size a := fun arg22_r0 k0_hw10 => k0_hw10.2.2.2.1
theorem k0_off55_packedbf16 : ∀ (arg22_r0 : BitVec 32) (k0_hw10 : k0_chk10 arg22_r0), (Rect.unit (s := S2x512x2048) (k0_off55 arg22_r0) S1x256x2048.size (k0_off55_inb arg22_r0 k0_hw10)).PackedRows (EltTy.packing .bf16) := fun arg22_r0 k0_hw10 => k0_hw10.2.2.2.2 (k0_off55_inb arg22_r0 k0_hw10)

def k0_off56 (arg20_r0 : BitVec 32) : Fin 1 → Nat :=
  let c2_i32_320_r0 : BitVec 32 := 2#32
  let v436_r0 : BitVec 32 := Scalar.remui arg20_r0 c2_i32_320_r0
  ![v436_r0.toNat]
def k0_cond21 (k0_t1 : Fin k0_t1_loop.trips) (arg24_r0 : BitVec 32) : BitVec 1 :=
  let c0_i32_127_r0 : BitVec 32 := 0#32
  let v124_r0 : BitVec 32 := Scalar.addi arg24_r0 c0_i32_127_r0
  let true_134_r0 : BitVec 1 := 1#1
  let c1_i32_133_r0 : BitVec 32 := 1#32
  let v130_r0 : BitVec 32 := Scalar.addi arg24_r0 c1_i32_133_r0
  let v131_r0 : BitVec 32 := Scalar.select true_134_r0 v130_r0 arg24_r0
  let c16_i32_135_r0 : BitVec 32 := 16#32
  let v132_r0 : BitVec 1 := Scalar.cmpi .eq v131_r0 c16_i32_135_r0
  let c0_i32_136_r0 : BitVec 32 := 0#32
  let v133_r0 : BitVec 32 := Scalar.select v132_r0 c0_i32_136_r0 v131_r0
  let c0_i32_137_r0 : BitVec 32 := 0#32
  let v134_r0 : BitVec 32 := Scalar.addi v133_r0 c0_i32_137_r0
  let v353_r0 : BitVec 1 := Scalar.cmpi .ne v124_r0 v134_r0
  let c0_i32_87_r0 : BitVec 32 := 0#32
  let c1_i32_89_r0 : BitVec 32 := 1#32
  let arg8_r0 : BitVec 32 := Scf.iv c0_i32_87_r0 c1_i32_89_r0 k0_t1
  let c15_i32_126_r0 : BitVec 32 := 15#32
  let v123_r0 : BitVec 1 := Scalar.cmpi .eq arg8_r0 c15_i32_126_r0
  let v354_r0 : BitVec 1 := Scalar.ori v353_r0 v123_r0
  let v355_r0 : BitVec 32 := Scalar.extui v354_r0
  let c0_i32_276_r0 : BitVec 32 := 0#32
  let v356_r0 : BitVec 1 := Scalar.cmpi .ne v355_r0 c0_i32_276_r0
  v356_r0

def k0_off57 (arg24_r0 : BitVec 32) : Fin 2 → Nat :=
  let c512_i32_321_r0 : BitVec 32 := 512#32
  let c0_i32_127_r0 : BitVec 32 := 0#32
  let v124_r0 : BitVec 32 := Scalar.addi arg24_r0 c0_i32_127_r0
  let v437_r0 : BitVec 32 := Scalar.muli c512_i32_321_r0 v124_r0
  let c0_i32_322_r0 : BitVec 32 := 0#32
  ![v437_r0.toNat, 0]
def k0_off58 (arg20_r0 : BitVec 32) : Fin 3 → Nat :=
  let c2_i32_320_r0 : BitVec 32 := 2#32
  let v436_r0 : BitVec 32 := Scalar.remui arg20_r0 c2_i32_320_r0
  let c0_i32_323_r0 : BitVec 32 := 0#32
  let c0_i32_324_r0 : BitVec 32 := 0#32
  ![v436_r0.toNat, 0, 0]
def k0_off59 (arg22_r0 : BitVec 32) : Fin 1 → Nat :=
  let c2_i32_320_r0 : BitVec 32 := 2#32
  let v436_r0 : BitVec 32 := Scalar.remui arg22_r0 c2_i32_320_r0
  ![v436_r0.toNat]
def k0_cond22 (k0_t1 : Fin k0_t1_loop.trips) (arg24_r0 : BitVec 32) : BitVec 1 :=
  let c0_i32_127_r0 : BitVec 32 := 0#32
  let v124_r0 : BitVec 32 := Scalar.addi arg24_r0 c0_i32_127_r0
  let true_134_r0 : BitVec 1 := 1#1
  let c1_i32_133_r0 : BitVec 32 := 1#32
  let v130_r0 : BitVec 32 := Scalar.addi arg24_r0 c1_i32_133_r0
  let v131_r0 : BitVec 32 := Scalar.select true_134_r0 v130_r0 arg24_r0
  let c16_i32_135_r0 : BitVec 32 := 16#32
  let v132_r0 : BitVec 1 := Scalar.cmpi .eq v131_r0 c16_i32_135_r0
  let c0_i32_136_r0 : BitVec 32 := 0#32
  let v133_r0 : BitVec 32 := Scalar.select v132_r0 c0_i32_136_r0 v131_r0
  let c0_i32_137_r0 : BitVec 32 := 0#32
  let v134_r0 : BitVec 32 := Scalar.addi v133_r0 c0_i32_137_r0
  let v360_r0 : BitVec 1 := Scalar.cmpi .ne v124_r0 v134_r0
  let c0_i32_87_r0 : BitVec 32 := 0#32
  let c1_i32_89_r0 : BitVec 32 := 1#32
  let arg8_r0 : BitVec 32 := Scf.iv c0_i32_87_r0 c1_i32_89_r0 k0_t1
  let c15_i32_126_r0 : BitVec 32 := 15#32
  let v123_r0 : BitVec 1 := Scalar.cmpi .eq arg8_r0 c15_i32_126_r0
  let v361_r0 : BitVec 1 := Scalar.ori v360_r0 v123_r0
  let v362_r0 : BitVec 32 := Scalar.extui v361_r0
  let c0_i32_279_r0 : BitVec 32 := 0#32
  let v363_r0 : BitVec 1 := Scalar.cmpi .ne v362_r0 c0_i32_279_r0
  v363_r0

def k0_off60 (arg24_r0 : BitVec 32) : Fin 2 → Nat :=
  let c512_i32_321_r0 : BitVec 32 := 512#32
  let c0_i32_127_r0 : BitVec 32 := 0#32
  let v124_r0 : BitVec 32 := Scalar.addi arg24_r0 c0_i32_127_r0
  let v437_r0 : BitVec 32 := Scalar.muli c512_i32_321_r0 v124_r0
  let c0_i32_322_r0 : BitVec 32 := 0#32
  ![v437_r0.toNat, 0]
def k0_off61 (arg22_r0 : BitVec 32) : Fin 3 → Nat :=
  let c2_i32_320_r0 : BitVec 32 := 2#32
  let v436_r0 : BitVec 32 := Scalar.remui arg22_r0 c2_i32_320_r0
  let c0_i32_323_r0 : BitVec 32 := 0#32
  let c0_i32_324_r0 : BitVec 32 := 0#32
  ![v436_r0.toNat, 0, 0]
def k0_off62 (arg21_r0 : BitVec 32) : Fin 1 → Nat :=
  let c2_i32_320_r0 : BitVec 32 := 2#32
  let v436_r0 : BitVec 32 := Scalar.remui arg21_r0 c2_i32_320_r0
  ![v436_r0.toNat]
def k0_cond28 (k0_t1 : Fin k0_t1_loop.trips) (arg24_r0 : BitVec 32) : BitVec 1 :=
  let c0_i32_127_r0 : BitVec 32 := 0#32
  let v124_r0 : BitVec 32 := Scalar.addi arg24_r0 c0_i32_127_r0
  let true_129_r0 : BitVec 1 := 1#1
  let c1_i32_128_r0 : BitVec 32 := 1#32
  let v125_r0 : BitVec 32 := Scalar.subi arg24_r0 c1_i32_128_r0
  let v126_r0 : BitVec 32 := Scalar.select true_129_r0 v125_r0 arg24_r0
  let c_m1_i32_130_r0 : BitVec 32 := 4294967295#32
  let v127_r0 : BitVec 1 := Scalar.cmpi .eq v126_r0 c_m1_i32_130_r0
  let c15_i32_131_r0 : BitVec 32 := 15#32
  let v128_r0 : BitVec 32 := Scalar.select v127_r0 c15_i32_131_r0 v126_r0
  let c0_i32_132_r0 : BitVec 32 := 0#32
  let v129_r0 : BitVec 32 := Scalar.addi v128_r0 c0_i32_132_r0
  let v395_r0 : BitVec 1 := Scalar.cmpi .ne v124_r0 v129_r0
  let c0_i32_87_r0 : BitVec 32 := 0#32
  let c1_i32_89_r0 : BitVec 32 := 1#32
  let arg8_r0 : BitVec 32 := Scf.iv c0_i32_87_r0 c1_i32_89_r0 k0_t1
  let c0_i32_125_r0 : BitVec 32 := 0#32
  let v122_r0 : BitVec 1 := Scalar.cmpi .eq arg8_r0 c0_i32_125_r0
  let true_299_r0 : BitVec 1 := 1#1
  let v396_r0 : BitVec 1 := Scalar.xori v122_r0 true_299_r0
  let v397_r0 : BitVec 1 := Scalar.andi v395_r0 v396_r0
  let v398_r0 : BitVec 32 := Scalar.extui v397_r0
  let c0_i32_300_r0 : BitVec 32 := 0#32
  let v399_r0 : BitVec 1 := Scalar.cmpi .ne v398_r0 c0_i32_300_r0
  v399_r0

def k0_off63 (arg24_r0 : BitVec 32) : Fin 2 → Nat :=
  let c512_i32_321_r0 : BitVec 32 := 512#32
  let true_129_r0 : BitVec 1 := 1#1
  let c1_i32_128_r0 : BitVec 32 := 1#32
  let v125_r0 : BitVec 32 := Scalar.subi arg24_r0 c1_i32_128_r0
  let v126_r0 : BitVec 32 := Scalar.select true_129_r0 v125_r0 arg24_r0
  let c_m1_i32_130_r0 : BitVec 32 := 4294967295#32
  let v127_r0 : BitVec 1 := Scalar.cmpi .eq v126_r0 c_m1_i32_130_r0
  let c15_i32_131_r0 : BitVec 32 := 15#32
  let v128_r0 : BitVec 32 := Scalar.select v127_r0 c15_i32_131_r0 v126_r0
  let c0_i32_132_r0 : BitVec 32 := 0#32
  let v129_r0 : BitVec 32 := Scalar.addi v128_r0 c0_i32_132_r0
  let v437_r0 : BitVec 32 := Scalar.muli c512_i32_321_r0 v129_r0
  let c0_i32_322_r0 : BitVec 32 := 0#32
  ![v437_r0.toNat, 0]
def k0_off64 (arg21_r0 : BitVec 32) : Fin 3 → Nat :=
  let c2_i32_320_r0 : BitVec 32 := 2#32
  let v436_r0 : BitVec 32 := Scalar.remui arg21_r0 c2_i32_320_r0
  let c0_i32_323_r0 : BitVec 32 := 0#32
  let c0_i32_324_r0 : BitVec 32 := 0#32
  ![v436_r0.toNat, 0, 0]
def k0_off65 (arg23_r0 : BitVec 32) : Fin 1 → Nat :=
  let c2_i32_320_r0 : BitVec 32 := 2#32
  let v436_r0 : BitVec 32 := Scalar.remui arg23_r0 c2_i32_320_r0
  ![v436_r0.toNat]
def k0_cond29 (k0_t1 : Fin k0_t1_loop.trips) (arg24_r0 : BitVec 32) : BitVec 1 :=
  let c0_i32_127_r0 : BitVec 32 := 0#32
  let v124_r0 : BitVec 32 := Scalar.addi arg24_r0 c0_i32_127_r0
  let true_129_r0 : BitVec 1 := 1#1
  let c1_i32_128_r0 : BitVec 32 := 1#32
  let v125_r0 : BitVec 32 := Scalar.subi arg24_r0 c1_i32_128_r0
  let v126_r0 : BitVec 32 := Scalar.select true_129_r0 v125_r0 arg24_r0
  let c_m1_i32_130_r0 : BitVec 32 := 4294967295#32
  let v127_r0 : BitVec 1 := Scalar.cmpi .eq v126_r0 c_m1_i32_130_r0
  let c15_i32_131_r0 : BitVec 32 := 15#32
  let v128_r0 : BitVec 32 := Scalar.select v127_r0 c15_i32_131_r0 v126_r0
  let c0_i32_132_r0 : BitVec 32 := 0#32
  let v129_r0 : BitVec 32 := Scalar.addi v128_r0 c0_i32_132_r0
  let v403_r0 : BitVec 1 := Scalar.cmpi .ne v124_r0 v129_r0
  let c0_i32_87_r0 : BitVec 32 := 0#32
  let c1_i32_89_r0 : BitVec 32 := 1#32
  let arg8_r0 : BitVec 32 := Scf.iv c0_i32_87_r0 c1_i32_89_r0 k0_t1
  let c0_i32_125_r0 : BitVec 32 := 0#32
  let v122_r0 : BitVec 1 := Scalar.cmpi .eq arg8_r0 c0_i32_125_r0
  let true_303_r0 : BitVec 1 := 1#1
  let v404_r0 : BitVec 1 := Scalar.xori v122_r0 true_303_r0
  let v405_r0 : BitVec 1 := Scalar.andi v403_r0 v404_r0
  let v406_r0 : BitVec 32 := Scalar.extui v405_r0
  let c0_i32_304_r0 : BitVec 32 := 0#32
  let v407_r0 : BitVec 1 := Scalar.cmpi .ne v406_r0 c0_i32_304_r0
  v407_r0

def k0_off66 (arg24_r0 : BitVec 32) : Fin 2 → Nat :=
  let c512_i32_321_r0 : BitVec 32 := 512#32
  let true_129_r0 : BitVec 1 := 1#1
  let c1_i32_128_r0 : BitVec 32 := 1#32
  let v125_r0 : BitVec 32 := Scalar.subi arg24_r0 c1_i32_128_r0
  let v126_r0 : BitVec 32 := Scalar.select true_129_r0 v125_r0 arg24_r0
  let c_m1_i32_130_r0 : BitVec 32 := 4294967295#32
  let v127_r0 : BitVec 1 := Scalar.cmpi .eq v126_r0 c_m1_i32_130_r0
  let c15_i32_131_r0 : BitVec 32 := 15#32
  let v128_r0 : BitVec 32 := Scalar.select v127_r0 c15_i32_131_r0 v126_r0
  let c0_i32_132_r0 : BitVec 32 := 0#32
  let v129_r0 : BitVec 32 := Scalar.addi v128_r0 c0_i32_132_r0
  let v437_r0 : BitVec 32 := Scalar.muli c512_i32_321_r0 v129_r0
  let c0_i32_322_r0 : BitVec 32 := 0#32
  ![v437_r0.toNat, 0]
def k0_off67 (arg23_r0 : BitVec 32) : Fin 3 → Nat :=
  let c2_i32_320_r0 : BitVec 32 := 2#32
  let v436_r0 : BitVec 32 := Scalar.remui arg23_r0 c2_i32_320_r0
  let c0_i32_323_r0 : BitVec 32 := 0#32
  let c0_i32_324_r0 : BitVec 32 := 0#32
  ![v436_r0.toNat, 0, 0]

def k0_chk1_0 (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) : Prop :=
  (∀ (k0_h4 : k0_cond4 k0_t1 arg24_r0 = 1#1), ∀ a, (k0_off15 arg9_r0) a + S1.size a ≤ S3.size a) ∧
  (∀ (k0_h4 : k0_cond4 k0_t1 arg24_r0 = 1#1), ∀ a, (k0_off16 arg9_r0) a + S1x512x2048.size a ≤ S3x512x2048.size a) ∧
  (∀ (k0_h4 : k0_cond4 k0_t1 arg24_r0 = 1#1), ∀ a, (k0_off17 arg24_r0) a + S512x2048.size a ≤ S8192x2048.size a) ∧
  (∀ (k0_h5 : k0_cond5 k0_t1 arg24_r0 = 1#1), ∀ a, (k0_off18 arg11_r0) a + S1.size a ≤ S3.size a) ∧
  (∀ (k0_h5 : k0_cond5 k0_t1 arg24_r0 = 1#1), ∀ a, (k0_off19 arg11_r0) a + S1x512x1024.size a ≤ S3x512x1024.size a) ∧
  (∀ (k0_h5 : k0_cond5 k0_t1 arg24_r0 = 1#1), ∀ a, (k0_off20 arg24_r0) a + S512x1024.size a ≤ S8192x1024.size a) ∧
  (∀ (k0_h5 : k0_cond5 k0_t1 arg24_r0 = 1#1), ∀ (hinb : ∀ a, (k0_off20 arg24_r0) a + S512x1024.size a ≤ S8192x1024.size a), (Rect.unit (s := S8192x1024) (k0_off20 arg24_r0) S512x1024.size hinb).WholeWords (EltTy.packing .bf16)) ∧
  (∀ (k0_h5 : k0_cond5 k0_t1 arg24_r0 = 1#1), ∀ (hinb : ∀ a, (k0_off19 arg11_r0) a + S1x512x1024.size a ≤ S3x512x1024.size a), (Rect.unit (s := S3x512x1024) (k0_off19 arg11_r0) S1x512x1024.size hinb).WholeWords (EltTy.packing .bf16)) ∧
  (∀ (k0_h6 : k0_cond6 k0_t1 arg24_r0 = 1#1), ∀ a, (k0_off21 arg13_r0) a + S1.size a ≤ S3.size a) ∧
  (∀ (k0_h6 : k0_cond6 k0_t1 arg24_r0 = 1#1), ∀ a, (k0_off22 arg13_r0) a + S1x512x1024.size a ≤ S3x512x1024.size a) ∧
  (∀ (k0_h6 : k0_cond6 k0_t1 arg24_r0 = 1#1), ∀ a, (k0_off23 arg24_r0) a + S512x1024.size a ≤ S8192x1024.size a) ∧
  (∀ (k0_h6 : k0_cond6 k0_t1 arg24_r0 = 1#1), ∀ (hinb : ∀ a, (k0_off23 arg24_r0) a + S512x1024.size a ≤ S8192x1024.size a), (Rect.unit (s := S8192x1024) (k0_off23 arg24_r0) S512x1024.size hinb).WholeWords (EltTy.packing .bf16)) ∧
  (∀ (k0_h6 : k0_cond6 k0_t1 arg24_r0 = 1#1), ∀ (hinb : ∀ a, (k0_off22 arg13_r0) a + S1x512x1024.size a ≤ S3x512x1024.size a), (Rect.unit (s := S3x512x1024) (k0_off22 arg13_r0) S1x512x1024.size hinb).WholeWords (EltTy.packing .bf16)) ∧
  (∀ (k0_h9 : k0_cond9 k0_t1 arg24_r0 = 1#1), ∀ a, (k0_off28 arg10_r0) a + S1.size a ≤ S3.size a) ∧
  (∀ (k0_h9 : k0_cond9 k0_t1 arg24_r0 = 1#1), ∀ a, (k0_off29 arg10_r0) a + S1x512x2048.size a ≤ S3x512x2048.size a) ∧
  (∀ (k0_h9 : k0_cond9 k0_t1 arg24_r0 = 1#1), ∀ a, (k0_off30 arg24_r0) a + S512x2048.size a ≤ S8192x2048.size a) ∧
  (∀ (k0_h10 : k0_cond10 k0_t1 arg24_r0 = 1#1), ∀ a, (k0_off31 arg12_r0) a + S1.size a ≤ S3.size a) ∧
  (∀ (k0_h10 : k0_cond10 k0_t1 arg24_r0 = 1#1), ∀ a, (k0_off32 arg12_r0) a + S1x512x1024.size a ≤ S3x512x1024.size a) ∧
  (∀ (k0_h10 : k0_cond10 k0_t1 arg24_r0 = 1#1), ∀ a, (k0_off33 arg24_r0) a + S512x1024.size a ≤ S8192x1024.size a) ∧
  (∀ (k0_h10 : k0_cond10 k0_t1 arg24_r0 = 1#1), ∀ (hinb : ∀ a, (k0_off33 arg24_r0) a + S512x1024.size a ≤ S8192x1024.size a), (Rect.unit (s := S8192x1024) (k0_off33 arg24_r0) S512x1024.size hinb).WholeWords (EltTy.packing .bf16)) ∧
  (∀ (k0_h10 : k0_cond10 k0_t1 arg24_r0 = 1#1), ∀ (hinb : ∀ a, (k0_off32 arg12_r0) a + S1x512x1024.size a ≤ S3x512x1024.size a), (Rect.unit (s := S3x512x1024) (k0_off32 arg12_r0) S1x512x1024.size hinb).WholeWords (EltTy.packing .bf16)) ∧
  (∀ (k0_h11 : k0_cond11 k0_t1 arg24_r0 = 1#1), ∀ a, (k0_off34 arg14_r0) a + S1.size a ≤ S3.size a) ∧
  (∀ (k0_h11 : k0_cond11 k0_t1 arg24_r0 = 1#1), ∀ a, (k0_off35 arg14_r0) a + S1x512x1024.size a ≤ S3x512x1024.size a) ∧
  (∀ (k0_h11 : k0_cond11 k0_t1 arg24_r0 = 1#1), ∀ a, (k0_off36 arg24_r0) a + S512x1024.size a ≤ S8192x1024.size a) ∧
  (∀ (k0_h11 : k0_cond11 k0_t1 arg24_r0 = 1#1), ∀ (hinb : ∀ a, (k0_off36 arg24_r0) a + S512x1024.size a ≤ S8192x1024.size a), (Rect.unit (s := S8192x1024) (k0_off36 arg24_r0) S512x1024.size hinb).WholeWords (EltTy.packing .bf16)) ∧
  (∀ (k0_h11 : k0_cond11 k0_t1 arg24_r0 = 1#1), ∀ (hinb : ∀ a, (k0_off35 arg14_r0) a + S1x512x1024.size a ≤ S3x512x1024.size a), (Rect.unit (s := S3x512x1024) (k0_off35 arg14_r0) S1x512x1024.size hinb).WholeWords (EltTy.packing .bf16)) ∧
  (∀ (k0_h21 : k0_cond21 k0_t1 arg24_r0 = 1#1), ∀ a, (k0_off56 arg20_r0) a + S1.size a ≤ S2.size a) ∧
  (∀ (k0_h21 : k0_cond21 k0_t1 arg24_r0 = 1#1), ∀ a, (k0_off57 arg24_r0) a + S512x2048.size a ≤ S8192x2048.size a) ∧
  (∀ (k0_h21 : k0_cond21 k0_t1 arg24_r0 = 1#1), ∀ a, (k0_off58 arg20_r0) a + S1x512x2048.size a ≤ S2x512x2048.size a) ∧
  (∀ (k0_h22 : k0_cond22 k0_t1 arg24_r0 = 1#1), ∀ a, (k0_off59 arg22_r0) a + S1.size a ≤ S2.size a) ∧
  (∀ (k0_h22 : k0_cond22 k0_t1 arg24_r0 = 1#1), ∀ a, (k0_off60 arg24_r0) a + S512x2048.size a ≤ S8192x2048.size a) ∧
  (∀ (k0_h22 : k0_cond22 k0_t1 arg24_r0 = 1#1), ∀ a, (k0_off61 arg22_r0) a + S1x512x2048.size a ≤ S2x512x2048.size a)
def k0_chk1_1 (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) : Prop :=
  (∀ (k0_h22 : k0_cond22 k0_t1 arg24_r0 = 1#1), ∀ (hinb : ∀ a, (k0_off61 arg22_r0) a + S1x512x2048.size a ≤ S2x512x2048.size a), (Rect.unit (s := S2x512x2048) (k0_off61 arg22_r0) S1x512x2048.size hinb).WholeWords (EltTy.packing .bf16)) ∧
  (∀ (k0_h22 : k0_cond22 k0_t1 arg24_r0 = 1#1), ∀ (hinb : ∀ a, (k0_off60 arg24_r0) a + S512x2048.size a ≤ S8192x2048.size a), (Rect.unit (s := S8192x2048) (k0_off60 arg24_r0) S512x2048.size hinb).WholeWords (EltTy.packing .bf16)) ∧
  (∀ (k0_h28 : k0_cond28 k0_t1 arg24_r0 = 1#1), ∀ a, (k0_off62 arg21_r0) a + S1.size a ≤ S2.size a) ∧
  (∀ (k0_h28 : k0_cond28 k0_t1 arg24_r0 = 1#1), ∀ a, (k0_off63 arg24_r0) a + S512x2048.size a ≤ S8192x2048.size a) ∧
  (∀ (k0_h28 : k0_cond28 k0_t1 arg24_r0 = 1#1), ∀ a, (k0_off64 arg21_r0) a + S1x512x2048.size a ≤ S2x512x2048.size a) ∧
  (∀ (k0_h29 : k0_cond29 k0_t1 arg24_r0 = 1#1), ∀ a, (k0_off65 arg23_r0) a + S1.size a ≤ S2.size a) ∧
  (∀ (k0_h29 : k0_cond29 k0_t1 arg24_r0 = 1#1), ∀ a, (k0_off66 arg24_r0) a + S512x2048.size a ≤ S8192x2048.size a) ∧
  (∀ (k0_h29 : k0_cond29 k0_t1 arg24_r0 = 1#1), ∀ a, (k0_off67 arg23_r0) a + S1x512x2048.size a ≤ S2x512x2048.size a) ∧
  (∀ (k0_h29 : k0_cond29 k0_t1 arg24_r0 = 1#1), ∀ (hinb : ∀ a, (k0_off67 arg23_r0) a + S1x512x2048.size a ≤ S2x512x2048.size a), (Rect.unit (s := S2x512x2048) (k0_off67 arg23_r0) S1x512x2048.size hinb).WholeWords (EltTy.packing .bf16)) ∧
  (∀ (k0_h29 : k0_cond29 k0_t1 arg24_r0 = 1#1), ∀ (hinb : ∀ a, (k0_off66 arg24_r0) a + S512x2048.size a ≤ S8192x2048.size a), (Rect.unit (s := S8192x2048) (k0_off66 arg24_r0) S512x2048.size hinb).WholeWords (EltTy.packing .bf16))
def k0_chk1 (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) : Prop :=
  k0_chk1_0 k0_t1 arg9_r0 arg10_r0 arg11_r0 arg12_r0 arg13_r0 arg14_r0 arg20_r0 arg21_r0 arg22_r0 arg23_r0 arg24_r0 ∧
  k0_chk1_1 k0_t1 arg9_r0 arg10_r0 arg11_r0 arg12_r0 arg13_r0 arg14_r0 arg20_r0 arg21_r0 arg22_r0 arg23_r0 arg24_r0
theorem k0_off15_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h4 : k0_cond4 k0_t1 arg24_r0 = 1#1), ∀ a, (k0_off15 arg9_r0) a + S1.size a ≤ S3.size a := fun k0_t1 arg9_r0 arg10_r0 arg11_r0 arg12_r0 arg13_r0 arg14_r0 arg20_r0 arg21_r0 arg22_r0 arg23_r0 arg24_r0 k0_hw1 k0_h4 => k0_hw1.1.1 k0_h4
theorem k0_off16_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h4 : k0_cond4 k0_t1 arg24_r0 = 1#1), ∀ a, (k0_off16 arg9_r0) a + S1x512x2048.size a ≤ S3x512x2048.size a := fun k0_t1 arg9_r0 arg10_r0 arg11_r0 arg12_r0 arg13_r0 arg14_r0 arg20_r0 arg21_r0 arg22_r0 arg23_r0 arg24_r0 k0_hw1 k0_h4 => k0_hw1.1.2.1 k0_h4
theorem k0_off17_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h4 : k0_cond4 k0_t1 arg24_r0 = 1#1), ∀ a, (k0_off17 arg24_r0) a + S512x2048.size a ≤ S8192x2048.size a := fun k0_t1 arg9_r0 arg10_r0 arg11_r0 arg12_r0 arg13_r0 arg14_r0 arg20_r0 arg21_r0 arg22_r0 arg23_r0 arg24_r0 k0_hw1 k0_h4 => k0_hw1.1.2.2.1 k0_h4
theorem k0_off18_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h5 : k0_cond5 k0_t1 arg24_r0 = 1#1), ∀ a, (k0_off18 arg11_r0) a + S1.size a ≤ S3.size a := fun k0_t1 arg9_r0 arg10_r0 arg11_r0 arg12_r0 arg13_r0 arg14_r0 arg20_r0 arg21_r0 arg22_r0 arg23_r0 arg24_r0 k0_hw1 k0_h5 => k0_hw1.1.2.2.2.1 k0_h5
theorem k0_off19_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h5 : k0_cond5 k0_t1 arg24_r0 = 1#1), ∀ a, (k0_off19 arg11_r0) a + S1x512x1024.size a ≤ S3x512x1024.size a := fun k0_t1 arg9_r0 arg10_r0 arg11_r0 arg12_r0 arg13_r0 arg14_r0 arg20_r0 arg21_r0 arg22_r0 arg23_r0 arg24_r0 k0_hw1 k0_h5 => k0_hw1.1.2.2.2.2.1 k0_h5
theorem k0_off20_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h5 : k0_cond5 k0_t1 arg24_r0 = 1#1), ∀ a, (k0_off20 arg24_r0) a + S512x1024.size a ≤ S8192x1024.size a := fun k0_t1 arg9_r0 arg10_r0 arg11_r0 arg12_r0 arg13_r0 arg14_r0 arg20_r0 arg21_r0 arg22_r0 arg23_r0 arg24_r0 k0_hw1 k0_h5 => k0_hw1.1.2.2.2.2.2.1 k0_h5
theorem k0_off20_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h5 : k0_cond5 k0_t1 arg24_r0 = 1#1), (Rect.unit (s := S8192x1024) (k0_off20 arg24_r0) S512x1024.size (k0_off20_inb k0_t1 arg9_r0 arg10_r0 arg11_r0 arg12_r0 arg13_r0 arg14_r0 arg20_r0 arg21_r0 arg22_r0 arg23_r0 arg24_r0 k0_hw1 k0_h5)).WholeWords (EltTy.packing .bf16) := fun k0_t1 arg9_r0 arg10_r0 arg11_r0 arg12_r0 arg13_r0 arg14_r0 arg20_r0 arg21_r0 arg22_r0 arg23_r0 arg24_r0 k0_hw1 k0_h5 => k0_hw1.1.2.2.2.2.2.2.1 k0_h5 (k0_off20_inb k0_t1 arg9_r0 arg10_r0 arg11_r0 arg12_r0 arg13_r0 arg14_r0 arg20_r0 arg21_r0 arg22_r0 arg23_r0 arg24_r0 k0_hw1 k0_h5)
theorem k0_off19_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h5 : k0_cond5 k0_t1 arg24_r0 = 1#1), (Rect.unit (s := S3x512x1024) (k0_off19 arg11_r0) S1x512x1024.size (k0_off19_inb k0_t1 arg9_r0 arg10_r0 arg11_r0 arg12_r0 arg13_r0 arg14_r0 arg20_r0 arg21_r0 arg22_r0 arg23_r0 arg24_r0 k0_hw1 k0_h5)).WholeWords (EltTy.packing .bf16) := fun k0_t1 arg9_r0 arg10_r0 arg11_r0 arg12_r0 arg13_r0 arg14_r0 arg20_r0 arg21_r0 arg22_r0 arg23_r0 arg24_r0 k0_hw1 k0_h5 => k0_hw1.1.2.2.2.2.2.2.2.1 k0_h5 (k0_off19_inb k0_t1 arg9_r0 arg10_r0 arg11_r0 arg12_r0 arg13_r0 arg14_r0 arg20_r0 arg21_r0 arg22_r0 arg23_r0 arg24_r0 k0_hw1 k0_h5)
theorem k0_off21_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h6 : k0_cond6 k0_t1 arg24_r0 = 1#1), ∀ a, (k0_off21 arg13_r0) a + S1.size a ≤ S3.size a := fun k0_t1 arg9_r0 arg10_r0 arg11_r0 arg12_r0 arg13_r0 arg14_r0 arg20_r0 arg21_r0 arg22_r0 arg23_r0 arg24_r0 k0_hw1 k0_h6 => k0_hw1.1.2.2.2.2.2.2.2.2.1 k0_h6
theorem k0_off22_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h6 : k0_cond6 k0_t1 arg24_r0 = 1#1), ∀ a, (k0_off22 arg13_r0) a + S1x512x1024.size a ≤ S3x512x1024.size a := fun k0_t1 arg9_r0 arg10_r0 arg11_r0 arg12_r0 arg13_r0 arg14_r0 arg20_r0 arg21_r0 arg22_r0 arg23_r0 arg24_r0 k0_hw1 k0_h6 => k0_hw1.1.2.2.2.2.2.2.2.2.2.1 k0_h6
theorem k0_off23_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h6 : k0_cond6 k0_t1 arg24_r0 = 1#1), ∀ a, (k0_off23 arg24_r0) a + S512x1024.size a ≤ S8192x1024.size a := fun k0_t1 arg9_r0 arg10_r0 arg11_r0 arg12_r0 arg13_r0 arg14_r0 arg20_r0 arg21_r0 arg22_r0 arg23_r0 arg24_r0 k0_hw1 k0_h6 => k0_hw1.1.2.2.2.2.2.2.2.2.2.2.1 k0_h6
theorem k0_off23_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h6 : k0_cond6 k0_t1 arg24_r0 = 1#1), (Rect.unit (s := S8192x1024) (k0_off23 arg24_r0) S512x1024.size (k0_off23_inb k0_t1 arg9_r0 arg10_r0 arg11_r0 arg12_r0 arg13_r0 arg14_r0 arg20_r0 arg21_r0 arg22_r0 arg23_r0 arg24_r0 k0_hw1 k0_h6)).WholeWords (EltTy.packing .bf16) := fun k0_t1 arg9_r0 arg10_r0 arg11_r0 arg12_r0 arg13_r0 arg14_r0 arg20_r0 arg21_r0 arg22_r0 arg23_r0 arg24_r0 k0_hw1 k0_h6 => k0_hw1.1.2.2.2.2.2.2.2.2.2.2.2.1 k0_h6 (k0_off23_inb k0_t1 arg9_r0 arg10_r0 arg11_r0 arg12_r0 arg13_r0 arg14_r0 arg20_r0 arg21_r0 arg22_r0 arg23_r0 arg24_r0 k0_hw1 k0_h6)
theorem k0_off22_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h6 : k0_cond6 k0_t1 arg24_r0 = 1#1), (Rect.unit (s := S3x512x1024) (k0_off22 arg13_r0) S1x512x1024.size (k0_off22_inb k0_t1 arg9_r0 arg10_r0 arg11_r0 arg12_r0 arg13_r0 arg14_r0 arg20_r0 arg21_r0 arg22_r0 arg23_r0 arg24_r0 k0_hw1 k0_h6)).WholeWords (EltTy.packing .bf16) := fun k0_t1 arg9_r0 arg10_r0 arg11_r0 arg12_r0 arg13_r0 arg14_r0 arg20_r0 arg21_r0 arg22_r0 arg23_r0 arg24_r0 k0_hw1 k0_h6 => k0_hw1.1.2.2.2.2.2.2.2.2.2.2.2.2.1 k0_h6 (k0_off22_inb k0_t1 arg9_r0 arg10_r0 arg11_r0 arg12_r0 arg13_r0 arg14_r0 arg20_r0 arg21_r0 arg22_r0 arg23_r0 arg24_r0 k0_hw1 k0_h6)
theorem k0_off28_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h9 : k0_cond9 k0_t1 arg24_r0 = 1#1), ∀ a, (k0_off28 arg10_r0) a + S1.size a ≤ S3.size a := fun k0_t1 arg9_r0 arg10_r0 arg11_r0 arg12_r0 arg13_r0 arg14_r0 arg20_r0 arg21_r0 arg22_r0 arg23_r0 arg24_r0 k0_hw1 k0_h9 => k0_hw1.1.2.2.2.2.2.2.2.2.2.2.2.2.2.1 k0_h9
theorem k0_off29_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h9 : k0_cond9 k0_t1 arg24_r0 = 1#1), ∀ a, (k0_off29 arg10_r0) a + S1x512x2048.size a ≤ S3x512x2048.size a := fun k0_t1 arg9_r0 arg10_r0 arg11_r0 arg12_r0 arg13_r0 arg14_r0 arg20_r0 arg21_r0 arg22_r0 arg23_r0 arg24_r0 k0_hw1 k0_h9 => k0_hw1.1.2.2.2.2.2.2.2.2.2.2.2.2.2.2.1 k0_h9
theorem k0_off30_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h9 : k0_cond9 k0_t1 arg24_r0 = 1#1), ∀ a, (k0_off30 arg24_r0) a + S512x2048.size a ≤ S8192x2048.size a := fun k0_t1 arg9_r0 arg10_r0 arg11_r0 arg12_r0 arg13_r0 arg14_r0 arg20_r0 arg21_r0 arg22_r0 arg23_r0 arg24_r0 k0_hw1 k0_h9 => k0_hw1.1.2.2.2.2.2.2.2.2.2.2.2.2.2.2.2.1 k0_h9
theorem k0_off31_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h10 : k0_cond10 k0_t1 arg24_r0 = 1#1), ∀ a, (k0_off31 arg12_r0) a + S1.size a ≤ S3.size a := fun k0_t1 arg9_r0 arg10_r0 arg11_r0 arg12_r0 arg13_r0 arg14_r0 arg20_r0 arg21_r0 arg22_r0 arg23_r0 arg24_r0 k0_hw1 k0_h10 => k0_hw1.1.2.2.2.2.2.2.2.2.2.2.2.2.2.2.2.2.1 k0_h10
theorem k0_off32_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h10 : k0_cond10 k0_t1 arg24_r0 = 1#1), ∀ a, (k0_off32 arg12_r0) a + S1x512x1024.size a ≤ S3x512x1024.size a := fun k0_t1 arg9_r0 arg10_r0 arg11_r0 arg12_r0 arg13_r0 arg14_r0 arg20_r0 arg21_r0 arg22_r0 arg23_r0 arg24_r0 k0_hw1 k0_h10 => k0_hw1.1.2.2.2.2.2.2.2.2.2.2.2.2.2.2.2.2.2.1 k0_h10
theorem k0_off33_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h10 : k0_cond10 k0_t1 arg24_r0 = 1#1), ∀ a, (k0_off33 arg24_r0) a + S512x1024.size a ≤ S8192x1024.size a := fun k0_t1 arg9_r0 arg10_r0 arg11_r0 arg12_r0 arg13_r0 arg14_r0 arg20_r0 arg21_r0 arg22_r0 arg23_r0 arg24_r0 k0_hw1 k0_h10 => k0_hw1.1.2.2.2.2.2.2.2.2.2.2.2.2.2.2.2.2.2.2.1 k0_h10
theorem k0_off33_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h10 : k0_cond10 k0_t1 arg24_r0 = 1#1), (Rect.unit (s := S8192x1024) (k0_off33 arg24_r0) S512x1024.size (k0_off33_inb k0_t1 arg9_r0 arg10_r0 arg11_r0 arg12_r0 arg13_r0 arg14_r0 arg20_r0 arg21_r0 arg22_r0 arg23_r0 arg24_r0 k0_hw1 k0_h10)).WholeWords (EltTy.packing .bf16) := fun k0_t1 arg9_r0 arg10_r0 arg11_r0 arg12_r0 arg13_r0 arg14_r0 arg20_r0 arg21_r0 arg22_r0 arg23_r0 arg24_r0 k0_hw1 k0_h10 => k0_hw1.1.2.2.2.2.2.2.2.2.2.2.2.2.2.2.2.2.2.2.2.1 k0_h10 (k0_off33_inb k0_t1 arg9_r0 arg10_r0 arg11_r0 arg12_r0 arg13_r0 arg14_r0 arg20_r0 arg21_r0 arg22_r0 arg23_r0 arg24_r0 k0_hw1 k0_h10)
theorem k0_off32_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h10 : k0_cond10 k0_t1 arg24_r0 = 1#1), (Rect.unit (s := S3x512x1024) (k0_off32 arg12_r0) S1x512x1024.size (k0_off32_inb k0_t1 arg9_r0 arg10_r0 arg11_r0 arg12_r0 arg13_r0 arg14_r0 arg20_r0 arg21_r0 arg22_r0 arg23_r0 arg24_r0 k0_hw1 k0_h10)).WholeWords (EltTy.packing .bf16) := fun k0_t1 arg9_r0 arg10_r0 arg11_r0 arg12_r0 arg13_r0 arg14_r0 arg20_r0 arg21_r0 arg22_r0 arg23_r0 arg24_r0 k0_hw1 k0_h10 => k0_hw1.1.2.2.2.2.2.2.2.2.2.2.2.2.2.2.2.2.2.2.2.2.1 k0_h10 (k0_off32_inb k0_t1 arg9_r0 arg10_r0 arg11_r0 arg12_r0 arg13_r0 arg14_r0 arg20_r0 arg21_r0 arg22_r0 arg23_r0 arg24_r0 k0_hw1 k0_h10)
theorem k0_off34_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h11 : k0_cond11 k0_t1 arg24_r0 = 1#1), ∀ a, (k0_off34 arg14_r0) a + S1.size a ≤ S3.size a := fun k0_t1 arg9_r0 arg10_r0 arg11_r0 arg12_r0 arg13_r0 arg14_r0 arg20_r0 arg21_r0 arg22_r0 arg23_r0 arg24_r0 k0_hw1 k0_h11 => k0_hw1.1.2.2.2.2.2.2.2.2.2.2.2.2.2.2.2.2.2.2.2.2.2.1 k0_h11
theorem k0_off35_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h11 : k0_cond11 k0_t1 arg24_r0 = 1#1), ∀ a, (k0_off35 arg14_r0) a + S1x512x1024.size a ≤ S3x512x1024.size a := fun k0_t1 arg9_r0 arg10_r0 arg11_r0 arg12_r0 arg13_r0 arg14_r0 arg20_r0 arg21_r0 arg22_r0 arg23_r0 arg24_r0 k0_hw1 k0_h11 => k0_hw1.1.2.2.2.2.2.2.2.2.2.2.2.2.2.2.2.2.2.2.2.2.2.2.1 k0_h11
theorem k0_off36_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h11 : k0_cond11 k0_t1 arg24_r0 = 1#1), ∀ a, (k0_off36 arg24_r0) a + S512x1024.size a ≤ S8192x1024.size a := fun k0_t1 arg9_r0 arg10_r0 arg11_r0 arg12_r0 arg13_r0 arg14_r0 arg20_r0 arg21_r0 arg22_r0 arg23_r0 arg24_r0 k0_hw1 k0_h11 => k0_hw1.1.2.2.2.2.2.2.2.2.2.2.2.2.2.2.2.2.2.2.2.2.2.2.2.1 k0_h11
theorem k0_off36_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h11 : k0_cond11 k0_t1 arg24_r0 = 1#1), (Rect.unit (s := S8192x1024) (k0_off36 arg24_r0) S512x1024.size (k0_off36_inb k0_t1 arg9_r0 arg10_r0 arg11_r0 arg12_r0 arg13_r0 arg14_r0 arg20_r0 arg21_r0 arg22_r0 arg23_r0 arg24_r0 k0_hw1 k0_h11)).WholeWords (EltTy.packing .bf16) := fun k0_t1 arg9_r0 arg10_r0 arg11_r0 arg12_r0 arg13_r0 arg14_r0 arg20_r0 arg21_r0 arg22_r0 arg23_r0 arg24_r0 k0_hw1 k0_h11 => k0_hw1.1.2.2.2.2.2.2.2.2.2.2.2.2.2.2.2.2.2.2.2.2.2.2.2.2.1 k0_h11 (k0_off36_inb k0_t1 arg9_r0 arg10_r0 arg11_r0 arg12_r0 arg13_r0 arg14_r0 arg20_r0 arg21_r0 arg22_r0 arg23_r0 arg24_r0 k0_hw1 k0_h11)
theorem k0_off35_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h11 : k0_cond11 k0_t1 arg24_r0 = 1#1), (Rect.unit (s := S3x512x1024) (k0_off35 arg14_r0) S1x512x1024.size (k0_off35_inb k0_t1 arg9_r0 arg10_r0 arg11_r0 arg12_r0 arg13_r0 arg14_r0 arg20_r0 arg21_r0 arg22_r0 arg23_r0 arg24_r0 k0_hw1 k0_h11)).WholeWords (EltTy.packing .bf16) := fun k0_t1 arg9_r0 arg10_r0 arg11_r0 arg12_r0 arg13_r0 arg14_r0 arg20_r0 arg21_r0 arg22_r0 arg23_r0 arg24_r0 k0_hw1 k0_h11 => k0_hw1.1.2.2.2.2.2.2.2.2.2.2.2.2.2.2.2.2.2.2.2.2.2.2.2.2.2.1 k0_h11 (k0_off35_inb k0_t1 arg9_r0 arg10_r0 arg11_r0 arg12_r0 arg13_r0 arg14_r0 arg20_r0 arg21_r0 arg22_r0 arg23_r0 arg24_r0 k0_hw1 k0_h11)
theorem k0_off56_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h21 : k0_cond21 k0_t1 arg24_r0 = 1#1), ∀ a, (k0_off56 arg20_r0) a + S1.size a ≤ S2.size a := fun k0_t1 arg9_r0 arg10_r0 arg11_r0 arg12_r0 arg13_r0 arg14_r0 arg20_r0 arg21_r0 arg22_r0 arg23_r0 arg24_r0 k0_hw1 k0_h21 => k0_hw1.1.2.2.2.2.2.2.2.2.2.2.2.2.2.2.2.2.2.2.2.2.2.2.2.2.2.2.1 k0_h21
theorem k0_off57_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h21 : k0_cond21 k0_t1 arg24_r0 = 1#1), ∀ a, (k0_off57 arg24_r0) a + S512x2048.size a ≤ S8192x2048.size a := fun k0_t1 arg9_r0 arg10_r0 arg11_r0 arg12_r0 arg13_r0 arg14_r0 arg20_r0 arg21_r0 arg22_r0 arg23_r0 arg24_r0 k0_hw1 k0_h21 => k0_hw1.1.2.2.2.2.2.2.2.2.2.2.2.2.2.2.2.2.2.2.2.2.2.2.2.2.2.2.2.1 k0_h21
theorem k0_off58_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h21 : k0_cond21 k0_t1 arg24_r0 = 1#1), ∀ a, (k0_off58 arg20_r0) a + S1x512x2048.size a ≤ S2x512x2048.size a := fun k0_t1 arg9_r0 arg10_r0 arg11_r0 arg12_r0 arg13_r0 arg14_r0 arg20_r0 arg21_r0 arg22_r0 arg23_r0 arg24_r0 k0_hw1 k0_h21 => k0_hw1.1.2.2.2.2.2.2.2.2.2.2.2.2.2.2.2.2.2.2.2.2.2.2.2.2.2.2.2.2.1 k0_h21
theorem k0_off59_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h22 : k0_cond22 k0_t1 arg24_r0 = 1#1), ∀ a, (k0_off59 arg22_r0) a + S1.size a ≤ S2.size a := fun k0_t1 arg9_r0 arg10_r0 arg11_r0 arg12_r0 arg13_r0 arg14_r0 arg20_r0 arg21_r0 arg22_r0 arg23_r0 arg24_r0 k0_hw1 k0_h22 => k0_hw1.1.2.2.2.2.2.2.2.2.2.2.2.2.2.2.2.2.2.2.2.2.2.2.2.2.2.2.2.2.2.1 k0_h22
theorem k0_off60_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h22 : k0_cond22 k0_t1 arg24_r0 = 1#1), ∀ a, (k0_off60 arg24_r0) a + S512x2048.size a ≤ S8192x2048.size a := fun k0_t1 arg9_r0 arg10_r0 arg11_r0 arg12_r0 arg13_r0 arg14_r0 arg20_r0 arg21_r0 arg22_r0 arg23_r0 arg24_r0 k0_hw1 k0_h22 => k0_hw1.1.2.2.2.2.2.2.2.2.2.2.2.2.2.2.2.2.2.2.2.2.2.2.2.2.2.2.2.2.2.2.1 k0_h22
theorem k0_off61_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h22 : k0_cond22 k0_t1 arg24_r0 = 1#1), ∀ a, (k0_off61 arg22_r0) a + S1x512x2048.size a ≤ S2x512x2048.size a := fun k0_t1 arg9_r0 arg10_r0 arg11_r0 arg12_r0 arg13_r0 arg14_r0 arg20_r0 arg21_r0 arg22_r0 arg23_r0 arg24_r0 k0_hw1 k0_h22 => k0_hw1.1.2.2.2.2.2.2.2.2.2.2.2.2.2.2.2.2.2.2.2.2.2.2.2.2.2.2.2.2.2.2.2 k0_h22
theorem k0_off61_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h22 : k0_cond22 k0_t1 arg24_r0 = 1#1), (Rect.unit (s := S2x512x2048) (k0_off61 arg22_r0) S1x512x2048.size (k0_off61_inb k0_t1 arg9_r0 arg10_r0 arg11_r0 arg12_r0 arg13_r0 arg14_r0 arg20_r0 arg21_r0 arg22_r0 arg23_r0 arg24_r0 k0_hw1 k0_h22)).WholeWords (EltTy.packing .bf16) := fun k0_t1 arg9_r0 arg10_r0 arg11_r0 arg12_r0 arg13_r0 arg14_r0 arg20_r0 arg21_r0 arg22_r0 arg23_r0 arg24_r0 k0_hw1 k0_h22 => k0_hw1.2.1 k0_h22 (k0_off61_inb k0_t1 arg9_r0 arg10_r0 arg11_r0 arg12_r0 arg13_r0 arg14_r0 arg20_r0 arg21_r0 arg22_r0 arg23_r0 arg24_r0 k0_hw1 k0_h22)
theorem k0_off60_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h22 : k0_cond22 k0_t1 arg24_r0 = 1#1), (Rect.unit (s := S8192x2048) (k0_off60 arg24_r0) S512x2048.size (k0_off60_inb k0_t1 arg9_r0 arg10_r0 arg11_r0 arg12_r0 arg13_r0 arg14_r0 arg20_r0 arg21_r0 arg22_r0 arg23_r0 arg24_r0 k0_hw1 k0_h22)).WholeWords (EltTy.packing .bf16) := fun k0_t1 arg9_r0 arg10_r0 arg11_r0 arg12_r0 arg13_r0 arg14_r0 arg20_r0 arg21_r0 arg22_r0 arg23_r0 arg24_r0 k0_hw1 k0_h22 => k0_hw1.2.2.1 k0_h22 (k0_off60_inb k0_t1 arg9_r0 arg10_r0 arg11_r0 arg12_r0 arg13_r0 arg14_r0 arg20_r0 arg21_r0 arg22_r0 arg23_r0 arg24_r0 k0_hw1 k0_h22)
theorem k0_off62_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h28 : k0_cond28 k0_t1 arg24_r0 = 1#1), ∀ a, (k0_off62 arg21_r0) a + S1.size a ≤ S2.size a := fun k0_t1 arg9_r0 arg10_r0 arg11_r0 arg12_r0 arg13_r0 arg14_r0 arg20_r0 arg21_r0 arg22_r0 arg23_r0 arg24_r0 k0_hw1 k0_h28 => k0_hw1.2.2.2.1 k0_h28
theorem k0_off63_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h28 : k0_cond28 k0_t1 arg24_r0 = 1#1), ∀ a, (k0_off63 arg24_r0) a + S512x2048.size a ≤ S8192x2048.size a := fun k0_t1 arg9_r0 arg10_r0 arg11_r0 arg12_r0 arg13_r0 arg14_r0 arg20_r0 arg21_r0 arg22_r0 arg23_r0 arg24_r0 k0_hw1 k0_h28 => k0_hw1.2.2.2.2.1 k0_h28
theorem k0_off64_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h28 : k0_cond28 k0_t1 arg24_r0 = 1#1), ∀ a, (k0_off64 arg21_r0) a + S1x512x2048.size a ≤ S2x512x2048.size a := fun k0_t1 arg9_r0 arg10_r0 arg11_r0 arg12_r0 arg13_r0 arg14_r0 arg20_r0 arg21_r0 arg22_r0 arg23_r0 arg24_r0 k0_hw1 k0_h28 => k0_hw1.2.2.2.2.2.1 k0_h28
theorem k0_off65_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h29 : k0_cond29 k0_t1 arg24_r0 = 1#1), ∀ a, (k0_off65 arg23_r0) a + S1.size a ≤ S2.size a := fun k0_t1 arg9_r0 arg10_r0 arg11_r0 arg12_r0 arg13_r0 arg14_r0 arg20_r0 arg21_r0 arg22_r0 arg23_r0 arg24_r0 k0_hw1 k0_h29 => k0_hw1.2.2.2.2.2.2.1 k0_h29
theorem k0_off66_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h29 : k0_cond29 k0_t1 arg24_r0 = 1#1), ∀ a, (k0_off66 arg24_r0) a + S512x2048.size a ≤ S8192x2048.size a := fun k0_t1 arg9_r0 arg10_r0 arg11_r0 arg12_r0 arg13_r0 arg14_r0 arg20_r0 arg21_r0 arg22_r0 arg23_r0 arg24_r0 k0_hw1 k0_h29 => k0_hw1.2.2.2.2.2.2.2.1 k0_h29
theorem k0_off67_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h29 : k0_cond29 k0_t1 arg24_r0 = 1#1), ∀ a, (k0_off67 arg23_r0) a + S1x512x2048.size a ≤ S2x512x2048.size a := fun k0_t1 arg9_r0 arg10_r0 arg11_r0 arg12_r0 arg13_r0 arg14_r0 arg20_r0 arg21_r0 arg22_r0 arg23_r0 arg24_r0 k0_hw1 k0_h29 => k0_hw1.2.2.2.2.2.2.2.2.1 k0_h29
theorem k0_off67_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h29 : k0_cond29 k0_t1 arg24_r0 = 1#1), (Rect.unit (s := S2x512x2048) (k0_off67 arg23_r0) S1x512x2048.size (k0_off67_inb k0_t1 arg9_r0 arg10_r0 arg11_r0 arg12_r0 arg13_r0 arg14_r0 arg20_r0 arg21_r0 arg22_r0 arg23_r0 arg24_r0 k0_hw1 k0_h29)).WholeWords (EltTy.packing .bf16) := fun k0_t1 arg9_r0 arg10_r0 arg11_r0 arg12_r0 arg13_r0 arg14_r0 arg20_r0 arg21_r0 arg22_r0 arg23_r0 arg24_r0 k0_hw1 k0_h29 => k0_hw1.2.2.2.2.2.2.2.2.2.1 k0_h29 (k0_off67_inb k0_t1 arg9_r0 arg10_r0 arg11_r0 arg12_r0 arg13_r0 arg14_r0 arg20_r0 arg21_r0 arg22_r0 arg23_r0 arg24_r0 k0_hw1 k0_h29)
theorem k0_off66_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg20_r0 : BitVec 32) (arg21_r0 : BitVec 32) (arg22_r0 : BitVec 32) (arg23_r0 : BitVec 32) (arg24_r0 : BitVec 32) (k0_hw1 : k0_chk1 k0_t1 arg9_r0 arg10_r0 arg11_r0 arg12_r0 arg13_r0 arg14_r0 arg20_r0 arg21_r0 arg22_r0 arg23_r0 arg24_r0), ∀ (k0_h29 : k0_cond29 k0_t1 arg24_r0 = 1#1), (Rect.unit (s := S8192x2048) (k0_off66 arg24_r0) S512x2048.size (k0_off66_inb k0_t1 arg9_r0 arg10_r0 arg11_r0 arg12_r0 arg13_r0 arg14_r0 arg20_r0 arg21_r0 arg22_r0 arg23_r0 arg24_r0 k0_hw1 k0_h29)).WholeWords (EltTy.packing .bf16) := fun k0_t1 arg9_r0 arg10_r0 arg11_r0 arg12_r0 arg13_r0 arg14_r0 arg20_r0 arg21_r0 arg22_r0 arg23_r0 arg24_r0 k0_hw1 k0_h29 => k0_hw1.2.2.2.2.2.2.2.2.2.2 k0_h29 (k0_off66_inb k0_t1 arg9_r0 arg10_r0 arg11_r0 arg12_r0 arg13_r0 arg14_r0 arg20_r0 arg21_r0 arg22_r0 arg23_r0 arg24_r0 k0_hw1 k0_h29)

def k0_off68 (v82_12_r0 : BitVec 32) : Fin 1 → Nat :=
  let c2_i32_116_r0 : BitVec 32 := 2#32
  let v108_r0 : BitVec 32 := Scalar.remui v82_12_r0 c2_i32_116_r0
  ![v108_r0.toNat]

def k0_off69 (v82_15_r0 : BitVec 32) : Fin 2 → Nat :=
  let c512_i32_r0 : BitVec 32 := 512#32
  let true_92_r0 : BitVec 1 := 1#1
  let c1_i32_91_r0 : BitVec 32 := 1#32
  let v83_r0 : BitVec 32 := Scalar.subi v82_15_r0 c1_i32_91_r0
  let v84_r0 : BitVec 32 := Scalar.select true_92_r0 v83_r0 v82_15_r0
  let c_m1_i32_93_r0 : BitVec 32 := 4294967295#32
  let v85_r0 : BitVec 1 := Scalar.cmpi .eq v84_r0 c_m1_i32_93_r0
  let c15_i32_94_r0 : BitVec 32 := 15#32
  let v86_r0 : BitVec 32 := Scalar.select v85_r0 c15_i32_94_r0 v84_r0
  let c0_i32_95_r0 : BitVec 32 := 0#32
  let v87_r0 : BitVec 32 := Scalar.addi v86_r0 c0_i32_95_r0
  let v109_r0 : BitVec 32 := Scalar.muli c512_i32_r0 v87_r0
  let c0_i32_117_r0 : BitVec 32 := 0#32
  ![v109_r0.toNat, 0]

def k0_off70 (v82_12_r0 : BitVec 32) : Fin 3 → Nat :=
  let c2_i32_116_r0 : BitVec 32 := 2#32
  let v108_r0 : BitVec 32 := Scalar.remui v82_12_r0 c2_i32_116_r0
  let c0_i32_118_r0 : BitVec 32 := 0#32
  let c0_i32_119_r0 : BitVec 32 := 0#32
  ![v108_r0.toNat, 0, 0]

def k0_chk11 (v82_12_r0 : BitVec 32) : Prop :=
  (∀ a, (k0_off68 v82_12_r0) a + S1.size a ≤ S2.size a) ∧
  (∀ a, (k0_off70 v82_12_r0) a + S1x512x2048.size a ≤ S2x512x2048.size a)
theorem k0_off68_inb : ∀ (v82_12_r0 : BitVec 32) (k0_hw11 : k0_chk11 v82_12_r0), ∀ a, (k0_off68 v82_12_r0) a + S1.size a ≤ S2.size a := fun v82_12_r0 k0_hw11 => k0_hw11.1
theorem k0_off70_inb : ∀ (v82_12_r0 : BitVec 32) (k0_hw11 : k0_chk11 v82_12_r0), ∀ a, (k0_off70 v82_12_r0) a + S1x512x2048.size a ≤ S2x512x2048.size a := fun v82_12_r0 k0_hw11 => k0_hw11.2

def k0_off71 (v82_14_r0 : BitVec 32) : Fin 1 → Nat :=
  let c2_i32_120_r0 : BitVec 32 := 2#32
  let v115_r0 : BitVec 32 := Scalar.remui v82_14_r0 c2_i32_120_r0
  ![v115_r0.toNat]

def k0_off72 (v82_15_r0 : BitVec 32) : Fin 2 → Nat :=
  let c512_i32_121_r0 : BitVec 32 := 512#32
  let true_92_r0 : BitVec 1 := 1#1
  let c1_i32_91_r0 : BitVec 32 := 1#32
  let v83_r0 : BitVec 32 := Scalar.subi v82_15_r0 c1_i32_91_r0
  let v84_r0 : BitVec 32 := Scalar.select true_92_r0 v83_r0 v82_15_r0
  let c_m1_i32_93_r0 : BitVec 32 := 4294967295#32
  let v85_r0 : BitVec 1 := Scalar.cmpi .eq v84_r0 c_m1_i32_93_r0
  let c15_i32_94_r0 : BitVec 32 := 15#32
  let v86_r0 : BitVec 32 := Scalar.select v85_r0 c15_i32_94_r0 v84_r0
  let c0_i32_95_r0 : BitVec 32 := 0#32
  let v87_r0 : BitVec 32 := Scalar.addi v86_r0 c0_i32_95_r0
  let v116_r0 : BitVec 32 := Scalar.muli c512_i32_121_r0 v87_r0
  let c0_i32_122_r0 : BitVec 32 := 0#32
  ![v116_r0.toNat, 0]
def k0_off73 (v82_14_r0 : BitVec 32) : Fin 3 → Nat :=
  let c2_i32_120_r0 : BitVec 32 := 2#32
  let v115_r0 : BitVec 32 := Scalar.remui v82_14_r0 c2_i32_120_r0
  let c0_i32_123_r0 : BitVec 32 := 0#32
  let c0_i32_124_r0 : BitVec 32 := 0#32
  ![v115_r0.toNat, 0, 0]

def k0_chk13 (v82_14_r0 : BitVec 32) : Prop :=
  (∀ a, (k0_off71 v82_14_r0) a + S1.size a ≤ S2.size a) ∧
  (∀ a, (k0_off73 v82_14_r0) a + S1x512x2048.size a ≤ S2x512x2048.size a) ∧
  (∀ (hinb : ∀ a, (k0_off73 v82_14_r0) a + S1x512x2048.size a ≤ S2x512x2048.size a), (Rect.unit (s := S2x512x2048) (k0_off73 v82_14_r0) S1x512x2048.size hinb).WholeWords (EltTy.packing .bf16))
theorem k0_off71_inb : ∀ (v82_14_r0 : BitVec 32) (k0_hw13 : k0_chk13 v82_14_r0), ∀ a, (k0_off71 v82_14_r0) a + S1.size a ≤ S2.size a := fun v82_14_r0 k0_hw13 => k0_hw13.1
theorem k0_off73_inb : ∀ (v82_14_r0 : BitVec 32) (k0_hw13 : k0_chk13 v82_14_r0), ∀ a, (k0_off73 v82_14_r0) a + S1x512x2048.size a ≤ S2x512x2048.size a := fun v82_14_r0 k0_hw13 => k0_hw13.2.1
theorem k0_off73_wordsbf16 : ∀ (v82_14_r0 : BitVec 32) (k0_hw13 : k0_chk13 v82_14_r0), (Rect.unit (s := S2x512x2048) (k0_off73 v82_14_r0) S1x512x2048.size (k0_off73_inb v82_14_r0 k0_hw13)).WholeWords (EltTy.packing .bf16) := fun v82_14_r0 k0_hw13 => k0_hw13.2.2 (k0_off73_inb v82_14_r0 k0_hw13)

def k0_chk12 (v82_15_r0 : BitVec 32) : Prop :=
  (∀ a, (k0_off69 v82_15_r0) a + S512x2048.size a ≤ S8192x2048.size a) ∧
  (∀ a, (k0_off72 v82_15_r0) a + S512x2048.size a ≤ S8192x2048.size a) ∧
  (∀ (hinb : ∀ a, (k0_off72 v82_15_r0) a + S512x2048.size a ≤ S8192x2048.size a), (Rect.unit (s := S8192x2048) (k0_off72 v82_15_r0) S512x2048.size hinb).WholeWords (EltTy.packing .bf16))
theorem k0_off69_inb : ∀ (v82_15_r0 : BitVec 32) (k0_hw12 : k0_chk12 v82_15_r0), ∀ a, (k0_off69 v82_15_r0) a + S512x2048.size a ≤ S8192x2048.size a := fun v82_15_r0 k0_hw12 => k0_hw12.1
theorem k0_off72_inb : ∀ (v82_15_r0 : BitVec 32) (k0_hw12 : k0_chk12 v82_15_r0), ∀ a, (k0_off72 v82_15_r0) a + S512x2048.size a ≤ S8192x2048.size a := fun v82_15_r0 k0_hw12 => k0_hw12.2.1
theorem k0_off72_wordsbf16 : ∀ (v82_15_r0 : BitVec 32) (k0_hw12 : k0_chk12 v82_15_r0), (Rect.unit (s := S8192x2048) (k0_off72 v82_15_r0) S512x2048.size (k0_off72_inb v82_15_r0 k0_hw12)).WholeWords (EltTy.packing .bf16) := fun v82_15_r0 k0_hw12 => k0_hw12.2.2 (k0_off72_inb v82_15_r0 k0_hw12)
-- ==== ReferenceIdeal.lean ====
abbrev S1x8192x2048 : Shape := ⟨3, ![1, 8192, 2048]⟩
abbrev S8192x1024 : Shape := ⟨2, ![8192, 1024]⟩
abbrev S2048x2048 : Shape := ⟨2, ![2048, 2048]⟩
abbrev S1x2048 : Shape := ⟨2, ![1, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 30
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S1x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Up.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S8192x5632 : Shape := ⟨2, ![8192, 5632]⟩
abbrev S2048x2048 : Shape := ⟨2, ![2048, 2048]⟩
abbrev S2048x512 : Shape := ⟨2, ![2048, 512]⟩
abbrev S128x2048 : Shape := ⟨2, ![128, 2048]⟩
abbrev S2048x256 : Shape := ⟨2, ![2048, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S8192x5632, .bf16⟩
  | .hbm, ⟨8, _⟩ => ⟨S5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S128x2048, .f32⟩
  | .local _ .vmem, ⟨7, _⟩ => ⟨S128x2048, .f32⟩
  | .local _ .vmem, ⟨8, _⟩ => ⟨S2048x512, .bf16⟩
  | .local _ .vmem, ⟨9, _⟩ => ⟨S2048x512, .bf16⟩
  | .local _ .vmem, ⟨10, _⟩ => ⟨S128x2048, .bf16⟩
  | .local _ .vmem, ⟨11, _⟩ => ⟨S128x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S8192x5632 : Shape := ⟨2, ![8192, 5632]⟩
abbrev S_ : Shape := ⟨0, ![]⟩
abbrev S5632x2048 : Shape := ⟨2, ![5632, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S8192x2048, .f32⟩
  | .hbm, ⟨5, _⟩ => ⟨S2048x5632, .f32⟩
  | .hbm, ⟨6, _⟩ => ⟨S8192x5632, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | .hbm, ⟨20, _⟩ => ⟨S5632x2048, .f32⟩
  | .hbm, ⟨21, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S1x2048 : Shape := ⟨2, ![1, 2048]⟩
abbrev S1024x5632 : Shape := ⟨2, ![1024, 5632]⟩
abbrev S5632x512 : Shape := ⟨2, ![5632, 512]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c3_i32_4 : BitVec 32 := 3#32
  let v12 : BitVec 1 := Scalar.cmpi .eq arg1 c3_i32_4
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownReferenceIdeal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Params.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16x16 : Shape := ⟨4, ![1, 64, 16, 16]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16x16 : Shape := ⟨3, ![64, 16, 16]⟩
abbrev S64x1 : Shape := ⟨2, ![64, 1]⟩
abbrev S8x128x1024 : Shape := ⟨3, ![8, 128, 1024]⟩
abbrev S8x1024x128 : Shape := ⟨3, ![8, 1024, 128]⟩
abbrev S8x128x128 : Shape := ⟨3, ![8, 128, 128]⟩
abbrev S64x512 : Shape := ⟨2, ![64, 512]⟩
abbrev S16x128 : Shape := ⟨2, ![16, 128]⟩
abbrev S128x128 : Shape := ⟨2, ![128, 128]⟩
abbrev S128x512 : Shape := ⟨2, ![128, 512]⟩
abbrev S512x128 : Shape := ⟨2, ![512, 128]⟩
abbrev S8x64 : Shape := ⟨2, ![8, 64]⟩
abbrev S8x1x64 : Shape := ⟨3, ![8, 1, 64]⟩
abbrev S8x16x64 : Shape := ⟨3, ![8, 16, 64]⟩
abbrev S128x64 : Shape := ⟨2, ![128, 64]⟩
abbrev S1x128x512 : Shape := ⟨3, ![1, 128, 512]⟩
abbrev S64x128 : Shape := ⟨2, ![64, 128]⟩
abbrev S1x512x128 : Shape := ⟨3, ![1, 512, 128]⟩
abbrev S8x16x16 : Shape := ⟨3, ![8, 16, 16]⟩
abbrev S128x16 : Shape := ⟨2, ![128, 16]⟩
abbrev S1x128x128 : Shape := ⟨3, ![1, 128, 128]⟩

abbrev nBuf : Space → Nat
  | .hbm => 24
  | .vmem => 13
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S1x64x64x16, .f32⟩
  | .hbm, ⟨4, _⟩ => ⟨S1x64x64x16, .f32⟩
  | .hbm, ⟨5, _⟩ => ⟨S1x64x16x64, .f32⟩
  | .hbm, ⟨6, _⟩ => ⟨S1x64x16x64, .f32⟩
  | .hbm, ⟨7, _⟩ => ⟨S1x64x16x16, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64x16, .f32⟩
  | .hbm, ⟨12, _⟩ => ⟨S64x64x16, .f32⟩
  | .hbm, ⟨13, _⟩ => ⟨S64x16x64, .f32⟩
  | .hbm, ⟨14, _⟩ => ⟨S64x16x64, .f32⟩
  | .hbm, ⟨15, _⟩ => ⟨S64x16x16, .f32⟩
  | .hbm, ⟨16, _⟩ => ⟨S64x1, .f32⟩
  | .hbm, ⟨17, _⟩ => ⟨S64x16x64, .f32⟩
  | .hbm, ⟨18, _⟩ => ⟨S64x16x64, .f32⟩
  | .hbm, ⟨19, _⟩ => ⟨S64x64, .f32⟩
  | .hbm, ⟨20, _⟩ => ⟨S64x64, .f32⟩
  | .hbm, ⟨21, _⟩ => ⟨S8x128x1024, .bf16⟩
  | .hbm, ⟨22, _⟩ => ⟨S8x1024x128, .bf16⟩
  | .hbm, ⟨23, _⟩ => ⟨S8x128x128, .bf16⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x16x64, .f32⟩
  | .local _ .vmem, ⟨4, _⟩ => ⟨S64x16x64, .f32⟩
  | .local _ .vmem, ⟨5, _⟩ => ⟨S64x16x64, .f32⟩
  | .local _ .vmem, ⟨6, _⟩ => ⟨S64x16x64, .f32⟩
  | .local _ .vmem, ⟨7, _⟩ => ⟨S64x16x16, .f32⟩
  | .local _ .vmem, ⟨8, _⟩ => ⟨S64x64, .f32⟩
  | .local _ .vmem, ⟨9, _⟩ => ⟨S64x64, .f32⟩
  | .local _ .vmem, ⟨10, _⟩ => ⟨S8x128x1024, .bf16⟩
  | .local _ .vmem, ⟨11, _⟩ => ⟨S8x1024x128, .bf16⟩
  | .local _ .vmem, ⟨12, _⟩ => ⟨S8x128x128, .bf16⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ParamsReferenceIdeal.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16x16 : Shape := ⟨4, ![1, 64, 16, 16]⟩
abbrev S64 : Shape := ⟨1, ![64]⟩
abbrev S64x1 : Shape := ⟨2, ![64, 1]⟩
abbrev S64x64 : Shape := ⟨2, ![64, 64]⟩
abbrev S_ : Shape := ⟨0, ![]⟩
abbrev S64x64x1 : Shape := ⟨3, ![64, 64, 1]⟩
abbrev S64x64x16 : Shape := ⟨3, ![64, 64, 16]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S64x16x64 : Shape := ⟨3, ![64, 16, 64]⟩
abbrev S8x8x16x1x64 : Shape := ⟨5, ![8, 8, 16, 1, 64]⟩
abbrev S8x1x8x1 : Shape := ⟨4, ![8, 1, 8, 1]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S64x16x16 : Shape := ⟨3, ![64, 16, 16]⟩
abbrev S8x8x16x1x16 : Shape := ⟨5, ![8, 8, 16, 1, 16]⟩
abbrev S8x8x16x8x16 : Shape := ⟨5, ![8, 8, 16, 8, 16]⟩
abbrev S8x128x128 : Shape := ⟨3, ![8, 128, 128]⟩

abbrev nBuf : Space → Nat
  | .hbm => 112
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S1x64x64x16, .f32⟩
  | .hbm, ⟨4, _⟩ => ⟨S1x64x64x16, .f32⟩
  | .hbm, ⟨5, _⟩ => ⟨S1x64x16x64, .f32⟩
  | .hbm, ⟨6, _⟩ => ⟨S1x64x16x64, .f32⟩
  | .hbm, ⟨7, _⟩ => ⟨S1x64x16x16, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x64x1, .f32⟩
  | .hbm, ⟨48, _⟩ => ⟨S64x64x16, .f32⟩
  | .hbm, ⟨49, _⟩ => ⟨S64x64x16, .f32⟩
  | .hbm, ⟨50, _⟩ => ⟨S64x64x16, .f32⟩
  | .hbm, ⟨51, _⟩ => ⟨S64x64x1, .f32⟩
  | .hbm, ⟨52, _⟩ => ⟨S64x64x16, .f32⟩
  | .hbm, ⟨53, _⟩ => ⟨S64x64x16, .f32⟩
  | .hbm, ⟨54, _⟩ => ⟨S64x64x16, .f32⟩
  | .hbm, ⟨55, _⟩ => ⟨S64x64x16, .f32⟩
  | .hbm, ⟨56, _⟩ => ⟨S8, .i32⟩
  | .hbm, ⟨57, _⟩ => ⟨S8x1, .i32⟩
  | .hbm, ⟨58, _⟩ => ⟨S8, .i32⟩
  | .hbm, ⟨59, _⟩ => ⟨S1x8, .i32⟩
  | .hbm, ⟨60, _⟩ => ⟨S8x8, .i32⟩
  | .hbm, ⟨61, _⟩ => ⟨S8x8, .i32⟩
  | .hbm, ⟨62, _⟩ => ⟨S8x8, .i1⟩
  | .hbm, ⟨63, _⟩ => ⟨S8x8, .f32⟩
  | .hbm, ⟨64, _⟩ => ⟨S64x16x64, .f32⟩
  | .hbm, ⟨65, _⟩ => ⟨S8x8x16x1x64, .f32⟩
  | .hbm, ⟨66, _⟩ => ⟨S8x1x8x1, .f32⟩
  | .hbm, ⟨67, _⟩ => ⟨S1x8x1x8x1, .f32⟩
  | .hbm, ⟨68, _⟩ => ⟨S8x8x16x8x64, .f32⟩
  | .hbm, ⟨69, _⟩ => ⟨S8x8x16x8x64, .f32⟩
  | .hbm, ⟨70, _⟩ => ⟨S8x8x16x8x64, .f32⟩
  | .hbm, ⟨71, _⟩ => ⟨S8x128x512, .f32⟩
  | .hbm, ⟨72, _⟩ => ⟨S64x16x64, .f32⟩
  | .hbm, ⟨73, _⟩ => ⟨S8x8x16x1x64, .f32⟩
  | .hbm, ⟨74, _⟩ => ⟨S8x1x8x1, .f32⟩
  | .hbm, ⟨75, _⟩ => ⟨S1x8x1x8x1, .f32⟩
  | .hbm, ⟨76, _⟩ => ⟨S8x8x16x8x64, .f32⟩
  | .hbm, ⟨77, _⟩ => ⟨S8x8x16x8x64, .f32⟩
  | .hbm, ⟨78, _⟩ => ⟨S8x8x16x8x64, .f32⟩
  | .hbm, ⟨79, _⟩ => ⟨S8x128x512, .f32⟩
  | .hbm, ⟨80, _⟩ => ⟨S8x128x1024, .f32⟩
  | .hbm, ⟨81, _⟩ => ⟨S64x16x64, .f32⟩
  | .hbm, ⟨82, _⟩ => ⟨S64x16x64, .f32⟩
  | .hbm, ⟨83, _⟩ => ⟨S64x16x64, .f32⟩
  | .hbm, ⟨84, _⟩ => ⟨S64x64x16, .f32⟩
  | .hbm, ⟨85, _⟩ => ⟨S8x8x64x1x16, .f32⟩
  | .hbm, ⟨86, _⟩ => ⟨S8x1x8x1, .f32⟩
  | .hbm, ⟨87, _⟩ => ⟨S1x8x1x8x1, .f32⟩
  | .hbm, ⟨88, _⟩ => ⟨S8x8x64x8x16, .f32⟩
  | .hbm, ⟨89, _⟩ => ⟨S8x8x64x8x16, .f32⟩
  | .hbm, ⟨90, _⟩ => ⟨S8x8x64x8x16, .f32⟩
  | .hbm, ⟨91, _⟩ => ⟨S8x512x128, .f32⟩
  | .hbm, ⟨92, _⟩ => ⟨S64x64x16, .f32⟩
  | .hbm, ⟨93, _⟩ => ⟨S8x8x64x1x16, .f32⟩
  | .hbm, ⟨94, _⟩ => ⟨S8x1x8x1, .f32⟩
  | .hbm, ⟨95, _⟩ => ⟨S1x8x1x8x1, .f32⟩
  | .hbm, ⟨96, _⟩ => ⟨S8x8x64x8x16, .f32⟩
  | .hbm, ⟨97, _⟩ => ⟨S8x8x64x8x16, .f32⟩
  | .hbm, ⟨98, _⟩ => ⟨S8x8x64x8x16, .f32⟩
  | .hbm, ⟨99, _⟩ => ⟨S8x512x128, .f32⟩
  | .hbm, ⟨100, _⟩ => ⟨S8x1024x128, .f32⟩
  | .hbm, ⟨101, _⟩ => ⟨S8x128x1024, .bf16⟩
  | .hbm, ⟨102, _⟩ => ⟨S8x1024x128, .bf16⟩
  | .hbm, ⟨103, _⟩ => ⟨S64x16x16, .f32⟩
  | .hbm, ⟨104, _⟩ => ⟨S8x8x16x1x16, .f32⟩
  | .hbm, ⟨105, _⟩ => ⟨S8x1x8x1, .f32⟩
  | .hbm, ⟨106, _⟩ => ⟨S1x8x1x8x1, .f32⟩
  | .hbm, ⟨107, _⟩ => ⟨S8x8x16x8x16, .f32⟩
  | .hbm, ⟨108, _⟩ => ⟨S8x8x16x8x16, .f32⟩
  | .hbm, ⟨109, _⟩ => ⟨S8x8x16x8x16, .f32⟩
  | .hbm, ⟨110, _⟩ => ⟨S8x128x128, .f32⟩
  | .hbm, ⟨111, _⟩ => ⟨S8x128x128, .bf16⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩

abbrev nD : Nat := 1
abbrev τ : Topo := Topo.v7x

variable {F : FTy → Type} [FloatOps F]
-- ==== Ffn.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S8192x5632 : Shape := ⟨2, ![8192, 5632]⟩
abbrev S2048x2048 : Shape := ⟨2, ![2048, 2048]⟩
abbrev S2048x512 : Shape := ⟨2, ![2048, 512]⟩
abbrev S128x2048 : Shape := ⟨2, ![128, 2048]⟩
abbrev S2048x256 : Shape := ⟨2, ![2048, 256]⟩
abbrev S1x2048 : Shape := ⟨2, ![1, 2048]⟩
abbrev S1024x5632 : Shape := ⟨2, ![1024, 5632]⟩
abbrev S5632x512 : Shape := ⟨2, ![5632, 512]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 13
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S8192x2048, .f32⟩
  | .hbm, ⟨5, _⟩ => ⟨S2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8192x5632, .bf16⟩
  | .hbm, ⟨10, _⟩ => ⟨S5632x2048, .bf16⟩
  | .hbm, ⟨11, _⟩ => ⟨S1x2048, .f32⟩
  | .hbm, ⟨12, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S128x2048, .f32⟩
  | .local _ .vmem, ⟨7, _⟩ => ⟨S128x2048, .f32⟩
  | .local _ .vmem, ⟨8, _⟩ => ⟨S2048x512, .bf16⟩
  | .local _ .vmem, ⟨9, _⟩ => ⟨S2048x512, .bf16⟩
  | .local _ .vmem, ⟨10, _⟩ => ⟨S128x2048, .bf16⟩
  | .local _ .vmem, ⟨11, _⟩ => ⟨S128x2048, .bf16⟩
  | .local _ .vmem, ⟨12, _⟩ => ⟨S1024x5632, .bf16⟩
  | .local _ .vmem, ⟨13, _⟩ => ⟨S1024x5632, .bf16⟩
  | .local _ .vmem, ⟨14, _⟩ => ⟨S5632x512, .bf16⟩
  | .local _ .vmem, ⟨15, _⟩ => ⟨S5632x512, .bf16⟩
  | .local _ .vmem, ⟨16, _⟩ => ⟨S1024x512, .f32⟩
  | .local _ .vmem, ⟨17, _⟩ => ⟨S1024x512, .f32⟩
  | .local _ .vmem, ⟨18, _⟩ => ⟨S1x2048, .f32⟩
  | .local _ .vmem, ⟨19, _⟩ => ⟨S1024x2048, .f32⟩
  | .local _ .vmem, ⟨20, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k1_cond3 (i : grid1.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k1_cond4 (i : grid1.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k1_cond5 (i : grid1.Coords) : BitVec 1 :=
  let arg1 : BitVec 32 := BitVec.ofNat 32 (i 1).val
  let c3_i32_4 : BitVec 32 := 3#32
  let v12 : BitVec 1 := Scalar.cmpi .eq arg1 c3_i32_4
  let v13 : BitVec 32 := Scalar.extui v12
  let c0_i32_5 : BitVec 32 := 0#32
  let v14 : BitVec 1 := Scalar.cmpi .ne v13 c0_i32_5
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== FfnReferenceIdeal.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S8192x5632 : Shape := ⟨2, ![8192, 5632]⟩
abbrev S_ : Shape := ⟨0, ![]⟩
abbrev S5632x2048 : Shape := ⟨2, ![5632, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S2048x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S5632x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.Words.lean ====
/-
  The words of the kernel's software pipeline, in closed form.

  The loop of the pipeline carries sixteen words: per staged array the number of the next block to copy in and of the
  next block to wait for, and the number of the block being computed. Before trip `k` each of them is a plain function
  of `k` (`wI`, `wR`, `wB`, `wE`, `wG`, gathered in `words`). This module states that the conditions the kernel tests,
  the checks it makes and the offsets it computes from these words are the expected ones, and that one trip takes
  `words k` to `words (k + 1)`. There are sixteen trips, and every fact is decided at each of them.
-/
module

public import proofs.«01_k».proof.Defs
public import proofs.«01_k».proof.Proof.Gen.KernelIdeal.Skeleton
public import Idealize.ShloMosaic.Lib.Ring

@[expose] public section

set_option maxRecDepth 16384

namespace Cert.Proof.Outproj

open Cert.KernelIdeal Cert.KernelIdeal.Gen
open Idealize.ShloMosaic

/-- A trip of the pipeline's loop. -/
abbrev Trip : Type := Fin k0_t1_loop.trips

/-- The next block to copy in: two ahead, never past the sixteenth. -/
def wI (k : ℕ) : BitVec 32 := BitVec.ofNat 32 (min (k + 2) 16)
/-- The block worked on (the next to wait for, and the next result to send out). -/
def wR (k : ℕ) : BitVec 32 := BitVec.ofNat 32 k
/-- The next result to wait for: one behind. -/
def wB (k : ℕ) : BitVec 32 := BitVec.ofNat 32 (k - 1)
/-- The number of stages done of an array that is copied in once: none until the last trip is over. -/
def wE (k : ℕ) : BitVec 32 := if k < 16 then 0#32 else 1#32
/-- The grid index, which wraps after the last trip. -/
def wG (k : ℕ) : BitVec 32 := if k < 16 then BitVec.ofNat 32 k else 0#32

/-- The loop's sixteen words before trip `k`. -/
def words (k : ℕ) : BitVec 32 × BitVec 32 × BitVec 32 × BitVec 32 × BitVec 32 × BitVec 32 × BitVec 32 × BitVec 32
    × BitVec 32 × BitVec 32 × BitVec 32 × BitVec 32 × BitVec 32 × BitVec 32 × BitVec 32 × BitVec 32 :=
  (wI k, wR k, wI k, wR k, wI k, wR k, 1#32, wE k, 1#32, wE k, wE k, wR k, wB k, wR k, wB k, wG k)

theorem trips_eq : k0_t1_loop.trips = 16 := by decide
theorem trip_lt (k : Trip) : k.val < 16 := k.isLt

/-! ## The conditions -/

/-- A block is copied in at the first fourteen trips; -/
theorem c4_in : ∀ k : Trip, k.val + 2 < 16 → k0_cond4 k (wG k.val) = 1#1 := by decide
theorem c4_out : ∀ k : Trip, ¬ k.val + 2 < 16 → ¬ k0_cond4 k (wG k.val) = 1#1 := by decide
theorem c5_in : ∀ k : Trip, k.val + 2 < 16 → k0_cond5 k (wG k.val) = 1#1 := by decide
theorem c5_out : ∀ k : Trip, ¬ k.val + 2 < 16 → ¬ k0_cond5 k (wG k.val) = 1#1 := by decide
theorem c6_in : ∀ k : Trip, k.val + 2 < 16 → k0_cond6 k (wG k.val) = 1#1 := by decide
theorem c6_out : ∀ k : Trip, ¬ k.val + 2 < 16 → ¬ k0_cond6 k (wG k.val) = 1#1 := by decide
/-- the weights never again; -/
theorem c7 : ∀ k : Trip, ¬ k0_cond7 k = 1#1 := by decide
theorem c8 : ∀ k : Trip, ¬ k0_cond8 k = 1#1 := by decide
/-- every trip waits for its block, -/
theorem c9 : ∀ k : Trip, k0_cond9 k (wG k.val) = 1#1 := by decide
theorem c10 : ∀ k : Trip, k0_cond10 k (wG k.val) = 1#1 := by decide
theorem c11 : ∀ k : Trip, k0_cond11 k (wG k.val) = 1#1 := by decide
/-- the first one for the weights; -/
theorem c12_first : ∀ k : Trip, k.val = 0 → k0_cond12 k = 1#1 := by decide
theorem c12_later : ∀ k : Trip, 1 ≤ k.val → ¬ k0_cond12 k = 1#1 := by decide
theorem c13_first : ∀ k : Trip, k.val = 0 → k0_cond13 k = 1#1 := by decide
theorem c13_later : ∀ k : Trip, 1 ≤ k.val → ¬ k0_cond13 k = 1#1 := by decide
/-- every trip sends its results out, -/
theorem c21 : ∀ k : Trip, k0_cond21 k (wG k.val) = 1#1 := by decide
theorem c22 : ∀ k : Trip, k0_cond22 k (wG k.val) = 1#1 := by decide
/-- and every trip but the first waits for the results of the one before. -/
theorem c28_first : ∀ k : Trip, k.val = 0 → ¬ k0_cond28 k (wG k.val) = 1#1 := by decide
theorem c28_later : ∀ k : Trip, 1 ≤ k.val → k0_cond28 k (wG k.val) = 1#1 := by decide
theorem c29_first : ∀ k : Trip, k.val = 0 → ¬ k0_cond29 k (wG k.val) = 1#1 := by decide
theorem c29_later : ∀ k : Trip, 1 ≤ k.val → k0_cond29 k (wG k.val) = 1#1 := by decide

/-! ## The checks -/

theorem chk10 : ∀ k : Trip, k0_chk10 (wR k.val) := by decide
theorem chk9 : ∀ k : Trip, k0_chk9 (wR k.val) := by decide
theorem chk8 : ∀ k : Trip, k0_chk8 (wR k.val) := by decide
theorem chk7 : ∀ k : Trip, k0_chk7 (wR k.val) := by decide
theorem chk6 : ∀ k : Trip, k0_chk6 (wR k.val) := by decide
theorem chk5 : ∀ k : Trip, k0_chk5 k (wE k.val) := by decide
theorem chk4 : ∀ k : Trip, k0_chk4 k (wE k.val) := by decide
theorem chk3 : ∀ k : Trip, k0_chk3 k 1#32 := by decide
theorem chk2 : ∀ k : Trip, k0_chk2 k 1#32 := by decide
set_option synthInstance.maxSize 1000000 in
theorem chk1 : ∀ k : Trip, k0_chk1 k (wI k.val) (wR k.val) (wI k.val) (wR k.val) (wI k.val) (wR k.val)
    (wR k.val) (wB k.val) (wR k.val) (wB k.val) (wG k.val) := by decide

end Cert.Proof.Outproj
-- ==== Proof.Names.lean ====
/-
  The names the kernel's buffers go by: the sixteen row blocks of its operands and results in HBM, the slots of its
  staging rings in VMEM, the semaphore of each slot. The kernel slices its buffers at offsets computed from the words
  of the pipeline; here each such slice is shown to be one of these names, so that a run reads the trip's accesses as
  "block `k`", "slot `k` modulo the ring".
-/
module

public import proofs.«01_k».proof.Proof.Words
public import Idealize.ShloMosaic.Lib.Tactic
public import Idealize.ShloMosaic.Lib.Affine

@[expose] public section

set_option maxRecDepth 16384

namespace Cert.Proof.Outproj

open Cert.KernelIdeal Cert.KernelIdeal.Gen
open Idealize.ShloMosaic Idealize.ShloMosaic.Tactic

/-! ## The buffers -/

abbrev xM : Memref sig .tc .hbm S8192x2048 .f32 := Memref.whole main_v0
abbrev maM : Memref sig .tc .hbm S8192x1024 .bf16 := Memref.whole main_arg1
abbrev mbM : Memref sig .tc .hbm S8192x1024 .bf16 := Memref.whole main_arg2
abbrev wM : Memref sig .tc .hbm S2048x2048 .bf16 := Memref.whole main_arg3
abbrev gM : Memref sig .tc .hbm S1x2048 .f32 := Memref.whole main_v2
abbrev oM : Memref sig .tc .hbm S8192x2048 .f32 := Memref.whole main_v3_0
abbrev hM : Memref sig .tc .hbm S8192x2048 .bf16 := Memref.whole main_v3_1
abbrev xR : Memref sig .tc .vmem S3x512x2048 .f32 := Memref.whole cc0_scoped0
abbrev maR : Memref sig .tc .vmem S3x512x1024 .bf16 := Memref.whole cc0_scoped2
abbrev mbR : Memref sig .tc .vmem S3x512x1024 .bf16 := Memref.whole cc0_scoped4
abbrev waR : Memref sig .tc .vmem S2x1024x2048 .bf16 := Memref.whole cc0_scoped6
abbrev wbR : Memref sig .tc .vmem S2x1024x2048 .bf16 := Memref.whole cc0_scoped8
abbrev gR : Memref sig .tc .vmem S1x2048 .f32 := Memref.whole cc0_scoped10
abbrev oR : Memref sig .tc .vmem S2x512x2048 .f32 := Memref.whole cc0_scoped11
abbrev hR : Memref sig .tc .vmem S2x512x2048 .bf16 := Memref.whole cc0_scoped13

/-! ## The offsets -/

abbrev rowOff (b : Fin 16) : Fin 2 → Nat := ![512 * b.val, 0]
theorem rowOff_inb : ∀ (b : Fin 16) a, rowOff b a + S512x2048.size a ≤ S8192x2048.size a := by decide
theorem rowOff_inb' : ∀ (b : Fin 16) a, rowOff b a + S512x1024.size a ≤ S8192x1024.size a := by decide
abbrev slotOff {n : ℕ} (s : Fin n) : Fin 3 → Nat := ![s.val, 0, 0]
theorem slotOff_inb_x : ∀ (s : Fin 3) a, slotOff s a + S1x512x2048.size a ≤ S3x512x2048.size a := by decide
theorem slotOff_inb_m : ∀ (s : Fin 3) a, slotOff s a + S1x512x1024.size a ≤ S3x512x1024.size a := by decide
theorem slotOff_inb_w : ∀ (s : Fin 2) a, slotOff s a + S1x1024x2048.size a ≤ S2x1024x2048.size a := by decide
theorem slotOff_inb_o : ∀ (s : Fin 2) a, slotOff s a + S1x512x2048.size a ≤ S2x512x2048.size a := by decide
abbrev semOff {n : ℕ} (s : Fin n) : Fin 1 → Nat := ![s.val]
theorem semOff_inb3 : ∀ (s : Fin 3) a, semOff s a + S1.size a ≤ S3.size a := by decide
theorem semOff_inb2 : ∀ (s : Fin 2) a, semOff s a + S1.size a ≤ S2.size a := by decide

/-! ## The blocks, the slots, the semaphores -/

/-- Row block `b` of the residual stream. -/
def xblk (b : Fin 16) : Memref sig .tc .hbm S512x2048 .f32 :=
  xM.slice (Rect.unit (s := S8192x2048) (rowOff b) S512x2048.size (rowOff_inb b)) (fun _ => rfl)
/-- Row block `b` of the first half of the mix. -/
def mablk (b : Fin 16) : Memref sig .tc .hbm S512x1024 .bf16 :=
  maM.slice (Rect.unit (s := S8192x1024) (rowOff b) S512x1024.size (rowOff_inb' b)) (fun _ => rfl)
/-- Row block `b` of the second half of the mix. -/
def mbblk (b : Fin 16) : Memref sig .tc .hbm S512x1024 .bf16 :=
  mbM.slice (Rect.unit (s := S8192x1024) (rowOff b) S512x1024.size (rowOff_inb' b)) (fun _ => rfl)
/-- Row block `b` of the new residual stream. -/
def oblk (b : Fin 16) : Memref sig .tc .hbm S512x2048 .f32 :=
  oM.slice (Rect.unit (s := S8192x2048) (rowOff b) S512x2048.size (rowOff_inb b)) (fun _ => rfl)
/-- Row block `b` of its normalised copy. -/
def hblk (b : Fin 16) : Memref sig .tc .hbm S512x2048 .bf16 :=
  hM.slice (Rect.unit (s := S8192x2048) (rowOff b) S512x2048.size (rowOff_inb b)) (fun _ => rfl)
/-- The upper half of the weights, met by the first half of the mix; -/
def wtop : Memref sig .tc .hbm S1024x2048 .bf16 :=
  wM.slice (Rect.unit (s := S2048x2048) ![0, 0] S1024x2048.size inb_S2048x2048_S1024x2048_0_0) (fun _ => rfl)
/-- the lower half, met by the second. -/
def wbot : Memref sig .tc .hbm S1024x2048 .bf16 :=
  wM.slice (Rect.unit (s := S2048x2048) ![1024, 0] S1024x2048.size inb_S2048x2048_S1024x2048_1024_0) (fun _ => rfl)
/-- Slot `s` of that ring. -/
def xsl (s : Fin 3) : Memref sig .tc .vmem S512x2048 .f32 :=
  (xR.slice (Rect.unit (s := S3x512x2048) (slotOff s) S1x512x2048.size (slotOff_inb_x s)) (fun _ => rfl)).squeeze S512x2048 squeezes_S1x512x2048_S512x2048
/-- Slot `s` of that ring. -/
def masl (s : Fin 3) : Memref sig .tc .vmem S512x1024 .bf16 :=
  (maR.slice (Rect.unit (s := S3x512x1024) (slotOff s) S1x512x1024.size (slotOff_inb_m s)) (fun _ => rfl)).squeeze S512x1024 squeezes_S1x512x1024_S512x1024
/-- Slot `s` of that ring. -/
def mbsl (s : Fin 3) : Memref sig .tc .vmem S512x1024 .bf16 :=
  (mbR.slice (Rect.unit (s := S3x512x1024) (slotOff s) S1x512x1024.size (slotOff_inb_m s)) (fun _ => rfl)).squeeze S512x1024 squeezes_S1x512x1024_S512x1024
/-- Slot `s` of that ring. -/
def wasl (s : Fin 2) : Memref sig .tc .vmem S1024x2048 .bf16 :=
  (waR.slice (Rect.unit (s := S2x1024x2048) (slotOff s) S1x1024x2048.size (slotOff_inb_w s)) (fun _ => rfl)).squeeze S1024x2048 squeezes_S1x1024x2048_S1024x2048
/-- Slot `s` of that ring. -/
def wbsl (s : Fin 2) : Memref sig .tc .vmem S1024x2048 .bf16 :=
  (wbR.slice (Rect.unit (s := S2x1024x2048) (slotOff s) S1x1024x2048.size (slotOff_inb_w s)) (fun _ => rfl)).squeeze S1024x2048 squeezes_S1x1024x2048_S1024x2048
/-- Slot `s` of that ring. -/
def osl (s : Fin 2) : Memref sig .tc .vmem S512x2048 .f32 :=
  (oR.slice (Rect.unit (s := S2x512x2048) (slotOff s) S1x512x2048.size (slotOff_inb_o s)) (fun _ => rfl)).squeeze S512x2048 squeezes_S1x512x2048_S512x2048
/-- Slot `s` of that ring. -/
def hsl (s : Fin 2) : Memref sig .tc .vmem S512x2048 .bf16 :=
  (hR.slice (Rect.unit (s := S2x512x2048) (slotOff s) S1x512x2048.size (slotOff_inb_o s)) (fun _ => rfl)).squeeze S512x2048 squeezes_S1x512x2048_S512x2048
/-- The semaphore of slot `s`. -/
def cx (s : Fin 3) : DmaSems sig S_ :=
  (cc0_scoped1.slice (Rect.unit (s := S3) (semOff s) S1.size (semOff_inb3 s))).squeeze S_ squeezes_S1_S_
/-- The semaphore of slot `s`. -/
def cma (s : Fin 3) : DmaSems sig S_ :=
  (cc0_scoped3.slice (Rect.unit (s := S3) (semOff s) S1.size (semOff_inb3 s))).squeeze S_ squeezes_S1_S_
/-- The semaphore of slot `s`. -/
def cmb (s : Fin 3) : DmaSems sig S_ :=
  (cc0_scoped5.slice (Rect.unit (s := S3) (semOff s) S1.size (semOff_inb3 s))).squeeze S_ squeezes_S1_S_
/-- The semaphore of slot `s`. -/
def cwa (s : Fin 2) : DmaSems sig S_ :=
  (cc0_scoped7.slice (Rect.unit (s := S2) (semOff s) S1.size (semOff_inb2 s))).squeeze S_ squeezes_S1_S_
/-- The semaphore of slot `s`. -/
def cwb (s : Fin 2) : DmaSems sig S_ :=
  (cc0_scoped9.slice (Rect.unit (s := S2) (semOff s) S1.size (semOff_inb2 s))).squeeze S_ squeezes_S1_S_
/-- The semaphore of slot `s`. -/
def co (s : Fin 2) : DmaSems sig S_ :=
  (cc0_scoped12.slice (Rect.unit (s := S2) (semOff s) S1.size (semOff_inb2 s))).squeeze S_ squeezes_S1_S_
/-- The semaphore of slot `s`. -/
def ch (s : Fin 2) : DmaSems sig S_ :=
  (cc0_scoped14.slice (Rect.unit (s := S2) (semOff s) S1.size (semOff_inb2 s))).squeeze S_ squeezes_S1_S_

instance {n : ℕ} (s : Fin n) : ClosedOff (slotOff s) := ⟨slotOff s, rfl⟩

/-! ## A slice at the name's offset is the name -/

theorem xblk_congr {off : Fin 2 → Nat} {b : Fin 16} (e : off = rowOff b) (hh hs) :
    xM.slice (Rect.unit (s := S8192x2048) off S512x2048.size hh) hs = xblk b :=
  Memref.slice_unit_congr _ e _ _ _ (fun _ => rfl)
theorem mablk_congr {off : Fin 2 → Nat} {b : Fin 16} (e : off = rowOff b) (hh hs) :
    maM.slice (Rect.unit (s := S8192x1024) off S512x1024.size hh) hs = mablk b :=
  Memref.slice_unit_congr _ e _ _ _ (fun _ => rfl)
theorem mbblk_congr {off : Fin 2 → Nat} {b : Fin 16} (e : off = rowOff b) (hh hs) :
    mbM.slice (Rect.unit (s := S8192x1024) off S512x1024.size hh) hs = mbblk b :=
  Memref.slice_unit_congr _ e _ _ _ (fun _ => rfl)
theorem oblk_congr {off : Fin 2 → Nat} {b : Fin 16} (e : off = rowOff b) (hh hs) :
    oM.slice (Rect.unit (s := S8192x2048) off S512x2048.size hh) hs = oblk b :=
  Memref.slice_unit_congr _ e _ _ _ (fun _ => rfl)
theorem hblk_congr {off : Fin 2 → Nat} {b : Fin 16} (e : off = rowOff b) (hh hs) :
    hM.slice (Rect.unit (s := S8192x2048) off S512x2048.size hh) hs = hblk b :=
  Memref.slice_unit_congr _ e _ _ _ (fun _ => rfl)
@[sl_canon] theorem wtop_lit (hh hs) : wM.slice (Rect.unit (s := S2048x2048) ![0, 0] S1024x2048.size hh) hs = wtop := rfl
@[sl_canon] theorem wbot_lit (hh hs) : wM.slice (Rect.unit (s := S2048x2048) ![1024, 0] S1024x2048.size hh) hs = wbot := rfl
theorem xsl_congr {off : Fin 3 → Nat} {s : Fin 3} (e : off = slotOff s) (hh hs) :
    (xR.slice (Rect.unit (s := S3x512x2048) off S1x512x2048.size hh) hs).squeeze S512x2048 squeezes_S1x512x2048_S512x2048 = xsl s :=
  congrArg (fun M : Memref sig .tc .vmem S1x512x2048 .f32 => M.squeeze S512x2048 squeezes_S1x512x2048_S512x2048) (Memref.slice_unit_congr _ e _ _ _ _)
theorem masl_congr {off : Fin 3 → Nat} {s : Fin 3} (e : off = slotOff s) (hh hs) :
    (maR.slice (Rect.unit (s := S3x512x1024) off S1x512x1024.size hh) hs).squeeze S512x1024 squeezes_S1x512x1024_S512x1024 = masl s :=
  congrArg (fun M : Memref sig .tc .vmem S1x512x1024 .bf16 => M.squeeze S512x1024 squeezes_S1x512x1024_S512x1024) (Memref.slice_unit_congr _ e _ _ _ _)
theorem mbsl_congr {off : Fin 3 → Nat} {s : Fin 3} (e : off = slotOff s) (hh hs) :
    (mbR.slice (Rect.unit (s := S3x512x1024) off S1x512x1024.size hh) hs).squeeze S512x1024 squeezes_S1x512x1024_S512x1024 = mbsl s :=
  congrArg (fun M : Memref sig .tc .vmem S1x512x1024 .bf16 => M.squeeze S512x1024 squeezes_S1x512x1024_S512x1024) (Memref.slice_unit_congr _ e _ _ _ _)
theorem wasl_congr {off : Fin 3 → Nat} {s : Fin 2} (e : off = slotOff s) (hh hs) :
    (waR.slice (Rect.unit (s := S2x1024x2048) off S1x1024x2048.size hh) hs).squeeze S1024x2048 squeezes_S1x1024x2048_S1024x2048 = wasl s :=
  congrArg (fun M : Memref sig .tc .vmem S1x1024x2048 .bf16 => M.squeeze S1024x2048 squeezes_S1x1024x2048_S1024x2048) (Memref.slice_unit_congr _ e _ _ _ _)
theorem wbsl_congr {off : Fin 3 → Nat} {s : Fin 2} (e : off = slotOff s) (hh hs) :
    (wbR.slice (Rect.unit (s := S2x1024x2048) off S1x1024x2048.size hh) hs).squeeze S1024x2048 squeezes_S1x1024x2048_S1024x2048 = wbsl s :=
  congrArg (fun M : Memref sig .tc .vmem S1x1024x2048 .bf16 => M.squeeze S1024x2048 squeezes_S1x1024x2048_S1024x2048) (Memref.slice_unit_congr _ e _ _ _ _)
theorem osl_congr {off : Fin 3 → Nat} {s : Fin 2} (e : off = slotOff s) (hh hs) :
    (oR.slice (Rect.unit (s := S2x512x2048) off S1x512x2048.size hh) hs).squeeze S512x2048 squeezes_S1x512x2048_S512x2048 = osl s :=
  congrArg (fun M : Memref sig .tc .vmem S1x512x2048 .f32 => M.squeeze S512x2048 squeezes_S1x512x2048_S512x2048) (Memref.slice_unit_congr _ e _ _ _ _)
theorem hsl_congr {off : Fin 3 → Nat} {s : Fin 2} (e : off = slotOff s) (hh hs) :
    (hR.slice (Rect.unit (s := S2x512x2048) off S1x512x2048.size hh) hs).squeeze S512x2048 squeezes_S1x512x2048_S512x2048 = hsl s :=
  congrArg (fun M : Memref sig .tc .vmem S1x512x2048 .bf16 => M.squeeze S512x2048 squeezes_S1x512x2048_S512x2048) (Memref.slice_unit_congr _ e _ _ _ _)
theorem cx_congr {off : Fin 1 → Nat} {s : Fin 3} (e : off = semOff s) (hh) :
    (cc0_scoped1.slice (Rect.unit (s := S3) off S1.size hh)).squeeze S_ squeezes_S1_S_ = cx s :=
  congrArg (fun A : DmaSems sig S1 => A.squeeze S_ squeezes_S1_S_) (SemArray.slice_unit_congr _ e _ _)
theorem cma_congr {off : Fin 1 → Nat} {s : Fin 3} (e : off = semOff s) (hh) :
    (cc0_scoped3.slice (Rect.unit (s := S3) off S1.size hh)).squeeze S_ squeezes_S1_S_ = cma s :=
  congrArg (fun A : DmaSems sig S1 => A.squeeze S_ squeezes_S1_S_) (SemArray.slice_unit_congr _ e _ _)
theorem cmb_congr {off : Fin 1 → Nat} {s : Fin 3} (e : off = semOff s) (hh) :
    (cc0_scoped5.slice (Rect.unit (s := S3) off S1.size hh)).squeeze S_ squeezes_S1_S_ = cmb s :=
  congrArg (fun A : DmaSems sig S1 => A.squeeze S_ squeezes_S1_S_) (SemArray.slice_unit_congr _ e _ _)
theorem cwa_congr {off : Fin 1 → Nat} {s : Fin 2} (e : off = semOff s) (hh) :
    (cc0_scoped7.slice (Rect.unit (s := S2) off S1.size hh)).squeeze S_ squeezes_S1_S_ = cwa s :=
  congrArg (fun A : DmaSems sig S1 => A.squeeze S_ squeezes_S1_S_) (SemArray.slice_unit_congr _ e _ _)
theorem cwb_congr {off : Fin 1 → Nat} {s : Fin 2} (e : off = semOff s) (hh) :
    (cc0_scoped9.slice (Rect.unit (s := S2) off S1.size hh)).squeeze S_ squeezes_S1_S_ = cwb s :=
  congrArg (fun A : DmaSems sig S1 => A.squeeze S_ squeezes_S1_S_) (SemArray.slice_unit_congr _ e _ _)
theorem co_congr {off : Fin 1 → Nat} {s : Fin 2} (e : off = semOff s) (hh) :
    (cc0_scoped12.slice (Rect.unit (s := S2) off S1.size hh)).squeeze S_ squeezes_S1_S_ = co s :=
  congrArg (fun A : DmaSems sig S1 => A.squeeze S_ squeezes_S1_S_) (SemArray.slice_unit_congr _ e _ _)
theorem ch_congr {off : Fin 1 → Nat} {s : Fin 2} (e : off = semOff s) (hh) :
    (cc0_scoped14.slice (Rect.unit (s := S2) off S1.size hh)).squeeze S_ squeezes_S1_S_ = ch s :=
  congrArg (fun A : DmaSems sig S1 => A.squeeze S_ squeezes_S1_S_) (SemArray.slice_unit_congr _ e _ _)

/-! ## The offsets of a trip -/

section Trip

variable (k : Trip)

theorem offs_in : ∀ k : Trip, k.val + 2 < 16 →
    (k0_off15 (wI k.val) = semOff (Ring.sl 3 (k.val + 2)) ∧ k0_off16 (wI k.val) = slotOff (Ring.sl 3 (k.val + 2))
      ∧ k0_off17 (wG k.val) = rowOff (Ring.bk 16 (k.val + 2)))
    ∧ (k0_off18 (wI k.val) = semOff (Ring.sl 3 (k.val + 2)) ∧ k0_off19 (wI k.val) = slotOff (Ring.sl 3 (k.val + 2))
      ∧ k0_off20 (wG k.val) = rowOff (Ring.bk 16 (k.val + 2)))
    ∧ (k0_off21 (wI k.val) = semOff (Ring.sl 3 (k.val + 2)) ∧ k0_off22 (wI k.val) = slotOff (Ring.sl 3 (k.val + 2))
      ∧ k0_off23 (wG k.val) = rowOff (Ring.bk 16 (k.val + 2))) := by decide
theorem offs_wait : ∀ k : Trip,
    (k0_off28 (wR k.val) = semOff (Ring.sl 3 k.val) ∧ k0_off29 (wR k.val) = slotOff (Ring.sl 3 k.val) ∧ k0_off30 (wG k.val) = rowOff (Ring.bk 16 k.val))
    ∧ (k0_off31 (wR k.val) = semOff (Ring.sl 3 k.val) ∧ k0_off32 (wR k.val) = slotOff (Ring.sl 3 k.val) ∧ k0_off33 (wG k.val) = rowOff (Ring.bk 16 k.val))
    ∧ (k0_off34 (wR k.val) = semOff (Ring.sl 3 k.val) ∧ k0_off35 (wR k.val) = slotOff (Ring.sl 3 k.val) ∧ k0_off36 (wG k.val) = rowOff (Ring.bk 16 k.val)) := by decide
theorem offs_w : ∀ k : Trip,
    (k0_off37 (wE k.val) = semOff (0 : Fin 2) ∧ k0_off38 (wE k.val) = slotOff (0 : Fin 2))
    ∧ (k0_off39 (wE k.val) = semOff (0 : Fin 2) ∧ k0_off40 (wE k.val) = slotOff (0 : Fin 2))
    ∧ k0_off42 (wE k.val) = slotOff (0 : Fin 2) ∧ k0_off44 (wE k.val) = slotOff (0 : Fin 2)
    ∧ k0_off50 (wE k.val) = slotOff (0 : Fin 2) ∧ k0_off52 (wE k.val) = slotOff (0 : Fin 2) := by decide
theorem offs_load : ∀ k : Trip,
    k0_off41 (wR k.val) = slotOff (Ring.sl 3 k.val) ∧ k0_off43 (wR k.val) = slotOff (Ring.sl 3 k.val) ∧ k0_off45 (wR k.val) = slotOff (Ring.sl 3 k.val)
    ∧ k0_off49 (wR k.val) = slotOff (Ring.sl 3 k.val) ∧ k0_off51 (wR k.val) = slotOff (Ring.sl 3 k.val) ∧ k0_off53 (wR k.val) = slotOff (Ring.sl 3 k.val)
    ∧ k0_off46 (wR k.val) = slotOff (Ring.sl 2 k.val) ∧ k0_off47 (wR k.val) = slotOff (Ring.sl 2 k.val) ∧ k0_off54 (wR k.val) = slotOff (Ring.sl 2 k.val) := by decide
theorem offs_out : ∀ k : Trip,
    (k0_off56 (wR k.val) = semOff (Ring.sl 2 k.val) ∧ k0_off58 (wR k.val) = slotOff (Ring.sl 2 k.val) ∧ k0_off57 (wG k.val) = rowOff (Ring.bk 16 k.val))
    ∧ (k0_off59 (wR k.val) = semOff (Ring.sl 2 k.val) ∧ k0_off61 (wR k.val) = slotOff (Ring.sl 2 k.val) ∧ k0_off60 (wG k.val) = rowOff (Ring.bk 16 k.val)) := by decide
theorem offs_back : ∀ k : Trip, 1 ≤ k.val →
    (k0_off62 (wB k.val) = semOff (Ring.sl 2 (k.val + 1)) ∧ k0_off64 (wB k.val) = slotOff (Ring.sl 2 (k.val + 1)) ∧ k0_off63 (wG k.val) = rowOff (Ring.bk 16 (k.val - 1)))
    ∧ (k0_off65 (wB k.val) = semOff (Ring.sl 2 (k.val + 1)) ∧ k0_off67 (wB k.val) = slotOff (Ring.sl 2 (k.val + 1)) ∧ k0_off66 (wG k.val) = rowOff (Ring.bk 16 (k.val - 1))) := by decide
theorem off48_eq : ∀ k : Trip, k0_off48 (wR k.val) = ![(Ring.sl 2 k.val).val, 0, 0] := by decide
theorem off55_eq : ∀ k : Trip, k0_off55 (wR k.val) = ![(Ring.sl 2 k.val).val, 256, 0] := by decide

instance : ClosedOff (k0_off48 (wR k.val)) := ⟨![(Ring.sl 2 k.val).val, 0, 0], off48_eq k⟩
instance : ClosedOff (k0_off55 (wR k.val)) := ⟨![(Ring.sl 2 k.val).val, 256, 0], off55_eq k⟩
instance : ClosedOff (k0_off42 (wE k.val)) := ⟨slotOff (0 : Fin 2), (offs_w k).2.2.1⟩
instance : ClosedOff (k0_off44 (wE k.val)) := ⟨slotOff (0 : Fin 2), (offs_w k).2.2.2.1⟩
instance : ClosedOff (k0_off50 (wE k.val)) := ⟨slotOff (0 : Fin 2), (offs_w k).2.2.2.2.1⟩
instance : ClosedOff (k0_off52 (wE k.val)) := ⟨slotOff (0 : Fin 2), (offs_w k).2.2.2.2.2⟩

/-! Copied in, two blocks ahead. -/

@[sl_canon] theorem cx_in (hk : k.val + 2 < 16) (hh) :
    (cc0_scoped1.slice (Rect.unit (s := S3) (k0_off15 (wI k.val)) S1.size hh)).squeeze S_ squeezes_S1_S_ = cx (Ring.sl 3 (k.val + 2)) := cx_congr ((offs_in k hk).1.1) _
@[sl_canon] theorem xsl_in (hk : k.val + 2 < 16) (hh hs) :
    (xR.slice (Rect.unit (s := S3x512x2048) (k0_off16 (wI k.val)) S1x512x2048.size hh) hs).squeeze S512x2048 squeezes_S1x512x2048_S512x2048 = xsl (Ring.sl 3 (k.val + 2)) := xsl_congr ((offs_in k hk).1.2.1) _ _
@[sl_canon] theorem xblk_in (hk : k.val + 2 < 16) (hh hs) :
    xM.slice (Rect.unit (s := S8192x2048) (k0_off17 (wG k.val)) S512x2048.size hh) hs = xblk (Ring.bk 16 (k.val + 2)) := xblk_congr ((offs_in k hk).1.2.2) _ _
@[sl_canon] theorem cma_in (hk : k.val + 2 < 16) (hh) :
    (cc0_scoped3.slice (Rect.unit (s := S3) (k0_off18 (wI k.val)) S1.size hh)).squeeze S_ squeezes_S1_S_ = cma (Ring.sl 3 (k.val + 2)) := cma_congr ((offs_in k hk).2.1.1) _
@[sl_canon] theorem masl_in (hk : k.val + 2 < 16) (hh hs) :
    (maR.slice (Rect.unit (s := S3x512x1024) (k0_off19 (wI k.val)) S1x512x1024.size hh) hs).squeeze S512x1024 squeezes_S1x512x1024_S512x1024 = masl (Ring.sl 3 (k.val + 2)) := masl_congr ((offs_in k hk).2.1.2.1) _ _
@[sl_canon] theorem mablk_in (hk : k.val + 2 < 16) (hh hs) :
    maM.slice (Rect.unit (s := S8192x1024) (k0_off20 (wG k.val)) S512x1024.size hh) hs = mablk (Ring.bk 16 (k.val + 2)) := mablk_congr ((offs_in k hk).2.1.2.2) _ _
@[sl_canon] theorem cmb_in (hk : k.val + 2 < 16) (hh) :
    (cc0_scoped5.slice (Rect.unit (s := S3) (k0_off21 (wI k.val)) S1.size hh)).squeeze S_ squeezes_S1_S_ = cmb (Ring.sl 3 (k.val + 2)) := cmb_congr ((offs_in k hk).2.2.1) _
@[sl_canon] theorem mbsl_in (hk : k.val + 2 < 16) (hh hs) :
    (mbR.slice (Rect.unit (s := S3x512x1024) (k0_off22 (wI k.val)) S1x512x1024.size hh) hs).squeeze S512x1024 squeezes_S1x512x1024_S512x1024 = mbsl (Ring.sl 3 (k.val + 2)) := mbsl_congr ((offs_in k hk).2.2.2.1) _ _
@[sl_canon] theorem mbblk_in (hk : k.val + 2 < 16) (hh hs) :
    mbM.slice (Rect.unit (s := S8192x1024) (k0_off23 (wG k.val)) S512x1024.size hh) hs = mbblk (Ring.bk 16 (k.val + 2)) := mbblk_congr ((offs_in k hk).2.2.2.2) _ _

/-! Waited for. -/

@[sl_canon] theorem cx_wait (hh) :
    (cc0_scoped1.slice (Rect.unit (s := S3) (k0_off28 (wR k.val)) S1.size hh)).squeeze S_ squeezes_S1_S_ = cx (Ring.sl 3 k.val) := cx_congr ((offs_wait k).1.1) _
@[sl_canon] theorem xsl_wait (hh hs) :
    (xR.slice (Rect.unit (s := S3x512x2048) (k0_off29 (wR k.val)) S1x512x2048.size hh) hs).squeeze S512x2048 squeezes_S1x512x2048_S512x2048 = xsl (Ring.sl 3 k.val) := xsl_congr ((offs_wait k).1.2.1) _ _
@[sl_canon] theorem xblk_wait (hh hs) :
    xM.slice (Rect.unit (s := S8192x2048) (k0_off30 (wG k.val)) S512x2048.size hh) hs = xblk (Ring.bk 16 k.val) := xblk_congr ((offs_wait k).1.2.2) _ _
@[sl_canon] theorem cma_wait (hh) :
    (cc0_scoped3.slice (Rect.unit (s := S3) (k0_off31 (wR k.val)) S1.size hh)).squeeze S_ squeezes_S1_S_ = cma (Ring.sl 3 k.val) := cma_congr ((offs_wait k).2.1.1) _
@[sl_canon] theorem masl_wait (hh hs) :
    (maR.slice (Rect.unit (s := S3x512x1024) (k0_off32 (wR k.val)) S1x512x1024.size hh) hs).squeeze S512x1024 squeezes_S1x512x1024_S512x1024 = masl (Ring.sl 3 k.val) := masl_congr ((offs_wait k).2.1.2.1) _ _
@[sl_canon] theorem mablk_wait (hh hs) :
    maM.slice (Rect.unit (s := S8192x1024) (k0_off33 (wG k.val)) S512x1024.size hh) hs = mablk (Ring.bk 16 k.val) := mablk_congr ((offs_wait k).2.1.2.2) _ _
@[sl_canon] theorem cmb_wait (hh) :
    (cc0_scoped5.slice (Rect.unit (s := S3) (k0_off34 (wR k.val)) S1.size hh)).squeeze S_ squeezes_S1_S_ = cmb (Ring.sl 3 k.val) := cmb_congr ((offs_wait k).2.2.1) _
@[sl_canon] theorem mbsl_wait (hh hs) :
    (mbR.slice (Rect.unit (s := S3x512x1024) (k0_off35 (wR k.val)) S1x512x1024.size hh) hs).squeeze S512x1024 squeezes_S1x512x1024_S512x1024 = mbsl (Ring.sl 3 k.val) := mbsl_congr ((offs_wait k).2.2.2.1) _ _
@[sl_canon] theorem mbblk_wait (hh hs) :
    mbM.slice (Rect.unit (s := S8192x1024) (k0_off36 (wG k.val)) S512x1024.size hh) hs = mbblk (Ring.bk 16 k.val) := mbblk_congr ((offs_wait k).2.2.2.2) _ _
@[sl_canon] theorem cwa_wait (hh) :
    (cc0_scoped7.slice (Rect.unit (s := S2) (k0_off37 (wE k.val)) S1.size hh)).squeeze S_ squeezes_S1_S_ = cwa (0) := cwa_congr ((offs_w k).1.1) _
@[sl_canon] theorem wasl_wait (hh hs) :
    (waR.slice (Rect.unit (s := S2x1024x2048) (k0_off38 (wE k.val)) S1x1024x2048.size hh) hs).squeeze S1024x2048 squeezes_S1x1024x2048_S1024x2048 = wasl (0) := wasl_congr ((offs_w k).1.2) _ _
@[sl_canon] theorem cwb_wait (hh) :
    (cc0_scoped9.slice (Rect.unit (s := S2) (k0_off39 (wE k.val)) S1.size hh)).squeeze S_ squeezes_S1_S_ = cwb (0) := cwb_congr ((offs_w k).2.1.1) _
@[sl_canon] theorem wbsl_wait (hh hs) :
    (wbR.slice (Rect.unit (s := S2x1024x2048) (k0_off40 (wE k.val)) S1x1024x2048.size hh) hs).squeeze S1024x2048 squeezes_S1x1024x2048_S1024x2048 = wbsl (0) := wbsl_congr ((offs_w k).2.1.2) _ _

/-! Read and written. -/

@[sl_canon] theorem masl_top (hh hs) :
    (maR.slice (Rect.unit (s := S3x512x1024) (k0_off41 (wR k.val)) S1x512x1024.size hh) hs).squeeze S512x1024 squeezes_S1x512x1024_S512x1024 = masl (Ring.sl 3 k.val) := masl_congr ((offs_load k).1) _ _
@[sl_canon] theorem mbsl_top (hh hs) :
    (mbR.slice (Rect.unit (s := S3x512x1024) (k0_off43 (wR k.val)) S1x512x1024.size hh) hs).squeeze S512x1024 squeezes_S1x512x1024_S512x1024 = mbsl (Ring.sl 3 k.val) := mbsl_congr ((offs_load k).2.1) _ _
@[sl_canon] theorem xsl_top (hh hs) :
    (xR.slice (Rect.unit (s := S3x512x2048) (k0_off45 (wR k.val)) S1x512x2048.size hh) hs).squeeze S512x2048 squeezes_S1x512x2048_S512x2048 = xsl (Ring.sl 3 k.val) := xsl_congr ((offs_load k).2.2.1) _ _
@[sl_canon] theorem masl_low (hh hs) :
    (maR.slice (Rect.unit (s := S3x512x1024) (k0_off49 (wR k.val)) S1x512x1024.size hh) hs).squeeze S512x1024 squeezes_S1x512x1024_S512x1024 = masl (Ring.sl 3 k.val) := masl_congr ((offs_load k).2.2.2.1) _ _
@[sl_canon] theorem mbsl_low (hh hs) :
    (mbR.slice (Rect.unit (s := S3x512x1024) (k0_off51 (wR k.val)) S1x512x1024.size hh) hs).squeeze S512x1024 squeezes_S1x512x1024_S512x1024 = mbsl (Ring.sl 3 k.val) := mbsl_congr ((offs_load k).2.2.2.2.1) _ _
@[sl_canon] theorem xsl_low (hh hs) :
    (xR.slice (Rect.unit (s := S3x512x2048) (k0_off53 (wR k.val)) S1x512x2048.size hh) hs).squeeze S512x2048 squeezes_S1x512x2048_S512x2048 = xsl (Ring.sl 3 k.val) := xsl_congr ((offs_load k).2.2.2.2.2.1) _ _
@[sl_canon] theorem osl_top (hh hs) :
    (oR.slice (Rect.unit (s := S2x512x2048) (k0_off46 (wR k.val)) S1x512x2048.size hh) hs).squeeze S512x2048 squeezes_S1x512x2048_S512x2048 = osl (Ring.sl 2 k.val) := osl_congr ((offs_load k).2.2.2.2.2.2.1) _ _
@[sl_canon] theorem hsl_both (hh hs) :
    (hR.slice (Rect.unit (s := S2x512x2048) (k0_off47 (wR k.val)) S1x512x2048.size hh) hs).squeeze S512x2048 squeezes_S1x512x2048_S512x2048 = hsl (Ring.sl 2 k.val) := hsl_congr ((offs_load k).2.2.2.2.2.2.2.1) _ _
@[sl_canon] theorem osl_low (hh hs) :
    (oR.slice (Rect.unit (s := S2x512x2048) (k0_off54 (wR k.val)) S1x512x2048.size hh) hs).squeeze S512x2048 squeezes_S1x512x2048_S512x2048 = osl (Ring.sl 2 k.val) := osl_congr ((offs_load k).2.2.2.2.2.2.2.2) _ _

/-! Sent out, and the results of the trip before waited for. -/

@[sl_canon] theorem co_out (hh) :
    (cc0_scoped12.slice (Rect.unit (s := S2) (k0_off56 (wR k.val)) S1.size hh)).squeeze S_ squeezes_S1_S_ = co (Ring.sl 2 k.val) := co_congr ((offs_out k).1.1) _
@[sl_canon] theorem osl_out (hh hs) :
    (oR.slice (Rect.unit (s := S2x512x2048) (k0_off58 (wR k.val)) S1x512x2048.size hh) hs).squeeze S512x2048 squeezes_S1x512x2048_S512x2048 = osl (Ring.sl 2 k.val) := osl_congr ((offs_out k).1.2.1) _ _
@[sl_canon] theorem oblk_out (hh hs) :
    oM.slice (Rect.unit (s := S8192x2048) (k0_off57 (wG k.val)) S512x2048.size hh) hs = oblk (Ring.bk 16 k.val) := oblk_congr ((offs_out k).1.2.2) _ _
@[sl_canon] theorem ch_out (hh) :
    (cc0_scoped14.slice (Rect.unit (s := S2) (k0_off59 (wR k.val)) S1.size hh)).squeeze S_ squeezes_S1_S_ = ch (Ring.sl 2 k.val) := ch_congr ((offs_out k).2.1) _
@[sl_canon] theorem hsl_out (hh hs) :
    (hR.slice (Rect.unit (s := S2x512x2048) (k0_off61 (wR k.val)) S1x512x2048.size hh) hs).squeeze S512x2048 squeezes_S1x512x2048_S512x2048 = hsl (Ring.sl 2 k.val) := hsl_congr ((offs_out k).2.2.1) _ _
@[sl_canon] theorem hblk_out (hh hs) :
    hM.slice (Rect.unit (s := S8192x2048) (k0_off60 (wG k.val)) S512x2048.size hh) hs = hblk (Ring.bk 16 k.val) := hblk_congr ((offs_out k).2.2.2) _ _
@[sl_canon] theorem co_back (hk : 1 ≤ k.val) (hh) :
    (cc0_scoped12.slice (Rect.unit (s := S2) (k0_off62 (wB k.val)) S1.size hh)).squeeze S_ squeezes_S1_S_ = co (Ring.sl 2 (k.val + 1)) := co_congr ((offs_back k hk).1.1) _
@[sl_canon] theorem osl_back (hk : 1 ≤ k.val) (hh hs) :
    (oR.slice (Rect.unit (s := S2x512x2048) (k0_off64 (wB k.val)) S1x512x2048.size hh) hs).squeeze S512x2048 squeezes_S1x512x2048_S512x2048 = osl (Ring.sl 2 (k.val + 1)) := osl_congr ((offs_back k hk).1.2.1) _ _
@[sl_canon] theorem oblk_back (hk : 1 ≤ k.val) (hh hs) :
    oM.slice (Rect.unit (s := S8192x2048) (k0_off63 (wG k.val)) S512x2048.size hh) hs = oblk (Ring.bk 16 (k.val - 1)) := oblk_congr ((offs_back k hk).1.2.2) _ _
@[sl_canon] theorem ch_back (hk : 1 ≤ k.val) (hh) :
    (cc0_scoped14.slice (Rect.unit (s := S2) (k0_off65 (wB k.val)) S1.size hh)).squeeze S_ squeezes_S1_S_ = ch (Ring.sl 2 (k.val + 1)) := ch_congr ((offs_back k hk).2.1) _
@[sl_canon] theorem hsl_back (hk : 1 ≤ k.val) (hh hs) :
    (hR.slice (Rect.unit (s := S2x512x2048) (k0_off67 (wB k.val)) S1x512x2048.size hh) hs).squeeze S512x2048 squeezes_S1x512x2048_S512x2048 = hsl (Ring.sl 2 (k.val + 1)) := hsl_congr ((offs_back k hk).2.2.1) _ _
@[sl_canon] theorem hblk_back (hk : 1 ≤ k.val) (hh hs) :
    hM.slice (Rect.unit (s := S8192x2048) (k0_off66 (wG k.val)) S512x2048.size hh) hs = hblk (Ring.bk 16 (k.val - 1)) := hblk_congr ((offs_back k hk).2.2.2) _ _

end Trip

/-! ## The offsets before the loop and after it -/

@[sl_canon] theorem cx_0 (hh) :
    (cc0_scoped1.slice (Rect.unit (s := S3) (k0_off1) S1.size hh)).squeeze S_ squeezes_S1_S_ = cx (0) := cx_congr (by decide) _
@[sl_canon] theorem cma_0 (hh) :
    (cc0_scoped3.slice (Rect.unit (s := S3) (k0_off1) S1.size hh)).squeeze S_ squeezes_S1_S_ = cma (0) := cma_congr (by decide) _
@[sl_canon] theorem cmb_0 (hh) :
    (cc0_scoped5.slice (Rect.unit (s := S3) (k0_off1) S1.size hh)).squeeze S_ squeezes_S1_S_ = cmb (0) := cmb_congr (by decide) _
@[sl_canon] theorem cwa_0 (hh) :
    (cc0_scoped7.slice (Rect.unit (s := S2) (k0_off4) S1.size hh)).squeeze S_ squeezes_S1_S_ = cwa (0) := cwa_congr (by decide) _
@[sl_canon] theorem cwb_0 (hh) :
    (cc0_scoped9.slice (Rect.unit (s := S2) (k0_off4) S1.size hh)).squeeze S_ squeezes_S1_S_ = cwb (0) := cwb_congr (by decide) _
@[sl_canon] theorem xsl_0 (hh hs) :
    (xR.slice (Rect.unit (s := S3x512x2048) (k0_off2) S1x512x2048.size hh) hs).squeeze S512x2048 squeezes_S1x512x2048_S512x2048 = xsl (0) := xsl_congr (by decide) _ _
@[sl_canon] theorem masl_0 (hh hs) :
    (maR.slice (Rect.unit (s := S3x512x1024) (k0_off3) S1x512x1024.size hh) hs).squeeze S512x1024 squeezes_S1x512x1024_S512x1024 = masl (0) := masl_congr (by decide) _ _
@[sl_canon] theorem mbsl_0 (hh hs) :
    (mbR.slice (Rect.unit (s := S3x512x1024) (k0_off3) S1x512x1024.size hh) hs).squeeze S512x1024 squeezes_S1x512x1024_S512x1024 = mbsl (0) := mbsl_congr (by decide) _ _
@[sl_canon] theorem wasl_0 (hh hs) :
    (waR.slice (Rect.unit (s := S2x1024x2048) (k0_off5) S1x1024x2048.size hh) hs).squeeze S1024x2048 squeezes_S1x1024x2048_S1024x2048 = wasl (0) := wasl_congr (by decide) _ _
@[sl_canon] theorem wbsl_0 (hh hs) :
    (wbR.slice (Rect.unit (s := S2x1024x2048) (k0_off5) S1x1024x2048.size hh) hs).squeeze S1024x2048 squeezes_S1x1024x2048_S1024x2048 = wbsl (0) := wbsl_congr (by decide) _ _
@[sl_canon] theorem xblk_0 (hh hs) :
    xM.slice (Rect.unit (s := S8192x2048) (![0, 0]) S512x2048.size hh) hs = xblk (0) := xblk_congr (by decide) _ _
@[sl_canon] theorem mablk_0 (hh hs) :
    maM.slice (Rect.unit (s := S8192x1024) (![0, 0]) S512x1024.size hh) hs = mablk (0) := mablk_congr (by decide) _ _
@[sl_canon] theorem mbblk_0 (hh hs) :
    mbM.slice (Rect.unit (s := S8192x1024) (![0, 0]) S512x1024.size hh) hs = mbblk (0) := mbblk_congr (by decide) _ _
@[sl_canon] theorem cx_1 (hh) :
    (cc0_scoped1.slice (Rect.unit (s := S3) (k0_off6) S1.size hh)).squeeze S_ squeezes_S1_S_ = cx (1) := cx_congr (by decide) _
@[sl_canon] theorem xsl_1 (hh hs) :
    (xR.slice (Rect.unit (s := S3x512x2048) (k0_off7) S1x512x2048.size hh) hs).squeeze S512x2048 squeezes_S1x512x2048_S512x2048 = xsl (1) := xsl_congr (by decide) _ _
@[sl_canon] theorem xblk_1 (hh hs) :
    xM.slice (Rect.unit (s := S8192x2048) (k0_off8) S512x2048.size hh) hs = xblk (1) := xblk_congr (by decide) _ _
@[sl_canon] theorem cma_1 (hh) :
    (cc0_scoped3.slice (Rect.unit (s := S3) (k0_off9) S1.size hh)).squeeze S_ squeezes_S1_S_ = cma (1) := cma_congr (by decide) _
@[sl_canon] theorem masl_1 (hh hs) :
    (maR.slice (Rect.unit (s := S3x512x1024) (k0_off10) S1x512x1024.size hh) hs).squeeze S512x1024 squeezes_S1x512x1024_S512x1024 = masl (1) := masl_congr (by decide) _ _
@[sl_canon] theorem mablk_1 (hh hs) :
    maM.slice (Rect.unit (s := S8192x1024) (k0_off11) S512x1024.size hh) hs = mablk (1) := mablk_congr (by decide) _ _
@[sl_canon] theorem cmb_1 (hh) :
    (cc0_scoped5.slice (Rect.unit (s := S3) (k0_off12) S1.size hh)).squeeze S_ squeezes_S1_S_ = cmb (1) := cmb_congr (by decide) _
@[sl_canon] theorem mbsl_1 (hh hs) :
    (mbR.slice (Rect.unit (s := S3x512x1024) (k0_off13) S1x512x1024.size hh) hs).squeeze S512x1024 squeezes_S1x512x1024_S512x1024 = mbsl (1) := mbsl_congr (by decide) _ _
@[sl_canon] theorem mbblk_1 (hh hs) :
    mbM.slice (Rect.unit (s := S8192x1024) (k0_off14) S512x1024.size hh) hs = mbblk (1) := mbblk_congr (by decide) _ _
@[sl_canon] theorem co_end (hh) :
    (cc0_scoped12.slice (Rect.unit (s := S2) (k0_off68 15#32) S1.size hh)).squeeze S_ squeezes_S1_S_ = co (1) := co_congr (by decide) _
@[sl_canon] theorem osl_end (hh hs) :
    (oR.slice (Rect.unit (s := S2x512x2048) (k0_off70 15#32) S1x512x2048.size hh) hs).squeeze S512x2048 squeezes_S1x512x2048_S512x2048 = osl (1) := osl_congr (by decide) _ _
@[sl_canon] theorem oblk_end (hh hs) :
    oM.slice (Rect.unit (s := S8192x2048) (k0_off69 0#32) S512x2048.size hh) hs = oblk (15) := oblk_congr (by decide) _ _
@[sl_canon] theorem ch_end (hh) :
    (cc0_scoped14.slice (Rect.unit (s := S2) (k0_off71 15#32) S1.size hh)).squeeze S_ squeezes_S1_S_ = ch (1) := ch_congr (by decide) _
@[sl_canon] theorem hsl_end (hh hs) :
    (hR.slice (Rect.unit (s := S2x512x2048) (k0_off73 15#32) S1x512x2048.size hh) hs).squeeze S512x2048 squeezes_S1x512x2048_S512x2048 = hsl (1) := hsl_congr (by decide) _ _
@[sl_canon] theorem hblk_end (hh hs) :
    hM.slice (Rect.unit (s := S8192x2048) (k0_off72 0#32) S512x2048.size hh) hs = hblk (15) := hblk_congr (by decide) _ _

end Cert.Proof.Outproj
-- ==== Proof.Blocks.lean ====
/-
  What the kernel computes, block by block: two halves of 256 rows of every block of 512, and the two results as whole
  arrays put together from them. A block that has come back to HBM holds the whole results' rows.
-/
module

public import proofs.«01_k».proof.Proof.Names
public import Idealize.ShloMosaic.Lib.VecWindow
public import Idealize.ShloMosaic.Lib.WritesUnit
public import Idealize.ShloMosaic.Lib.Pipeline.Value

@[expose] public section

set_option maxRecDepth 16384

noncomputable section

namespace Cert.Proof.Outproj

open Cert.KernelIdeal Cert.KernelIdeal.Gen
open Idealize.ShloMosaic Idealize.ShloMosaic.Tactic

variable {F : FTy → Type} [FloatOps F]

/-! ## Tiles of 256 rows -/

theorem tile_inb : ∀ (j : Fin 32) a, (![256 * j.val, 0] : Fin 2 → ℕ) a + S256x2048.size a ≤ S8192x2048.size a := by decide
theorem tile_inb' : ∀ (j : Fin 32) a, (![256 * j.val, 0] : Fin 2 → ℕ) a + S256x1024.size a ≤ S8192x1024.size a := by decide

/-- Rows `256 j … 256 j + 255` of the wide arrays. -/
abbrev wide (j : Fin 32) : Rect S8192x2048 := Rect.unit ![256 * j.val, 0] S256x2048.size (tile_inb j)
/-- The same rows of the two halves of the mix. -/
abbrev narrow (j : Fin 32) : Rect S8192x1024 := Rect.unit ![256 * j.val, 0] S256x1024.size (tile_inb' j)

/-- Tile `j` of a wide array. -/
def wideTile {α : Type} (X : S8192x2048.Idx → α) (j : Fin 32) : S256x2048.Idx → α := fun i => X ((wide j).emb i)
/-- Tile `j` of a narrow one. -/
def narrowTile {α : Type} (A : S8192x1024.Idx → α) (j : Fin 32) : S256x1024.Idx → α := fun i => A ((narrow j).emb i)

/-- The tile a row lies in, -/
def tileOf (y : S8192x2048.Idx) : Fin 32 := ⟨(y 0).val / 256, by have : (y 0).val < 8192 := (y 0).isLt; omega⟩
/-- and the element's place in it. -/
def placeOf (y : S8192x2048.Idx) : S256x2048.Idx := Fin.cons ⟨(y 0).val % 256, Nat.mod_lt _ (by decide)⟩ (Fin.cons (y 1) fun a => a.elim0)

theorem tileOf_emb (j : Fin 32) (i : S256x2048.Idx) : tileOf ((wide j).emb i) = j := by
  refine Fin.ext ?_
  show (256 * j.val + 1 * (i 0).val) / 256 = j.val
  have : (i 0).val < 256 := (i 0).isLt
  omega
theorem placeOf_emb (j : Fin 32) (i : S256x2048.Idx) : placeOf ((wide j).emb i) = i := by
  refine funext (Fin.forall_fin_two.mpr ⟨Fin.ext ?_, Fin.ext ?_⟩)
  · show (256 * j.val + 1 * (i 0).val) % 256 = (i 0).val
    have : (i 0).val < 256 := (i 0).isLt
    omega
  · show 0 + 1 * (i 1).val = (i 1).val
    omega

/-! ## The two results of a tile -/

section Values

variable (X : S8192x2048.Idx → Elt F .f32) (MA MB : S8192x1024.Idx → Elt F .bf16) (W : S2048x2048.Idx → Elt F .bf16) (G : S1x2048.Idx → Elt F .f32)

/-- The upper half of the weights, as the kernel's register array holds it; -/
def upper : S1x1024x2048.Idx → Elt F .bf16 := shapeCast S1x1024x2048 (wtop.view.read (Elt F) W)
/-- the lower half. -/
def lower : S1x1024x2048.Idx → Elt F .bf16 := shapeCast S1x1024x2048 (wbot.view.read (Elt F) W)

/-- Tile `j` of the new residual stream: the old one's and the two products. -/
def outTile (j : Fin 32) : S256x2048.Idx → Elt F .f32 := k0_pay1 (narrowTile MA j) (upper W) (narrowTile MB j) (lower W) (wideTile X j)
/-- Tile `j` of its normalised copy. -/
def normTile (j : Fin 32) : S256x2048.Idx → Elt F .bf16 := k0_pay2 (narrowTile MA j) (upper W) (narrowTile MB j) (lower W) (wideTile X j) G

/-- The new residual stream. -/
def outAll : S8192x2048.Idx → Elt F .f32 := fun y => outTile X MA MB W (tileOf y) (placeOf y)
/-- Its normalised copy. -/
def normAll : S8192x2048.Idx → Elt F .bf16 := fun y => normTile X MA MB W G (tileOf y) (placeOf y)

end Values

/-! ## What the loads read -/

theorem half_lt (b : Fin 16) (h : Fin 2) : 2 * b.val + h.val < 32 := by omega
/-- The tile that half `h` of block `b` is. -/
abbrev half (b : Fin 16) (h : Fin 2) : Fin 32 := ⟨2 * b.val + h.val, half_lt b h⟩

/-- A load, of a buffer filled whole, reads what filled it. -/
theorem readCov_whole {sp : Space} {S : Shape} {e : EltTy} (M : Memref sig .tc sp S e) (w : S.Idx → Elt F e) (r : LoadRect S) :
    M.view.readCov [⟨Rect.whole S, w⟩] r = fun j => w (r.idx j) := by
  rw [View.readCov_eq_canon']
  funext j
  have := View.canon_cons_emb (Val := Elt F) (Rect.whole S) w [] (r.idx j)
  rwa [Rect.emb_whole_apply] at this

theorem read_writes_whole {sp : Space} {S : Shape} {e : EltTy} (M : Memref sig .tc sp S e) (f : M.view.ty.Contents (Elt F)) (w : S.Idx → Elt F e) :
    M.view.read (Elt F) (M.view.writes (Elt F) f [⟨Rect.whole S, w⟩]) = w := by
  funext x
  have := View.read_writes_cons_emb M.view f (Rect.whole S) w [] x
  rwa [Rect.emb_whole_apply] at this

theorem load_x (s : Fin 3) (b : Fin 16) (h : Fin 2) (X : S8192x2048.Idx → Elt F .f32) {off : Fin 2 → ℕ} (e : off = ![256 * h.val, 0]) (inb) :
    (xsl s).view.readCov [⟨Rect.whole S512x2048, ReadAs.same.apply ((xblk b).view.read (Elt F) X)⟩]
      (Rect.unit (s := S512x2048) off S256x2048.size inb).toLoadRect = wideTile X (half b h) := by
  subst e
  rw [readCov_whole]
  funext i
  refine congrArg X (funext (Fin.forall_fin_two.mpr ⟨Fin.ext ?_, Fin.ext ?_⟩))
  · show 512 * b.val + 1 * (256 * h.val + 1 * (i 0).val) = 256 * (2 * b.val + h.val) + 1 * (i 0).val
    omega
  · show 0 + 1 * (0 + 1 * (i 1).val) = 0 + 1 * (i 1).val
    omega

theorem load_ma (s : Fin 3) (b : Fin 16) (h : Fin 2) (A : S8192x1024.Idx → Elt F .bf16) {off : Fin 2 → ℕ} (e : off = ![256 * h.val, 0]) (inb) :
    (masl s).view.readCov [⟨Rect.whole S512x1024, ReadAs.same.apply ((mablk b).view.read (Elt F) A)⟩]
      (Rect.unit (s := S512x1024) off S256x1024.size inb).toLoadRect = narrowTile A (half b h) := by
  subst e
  rw [readCov_whole]
  funext i
  refine congrArg A (funext (Fin.forall_fin_two.mpr ⟨Fin.ext ?_, Fin.ext ?_⟩))
  · show 512 * b.val + 1 * (256 * h.val + 1 * (i 0).val) = 256 * (2 * b.val + h.val) + 1 * (i 0).val
    omega
  · show 0 + 1 * (0 + 1 * (i 1).val) = 0 + 1 * (i 1).val
    omega

theorem load_mb (s : Fin 3) (b : Fin 16) (h : Fin 2) (A : S8192x1024.Idx → Elt F .bf16) {off : Fin 2 → ℕ} (e : off = ![256 * h.val, 0]) (inb) :
    (mbsl s).view.readCov [⟨Rect.whole S512x1024, ReadAs.same.apply ((mbblk b).view.read (Elt F) A)⟩]
      (Rect.unit (s := S512x1024) off S256x1024.size inb).toLoadRect = narrowTile A (half b h) := by
  subst e
  rw [readCov_whole]
  funext i
  refine congrArg A (funext (Fin.forall_fin_two.mpr ⟨Fin.ext ?_, Fin.ext ?_⟩))
  · show 512 * b.val + 1 * (256 * h.val + 1 * (i 0).val) = 256 * (2 * b.val + h.val) + 1 * (i 0).val
    omega
  · show 0 + 1 * (0 + 1 * (i 1).val) = 0 + 1 * (i 1).val
    omega

/-- Re-indexing there and back. -/
theorem shapeCast_back {α : Type} {s t : Shape} (x : s.Idx → α) (h : s.ShapeCasts t) (h' : t.ShapeCasts s) :
    shapeCast s (shapeCast t x h) h' = x := by
  funext i
  show x (Shape.reshapeEquiv _ (Shape.reshapeEquiv _ i)) = x i
  rw [Shape.reshapeEquiv_reshapeEquiv, Shape.reshapeEquiv_self]

theorem load_wa (W : S2048x2048.Idx → Elt F .bf16) {off : Fin 3 → ℕ} (e : off = slotOff (0 : Fin 2)) (inb) (f) :
    waR.view.readAt (Elt F) (Rect.unit (s := S2x1024x2048) off S1x1024x2048.size inb).toLoadRect
      ((wasl 0).view.writes (Elt F) f [⟨Rect.whole S1024x2048, ReadAs.same.apply (wtop.view.read (Elt F) W)⟩]) = upper W := by
  subst e
  have h := read_writes_whole (wasl 0) f (ReadAs.same.apply (wtop.view.read (Elt F) W))
  have h2 := Memref.read_squeeze_slice waR (Rect.unit (s := S2x1024x2048) (slotOff (0 : Fin 2)) S1x1024x2048.size (slotOff_inb_w 0)) (fun _ => rfl)
    squeezes_S1x1024x2048_S1024x2048 shapeCasts_S1x1024x2048_S1024x2048
    ((wasl 0).view.writes (Elt F) f [⟨Rect.whole S1024x2048, ReadAs.same.apply (wtop.view.read (Elt F) W)⟩])
  exact (shapeCast_back _ _ _).symm.trans (congrArg (fun x => shapeCast S1x1024x2048 x) (h2.symm.trans h))

theorem load_wb (W : S2048x2048.Idx → Elt F .bf16) {off : Fin 3 → ℕ} (e : off = slotOff (0 : Fin 2)) (inb) (f) :
    wbR.view.readAt (Elt F) (Rect.unit (s := S2x1024x2048) off S1x1024x2048.size inb).toLoadRect
      ((wbsl 0).view.writes (Elt F) f [⟨Rect.whole S1024x2048, ReadAs.same.apply (wbot.view.read (Elt F) W)⟩]) = lower W := by
  subst e
  have h := read_writes_whole (wbsl 0) f (ReadAs.same.apply (wbot.view.read (Elt F) W))
  have h2 := Memref.read_squeeze_slice wbR (Rect.unit (s := S2x1024x2048) (slotOff (0 : Fin 2)) S1x1024x2048.size (slotOff_inb_w 0)) (fun _ => rfl)
    squeezes_S1x1024x2048_S1024x2048 shapeCasts_S1x1024x2048_S1024x2048
    ((wbsl 0).view.writes (Elt F) f [⟨Rect.whole S1024x2048, ReadAs.same.apply (wbot.view.read (Elt F) W)⟩])
  exact (shapeCast_back _ _ _).symm.trans (congrArg (fun x => shapeCast S1x1024x2048 x) (h2.symm.trans h))

theorem load_g (G : S1x2048.Idx → Elt F .f32) {off : Fin 2 → ℕ} (e : off = ![0, 0]) (inb) :
    gR.view.readCov [⟨Rect.whole S1x2048, ReadAs.same.apply (gM.view.read (Elt F) G)⟩] (Rect.unit off S1x2048.size inb).toLoadRect = G := by
  subst e
  rw [readCov_whole]
  funext i
  refine congrArg G (funext (Fin.forall_fin_two.mpr ⟨Fin.ext ?_, Fin.ext ?_⟩))
  · show 0 + 1 * (i 0).val = (i 0).val
    omega
  · show 0 + 1 * (i 1).val = (i 1).val
    omega

/-! ## What a delivered block holds -/

/-- An element of block `b` is in the upper or the lower of its two tiles. -/
theorem place_in_block (b : Fin 16) (z : S512x2048.Idx) :
    ∃ (h : Fin 2) (i : S256x2048.Idx), (∀ a, (z a).val = (![256 * h.val, 0] : Fin 2 → ℕ) a + (i a).val)
      ∧ (Rect.unit (s := S8192x2048) (rowOff b) S512x2048.size (rowOff_inb b)).emb z = (wide (half b h)).emb i := by
  have hz : (z 0).val < 512 := (z 0).isLt
  refine ⟨⟨(z 0).val / 256, by omega⟩, Fin.cons ⟨(z 0).val % 256, Nat.mod_lt _ (by decide)⟩ (Fin.cons (z 1) fun a => a.elim0),
    Fin.forall_fin_two.mpr ⟨?_, ?_⟩, funext (Fin.forall_fin_two.mpr ⟨Fin.ext ?_, Fin.ext ?_⟩)⟩
  · show (z 0).val = 256 * ((z 0).val / 256) + (z 0).val % 256
    omega
  · show (z 1).val = 0 + (z 1).val
    omega
  · show 512 * b.val + 1 * (z 0).val = 256 * (2 * b.val + (z 0).val / 256) + 1 * ((z 0).val % 256)
    omega
  · show 0 + 1 * (z 1).val = 0 + 1 * (z 1).val
    rfl

/-- What a block reads at an element is what the array holds there. -/
theorem read_oblk (b : Fin 16) (f : S8192x2048.Idx → Elt F .f32) (z : S512x2048.Idx) {x : Elt F .f32} (h : (oblk b).view.read (Elt F) f z = x) :
    f ((oblk b).view.emb z) = x := h
theorem read_hblk (b : Fin 16) (f : S8192x2048.Idx → Elt F .bf16) (z : S512x2048.Idx) {x : Elt F .bf16} (h : (hblk b).view.read (Elt F) f z = x) :
    f ((hblk b).view.emb z) = x := h

/-- Block `b` after a copy whose payload's two tiles are those of `OY` holds `OY`. -/
theorem oblk_of_tiles (b : Fin 16) (OX OY : S8192x2048.Idx → Elt F .f32) (P1 P0 : S256x2048.Idx → Elt F .f32)
    (h1 : ∀ i, P1 i = OY ((wide (half b 1)).emb i)) (h0 : ∀ i, P0 i = OY ((wide (half b 0)).emb i)) (w : S512x2048.Idx → Elt F .f32)
    (hw : ∀ (h : Fin 2) (z : S512x2048.Idx) (i : S256x2048.Idx), (∀ a, (z a).val = (![256 * h.val, 0] : Fin 2 → ℕ) a + (i a).val) →
      w z = if h = 0 then P0 i else P1 i)
    (y : S8192x2048.Idx) (hy : y ∈ (oblk b).view.set) :
    (oblk b).view.writes (Elt F) OX [⟨Rect.whole S512x2048, ReadAs.same.apply w⟩] y = OY y := by
  obtain ⟨z, -, rfl⟩ := Finset.mem_map.mp hy
  obtain ⟨h, i, hz, e⟩ := place_in_block b z
  refine (read_oblk b _ z (congrFun (read_writes_whole (oblk b) OX (ReadAs.same.apply w)) z)).trans
    ((hw h z i hz).trans (Eq.trans ?_ (congrArg OY e.symm)))
  by_cases hh : h = 0
  · rw [if_pos hh]; subst hh; exact (h0 i)
  · rw [if_neg hh]
    obtain rfl : h = 1 := Fin.eq_one_of_ne_zero h hh
    exact h1 i

/-- Block `b` after a copy whose payload's two tiles are those of `OY` holds `OY`. -/
theorem hblk_of_tiles (b : Fin 16) (OX OY : S8192x2048.Idx → Elt F .bf16) (P1 P0 : S256x2048.Idx → Elt F .bf16)
    (h1 : ∀ i, P1 i = OY ((wide (half b 1)).emb i)) (h0 : ∀ i, P0 i = OY ((wide (half b 0)).emb i)) (w : S512x2048.Idx → Elt F .bf16)
    (hw : ∀ (h : Fin 2) (z : S512x2048.Idx) (i : S256x2048.Idx), (∀ a, (z a).val = (![256 * h.val, 0] : Fin 2 → ℕ) a + (i a).val) →
      w z = if h = 0 then P0 i else P1 i)
    (y : S8192x2048.Idx) (hy : y ∈ (hblk b).view.set) :
    (hblk b).view.writes (Elt F) OX [⟨Rect.whole S512x2048, ReadAs.same.apply w⟩] y = OY y := by
  obtain ⟨z, -, rfl⟩ := Finset.mem_map.mp hy
  obtain ⟨h, i, hz, e⟩ := place_in_block b z
  refine (read_hblk b _ z (congrFun (read_writes_whole (hblk b) OX (ReadAs.same.apply w)) z)).trans
    ((hw h z i hz).trans (Eq.trans ?_ (congrArg OY e.symm)))
  by_cases hh : h = 0
  · rw [if_pos hh]; subst hh; exact (h0 i)
  · rw [if_neg hh]
    obtain rfl : h = 1 := Fin.eq_one_of_ne_zero h hh
    exact h1 i

/-- A slot of the new stream, both of its tiles stored, read at an element of tile `h`. -/
theorem slot_out (s : Fin 2) (fo : (osl s).view.ty.Contents (Elt F)) (P1 P0 : S256x2048.Idx → Elt F .f32) (inb1 inb0) (h : Fin 2) (z : S512x2048.Idx)
    (i : S256x2048.Idx) (hz : ∀ a, (z a).val = (![256 * h.val, 0] : Fin 2 → ℕ) a + (i a).val) :
    (osl s).view.read (Elt F) ((osl s).view.writes (Elt F) fo
      [⟨Rect.unit (s := S512x2048) ![256, 0] S256x2048.size inb1, P1⟩, ⟨Rect.unit (s := S512x2048) ![0, 0] S256x2048.size inb0, P0⟩]) z
      = if h = 0 then P0 i else P1 i := by
  have hi : (i 0).val < 256 := (i 0).isLt
  have h0 : (z 0).val = 256 * h.val + (i 0).val := hz 0
  by_cases hh : h = 0
  · rw [if_pos hh]
    subst hh
    refine (View.read_writes_cons_unit_of_not_mem (osl s).view fo inb1 P1 _ z rfl 0 (Or.inl ?_)).trans
      (View.read_writes_cons_unit_of_mem (osl s).view fo inb0 P0 [] z i rfl hz)
    have : (0 : Fin 2).val = 0 := rfl
    show (z 0).val < 256
    omega
  · rw [if_neg hh]
    obtain rfl : h = 1 := Fin.eq_one_of_ne_zero h hh
    exact View.read_writes_cons_unit_of_mem (osl s).view fo inb1 P1 _ z i rfl hz

/-- Block `b` of the new stream, delivered: whole contents whose tiles are what the slot's tiles were. -/
theorem out_delivered (b : Fin 16) (s : Fin 2) (fo : (osl s).view.ty.Contents (Elt F)) (OX OY : S8192x2048.Idx → Elt F .f32)
    (P1 P0 : S256x2048.Idx → Elt F .f32) (h1 : ∀ i, P1 i = OY ((wide (half b 1)).emb i)) (h0 : ∀ i, P0 i = OY ((wide (half b 0)).emb i)) (inb1 inb0)
    (y : S8192x2048.Idx) (hy : y ∈ (oblk b).view.set) :
    (oblk b).view.writes (Elt F) OX [⟨Rect.whole S512x2048, ReadAs.same.apply ((osl s).view.read (Elt F) ((osl s).view.writes (Elt F) fo
      [⟨Rect.unit (s := S512x2048) ![256, 0] S256x2048.size inb1, P1⟩, ⟨Rect.unit (s := S512x2048) ![0, 0] S256x2048.size inb0, P0⟩]))⟩] y = OY y :=
  oblk_of_tiles b OX OY P1 P0 h1 h0 _ (fun h z i hz => slot_out s fo P1 P0 inb1 inb0 h z i hz) y hy

theorem pay3_apply (T : S256x2048.Idx → Elt F .bf16) (i : S256x2048.Idx) : k0_pay3 T (Fin.cons ⟨0, Nat.one_pos⟩ i) = T i := by
  refine congrArg T ?_
  rw [← Shape.reshapeEquiv_cons_one (n := 2) (d := ![256, 2048]) (by decide) i]
  exact (Shape.reshapeEquiv_reshapeEquiv _ _ i).trans (Shape.reshapeEquiv_self _ i)

/-- A slot of the normalised copy, both of its tiles stored through the whole ring, read at an element of tile `h`. -/
theorem slot_norm (s : Fin 2) (fo : hR.view.ty.Contents (Elt F)) (P1 P0 : S256x2048.Idx → Elt F .bf16) (inb1 inb0) (h : Fin 2) (z : S512x2048.Idx)
    (i : S256x2048.Idx) (hz : ∀ a, (z a).val = (![256 * h.val, 0] : Fin 2 → ℕ) a + (i a).val) :
    (hsl s).view.read (Elt F) ((hR.access (Rect.unit (s := S2x512x2048) ![s.val, 256, 0] S1x256x2048.size inb1)).write (Elt F)
      ((hR.access (Rect.unit (s := S2x512x2048) ![s.val, 0, 0] S1x256x2048.size inb0)).write (Elt F) fo (k0_pay3 P0) Finset.univ) (k0_pay3 P1) Finset.univ) z
      = if h = 0 then P0 i else P1 i := by
  have hi : (i 0).val < 256 := (i 0).isLt
  have h0 : (z 0).val = 256 * h.val + (i 0).val := hz 0
  have h1 : (z 1).val = 0 + (i 1).val := hz 1
  have hsl : ∀ f : hR.view.ty.Contents (Elt F), (hsl s).view.read (Elt F) f z
      = hR.view.read (Elt F) f ((Rect.unit (s := S2x512x2048) (slotOff s) S1x512x2048.size (slotOff_inb_o s)).emb (Fin.cons ⟨0, Nat.one_pos⟩ z)) := fun f => by
    rw [← Shape.reshapeEquiv_cons_one (n := 2) (d := ![512, 2048]) (by decide) z]
    rfl
  rw [hsl]
  have key : ∀ (o : ℕ) (inb), 256 * h.val = o →
      (Rect.unit (s := S2x512x2048) (slotOff s) S1x512x2048.size (slotOff_inb_o s)).emb (Fin.cons ⟨0, Nat.one_pos⟩ z)
        = (Rect.unit (s := S2x512x2048) ![s.val, o, 0] S1x256x2048.size inb).emb (Fin.cons ⟨0, Nat.one_pos⟩ i) := by
    intro o inb ho
    refine funext fun a => Fin.ext ?_
    match a with
    | 0 => rfl
    | 1 =>
      show 0 + 1 * (z 0).val = o + 1 * (i 0).val
      omega
    | 2 =>
      show 0 + 1 * (z 1).val = 0 + 1 * (i 1).val
      omega
  by_cases hh : h = 0
  · rw [if_pos hh]
    subst hh
    refine (View.read_slice_write_of_not_mem (v := hR.view) (Rect.unit (s := S2x512x2048) ![s.val, 256, 0] S1x256x2048.size inb1) _ (k0_pay3 P1) Finset.univ ?_).trans ?_
    · rw [key 0 inb0 rfl, Rect.map_emb_univ, Rect.mem_set_unit]
      intro hall
      have h2 : 256 ≤ 0 + 1 * (i 0).val := (hall 1).1
      omega
    · rw [key 0 inb0 rfl]
      exact (View.read_slice_write_emb (v := hR.view) (Rect.unit (s := S2x512x2048) ![s.val, 0, 0] S1x256x2048.size inb0) fo (k0_pay3 P0) (Finset.mem_univ _)).trans (pay3_apply P0 i)
  · rw [if_neg hh]
    obtain rfl : h = 1 := Fin.eq_one_of_ne_zero h hh
    rw [key 256 inb1 rfl]
    exact (View.read_slice_write_emb (v := hR.view) (Rect.unit (s := S2x512x2048) ![s.val, 256, 0] S1x256x2048.size inb1) _ (k0_pay3 P1) (Finset.mem_univ _)).trans (pay3_apply P1 i)

/-- Block `b` of the normalised copy, delivered. -/
theorem norm_delivered (b : Fin 16) (s : Fin 2) (fo : hR.view.ty.Contents (Elt F)) (OX OY : S8192x2048.Idx → Elt F .bf16)
    (P1 P0 : S256x2048.Idx → Elt F .bf16) (h1 : ∀ i, P1 i = OY ((wide (half b 1)).emb i)) (h0 : ∀ i, P0 i = OY ((wide (half b 0)).emb i))
    {o1 o0 : Fin 3 → ℕ} (e1 : o1 = ![s.val, 256, 0]) (e0 : o0 = ![s.val, 0, 0]) (inb1 inb0)
    (y : S8192x2048.Idx) (hy : y ∈ (hblk b).view.set) :
    (hblk b).view.writes (Elt F) OX [⟨Rect.whole S512x2048, ReadAs.same.apply ((hsl s).view.read (Elt F)
      ((hR.access (Rect.unit (s := S2x512x2048) o1 S1x256x2048.size inb1)).write (Elt F)
        ((hR.access (Rect.unit (s := S2x512x2048) o0 S1x256x2048.size inb0)).write (Elt F) fo (k0_pay3 P0) Finset.univ) (k0_pay3 P1) Finset.univ))⟩] y = OY y := by
  subst e1 e0
  exact hblk_of_tiles b OX OY P1 P0 h1 h0 _ (fun h z i hz => slot_norm s fo P1 P0 inb1 inb0 h z i hz) y hy

/-! ## One block of the kernel's results -/

section Block

variable (X : S8192x2048.Idx → Elt F .f32) (MA MB : S8192x1024.Idx → Elt F .bf16) (W : S2048x2048.Idx → Elt F .bf16) (G : S1x2048.Idx → Elt F .f32)

theorem outAll_emb (j : Fin 32) (i : S256x2048.Idx) : outAll X MA MB W ((wide j).emb i) = outTile X MA MB W j i := by
  unfold outAll; rw [tileOf_emb, placeOf_emb]
theorem normAll_emb (j : Fin 32) (i : S256x2048.Idx) : normAll X MA MB W G ((wide j).emb i) = normTile X MA MB W G j i := by
  unfold normAll; rw [tileOf_emb, placeOf_emb]

/-- The lower tile's sum is the same function of its operands as the upper tile's; -/
theorem pay4_eq (a : S256x1024.Idx → Elt F .bf16) (u : S1x1024x2048.Idx → Elt F .bf16) (b : S256x1024.Idx → Elt F .bf16)
    (l : S1x1024x2048.Idx → Elt F .bf16) (x : S256x2048.Idx → Elt F .f32) : k0_pay4 a u b l x = k0_pay1 a u b l x := rfl
/-- and so is what is stored of its normalised copy. -/
theorem pay6_eq (a : S256x1024.Idx → Elt F .bf16) (u : S1x1024x2048.Idx → Elt F .bf16) (b : S256x1024.Idx → Elt F .bf16)
    (l : S1x1024x2048.Idx → Elt F .bf16) (x : S256x2048.Idx → Elt F .f32) (g : S1x2048.Idx → Elt F .f32) :
    k0_pay6 (k0_pay4 a u b l x) (k0_pay5 a u b l x) (FloatOps.ofBits .f32 0x358637BD#32) g = k0_pay3 (k0_pay2 a u b l x g) := rfl

variable {X MA MB W G}

/-- What is stored of tile `j`, its operands read off the staged blocks, is the whole result's tile; -/
theorem out_stored (j : Fin 32) {a b : S256x1024.Idx → Elt F .bf16} {u l : S1x1024x2048.Idx → Elt F .bf16} {x : S256x2048.Idx → Elt F .f32}
    (ha : a = narrowTile MA j) (hu : u = upper W) (hb : b = narrowTile MB j) (hl : l = lower W) (hx : x = wideTile X j) (i : S256x2048.Idx) :
    k0_pay1 a u b l x i = outAll X MA MB W ((wide j).emb i) := by
  subst ha hu hb hl hx; exact (outAll_emb X MA MB W j i).symm
/-- and the normalised copy's likewise. -/
theorem norm_stored (j : Fin 32) {a b : S256x1024.Idx → Elt F .bf16} {u l : S1x1024x2048.Idx → Elt F .bf16} {x : S256x2048.Idx → Elt F .f32}
    {g : S1x2048.Idx → Elt F .f32}
    (ha : a = narrowTile MA j) (hu : u = upper W) (hb : b = narrowTile MB j) (hl : l = lower W) (hx : x = wideTile X j) (hg : g = G) (i : S256x2048.Idx) :
    k0_pay2 a u b l x g i = normAll X MA MB W G ((wide j).emb i) := by
  subst ha hu hb hl hx hg; exact (normAll_emb X MA MB W _ j i).symm

end Block

end Cert.Proof.Outproj

end
-- ==== Proof.Inv.lean ====
/-
  One trip of the kernel's software pipeline.

  Before trip `k` the three streamed operands have blocks `k` and `k + 1` on their way into slots `k` and `k + 1`
  (modulo three) and every other block in HBM; the two halves of the weights are on their way before the first trip and
  in VMEM after it; the two results have blocks `0 … k - 2` written, block `k - 1` on its way out of slot `k - 1`
  (modulo two), and the blocks from `k` on still as at launch. A trip starts the copies of block `k + 2`, waits for
  block `k`, computes the two results of the block from it, starts their copies out and waits for those of the trip
  before. The trips differ in what they do: the first waits for the weights and for no result, the last two start no
  copy in. Each of the three kinds is run once, at a symbolic trip.
-/
module

public import proofs.«01_k».proof.Proof.Blocks
public import proofs.«01_k».proof.Proof.Gen.KernelIdeal.Launch
public import proofs.«01_k».proof.Proof.Gen.KernelIdeal.Loops
public import Idealize.ShloMosaic.Lib.Pipeline.FrameValue
public import Idealize.ShloMosaic.Lib.Ring.WriteBehind

@[expose] public section

set_option maxRecDepth 16384
set_option maxHeartbeats 4000000

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

/-! ## The pieces -/

section Pieces

variable (c : Dev nD)

/-- A buffer's contents on core `c`, by the memref that names it. -/
abbrev Con {sp : Space} {S : Shape} {e : EltTy} (M : Memref sig .tc sp S e) : Type := Buf (Elt F) (M.view.loc (c : Thread nD τ))
/-- The memref's elements, held at contents `f`. -/
abbrev at_ {sp : Space} {S : Shape} {e : EltTy} (M : Memref sig .tc sp S e) (f : Con (F := F) c M) : sProp 𝕄 :=
  M.view.loc (c : Thread nD τ) ↦[M.view.set]{fullShare} f
/-- A semaphore at zero. -/
abbrev zero_ (A : DmaSems sig S_) : sProp 𝕄 := semVal ((c : Thread nD τ), SemLoc.dma A.sem) 0
/-- What a copy of `s` at contents `X` leaves in `d` over `f`. -/
abbrev landed {sp sp' : Space} {S : Shape} {e : EltTy} (s : Memref sig .tc sp S e) (d : Memref sig .tc sp' S e)
    (X : Con (F := F) c s) (f : Con (F := F) c d) : Con (F := F) c d :=
  d.view.writes (Elt F) f [⟨Rect.whole S, ReadAs.same.apply (s.view.read (Elt F) X)⟩]
/-- A copy on its way, of `n` units: it will give back its destination `D` and its source `S`. -/
abbrev flying (A : DmaSems sig S_) (n : ℕ) (D S : sProp 𝕄) : sProp 𝕄 :=
  Transfers.Flight countersEmb (c : Thread nD τ) (SemLoc.dma A.sem) () n iprop(D ∗ S)

variable (X : Con (F := F) c xM) (MA : Con (F := F) c maM) (MB : Con (F := F) c mbM) (W : Con (F := F) c wM) (G : Con (F := F) c gM)

abbrev xHome (b : Fin 16) : sProp 𝕄 := at_ c (xblk b) X
abbrev xSlot (s : Fin 3) (f : Con (F := F) c (xsl s)) : sProp 𝕄 := at_ c (xsl s) f
abbrev xFly (s : Fin 3) (b : Fin 16) (f : Con (F := F) c (xsl s)) : sProp 𝕄 :=
  flying c (cx s) 131072 (at_ c (xsl s) (landed c (xblk b) (xsl s) X f)) (at_ c (xblk b) X)
abbrev maFly (s : Fin 3) (b : Fin 16) (f : Con (F := F) c (masl s)) : sProp 𝕄 :=
  flying c (cma s) 32768 (at_ c (masl s) (landed c (mablk b) (masl s) MA f)) (at_ c (mablk b) MA)
abbrev mbFly (s : Fin 3) (b : Fin 16) (f : Con (F := F) c (mbsl s)) : sProp 𝕄 :=
  flying c (cmb s) 32768 (at_ c (mbsl s) (landed c (mbblk b) (mbsl s) MB f)) (at_ c (mbblk b) MB)
abbrev waFly (f : Con (F := F) c (wasl 0)) : sProp 𝕄 :=
  flying c (cwa 0) 131072 (at_ c (wasl 0) (landed c wtop (wasl 0) W f)) (at_ c wtop W)
abbrev wbFly (f : Con (F := F) c (wbsl 0)) : sProp 𝕄 :=
  flying c (cwb 0) 131072 (at_ c (wbsl 0) (landed c wbot (wbsl 0) W f)) (at_ c wbot W)

/-- The ring of the residual stream before trip `k`. -/
abbrev xRing (k : ℕ) : sProp 𝕄 :=
  Ring.At 2 (fun s => zero_ c (cx s)) (fun s f => at_ c (xsl s) f) (fun b => at_ c (xblk b) X) (xFly c X) k
/-- The ring of the mix's first half. -/
abbrev maRing (k : ℕ) : sProp 𝕄 :=
  Ring.At 2 (fun s => zero_ c (cma s)) (fun s f => at_ c (masl s) f) (fun b => at_ c (mablk b) MA) (maFly c MA) k
/-- The ring of its second half. -/
abbrev mbRing (k : ℕ) : sProp 𝕄 :=
  Ring.At 2 (fun s => zero_ c (cmb s)) (fun s f => at_ c (mbsl s) f) (fun b => at_ c (mbblk b) MB) (mbFly c MB) k

/-- The weights in VMEM, their semaphores back at zero. -/
def wHere : sProp 𝕄 :=
  iprop((∃ f, at_ c (wasl 0) (landed c wtop (wasl 0) W f)) ∗ at_ c wtop W ∗ zero_ c (cwa 0)
    ∗ (∃ f, at_ c (wbsl 0) (landed c wbot (wbsl 0) W f)) ∗ at_ c wbot W ∗ zero_ c (cwb 0))
/-- The weights on their way. -/
def wComing : sProp 𝕄 := iprop((∃ f, waFly c W f) ∗ ∃ f, wbFly c W f)
/-- The weights before trip `k`. -/
def weights (k : ℕ) : sProp 𝕄 := if k = 0 then wComing c W else wHere c W

/-- The scale's row in VMEM. -/
def gHere : sProp 𝕄 := iprop(∃ f, at_ c gR (landed c gM gR G f))

variable (OX : Con (F := F) c oM) (HX : Con (F := F) c hM)

abbrev oFree (s : Fin 2) : sProp 𝕄 := Ring.free (fun s => zero_ c (co s)) (fun s f => at_ c (osl s) f) s
abbrev hFree (s : Fin 2) : sProp 𝕄 := Ring.free (fun s => zero_ c (ch s)) (fun s f => at_ c (hsl s) f) s
/-- Block `b` of the new residual stream on its way out of slot `s`: on the block it will be the whole result. -/
def oFly (s : Fin 2) (b : Fin 16) : sProp 𝕄 :=
  iprop(∃ (w : Con (F := F) c (oblk b)) (f : Con (F := F) c (osl s)), ⌜∀ y ∈ (oblk b).view.set, w y = outAll X MA MB W y⌝ ∗ flying c (co s) 131072 (at_ c (oblk b) w) (at_ c (osl s) f))
def hFly (s : Fin 2) (b : Fin 16) : sProp 𝕄 :=
  iprop(∃ (w : Con (F := F) c (hblk b)) (f : Con (F := F) c (hsl s)), ⌜∀ y ∈ (hblk b).view.set, w y = normAll X MA MB W G y⌝ ∗ flying c (ch s) 65536 (at_ c (hblk b) w) (at_ c (hsl s) f))
abbrev oRing (k : ℕ) : sProp 𝕄 := Ring.AtB 1 (oFree c) (oFly c X MA MB W) (fun b => at_ c (oblk b) OX) (fun b => at_ c (oblk b) (outAll X MA MB W)) k
abbrev hRing (k : ℕ) : sProp 𝕄 := Ring.AtB 1 (hFree c) (hFly c X MA MB W G) (fun b => at_ c (hblk b) HX) (fun b => at_ c (hblk b) (normAll X MA MB W G)) k

/-- What core `c` holds before trip `k`. -/
def inv (k : ℕ) : sProp 𝕄 :=
  iprop((∃ W, owes (c : Thread nD τ) 0 W) ∗ xRing c X k ∗ maRing c MA k ∗ mbRing c MB k ∗ weights c W k ∗ gHere c G
    ∗ oRing c X MA MB W OX k ∗ hRing c X MA MB W G HX k)

end Pieces

theorem of_eq {P Q : sProp 𝕄} (e : P = Q) : P ⊢ Q := e ▸ .rfl

/-- The slot of block `t + 1` plays the same part before trip `t` and before trip `t + 1`. -/
theorem slotAt_shift {C : Fin 3 → Type} (cell : Fin 3 → sProp 𝕄) (slot : (s : Fin 3) → C s → sProp 𝕄) (flight : (s : Fin 3) → Fin 16 → C s → sProp 𝕄) (t : ℕ) :
    Ring.slotAt 2 cell slot flight t 1 = Ring.slotAt 2 cell slot flight (t + 1) 0 := by
  by_cases h : t + 1 < 16
  · rw [Ring.slotAt3_here1 _ _ _ t h, Ring.slotAt3_next0 _ _ _ t h]
  · rw [Ring.slotAt3_here1_free _ _ _ t (by omega), Ring.slotAt3_next0_free _ _ _ t (by omega)]

/-! ## A trip -/

/-- Trip `k` of the loop, on the kernel's own buffers. -/
abbrev trip (v14 v31 v38 v45 v52 c0 : BitVec 32) (k : Trip) :
    Prog (TpuEff nD τ sig (Elt F) Λ₀ .tc) (BitVec 32 × BitVec 32 × BitVec 32 × BitVec 32 × BitVec 32 × BitVec 32 × BitVec 32 × BitVec 32
      × BitVec 32 × BitVec 32 × BitVec 32 × BitVec 32 × BitVec 32 × BitVec 32 × BitVec 32 × BitVec 32) :=
  k0_t1_body (F := F) xM (Memref.isWhole_whole _) maM (Memref.isWhole_whole _) mbM (Memref.isWhole_whole _) wM (Memref.isWhole_whole _)
    wM (Memref.isWhole_whole _) gM (Memref.isWhole_whole _) oM (Memref.isWhole_whole _) hM (Memref.isWhole_whole _)
    xR (Memref.isWhole_whole _) cc0_scoped1 maR (Memref.isWhole_whole _) cc0_scoped3 mbR (Memref.isWhole_whole _) cc0_scoped5
    waR (Memref.isWhole_whole _) cc0_scoped7 wbR (Memref.isWhole_whole _) cc0_scoped9 gR (Memref.isWhole_whole _)
    oR (Memref.isWhole_whole _) cc0_scoped12 hR (Memref.isWhole_whole _) cc0_scoped14 cc0_scoped15 v14 v31 v38 v45 v52 c0 k (words k.val)

end Cert.Proof.Outproj

end
-- ==== Proof.First.lean ====
/-
  The first trip: the weights arrive, and there is nothing to wait for on the way out.
-/
module

public import proofs.«01_k».proof.Proof.Inv

@[expose] public section

set_option maxRecDepth 16384
set_option maxHeartbeats 4000000

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD)
variable (X : Con (F := F) c xM) (MA : Con (F := F) c maM) (MB : Con (F := F) c mbM) (W : Con (F := F) c wM) (G : Con (F := F) c gM)
variable (OX : Con (F := F) c oM) (HX : Con (F := F) c hM)

/-- The first trip. -/
theorem trip_first (v14 v31 v38 v45 v52 c0 : BitVec 32) (k : Trip) (h1 : k.val = 0) :
    inv c X MA MB W G OX HX k.val
      ⊢ wp frame (wpE (defs₀ (F := F)) 𝒱₀ (c : Thread nD τ) none) Set.univ (trip v14 v31 v38 v45 v52 c0 k)
          (fun acc => iprop(⌜acc = words (k.val + 1)⌝ ∗ inv c X MA MB W G OX HX (k.val + 1))) := by
  have hk : k.val < 16 := trip_lt k
  have h2 : k.val + 2 < 16 := by omega
  have e4 := c4_in k h2
  have e5 := c5_in k h2
  have e6 := c6_in k h2
  have e7 := c7 k
  have e8 := c8 k
  have e9 := c9 k
  have e10 := c10 k
  have e11 := c11 k
  have e12 := c12_first k h1
  have e13 := c13_first k h1
  have e21 := c21 k
  have e22 := c22 k
  have e28 := c28_first k h1
  have e29 := c29_first k h1
  have q1 := chk1 k
  have q2 := chk2 k
  have q3 := chk3 k
  have q4 := chk4 k
  have q5 := chk5 k
  have q6 := chk6 k
  have q7 := chk7 k
  have q8 := chk8 k
  have q9 := chk9 k
  have q10 := chk10 k
  unfold inv
  rw [show weights c W k.val = wComing c W from if_pos h1, show weights c W (k.val + 1) = wHere c W from if_neg (by omega)]
  unfold xRing maRing mbRing oRing hRing wHere wComing gHere
  rw [Ring.At3_here (NB := 16) _ _ _ _ _ h2, Ring.At3_here (NB := 16) _ _ _ _ _ h2, Ring.At3_here (NB := 16) _ _ _ _ _ h2,
    Ring.AtB2_zero' (NB := 16) _ _ _ _ _ _ h1, Ring.AtB2_zero' (NB := 16) _ _ _ _ _ _ h1,
    Ring.At3_next (NB := 16) _ _ _ _ _ h2, Ring.At3_next (NB := 16) _ _ _ _ _ h2, Ring.At3_next (NB := 16) _ _ _ _ _ h2,
    Ring.slotAt3_next0 (NB := 16) _ _ _ _ (by omega), Ring.slotAt3_next0 (NB := 16) _ _ _ _ (by omega), Ring.slotAt3_next0 (NB := 16) _ _ _ _ (by omega),
    Ring.slotAt3_next1 (NB := 16) _ _ _ _ h2, Ring.slotAt3_next1 (NB := 16) _ _ _ _ h2, Ring.slotAt3_next1 (NB := 16) _ _ _ _ h2,
    Ring.AtB21_next_zero' (NB := 16) _ _ _ _ _ h1, Ring.AtB21_next_zero' (NB := 16) _ _ _ _ _ h1]
  unfold oFly hFly
  iintro ⟨⟨%Wo, Hw⟩, ⟨⟨Hx, Hxr⟩, ⟨%fx, Hxf⟩, ⟨%fx1, Hxg⟩, Hxc, ⟨%fx2, Hxs⟩⟩, ⟨⟨Hma, Hmar⟩, ⟨%fa, Hmaf⟩, ⟨%fa1, Hmag⟩, Hmac, ⟨%fa2, Hmas⟩⟩,
    ⟨⟨Hmb, Hmbr⟩, ⟨%fb, Hmbf⟩, ⟨%fb1, Hmbg⟩, Hmbc, ⟨%fb2, Hmbs⟩⟩, ⟨⟨%fwa, Hwa⟩, ⟨%fwb, Hwb⟩⟩, ⟨%fg, Hg⟩,
    ⟨⟨Ho, Hor⟩, ⟨Hoc, ⟨%fo, Hos⟩⟩, Hof⟩, ⟨⟨Hh, Hhr⟩, ⟨Hhc, ⟨%fh, Hhs⟩⟩, Hhf⟩⟩
  dsimp only [trip, words]
  sl_unfold [k0_t1_body]
  sl_exec
  sl_step
  isplitr
  · ipureintro
    have w1 : ∀ k : Trip, k.val + 2 < 16 → trip_first.sl.v154_r0 k = wI (k.val + 1) := by decide
    have w2 : ∀ k : Trip, trip_first.sl.v359_r0 k = wR (k.val + 1) := by decide
    have w3 : ∀ k : Trip, trip_first.sl.v425_r0 k = wE (k.val + 1) := by decide
    have w4 : ∀ k : Trip, k.val = 0 → trip_first.sl.v402_r0 k = wB (k.val + 1) := by decide
    have w5 : ∀ k : Trip, trip_first.sl.v133_r0 k = wG (k.val + 1) := by decide
    rw [w1 k h2, w2 k, w3 k, w4 k h1, w5 k]
  isplitl [Hw]; · iexists _; iexact Hw
  isplitl [Hxf_src Hxr Hxg Hxc Hxf Hxf_dst]
  · isplitl [Hxf_src Hxr]
    · isplitl [Hxf_src]; · iexact Hxf_src
      iexact Hxr
    isplitl [Hxg]; · iexists fx1; iexact Hxg
    isplitl [Hxc]; · iexists fx2; iexact Hxc
    isplitl [Hxf]; · iexact Hxf
    iexists _; iexact Hxf_dst
  isplitl [Hmaf_src Hmar Hmag Hmac Hmaf Hmaf_dst]
  · isplitl [Hmaf_src Hmar]
    · isplitl [Hmaf_src]; · iexact Hmaf_src
      iexact Hmar
    isplitl [Hmag]; · iexists fa1; iexact Hmag
    isplitl [Hmac]; · iexists fa2; iexact Hmac
    isplitl [Hmaf]; · iexact Hmaf
    iexists _; iexact Hmaf_dst
  isplitl [Hmbf_src Hmbr Hmbg Hmbc Hmbf Hmbf_dst]
  · isplitl [Hmbf_src Hmbr]
    · isplitl [Hmbf_src]; · iexact Hmbf_src
      iexact Hmbr
    isplitl [Hmbg]; · iexists fb1; iexact Hmbg
    isplitl [Hmbc]; · iexists fb2; iexact Hmbc
    isplitl [Hmbf]; · iexact Hmbf
    iexists _; iexact Hmbf_dst

  isplitl [Hwa_dst Hwa_src Hwa Hwb_dst Hwb_src Hwb]
  · isplitl [Hwa_dst]; · iexists _; iexact Hwa_dst
    isplitl [Hwa_src]; · iexact Hwa_src
    isplitl [Hwa]; · iexact Hwa
    isplitl [Hwb_dst]; · iexists _; iexact Hwb_dst
    isplitl [Hwb_src]; · iexact Hwb_src
    iexact Hwb
  isplitl [Hg]; · iexists _; iexact Hg
  isplitl [Hor Hof Hoc]
  · isplitl [Hor]; · iexact Hor
    isplitl [Hof]; · iexact Hof
    iexists _, _
    isplitr
    rotate_left
    · iexact Hoc
    ipureintro
    exact out_delivered _ _ fo OX (outAll X MA MB W) _ _
      (out_stored _ (load_ma _ _ 1 MA rfl _) (load_wa W rfl _ _) (load_mb _ _ 1 MB rfl _) (load_wb W rfl _ _) (load_x _ _ 1 X rfl _))
      (out_stored _ (load_ma _ _ 0 MA rfl _) (load_wa W rfl _ _) (load_mb _ _ 0 MB rfl _) (load_wb W rfl _ _) (load_x _ _ 0 X rfl _)) _ _
  · isplitl [Hhr]; · iexact Hhr
    isplitl [Hhf]; · iexact Hhf
    iexists _, _
    isplitr
    rotate_left
    · iexact Hhc
    ipureintro
    exact norm_delivered _ _ fh HX (normAll X MA MB W G) _ _
      (norm_stored _ (load_ma _ _ 1 MA rfl _) (load_wa W rfl _ _) (load_mb _ _ 1 MB rfl _) (load_wb W rfl _ _) (load_x _ _ 1 X rfl _) (load_g G rfl _))
      (norm_stored _ (load_ma _ _ 0 MA rfl _) (load_wa W rfl _ _) (load_mb _ _ 0 MB rfl _) (load_wb W rfl _ _) (load_x _ _ 0 X rfl _) (load_g G rfl _))
      (off55_eq k) (off48_eq k) _ _

end Cert.Proof.Outproj

end
-- ==== Proof.Mid.lean ====
/-
  The trips from the second on that still start copies in.
-/
module

public import proofs.«01_k».proof.Proof.Inv

@[expose] public section

set_option maxRecDepth 16384
set_option maxHeartbeats 4000000

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD)
variable (X : Con (F := F) c xM) (MA : Con (F := F) c maM) (MB : Con (F := F) c mbM) (W : Con (F := F) c wM) (G : Con (F := F) c gM)
variable (OX : Con (F := F) c oM) (HX : Con (F := F) c hM)

/-- A trip between the first and the last two. -/
theorem trip_mid (v14 v31 v38 v45 v52 c0 : BitVec 32) (k : Trip) (h1 : 1 ≤ k.val) (h2 : k.val + 2 < 16) :
    inv c X MA MB W G OX HX k.val
      ⊢ wp frame (wpE (defs₀ (F := F)) 𝒱₀ (c : Thread nD τ) none) Set.univ (trip v14 v31 v38 v45 v52 c0 k)
          (fun acc => iprop(⌜acc = words (k.val + 1)⌝ ∗ inv c X MA MB W G OX HX (k.val + 1))) := by
  have hk : k.val < 16 := trip_lt k
  have e4 := c4_in k h2
  have e5 := c5_in k h2
  have e6 := c6_in k h2
  have e7 := c7 k
  have e8 := c8 k
  have e9 := c9 k
  have e10 := c10 k
  have e11 := c11 k
  have e12 := c12_later k h1
  have e13 := c13_later k h1
  have e21 := c21 k
  have e22 := c22 k
  have e28 := c28_later k h1
  have e29 := c29_later k h1
  have q1 := chk1 k
  have q2 := chk2 k
  have q3 := chk3 k
  have q4 := chk4 k
  have q5 := chk5 k
  have q6 := chk6 k
  have q7 := chk7 k
  have q8 := chk8 k
  have q9 := chk9 k
  have q10 := chk10 k
  unfold inv
  rw [show weights c W k.val = wHere c W from if_neg (by omega), show weights c W (k.val + 1) = wHere c W from if_neg (by omega)]
  unfold xRing maRing mbRing oRing hRing wHere gHere
  rw [Ring.At3_here (NB := 16) _ _ _ _ _ h2, Ring.At3_here (NB := 16) _ _ _ _ _ h2, Ring.At3_here (NB := 16) _ _ _ _ _ h2,
    Ring.AtB21_here (NB := 16) _ _ _ _ _ h1 hk, Ring.AtB21_here (NB := 16) _ _ _ _ _ h1 hk,
    Ring.At3_next (NB := 16) _ _ _ _ _ h2, Ring.At3_next (NB := 16) _ _ _ _ _ h2, Ring.At3_next (NB := 16) _ _ _ _ _ h2,
    Ring.slotAt3_next0 (NB := 16) _ _ _ _ (by omega), Ring.slotAt3_next0 (NB := 16) _ _ _ _ (by omega), Ring.slotAt3_next0 (NB := 16) _ _ _ _ (by omega),
    Ring.slotAt3_next1 (NB := 16) _ _ _ _ h2, Ring.slotAt3_next1 (NB := 16) _ _ _ _ h2, Ring.slotAt3_next1 (NB := 16) _ _ _ _ h2,
    Ring.AtB21_next (NB := 16) _ _ _ _ _ h1 hk, Ring.AtB21_next (NB := 16) _ _ _ _ _ h1 hk]
  unfold oFly hFly
  iintro ⟨⟨%Wo, Hw⟩, ⟨⟨Hx, Hxr⟩, ⟨%fx, Hxf⟩, ⟨%fx1, Hxg⟩, Hxc, ⟨%fx2, Hxs⟩⟩, ⟨⟨Hma, Hmar⟩, ⟨%fa, Hmaf⟩, ⟨%fa1, Hmag⟩, Hmac, ⟨%fa2, Hmas⟩⟩,
    ⟨⟨Hmb, Hmbr⟩, ⟨%fb, Hmbf⟩, ⟨%fb1, Hmbg⟩, Hmbc, ⟨%fb2, Hmbs⟩⟩, ⟨⟨%fwa, Hwa⟩, Hwt, Hwac, ⟨%fwb, Hwb⟩, Hwl, Hwbc⟩, ⟨%fg, Hg⟩,
    ⟨⟨Ho, Hor⟩, Hob, ⟨Hoc, ⟨%fo, Hos⟩⟩, ⟨%wo, %fo', %hwo, Hof⟩⟩, ⟨⟨Hh, Hhr⟩, Hhb, ⟨Hhc, ⟨%fh, Hhs⟩⟩, ⟨%wh, %fh', %hwh, Hhf⟩⟩⟩
  dsimp only [trip, words]
  sl_unfold [k0_t1_body]
  sl_exec
  sl_step
  isplitr
  · ipureintro
    have w1 : ∀ k : Trip, k.val + 2 < 16 → trip_mid.sl.v154_r0 k = wI (k.val + 1) := by decide
    have w2 : ∀ k : Trip, trip_mid.sl.v359_r0 k = wR (k.val + 1) := by decide
    have w3 : ∀ k : Trip, trip_mid.sl.v425_r0 k = wE (k.val + 1) := by decide
    have w4 : ∀ k : Trip, 1 ≤ k.val → trip_mid.sl.v402_r0 k = wB (k.val + 1) := by decide
    have w5 : ∀ k : Trip, trip_mid.sl.v133_r0 k = wG (k.val + 1) := by decide
    rw [w1 k h2, w2 k, w3 k, w4 k h1, w5 k]
  isplitl [Hw]; · iexists _; iexact Hw
  isplitl [Hxf_src Hxr Hxg Hxc Hxf Hxf_dst]
  · isplitl [Hxf_src Hxr]
    · isplitl [Hxf_src]; · iexact Hxf_src
      iexact Hxr
    isplitl [Hxg]; · iexists fx1; iexact Hxg
    isplitl [Hxc]; · iexists fx2; iexact Hxc
    isplitl [Hxf]; · iexact Hxf
    iexists _; iexact Hxf_dst
  isplitl [Hmaf_src Hmar Hmag Hmac Hmaf Hmaf_dst]
  · isplitl [Hmaf_src Hmar]
    · isplitl [Hmaf_src]; · iexact Hmaf_src
      iexact Hmar
    isplitl [Hmag]; · iexists fa1; iexact Hmag
    isplitl [Hmac]; · iexists fa2; iexact Hmac
    isplitl [Hmaf]; · iexact Hmaf
    iexists _; iexact Hmaf_dst
  isplitl [Hmbf_src Hmbr Hmbg Hmbc Hmbf Hmbf_dst]
  · isplitl [Hmbf_src Hmbr]
    · isplitl [Hmbf_src]; · iexact Hmbf_src
      iexact Hmbr
    isplitl [Hmbg]; · iexists fb1; iexact Hmbg
    isplitl [Hmbc]; · iexists fb2; iexact Hmbc
    isplitl [Hmbf]; · iexact Hmbf
    iexists _; iexact Hmbf_dst

  isplitl [Hwa Hwt Hwac Hwb Hwl Hwbc]
  · isplitl [Hwa]; · iexists _; iexact Hwa
    isplitl [Hwt]; · iexact Hwt
    isplitl [Hwac]; · iexact Hwac
    isplitl [Hwb]; · iexists _; iexact Hwb
    isplitl [Hwl]; · iexact Hwl
    iexact Hwbc
  isplitl [Hg]; · iexists _; iexact Hg
  isplitl [Hor Hof_dst Hob Hof Hof_src Hoc]
  · isplitl [Hor]; · iexact Hor
    isplitl [Hof_dst Hob]
    · isplitl [Hof_dst]; · iapply (of_eq (pointsTo_congr hwo)); iexact Hof_dst
      iexact Hob
    isplitl [Hof Hof_src]
    · isplitl [Hof]; · iexact Hof
      iexists _; iexact Hof_src
    iexists _, _
    isplitr
    rotate_left
    · iexact Hoc
    ipureintro
    exact out_delivered _ _ fo OX (outAll X MA MB W) _ _
      (out_stored _ (load_ma _ _ 1 MA rfl _) (load_wa W rfl _ _) (load_mb _ _ 1 MB rfl _) (load_wb W rfl _ _) (load_x _ _ 1 X rfl _))
      (out_stored _ (load_ma _ _ 0 MA rfl _) (load_wa W rfl _ _) (load_mb _ _ 0 MB rfl _) (load_wb W rfl _ _) (load_x _ _ 0 X rfl _)) _ _
  · isplitl [Hhr]; · iexact Hhr
    isplitl [Hhf_dst Hhb]
    · isplitl [Hhf_dst]; · iapply (of_eq (pointsTo_congr hwh)); iexact Hhf_dst
      iexact Hhb
    isplitl [Hhf Hhf_src]
    · isplitl [Hhf]; · iexact Hhf
      iexists _; iexact Hhf_src
    iexists _, _
    isplitr
    rotate_left
    · iexact Hhc
    ipureintro
    exact norm_delivered _ _ fh HX (normAll X MA MB W G) _ _
      (norm_stored _ (load_ma _ _ 1 MA rfl _) (load_wa W rfl _ _) (load_mb _ _ 1 MB rfl _) (load_wb W rfl _ _) (load_x _ _ 1 X rfl _) (load_g G rfl _))
      (norm_stored _ (load_ma _ _ 0 MA rfl _) (load_wa W rfl _ _) (load_mb _ _ 0 MB rfl _) (load_wb W rfl _ _) (load_x _ _ 0 X rfl _) (load_g G rfl _))
      (off55_eq k) (off48_eq k) _ _

end Cert.Proof.Outproj

end
-- ==== Proof.Last.lean ====
/-
  The last two trips, which start no copy in.
-/
module

public import proofs.«01_k».proof.Proof.Inv

@[expose] public section

set_option maxRecDepth 16384
set_option maxHeartbeats 4000000

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD)
variable (X : Con (F := F) c xM) (MA : Con (F := F) c maM) (MB : Con (F := F) c mbM) (W : Con (F := F) c wM) (G : Con (F := F) c gM)
variable (OX : Con (F := F) c oM) (HX : Con (F := F) c hM)

/-- One of the last two trips. -/
theorem trip_last (v14 v31 v38 v45 v52 c0 : BitVec 32) (k : Trip) (h2 : ¬ k.val + 2 < 16) :
    inv c X MA MB W G OX HX k.val
      ⊢ wp frame (wpE (defs₀ (F := F)) 𝒱₀ (c : Thread nD τ) none) Set.univ (trip v14 v31 v38 v45 v52 c0 k)
          (fun acc => iprop(⌜acc = words (k.val + 1)⌝ ∗ inv c X MA MB W G OX HX (k.val + 1))) := by
  have hk : k.val < 16 := trip_lt k
  have h1 : 1 ≤ k.val := by omega
  have e4 := c4_out k h2
  have e5 := c5_out k h2
  have e6 := c6_out k h2
  have e7 := c7 k
  have e8 := c8 k
  have e9 := c9 k
  have e10 := c10 k
  have e11 := c11 k
  have e12 := c12_later k h1
  have e13 := c13_later k h1
  have e21 := c21 k
  have e22 := c22 k
  have e28 := c28_later k h1
  have e29 := c29_later k h1
  have q1 := chk1 k
  have q2 := chk2 k
  have q3 := chk3 k
  have q4 := chk4 k
  have q5 := chk5 k
  have q6 := chk6 k
  have q7 := chk7 k
  have q8 := chk8 k
  have q9 := chk9 k
  have q10 := chk10 k
  unfold inv
  rw [show weights c W k.val = wHere c W from if_neg (by omega), show weights c W (k.val + 1) = wHere c W from if_neg (by omega)]
  unfold xRing maRing mbRing oRing hRing wHere gHere
  rw [Ring.At3_here_tail (NB := 16) _ _ _ _ _ hk, Ring.At3_here_tail (NB := 16) _ _ _ _ _ hk, Ring.At3_here_tail (NB := 16) _ _ _ _ _ hk,
    Ring.AtB21_here (NB := 16) _ _ _ _ _ h1 hk, Ring.AtB21_here (NB := 16) _ _ _ _ _ h1 hk,
    Ring.At3_next_tail (NB := 16) _ _ _ _ _ (by omega) hk, Ring.At3_next_tail (NB := 16) _ _ _ _ _ (by omega) hk, Ring.At3_next_tail (NB := 16) _ _ _ _ _ (by omega) hk,
    slotAt_shift, slotAt_shift, slotAt_shift,
    Ring.AtB21_next (NB := 16) _ _ _ _ _ h1 hk, Ring.AtB21_next (NB := 16) _ _ _ _ _ h1 hk]
  unfold oFly hFly
  iintro ⟨⟨%Wo, Hw⟩, ⟨Hxr, ⟨%fx, Hxf⟩, Hxg, Hxz⟩, ⟨Hmar, ⟨%fa, Hmaf⟩, Hmag, Hmaz⟩,
    ⟨Hmbr, ⟨%fb, Hmbf⟩, Hmbg, Hmbz⟩, ⟨⟨%fwa, Hwa⟩, Hwt, Hwac, ⟨%fwb, Hwb⟩, Hwl, Hwbc⟩, ⟨%fg, Hg⟩,
    ⟨⟨Ho, Hor⟩, Hob, ⟨Hoc, ⟨%fo, Hos⟩⟩, ⟨%wo, %fo', %hwo, Hof⟩⟩, ⟨⟨Hh, Hhr⟩, Hhb, ⟨Hhc, ⟨%fh, Hhs⟩⟩, ⟨%wh, %fh', %hwh, Hhf⟩⟩⟩
  dsimp only [trip, words]
  sl_unfold [k0_t1_body]
  sl_exec
  sl_step
  isplitr
  · ipureintro
    have w1 : ∀ k : Trip, ¬ k.val + 2 < 16 → trip_last.sl.v154_r0 k = wI (k.val + 1) := by decide
    have w2 : ∀ k : Trip, trip_last.sl.v359_r0 k = wR (k.val + 1) := by decide
    have w3 : ∀ k : Trip, trip_last.sl.v425_r0 k = wE (k.val + 1) := by decide
    have w4 : ∀ k : Trip, 1 ≤ k.val → trip_last.sl.v402_r0 k = wB (k.val + 1) := by decide
    have w5 : ∀ k : Trip, trip_last.sl.v133_r0 k = wG (k.val + 1) := by decide
    rw [w1 k h2, w2 k, w3 k, w4 k h1, w5 k]
  isplitl [Hw]; · iexists _; iexact Hw
  isplitl [Hxf_src Hxr Hxg Hxz Hxf Hxf_dst]
  · isplitl [Hxf_src Hxr]
    · isplitl [Hxf_src]; · iexact Hxf_src
      iexact Hxr
    isplitl [Hxg]; · iexact Hxg
    isplitl [Hxz]; · iexact Hxz
    isplitl [Hxf]; · iexact Hxf
    iexists _; iexact Hxf_dst
  isplitl [Hmaf_src Hmar Hmag Hmaz Hmaf Hmaf_dst]
  · isplitl [Hmaf_src Hmar]
    · isplitl [Hmaf_src]; · iexact Hmaf_src
      iexact Hmar
    isplitl [Hmag]; · iexact Hmag
    isplitl [Hmaz]; · iexact Hmaz
    isplitl [Hmaf]; · iexact Hmaf
    iexists _; iexact Hmaf_dst
  isplitl [Hmbf_src Hmbr Hmbg Hmbz Hmbf Hmbf_dst]
  · isplitl [Hmbf_src Hmbr]
    · isplitl [Hmbf_src]; · iexact Hmbf_src
      iexact Hmbr
    isplitl [Hmbg]; · iexact Hmbg
    isplitl [Hmbz]; · iexact Hmbz
    isplitl [Hmbf]; · iexact Hmbf
    iexists _; iexact Hmbf_dst

  isplitl [Hwa Hwt Hwac Hwb Hwl Hwbc]
  · isplitl [Hwa]; · iexists _; iexact Hwa
    isplitl [Hwt]; · iexact Hwt
    isplitl [Hwac]; · iexact Hwac
    isplitl [Hwb]; · iexists _; iexact Hwb
    isplitl [Hwl]; · iexact Hwl
    iexact Hwbc
  isplitl [Hg]; · iexists _; iexact Hg
  isplitl [Hor Hof_dst Hob Hof Hof_src Hoc]
  · isplitl [Hor]; · iexact Hor
    isplitl [Hof_dst Hob]
    · isplitl [Hof_dst]; · iapply (of_eq (pointsTo_congr hwo)); iexact Hof_dst
      iexact Hob
    isplitl [Hof Hof_src]
    · isplitl [Hof]; · iexact Hof
      iexists _; iexact Hof_src
    iexists _, _
    isplitr
    rotate_left
    · iexact Hoc
    ipureintro
    exact out_delivered _ _ fo OX (outAll X MA MB W) _ _
      (out_stored _ (load_ma _ _ 1 MA rfl _) (load_wa W rfl _ _) (load_mb _ _ 1 MB rfl _) (load_wb W rfl _ _) (load_x _ _ 1 X rfl _))
      (out_stored _ (load_ma _ _ 0 MA rfl _) (load_wa W rfl _ _) (load_mb _ _ 0 MB rfl _) (load_wb W rfl _ _) (load_x _ _ 0 X rfl _)) _ _
  · isplitl [Hhr]; · iexact Hhr
    isplitl [Hhf_dst Hhb]
    · isplitl [Hhf_dst]; · iapply (of_eq (pointsTo_congr hwh)); iexact Hhf_dst
      iexact Hhb
    isplitl [Hhf Hhf_src]
    · isplitl [Hhf]; · iexact Hhf
      iexists _; iexact Hhf_src
    iexists _, _
    isplitr
    rotate_left
    · iexact Hhc
    ipureintro
    exact norm_delivered _ _ fh HX (normAll X MA MB W G) _ _
      (norm_stored _ (load_ma _ _ 1 MA rfl _) (load_wa W rfl _ _) (load_mb _ _ 1 MB rfl _) (load_wb W rfl _ _) (load_x _ _ 1 X rfl _) (load_g G rfl _))
      (norm_stored _ (load_ma _ _ 0 MA rfl _) (load_wa W rfl _ _) (load_mb _ _ 0 MB rfl _) (load_wb W rfl _ _) (load_x _ _ 0 X rfl _) (load_g G rfl _))
      (off55_eq k) (off48_eq k) _ _

end Cert.Proof.Outproj

end
-- ==== Proof.Body.lean ====
/-
  The kernel's body: the copies its prologue starts, the loop by its invariant, the two copies its epilogue waits for.
-/
module

public import proofs.«01_k».proof.Proof.First
public import proofs.«01_k».proof.Proof.Mid
public import proofs.«01_k».proof.Proof.Last
public import proofs.«01_k».proof.Proof.Gen.KernelIdeal.Points

@[expose] public section

set_option maxRecDepth 16384
set_option maxHeartbeats 4000000

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD)
variable (X : Con (F := F) c xM) (MA : Con (F := F) c maM) (MB : Con (F := F) c mbM) (W : Con (F := F) c wM) (G : Con (F := F) c gM)
variable (OX : Con (F := F) c oM) (HX : Con (F := F) c hM)

/-- A trip, whichever it is. -/
theorem trip_any (v14 v31 v38 v45 v52 c0 : BitVec 32) (k : Trip) :
    inv c X MA MB W G OX HX k.val
      ⊢ wp frame (wpE (defs₀ (F := F)) 𝒱₀ (c : Thread nD τ) none) Set.univ (trip v14 v31 v38 v45 v52 c0 k)
          (fun acc => iprop(⌜acc = words (k.val + 1)⌝ ∗ inv c X MA MB W G OX HX (k.val + 1))) := by
  by_cases h2 : k.val + 2 < 16
  · by_cases h1 : k.val = 0
    · exact trip_first c X MA MB W G OX HX v14 v31 v38 v45 v52 c0 k h1
    · exact trip_mid c X MA MB W G OX HX v14 v31 v38 v45 v52 c0 k (by omega) h2
  · exact trip_last c X MA MB W G OX HX v14 v31 v38 v45 v52 c0 k h2

set_option warn.classDefReducibility false in
/-- The loop's invariant: the carried words in closed form, and what the core holds. -/
def loopInv (v14 v31 v38 v45 v52 c0 : BitVec 32)
    (init : BitVec 32 × BitVec 32 × BitVec 32 × BitVec 32 × BitVec 32 × BitVec 32 × BitVec 32 × BitVec 32
      × BitVec 32 × BitVec 32 × BitVec 32 × BitVec 32 × BitVec 32 × BitVec 32 × BitVec 32 × BitVec 32) :
    LoopInvTy_k0_t1 (F := F) Unit ℕ (UU nD τ) ℕ 𝒱₀ c none Set.univ
      xM (Memref.isWhole_whole _) maM (Memref.isWhole_whole _) mbM (Memref.isWhole_whole _) wM (Memref.isWhole_whole _)
      wM (Memref.isWhole_whole _) gM (Memref.isWhole_whole _) oM (Memref.isWhole_whole _) hM (Memref.isWhole_whole _)
      xR (Memref.isWhole_whole _) cc0_scoped1 maR (Memref.isWhole_whole _) cc0_scoped3 mbR (Memref.isWhole_whole _) cc0_scoped5
      waR (Memref.isWhole_whole _) cc0_scoped7 wbR (Memref.isWhole_whole _) cc0_scoped9 gR (Memref.isWhole_whole _)
      oR (Memref.isWhole_whole _) cc0_scoped12 hR (Memref.isWhole_whole _) cc0_scoped14 cc0_scoped15 v14 v31 v38 v45 v52 c0 init where
  inv k acc := iprop(⌜acc = words k⌝ ∗ inv c X MA MB W G OX HX k)
  step k acc := by
    iintro ⟨%e, H⟩
    subst e
    iapply (trip_any c X MA MB W G OX HX v14 v31 v38 v45 v52 c0 k)
    iexact H

/-- The loop's region on the kernel's own buffers. -/
abbrev region (v14 v31 v38 v45 v52 c0 : BitVec 32) :=
  k0_t1_body (F := F) xM (Memref.isWhole_whole _) maM (Memref.isWhole_whole _) mbM (Memref.isWhole_whole _) wM (Memref.isWhole_whole _)
    wM (Memref.isWhole_whole _) gM (Memref.isWhole_whole _) oM (Memref.isWhole_whole _) hM (Memref.isWhole_whole _)
    xR (Memref.isWhole_whole _) cc0_scoped1 maR (Memref.isWhole_whole _) cc0_scoped3 mbR (Memref.isWhole_whole _) cc0_scoped5
    waR (Memref.isWhole_whole _) cc0_scoped7 wbR (Memref.isWhole_whole _) cc0_scoped9 gR (Memref.isWhole_whole _)
    oR (Memref.isWhole_whole _) cc0_scoped12 hR (Memref.isWhole_whole _) cc0_scoped14 cc0_scoped15 v14 v31 v38 v45 v52 c0

/-- The whole loop: from the invariant before the first trip to the invariant after the last. -/
theorem loop_run (v14 v31 v38 v45 v52 c0 : BitVec 32) {β : Type}
    (kk : BitVec 32 × BitVec 32 × BitVec 32 × BitVec 32 × BitVec 32 × BitVec 32 × BitVec 32 × BitVec 32
      × BitVec 32 × BitVec 32 × BitVec 32 × BitVec 32 × BitVec 32 × BitVec 32 × BitVec 32 × BitVec 32 → Prog (TpuEff nD τ sig (Elt F) Λ₀ .tc) β)
    (Q : β → sProp 𝕄) :
    inv c X MA MB W G OX HX 0
      ⊢ iprop((inv c X MA MB W G OX HX 16 -∗ wp frame (wpE (defs₀ (F := F)) 𝒱₀ (c : Thread nD τ) none) Set.univ (kk (words 16)) Q)
        -∗ wp frame (wpE (defs₀ (F := F)) 𝒱₀ (c : Thread nD τ) none) Set.univ
          (k0_t1_loop.for k0_t1_ok (2#32, 0#32, 2#32, 0#32, 2#32, 0#32, 1#32, 0#32, 1#32, 0#32, 0#32, 0#32, 0#32, 0#32, 0#32, 0#32)
            (region v14 v31 v38 v45 v52 c0) >>= kk) Q) := by
  iintro H Hk
  iapply (exec_loop Idealize.ShloMosaic.frame (wpE (defs₀ (F := F)) 𝒱₀ (c : Thread nD τ) none) Set.univ _ _ _ _ _ _
    (loopInv c X MA MB W G OX HX v14 v31 v38 v45 v52 c0 (2#32, 0#32, 2#32, 0#32, 2#32, 0#32, 1#32, 0#32, 1#32, 0#32, 0#32, 0#32, 0#32, 0#32, 0#32, 0#32))) $$ [H]
  · iapply (show iprop(⌜(2#32, 0#32, 2#32, 0#32, 2#32, 0#32, 1#32, 0#32, 1#32, 0#32, 0#32, 0#32, 0#32, 0#32, 0#32, 0#32) = words 0⌝
        ∗ inv c X MA MB W G OX HX 0) ⊢ (loopInv c X MA MB W G OX HX v14 v31 v38 v45 v52 c0 _).inv 0 _ from .rfl)
    isplitr
    · ipureintro; rfl
    iexact H
  iintro %acc H
  ihave H' := (show (loopInv c X MA MB W G OX HX v14 v31 v38 v45 v52 c0
      (2#32, 0#32, 2#32, 0#32, 2#32, 0#32, 1#32, 0#32, 1#32, 0#32, 0#32, 0#32, 0#32, 0#32, 0#32, 0#32)).inv (Scf.trips k0_t1_loop.lb k0_t1_loop.ub k0_t1_loop.st) acc ⊢ iprop(⌜acc = words 16⌝ ∗ inv c X MA MB W G OX HX 16) from .rfl) $$ H
  icases H' with ⟨%e, H⟩
  subst e
  iapply Hk
  iexact H

/-- A streamed operand's ring before the prologue: the blocks at home, the slots free. -/
theorem ring_zero {M : Type _} [URA M] (home : Fin 16 → sProp M) {C : Fin 3 → Type _} (cell : Fin 3 → sProp M) (slot : (s : Fin 3) → C s → sProp M) :
    Ring.At₀ cell slot home = iprop((home 0 ∗ home 1 ∗ home (Ring.bk 16 2) ∗ bigSep ((Ring.homeSet 2 0).erase (Ring.bk 16 2)) home)
      ∗ Ring.free cell slot 0 ∗ Ring.free cell slot 1 ∗ Ring.free cell slot 2) :=
  Ring.At₀_eq3 home cell slot (by decide)

/-- After the last trip the ring is as before the prologue. -/
theorem ring_end {M : Type _} [URA M] (home : Fin 16 → sProp M) {C : Fin 3 → Type _} (cell : Fin 3 → sProp M) (slot : (s : Fin 3) → C s → sProp M)
    (flight : (s : Fin 3) → Fin 16 → C s → sProp M) :
    Ring.At 2 cell slot home flight 16 ⊢ Ring.At₀ cell slot home := by
  rw [Ring.At_last3]
  unfold Ring.At₀
  rw [bigSep_univ_eq_bigSepL [(0 : Fin 3), (1 : Fin 3), (2 : Fin 3)] (by decide) (by decide), BI.bigSepL_cons_cons, BI.bigSepL_cons_cons, BI.bigSepL_singleton]
  iintro ⟨H, Hf⟩
  isplitl [H]; · iexact H
  iapply (Ring.free3_of_roles (Ring.free cell slot) 16)
  iexact Hf

/-- What the body starts from. -/
def start : sProp 𝕄 :=
  iprop((∃ W, owes (c : Thread nD τ) 0 W)
    ∗ Ring.At₀ (fun s => zero_ c (cx s)) (fun s f => at_ c (xsl s) f) (fun b => at_ c (xblk b) X)
    ∗ Ring.At₀ (fun s => zero_ c (cma s)) (fun s f => at_ c (masl s) f) (fun b => at_ c (mablk b) MA)
    ∗ Ring.At₀ (fun s => zero_ c (cmb s)) (fun s f => at_ c (mbsl s) f) (fun b => at_ c (mbblk b) MB)
    ∗ ((∃ f, at_ c (wasl 0) f) ∗ at_ c wtop W ∗ zero_ c (cwa 0) ∗ (∃ f, at_ c (wbsl 0) f) ∗ at_ c wbot W ∗ zero_ c (cwb 0))
    ∗ (at_ c gM G ∗ (∃ f, at_ c gR f) ∗ zero_ c cc0_scoped15)
    ∗ Ring.AtB₀ (oFree c) (fun b => at_ c (oblk b) OX) ∗ Ring.AtB₀ (hFree c) (fun b => at_ c (hblk b) HX))

/-- What it leaves: the operands as they were, the results whole. -/
def finish : sProp 𝕄 :=
  iprop((∃ W, owes (c : Thread nD τ) 0 W)
    ∗ Ring.At₀ (fun s => zero_ c (cx s)) (fun s f => at_ c (xsl s) f) (fun b => at_ c (xblk b) X)
    ∗ Ring.At₀ (fun s => zero_ c (cma s)) (fun s f => at_ c (masl s) f) (fun b => at_ c (mablk b) MA)
    ∗ Ring.At₀ (fun s => zero_ c (cmb s)) (fun s f => at_ c (mbsl s) f) (fun b => at_ c (mbblk b) MB)
    ∗ ((∃ f, at_ c (wasl 0) f) ∗ at_ c wtop W ∗ zero_ c (cwa 0) ∗ (∃ f, at_ c (wbsl 0) f) ∗ at_ c wbot W ∗ zero_ c (cwb 0))
    ∗ (at_ c gM G ∗ (∃ f, at_ c gR f) ∗ zero_ c cc0_scoped15)
    ∗ Ring.AtBEnd (oFree c) (fun b => at_ c (oblk b) (outAll X MA MB W)) ∗ Ring.AtBEnd (hFree c) (fun b => at_ c (hblk b) (normAll X MA MB W G)))

theorem end_chk11 : k0_chk11 (wB 16) := by decide
theorem end_chk12 : k0_chk12 (wG 16) := by decide
theorem end_chk13 : k0_chk13 (wB 16) := by decide

/-- The body, from start to finish. -/
theorem body_run (t : Fin cfg0.N) :
    start c X MA MB W G OX HX
      ⊢ wp frame (wpE (defs₀ (F := F)) 𝒱₀ (c : Thread nD τ) none) Set.univ (bodyAt0 t) (fun _ => finish c X MA MB W G) := by
  have e1 : k0_cond1 = 1#1 := by decide
  have e2 : k0_cond2 = 1#1 := by decide
  have e3 : k0_cond3 = 1#1 := by decide
  unfold start
  rw [ring_zero, ring_zero, ring_zero]
  unfold bodyAt0
  iintro ⟨⟨%Wo, Hw⟩, ⟨⟨Hx0, Hx1, Hxr⟩, ⟨Hxc0, ⟨%fx0, Hxs0⟩⟩, ⟨Hxc1, ⟨%fx1, Hxs1⟩⟩, Hx2⟩,
    ⟨⟨Hma0, Hma1, Hmar⟩, ⟨Hmac0, ⟨%fma0, Hmas0⟩⟩, ⟨Hmac1, ⟨%fma1, Hmas1⟩⟩, Hma2⟩,
    ⟨⟨Hmb0, Hmb1, Hmbr⟩, ⟨Hmbc0, ⟨%fmb0, Hmbs0⟩⟩, ⟨Hmbc1, ⟨%fmb1, Hmbs1⟩⟩, Hmb2⟩,
    ⟨⟨%fwa, Hwa⟩, Hwt, Hwac, ⟨%fwb, Hwb⟩, Hwl, Hwbc⟩, ⟨HgM, ⟨%fg, Hg⟩, Hgc⟩, Ho, Hh⟩
  sl_exec
  ihave Hinv : inv c X MA MB W G OX HX 0 $$ [Hw Hxr Hxc0 Hxc1 Hx2 Hmar Hmac0 Hmac1 Hma2 Hmbr Hmbc0 Hmbc1 Hmb2 Hwac Hwbc Hg Ho Hh]
  · unfold inv
    rw [show weights c W 0 = wComing c W from if_pos rfl]
    unfold xRing maRing mbRing oRing hRing wComing gHere
    rw [Ring.At3_here (NB := 16) _ _ _ _ _ (by decide), Ring.At3_here (NB := 16) _ _ _ _ _ (by decide), Ring.At3_here (NB := 16) _ _ _ _ _ (by decide),
      Ring.AtB_zero, Ring.AtB_zero]
    isplitl [Hw]; · iexists _; iexact Hw
    isplitl [Hxr Hxc0 Hxc1 Hx2]
    · isplitl [Hxr]; · iexact Hxr
      isplitl [Hxc0]; · iexists fx0; iexact Hxc0
      isplitl [Hxc1]; · iexists fx1; iexact Hxc1
      iexact Hx2
    isplitl [Hmar Hmac0 Hmac1 Hma2]
    · isplitl [Hmar]; · iexact Hmar
      isplitl [Hmac0]; · iexists fma0; iexact Hmac0
      isplitl [Hmac1]; · iexists fma1; iexact Hmac1
      iexact Hma2
    isplitl [Hmbr Hmbc0 Hmbc1 Hmb2]
    · isplitl [Hmbr]; · iexact Hmbr
      isplitl [Hmbc0]; · iexists fmb0; iexact Hmbc0
      isplitl [Hmbc1]; · iexists fmb1; iexact Hmbc1
      iexact Hmb2
    isplitl [Hwac Hwbc]
    · isplitl [Hwac]; · iexists fwa; iexact Hwac
      iexists fwb; iexact Hwbc
    isplitl [Hg]; · iexists _; iexact Hg
    isplitl [Ho]; · iexact Ho
    iexact Hh
  iapply (loop_run c X MA MB W G OX HX 1#32 1#32 1#32 1#32 1#32 0#32) $$ [Hinv]
  · iexact Hinv
  iintro H
  have q11 := end_chk11
  have q12 := end_chk12
  have q13 := end_chk13
  unfold inv
  rw [show weights c W 16 = wHere c W from if_neg (by decide)]
  unfold xRing maRing mbRing oRing hRing wHere gHere
  rw [Ring.AtB21_end' (NB := 16) _ _ _ _ 16 rfl (by decide), Ring.AtB21_end' (NB := 16) _ _ _ _ 16 rfl (by decide)]
  unfold oFly hFly
  icases H with ⟨⟨%Wo', Hw⟩, Hx, Hma, Hmb, ⟨⟨%fwa', Hwa⟩, Hwt, Hwac, ⟨%fwb', Hwb⟩, Hwl, Hwbc⟩, ⟨%fg', Hg⟩,
    ⟨Hob, Hoc, ⟨%wo, %fo, %hwo, Hof⟩⟩, ⟨Hhb, Hhc, ⟨%wh, %fh, %hwh, Hhf⟩⟩⟩
  dsimp only [words]
  sl_exec
  sl_step
  unfold finish
  rw [Ring.AtB21_epilogue' (NB := 16) _ _ 16 rfl (by decide), Ring.AtB21_epilogue' (NB := 16) _ _ 16 rfl (by decide)]
  isplitl [Hw]; · iexists _; iexact Hw
  isplitl [Hx]; · iapply ring_end; iexact Hx
  isplitl [Hma]; · iapply ring_end; iexact Hma
  isplitl [Hmb]; · iapply ring_end; iexact Hmb
  isplitl [Hwa Hwt Hwac Hwb Hwl Hwbc]
  · isplitl [Hwa]; · iexists _; iexact Hwa
    isplitl [Hwt]; · iexact Hwt
    isplitl [Hwac]; · iexact Hwac
    isplitl [Hwb]; · iexists _; iexact Hwb
    isplitl [Hwl]; · iexact Hwl
    iexact Hwbc
  isplitl [HgM Hg Hgc]
  · isplitl [HgM]; · iexact HgM
    isplitl [Hg]; · iexists _; iexact Hg
    iexact Hgc
  isplitl [Hob Hoc Hof_dst Hof_src Hof]
  · isplitl [Hob Hof_dst]
    · isplitl [Hof_dst]; · iapply (of_eq (pointsTo_congr hwo)); iexact Hof_dst
      iexact Hob
    isplitl [Hoc]; · iexact Hoc
    isplitl [Hof]; · iexact Hof
    iexists _; iexact Hof_src
  · isplitl [Hhb Hhf_dst]
    · isplitl [Hhf_dst]; · iapply (of_eq (pointsTo_congr hwh)); iexact Hhf_dst
      iexact Hhb
    isplitl [Hhc]; · iexact Hhc
    isplitl [Hhf]; · iexact Hhf
    iexists _; iexact Hhf_src

end Cert.Proof.Outproj

end
-- ==== Proof.Split.lean ====
/-
  The kernel's buffers cut up for its pipeline and put together again: the operands and results in HBM into their sixteen
  blocks of 512 rows, the weights into their two halves, the staging rings in VMEM into their slots. Every one of these
  is a cut along the first axis into equal bands.
-/
module

public import proofs.«01_k».proof.Proof.Inv
public import Idealize.ShloMosaic.Lib.Ring

@[expose] public section

set_option maxRecDepth 16384

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Bands -/

section Bands

variable {s : Shape} {n : ℕ} (z : Fin s.rank) (off : Fin n → Fin s.rank → ℕ) (size : Fin s.rank → ℕ)
  (inb : ∀ b a, off b a + size a ≤ s.size a)
  (h0 : ∀ b, off b z = size z * b.val) (hr : ∀ b a, a ≠ z → off b a = 0 ∧ size a = s.size a)

include h0 hr in
/-- An element lies in band `b` if its coordinate along the cut axis does. -/
theorem mem_band (b : Fin n) (y : s.Idx) :
    y ∈ (Rect.unit (off b) size (inb b)).set ↔ size z * b.val ≤ (y z).val ∧ (y z).val < size z * b.val + size z := by
  rw [Rect.mem_set_unit]
  constructor
  · intro H; have := H z; rw [h0] at this; exact this
  · intro H a
    by_cases e : a = z
    · subst e; rw [h0]; exact H
    · obtain ⟨e1, e2⟩ := hr b a e
      rw [e1, e2]; exact ⟨Nat.zero_le _, by have := (y a).isLt; omega⟩

include h0 hr in
/-- Two bands share no element. -/
theorem band_disjoint (b b' : Fin n) (hne : b ≠ b') :
    Disjoint (Rect.unit (off b) size (inb b)).set (Rect.unit (off b') size (inb b')).set := by
  rw [Finset.disjoint_left]
  intro y hy hy'
  rw [mem_band z off size inb h0 hr] at hy hy'
  refine hne (Fin.ext ?_)
  rcases Nat.lt_trichotomy b.val b'.val with h | h | h
  · have := Nat.mul_le_mul_left (size z) (Nat.succ_le_of_lt h); rw [Nat.mul_succ] at this; omega
  · exact h
  · have := Nat.mul_le_mul_left (size z) (Nat.succ_le_of_lt h); rw [Nat.mul_succ] at this; omega

include h0 hr in
/-- The bands together are the whole. -/
theorem band_cover (hp : 0 < size z) (hn : size z * n = s.size z) :
    (Finset.univ : Finset (Fin n)).biUnion (fun b => (Rect.unit (off b) size (inb b)).set) = Finset.univ := by
  ext y
  simp only [Finset.mem_biUnion, Finset.mem_univ, true_and, iff_true]
  have hy : (y z).val < size z * n := by rw [hn]; exact (y z).isLt
  refine ⟨⟨(y z).val / size z, Nat.div_lt_of_lt_mul hy⟩, ?_⟩
  rw [mem_band z off size inb h0 hr]
  refine ⟨Nat.mul_div_le _ _, ?_⟩
  have := Nat.lt_mul_div_succ (y z).val hp
  rw [Nat.mul_succ] at this; exact this

end Bands

/-! ## The operands and results in HBM -/

abbrev rowsW (b : Fin 16) : Finset S8192x2048.Idx := (Rect.unit (s := S8192x2048) (rowOff b) S512x2048.size (rowOff_inb b)).set
abbrev rowsN (b : Fin 16) : Finset S8192x1024.Idx := (Rect.unit (s := S8192x1024) (rowOff b) S512x1024.size (rowOff_inb' b)).set

theorem rowsW_disjoint : ∀ b b' : Fin 16, b ≠ b' → Disjoint (rowsW b) (rowsW b') :=
  band_disjoint 0 _ _ rowOff_inb (by decide) (by decide)
theorem rowsW_cover : (Finset.univ : Finset (Fin 16)).biUnion rowsW = Finset.univ :=
  band_cover 0 _ _ rowOff_inb (by decide) (by decide) (by decide) (by decide)
theorem rowsN_disjoint : ∀ b b' : Fin 16, b ≠ b' → Disjoint (rowsN b) (rowsN b') :=
  band_disjoint 0 _ _ rowOff_inb' (by decide) (by decide)
theorem rowsN_cover : (Finset.univ : Finset (Fin 16)).biUnion rowsN = Finset.univ :=
  band_cover 0 _ _ rowOff_inb' (by decide) (by decide) (by decide) (by decide)

abbrev halfOff (h : Fin 2) : Fin 2 → Nat := ![1024 * h.val, 0]
theorem halfOff_inb : ∀ (h : Fin 2) a, halfOff h a + S1024x2048.size a ≤ S2048x2048.size a := by decide
abbrev rowsH (h : Fin 2) : Finset S2048x2048.Idx := (Rect.unit (s := S2048x2048) (halfOff h) S1024x2048.size (halfOff_inb h)).set
theorem rowsH_disjoint : ∀ b b' : Fin 2, b ≠ b' → Disjoint (rowsH b) (rowsH b') :=
  band_disjoint 0 _ _ halfOff_inb (by decide) (by decide)
theorem rowsH_cover : (Finset.univ : Finset (Fin 2)).biUnion rowsH = Finset.univ :=
  band_cover 0 _ _ halfOff_inb (by decide) (by decide) (by decide) (by decide)

section Pieces

variable (c : Dev nD)

theorem x_blocks (X : Con (F := F) c xM) :
    (((c : Thread nD τ).loc main_v0) ↦{fullShare} X : sProp 𝕄) = bigSep Finset.univ fun b => at_ c (xblk b) X := by
  rw [Ring.pointsTo_blocks (ℓ := (c : Thread nD τ).loc main_v0) rowsW rowsW_disjoint rowsW_cover]
  exact bigSep_congr fun b _ => congrArg (fun S => (((c : Thread nD τ).loc main_v0) ↦[S]{fullShare} X : sProp 𝕄)) (View.set_slice_whole _ _).symm
theorem ma_blocks (X : Con (F := F) c maM) :
    (((c : Thread nD τ).loc main_arg1) ↦{fullShare} X : sProp 𝕄) = bigSep Finset.univ fun b => at_ c (mablk b) X := by
  rw [Ring.pointsTo_blocks (ℓ := (c : Thread nD τ).loc main_arg1) rowsN rowsN_disjoint rowsN_cover]
  exact bigSep_congr fun b _ => congrArg (fun S => (((c : Thread nD τ).loc main_arg1) ↦[S]{fullShare} X : sProp 𝕄)) (View.set_slice_whole _ _).symm
theorem mb_blocks (X : Con (F := F) c mbM) :
    (((c : Thread nD τ).loc main_arg2) ↦{fullShare} X : sProp 𝕄) = bigSep Finset.univ fun b => at_ c (mbblk b) X := by
  rw [Ring.pointsTo_blocks (ℓ := (c : Thread nD τ).loc main_arg2) rowsN rowsN_disjoint rowsN_cover]
  exact bigSep_congr fun b _ => congrArg (fun S => (((c : Thread nD τ).loc main_arg2) ↦[S]{fullShare} X : sProp 𝕄)) (View.set_slice_whole _ _).symm
theorem o_blocks (X : Con (F := F) c oM) :
    (((c : Thread nD τ).loc main_v3_0) ↦{fullShare} X : sProp 𝕄) = bigSep Finset.univ fun b => at_ c (oblk b) X := by
  rw [Ring.pointsTo_blocks (ℓ := (c : Thread nD τ).loc main_v3_0) rowsW rowsW_disjoint rowsW_cover]
  exact bigSep_congr fun b _ => congrArg (fun S => (((c : Thread nD τ).loc main_v3_0) ↦[S]{fullShare} X : sProp 𝕄)) (View.set_slice_whole _ _).symm
theorem h_blocks (X : Con (F := F) c hM) :
    (((c : Thread nD τ).loc main_v3_1) ↦{fullShare} X : sProp 𝕄) = bigSep Finset.univ fun b => at_ c (hblk b) X := by
  rw [Ring.pointsTo_blocks (ℓ := (c : Thread nD τ).loc main_v3_1) rowsW rowsW_disjoint rowsW_cover]
  exact bigSep_congr fun b _ => congrArg (fun S => (((c : Thread nD τ).loc main_v3_1) ↦[S]{fullShare} X : sProp 𝕄)) (View.set_slice_whole _ _).symm
theorem w_halves (W : Con (F := F) c wM) :
    (((c : Thread nD τ).loc main_arg3) ↦{fullShare} W : sProp 𝕄) = iprop(at_ c wtop W ∗ at_ c wbot W) := by
  rw [Ring.pointsTo_blocks (ℓ := (c : Thread nD τ).loc main_arg3) rowsH rowsH_disjoint rowsH_cover,
    bigSep_univ_eq_bigSepL [(0 : Fin 2), (1 : Fin 2)] (by decide) (by decide), BI.bigSepL_cons_cons, BI.bigSepL_singleton]
  exact congrArg₂ (fun S S' => iprop((((c : Thread nD τ).loc main_arg3) ↦[S]{fullShare} W) ∗ (((c : Thread nD τ).loc main_arg3) ↦[S']{fullShare} W) : sProp 𝕄))
    (View.set_slice_whole _ _).symm (View.set_slice_whole _ _).symm

/-! ## The rings in VMEM -/

section Slots

variable {n : ℕ} (ℓ : Loc nD τ sig) (I : Fin n → Finset (Loc.ty ℓ).shape.Idx)
  (hd : ∀ b b', b ≠ b' → Disjoint (I b) (I b')) (hc : (Finset.univ : Finset (Fin n)).biUnion I = Finset.univ)

include hd hc in
/-- A buffer at some contents is its slots, each at some contents; -/
theorem slots_open : iprop(∃ f : Buf (Elt F) ℓ, ℓ ↦{fullShare} f) ⊢ (bigSep Finset.univ fun s => iprop(∃ f : Buf (Elt F) ℓ, ℓ ↦[I s]{fullShare} f) : sProp 𝕄) := by
  have e1 (s : Fin n) (f : Buf (Elt F) ℓ) : (ℓ ↦[I s]{fullShare} f : sProp 𝕄) ⊢ iprop(∃ f : Buf (Elt F) ℓ, ℓ ↦[I s]{fullShare} f) := by
    iintro H; iexists f; iexact H
  have e (f : Buf (Elt F) ℓ) : (ℓ ↦{fullShare} f : sProp 𝕄) ⊢ (bigSep Finset.univ fun s => iprop(∃ f : Buf (Elt F) ℓ, ℓ ↦[I s]{fullShare} f)) :=
    (of_eq (Ring.pointsTo_blocks (ℓ := ℓ) I hd hc f)).trans (bigSep_mono fun s _ => e1 s f)
  iintro ⟨%f, H⟩
  iapply (e f); iexact H

include hd hc in
/-- and the other way round. -/
theorem slots_close (f₀ : Buf (Elt F) ℓ) : (bigSep Finset.univ fun s => iprop(∃ f : Buf (Elt F) ℓ, ℓ ↦[I s]{fullShare} f) : sProp 𝕄) ⊢ iprop(∃ f : Buf (Elt F) ℓ, ℓ ↦{fullShare} f) :=
  Ring.pointsTo_blocks_join_exists (ℓ := ℓ) I hd hc f₀

end Slots

abbrev slotsX (s : Fin 3) : Finset S3x512x2048.Idx := (Rect.unit (s := S3x512x2048) (slotOff s) S1x512x2048.size (slotOff_inb_x s)).set
abbrev slotsM (s : Fin 3) : Finset S3x512x1024.Idx := (Rect.unit (s := S3x512x1024) (slotOff s) S1x512x1024.size (slotOff_inb_m s)).set
abbrev slotsW (s : Fin 2) : Finset S2x1024x2048.Idx := (Rect.unit (s := S2x1024x2048) (slotOff s) S1x1024x2048.size (slotOff_inb_w s)).set
abbrev slotsO (s : Fin 2) : Finset S2x512x2048.Idx := (Rect.unit (s := S2x512x2048) (slotOff s) S1x512x2048.size (slotOff_inb_o s)).set

theorem slotsX_disjoint : ∀ b b' : Fin 3, b ≠ b' → Disjoint (slotsX b) (slotsX b') :=
  band_disjoint 0 _ _ slotOff_inb_x (by decide) (by decide)
theorem slotsX_cover : (Finset.univ : Finset (Fin 3)).biUnion slotsX = Finset.univ :=
  band_cover 0 _ _ slotOff_inb_x (by decide) (by decide) (by decide) (by decide)
theorem slotsM_disjoint : ∀ b b' : Fin 3, b ≠ b' → Disjoint (slotsM b) (slotsM b') :=
  band_disjoint 0 _ _ slotOff_inb_m (by decide) (by decide)
theorem slotsM_cover : (Finset.univ : Finset (Fin 3)).biUnion slotsM = Finset.univ :=
  band_cover 0 _ _ slotOff_inb_m (by decide) (by decide) (by decide) (by decide)
theorem slotsW_disjoint : ∀ b b' : Fin 2, b ≠ b' → Disjoint (slotsW b) (slotsW b') :=
  band_disjoint 0 _ _ slotOff_inb_w (by decide) (by decide)
theorem slotsW_cover : (Finset.univ : Finset (Fin 2)).biUnion slotsW = Finset.univ :=
  band_cover 0 _ _ slotOff_inb_w (by decide) (by decide) (by decide) (by decide)
theorem slotsO_disjoint : ∀ b b' : Fin 2, b ≠ b' → Disjoint (slotsO b) (slotsO b') :=
  band_disjoint 0 _ _ slotOff_inb_o (by decide) (by decide)
theorem slotsO_cover : (Finset.univ : Finset (Fin 2)).biUnion slotsO = Finset.univ :=
  band_cover 0 _ _ slotOff_inb_o (by decide) (by decide) (by decide) (by decide)

/-- The slots of a ring, by the name of its buffer and by the names of the slots. -/
theorem x_slots : (bigSep Finset.univ fun s => iprop(∃ f : Buf (Elt F) ((c : Thread nD τ).loc cc0_scoped0), ((c : Thread nD τ).loc cc0_scoped0) ↦[slotsX s]{fullShare} f) : sProp 𝕄)
    = bigSep Finset.univ fun s => iprop(∃ f : Con (F := F) c (xsl s), at_ c (xsl s) f) :=
  bigSep_congr fun s _ => congrArg (fun S => iprop(∃ f : Buf (Elt F) ((c : Thread nD τ).loc cc0_scoped0), ((c : Thread nD τ).loc cc0_scoped0) ↦[S]{fullShare} f : sProp 𝕄)) ((View.set_reshape _ _).trans (View.set_slice_whole _ _)).symm
theorem ma_slots : (bigSep Finset.univ fun s => iprop(∃ f : Buf (Elt F) ((c : Thread nD τ).loc cc0_scoped2), ((c : Thread nD τ).loc cc0_scoped2) ↦[slotsM s]{fullShare} f) : sProp 𝕄)
    = bigSep Finset.univ fun s => iprop(∃ f : Con (F := F) c (masl s), at_ c (masl s) f) :=
  bigSep_congr fun s _ => congrArg (fun S => iprop(∃ f : Buf (Elt F) ((c : Thread nD τ).loc cc0_scoped2), ((c : Thread nD τ).loc cc0_scoped2) ↦[S]{fullShare} f : sProp 𝕄)) ((View.set_reshape _ _).trans (View.set_slice_whole _ _)).symm
theorem mb_slots : (bigSep Finset.univ fun s => iprop(∃ f : Buf (Elt F) ((c : Thread nD τ).loc cc0_scoped4), ((c : Thread nD τ).loc cc0_scoped4) ↦[slotsM s]{fullShare} f) : sProp 𝕄)
    = bigSep Finset.univ fun s => iprop(∃ f : Con (F := F) c (mbsl s), at_ c (mbsl s) f) :=
  bigSep_congr fun s _ => congrArg (fun S => iprop(∃ f : Buf (Elt F) ((c : Thread nD τ).loc cc0_scoped4), ((c : Thread nD τ).loc cc0_scoped4) ↦[S]{fullShare} f : sProp 𝕄)) ((View.set_reshape _ _).trans (View.set_slice_whole _ _)).symm
theorem wa_slots : (bigSep Finset.univ fun s => iprop(∃ f : Buf (Elt F) ((c : Thread nD τ).loc cc0_scoped6), ((c : Thread nD τ).loc cc0_scoped6) ↦[slotsW s]{fullShare} f) : sProp 𝕄)
    = bigSep Finset.univ fun s => iprop(∃ f : Con (F := F) c (wasl s), at_ c (wasl s) f) :=
  bigSep_congr fun s _ => congrArg (fun S => iprop(∃ f : Buf (Elt F) ((c : Thread nD τ).loc cc0_scoped6), ((c : Thread nD τ).loc cc0_scoped6) ↦[S]{fullShare} f : sProp 𝕄)) ((View.set_reshape _ _).trans (View.set_slice_whole _ _)).symm
theorem wb_slots : (bigSep Finset.univ fun s => iprop(∃ f : Buf (Elt F) ((c : Thread nD τ).loc cc0_scoped8), ((c : Thread nD τ).loc cc0_scoped8) ↦[slotsW s]{fullShare} f) : sProp 𝕄)
    = bigSep Finset.univ fun s => iprop(∃ f : Con (F := F) c (wbsl s), at_ c (wbsl s) f) :=
  bigSep_congr fun s _ => congrArg (fun S => iprop(∃ f : Buf (Elt F) ((c : Thread nD τ).loc cc0_scoped8), ((c : Thread nD τ).loc cc0_scoped8) ↦[S]{fullShare} f : sProp 𝕄)) ((View.set_reshape _ _).trans (View.set_slice_whole _ _)).symm
theorem o_slots : (bigSep Finset.univ fun s => iprop(∃ f : Buf (Elt F) ((c : Thread nD τ).loc cc0_scoped11), ((c : Thread nD τ).loc cc0_scoped11) ↦[slotsO s]{fullShare} f) : sProp 𝕄)
    = bigSep Finset.univ fun s => iprop(∃ f : Con (F := F) c (osl s), at_ c (osl s) f) :=
  bigSep_congr fun s _ => congrArg (fun S => iprop(∃ f : Buf (Elt F) ((c : Thread nD τ).loc cc0_scoped11), ((c : Thread nD τ).loc cc0_scoped11) ↦[S]{fullShare} f : sProp 𝕄)) ((View.set_reshape _ _).trans (View.set_slice_whole _ _)).symm
theorem h_slots : (bigSep Finset.univ fun s => iprop(∃ f : Buf (Elt F) ((c : Thread nD τ).loc cc0_scoped13), ((c : Thread nD τ).loc cc0_scoped13) ↦[slotsO s]{fullShare} f) : sProp 𝕄)
    = bigSep Finset.univ fun s => iprop(∃ f : Con (F := F) c (hsl s), at_ c (hsl s) f) :=
  bigSep_congr fun s _ => congrArg (fun S => iprop(∃ f : Buf (Elt F) ((c : Thread nD τ).loc cc0_scoped13), ((c : Thread nD τ).loc cc0_scoped13) ↦[S]{fullShare} f : sProp 𝕄)) ((View.set_reshape _ _).trans (View.set_slice_whole _ _)).symm

end Pieces

/-- A ring's slots and their semaphores, slot by slot. -/
theorem free_three {C : Fin 3 → Type} (cell : Fin 3 → sProp 𝕄) (slot : (s : Fin 3) → C s → sProp 𝕄) :
    bigSep Finset.univ (Ring.free cell slot) = iprop((cell 0 ∗ cell 1 ∗ cell 2) ∗ bigSep Finset.univ fun s => iprop(∃ f, slot s f)) := by
  refine (bigSep_sep Finset.univ cell (fun s => iprop(∃ f, slot s f))).trans (congrArg (fun A => BI.sep A _) ?_)
  rw [bigSep_univ_eq_bigSepL [(0 : Fin 3), (1 : Fin 3), (2 : Fin 3)] (by decide) (by decide) cell, BI.bigSepL_cons_cons, BI.bigSepL_cons_cons, BI.bigSepL_singleton]
  rfl
theorem free_two {C : Fin 2 → Type} (cell : Fin 2 → sProp 𝕄) (slot : (s : Fin 2) → C s → sProp 𝕄) :
    bigSep Finset.univ (Ring.free cell slot) = iprop((cell 0 ∗ cell 1) ∗ bigSep Finset.univ fun s => iprop(∃ f, slot s f)) := by
  refine (bigSep_sep Finset.univ cell (fun s => iprop(∃ f, slot s f))).trans (congrArg (fun A => BI.sep A _) ?_)
  rw [bigSep_univ_eq_bigSepL [(0 : Fin 2), (1 : Fin 2)] (by decide) (by decide) cell, BI.bigSepL_cons_cons, BI.bigSepL_singleton]
  rfl
theorem two_of (Φ : Fin 2 → sProp 𝕄) : bigSep Finset.univ Φ = iprop(Φ 0 ∗ Φ 1) := by
  rw [bigSep_univ_eq_bigSepL [(0 : Fin 2), (1 : Fin 2)] (by decide) (by decide), BI.bigSepL_cons_cons, BI.bigSepL_singleton]
  rfl

/-! Each ring opened into its slots and closed again. -/

section Rings

variable (c : Dev nD)

theorem x_open : iprop(∃ f : Buf (Elt F) ((c : Thread nD τ).loc cc0_scoped0), ((c : Thread nD τ).loc cc0_scoped0) ↦{fullShare} f) ⊢ (bigSep Finset.univ fun s => iprop(∃ f : Con (F := F) c (xsl s), at_ c (xsl s) f) : sProp 𝕄) :=
  (slots_open ((c : Thread nD τ).loc cc0_scoped0) slotsX slotsX_disjoint slotsX_cover).trans (of_eq (x_slots c))
theorem x_close (f₀ : Buf (Elt F) ((c : Thread nD τ).loc cc0_scoped0)) : (bigSep Finset.univ fun s => iprop(∃ f : Con (F := F) c (xsl s), at_ c (xsl s) f) : sProp 𝕄) ⊢ iprop(∃ f : Buf (Elt F) ((c : Thread nD τ).loc cc0_scoped0), ((c : Thread nD τ).loc cc0_scoped0) ↦{fullShare} f) :=
  (of_eq (x_slots c).symm).trans (slots_close ((c : Thread nD τ).loc cc0_scoped0) slotsX slotsX_disjoint slotsX_cover f₀)
theorem ma_open : iprop(∃ f : Buf (Elt F) ((c : Thread nD τ).loc cc0_scoped2), ((c : Thread nD τ).loc cc0_scoped2) ↦{fullShare} f) ⊢ (bigSep Finset.univ fun s => iprop(∃ f : Con (F := F) c (masl s), at_ c (masl s) f) : sProp 𝕄) :=
  (slots_open ((c : Thread nD τ).loc cc0_scoped2) slotsM slotsM_disjoint slotsM_cover).trans (of_eq (ma_slots c))
theorem ma_close (f₀ : Buf (Elt F) ((c : Thread nD τ).loc cc0_scoped2)) : (bigSep Finset.univ fun s => iprop(∃ f : Con (F := F) c (masl s), at_ c (masl s) f) : sProp 𝕄) ⊢ iprop(∃ f : Buf (Elt F) ((c : Thread nD τ).loc cc0_scoped2), ((c : Thread nD τ).loc cc0_scoped2) ↦{fullShare} f) :=
  (of_eq (ma_slots c).symm).trans (slots_close ((c : Thread nD τ).loc cc0_scoped2) slotsM slotsM_disjoint slotsM_cover f₀)
theorem mb_open : iprop(∃ f : Buf (Elt F) ((c : Thread nD τ).loc cc0_scoped4), ((c : Thread nD τ).loc cc0_scoped4) ↦{fullShare} f) ⊢ (bigSep Finset.univ fun s => iprop(∃ f : Con (F := F) c (mbsl s), at_ c (mbsl s) f) : sProp 𝕄) :=
  (slots_open ((c : Thread nD τ).loc cc0_scoped4) slotsM slotsM_disjoint slotsM_cover).trans (of_eq (mb_slots c))
theorem mb_close (f₀ : Buf (Elt F) ((c : Thread nD τ).loc cc0_scoped4)) : (bigSep Finset.univ fun s => iprop(∃ f : Con (F := F) c (mbsl s), at_ c (mbsl s) f) : sProp 𝕄) ⊢ iprop(∃ f : Buf (Elt F) ((c : Thread nD τ).loc cc0_scoped4), ((c : Thread nD τ).loc cc0_scoped4) ↦{fullShare} f) :=
  (of_eq (mb_slots c).symm).trans (slots_close ((c : Thread nD τ).loc cc0_scoped4) slotsM slotsM_disjoint slotsM_cover f₀)
theorem o_open : iprop(∃ f : Buf (Elt F) ((c : Thread nD τ).loc cc0_scoped11), ((c : Thread nD τ).loc cc0_scoped11) ↦{fullShare} f) ⊢ (bigSep Finset.univ fun s => iprop(∃ f : Con (F := F) c (osl s), at_ c (osl s) f) : sProp 𝕄) :=
  (slots_open ((c : Thread nD τ).loc cc0_scoped11) slotsO slotsO_disjoint slotsO_cover).trans (of_eq (o_slots c))
theorem o_close (f₀ : Buf (Elt F) ((c : Thread nD τ).loc cc0_scoped11)) : (bigSep Finset.univ fun s => iprop(∃ f : Con (F := F) c (osl s), at_ c (osl s) f) : sProp 𝕄) ⊢ iprop(∃ f : Buf (Elt F) ((c : Thread nD τ).loc cc0_scoped11), ((c : Thread nD τ).loc cc0_scoped11) ↦{fullShare} f) :=
  (of_eq (o_slots c).symm).trans (slots_close ((c : Thread nD τ).loc cc0_scoped11) slotsO slotsO_disjoint slotsO_cover f₀)
theorem h_open : iprop(∃ f : Buf (Elt F) ((c : Thread nD τ).loc cc0_scoped13), ((c : Thread nD τ).loc cc0_scoped13) ↦{fullShare} f) ⊢ (bigSep Finset.univ fun s => iprop(∃ f : Con (F := F) c (hsl s), at_ c (hsl s) f) : sProp 𝕄) :=
  (slots_open ((c : Thread nD τ).loc cc0_scoped13) slotsO slotsO_disjoint slotsO_cover).trans (of_eq (h_slots c))
theorem h_close (f₀ : Buf (Elt F) ((c : Thread nD τ).loc cc0_scoped13)) : (bigSep Finset.univ fun s => iprop(∃ f : Con (F := F) c (hsl s), at_ c (hsl s) f) : sProp 𝕄) ⊢ iprop(∃ f : Buf (Elt F) ((c : Thread nD τ).loc cc0_scoped13), ((c : Thread nD τ).loc cc0_scoped13) ↦{fullShare} f) :=
  (of_eq (h_slots c).symm).trans (slots_close ((c : Thread nD τ).loc cc0_scoped13) slotsO slotsO_disjoint slotsO_cover f₀)
theorem wa_open : iprop(∃ f : Buf (Elt F) ((c : Thread nD τ).loc cc0_scoped6), ((c : Thread nD τ).loc cc0_scoped6) ↦{fullShare} f) ⊢ (iprop((∃ f : Con (F := F) c (wasl 0), at_ c (wasl 0) f) ∗ ∃ f : Con (F := F) c (wasl 1), at_ c (wasl 1) f) : sProp 𝕄) :=
  (slots_open ((c : Thread nD τ).loc cc0_scoped6) slotsW slotsW_disjoint slotsW_cover).trans (of_eq ((wa_slots c).trans (two_of _)))
theorem wa_close (f₀ : Buf (Elt F) ((c : Thread nD τ).loc cc0_scoped6)) : (iprop((∃ f : Con (F := F) c (wasl 0), at_ c (wasl 0) f) ∗ ∃ f : Con (F := F) c (wasl 1), at_ c (wasl 1) f) : sProp 𝕄) ⊢ iprop(∃ f : Buf (Elt F) ((c : Thread nD τ).loc cc0_scoped6), ((c : Thread nD τ).loc cc0_scoped6) ↦{fullShare} f) :=
  (of_eq ((wa_slots c).trans (two_of _)).symm).trans (slots_close ((c : Thread nD τ).loc cc0_scoped6) slotsW slotsW_disjoint slotsW_cover f₀)
theorem wb_open : iprop(∃ f : Buf (Elt F) ((c : Thread nD τ).loc cc0_scoped8), ((c : Thread nD τ).loc cc0_scoped8) ↦{fullShare} f) ⊢ (iprop((∃ f : Con (F := F) c (wbsl 0), at_ c (wbsl 0) f) ∗ ∃ f : Con (F := F) c (wbsl 1), at_ c (wbsl 1) f) : sProp 𝕄) :=
  (slots_open ((c : Thread nD τ).loc cc0_scoped8) slotsW slotsW_disjoint slotsW_cover).trans (of_eq ((wb_slots c).trans (two_of _)))
theorem wb_close (f₀ : Buf (Elt F) ((c : Thread nD τ).loc cc0_scoped8)) : (iprop((∃ f : Con (F := F) c (wbsl 0), at_ c (wbsl 0) f) ∗ ∃ f : Con (F := F) c (wbsl 1), at_ c (wbsl 1) f) : sProp 𝕄) ⊢ iprop(∃ f : Buf (Elt F) ((c : Thread nD τ).loc cc0_scoped8), ((c : Thread nD τ).loc cc0_scoped8) ↦{fullShare} f) :=
  (of_eq ((wb_slots c).trans (two_of _)).symm).trans (slots_close ((c : Thread nD τ).loc cc0_scoped8) slotsW slotsW_disjoint slotsW_cover f₀)

end Rings

end Cert.Proof.Outproj

end
-- ==== Proof.Run.lean ====
/-
  The run of the whole program: the pipeline's buffers and semaphores as the launch hands them out, the body run between
  them, and what the program leaves: its arguments as they were and its two results whole.
-/
module

public import proofs.«01_k».proof.Proof.Body
public import proofs.«01_k».proof.Proof.Split
public import proofs.«01_k».proof.Proof.Gen.KernelIdeal.Frame

@[expose] public section

set_option maxRecDepth 16384
set_option maxHeartbeats 2000000

noncomputable section

namespace Cert.Proof.Outproj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## What the launch hands out -/

/-- The buffers the pipeline reads, -/
def readSet : Finset (Ref sig .tc) := {main_v0, main_arg1, main_arg2, main_arg3, main_v2}
/-- and those it writes. -/
def writtenSet : Finset (Ref sig .tc) := {main_v3_0, main_v3_1}
theorem readSet_sub : readSet ⊆ Pipeline.restRefs sig cfg0.spec := by decide
theorem writtenSet_sub : writtenSet ⊆ Pipeline.restRefs sig cfg0.spec \ readSet := by decide

/-- The two results. -/
abbrev outOf (c : Dev nD) : Con (F := F) c oM := outAll (V m c main_v0) (V m c main_arg1) (V m c main_arg2) (V m c main_arg3)
abbrev normOf (c : Dev nD) : Con (F := F) c hM := normAll (V m c main_v0) (V m c main_arg1) (V m c main_arg2) (V m c main_arg3) (V m c main_v2)
/-- The buffers after the run. -/
def after (c : Dev nD) : (b : Ref sig .tc) → Buf (Elt F) ((c.tc : Thread nD τ).loc b) :=
  Function.update (Function.update (V m c) main_v3_0 (outOf m c)) main_v3_1 (normOf m c)

theorem after_out (c : Dev nD) : after m c main_v3_0 = outOf m c := by
  unfold after; rw [Function.update_of_ne (show main_v3_0 ≠ main_v3_1 by decide), Function.update_self]
theorem after_norm (c : Dev nD) : after m c main_v3_1 = normOf m c := by
  unfold after; rw [Function.update_self]

/-- The kernel's semaphores: three or two of each ring, and the one of the scale's copy. -/
abbrev sems : Fin 18 → SemLoc sig := fun j => (![SemLoc.dma (cx 0).sem, SemLoc.dma (cx 1).sem, SemLoc.dma (cx 2).sem,
  SemLoc.dma (cma 0).sem, SemLoc.dma (cma 1).sem, SemLoc.dma (cma 2).sem, SemLoc.dma (cmb 0).sem, SemLoc.dma (cmb 1).sem, SemLoc.dma (cmb 2).sem,
  SemLoc.dma (cwa 0).sem, SemLoc.dma (cwa 1).sem, SemLoc.dma (cwb 0).sem, SemLoc.dma (cwb 1).sem,
  SemLoc.dma (co 0).sem, SemLoc.dma (co 1).sem, SemLoc.dma (ch 0).sem, SemLoc.dma (ch 1).sem, SemLoc.dma cc0_scoped15.sem] : Fin 18 → SemLoc sig) j
theorem ownSemFacts : Pipeline.OwnSemFacts cfg0.spec sems := by decide

theorem sems_eq (c : Dev nD) :
    (Pipeline.ownSems0 (Ix := Unit) (Name := ℕ) (U := Pipeline.UD sig nD τ) (Lvl := ℕ) (Val := Elt F) (τ := τ) sems c : sProp 𝕄)
      = iprop(zero_ c (cx 0) ∗ zero_ c (cx 1) ∗ zero_ c (cx 2) ∗ zero_ c (cma 0) ∗ zero_ c (cma 1) ∗ zero_ c (cma 2)
          ∗ zero_ c (cmb 0) ∗ zero_ c (cmb 1) ∗ zero_ c (cmb 2) ∗ zero_ c (cwa 0) ∗ zero_ c (cwa 1) ∗ zero_ c (cwb 0) ∗ zero_ c (cwb 1)
          ∗ zero_ c (co 0) ∗ zero_ c (co 1) ∗ zero_ c (ch 0) ∗ zero_ c (ch 1) ∗ zero_ c cc0_scoped15) := by
  rw [Pipeline.ownSems0_eq_of_list c sems [0, 1, 2, 3, 4, 5, 6, 7, 8, 9, 10, 11, 12, 13, 14, 15, 16, 17] (by decide) (by decide)]; rfl

theorem read_eq (c : Dev nD) :
    (bigSep readSet (fun b => ((c : Thread nD τ).loc b) ↦{fullShare} V m c b) : sProp 𝕄)
      = iprop((((c : Thread nD τ).loc main_v0) ↦{fullShare} V m c main_v0) ∗ (((c : Thread nD τ).loc main_arg1) ↦{fullShare} V m c main_arg1)
          ∗ (((c : Thread nD τ).loc main_arg2) ↦{fullShare} V m c main_arg2) ∗ (((c : Thread nD τ).loc main_arg3) ↦{fullShare} V m c main_arg3)
          ∗ (((c : Thread nD τ).loc main_v2) ↦{fullShare} V m c main_v2)) := by
  rw [BI.bigSep_eq_bigSepL_of_eq [main_v0, main_arg1, main_arg2, main_arg3, main_v2] (by decide) (by decide)]; rfl

theorem written_eq (c : Dev nD) (W : (b : Ref sig .tc) → Buf (Elt F) ((c.tc : Thread nD τ).loc b)) :
    (Pipeline.routed writtenSet c W : sProp 𝕄)
      = iprop((((c : Thread nD τ).loc main_v3_0) ↦{fullShare} W main_v3_0) ∗ (((c : Thread nD τ).loc main_v3_1) ↦{fullShare} W main_v3_1)) := by
  unfold Pipeline.routed
  rw [BI.bigSep_eq_bigSepL_of_eq [main_v3_0, main_v3_1] (by decide) (by decide)]; rfl

theorem gR_set : gR.view.set = Finset.univ := View.set_whole _
theorem gM_set : gM.view.set = Finset.univ := View.set_whole _
/-- The scale's staging buffer, by either name, -/
theorem g_whole (c : Dev nD) : iprop(∃ f : Buf (Elt F) ((c : Thread nD τ).loc cc0_scoped10), ((c : Thread nD τ).loc cc0_scoped10) ↦{fullShare} f)
    = (iprop(∃ f : Con (F := F) c gR, at_ c gR f) : sProp 𝕄) := by
  unfold at_; rw [gR_set]
/-- and the scale itself. -/
theorem gM_whole (c : Dev nD) (G : Con (F := F) c gM) : (((c : Thread nD τ).loc main_v2) ↦{fullShare} G : sProp 𝕄) = at_ c gM G := by
  unfold at_; rw [gM_set]

/-! ## The pipeline's pieces from the launch's, and back -/

/-- What the pipeline leaves alone: the generator's state, the second slot of each half of the weights. -/
def aside (c : Dev nD) : sProp 𝕄 :=
  iprop((∃ r, prngReg c r) ∗ ((∃ f, at_ c (wasl 1) f) ∗ zero_ c (cwa 1)) ∗ (∃ f, at_ c (wbsl 1) f) ∗ zero_ c (cwb 1))

/-- The launch's buffers, the results' at contents `W`. -/
abbrev holds (c : Dev nD) (W : (c : Dev nD) → (b : Ref sig .tc) → Buf (Elt F) ((c.tc : Thread nD τ).loc b)) : sProp 𝕄 :=
  Pipeline.ΦDRG sems cfg0.spec readSet writtenSet (V m) W c

theorem enter (c : Dev nD) :
    iprop(holds m c (V m) ∗ ∃ W, owes (c : Thread nD τ) 0 W)
      ⊢ (iprop(start c (V m c main_v0) (V m c main_arg1) (V m c main_arg2) (V m c main_arg3) (V m c main_v2) (V m c main_v3_0) (V m c main_v3_1)
          ∗ aside c) : sProp 𝕄) := by
  unfold holds
  rw [Pipeline.ΦDRG_eq, scopedRest0_eq, sems_eq, read_eq, written_eq, x_blocks, ma_blocks, mb_blocks, w_halves, gM_whole, o_blocks, h_blocks, g_whole]
  unfold start aside Ring.At₀ Ring.AtB₀
  rw [free_three, free_three, free_three]
  rw [show (oFree (F := F) c) = Ring.free (fun s => zero_ c (co s)) (fun s f => at_ c (osl s) f) from rfl,
    show (hFree (F := F) c) = Ring.free (fun s => zero_ c (ch s)) (fun s f => at_ c (hsl s) f) from rfl, free_two, free_two]
  iintro ⟨⟨⟨Hs0, Hs2, Hs4, Hs6, Hs8, Hs10, Hs11, Hs13⟩, Hp,
    ⟨x0, x1, x2, a0, a1, a2, b0, b1, b2, wa0, wa1, wb0, wb1, o0, o1, h0, h1, g0⟩, ⟨HX, HMA, HMB, ⟨HWt, HWb⟩, HG⟩, HO, HH⟩, HW⟩
  ihave Hs6 := (wa_open c) $$ Hs6
  ihave Hs8 := (wb_open c) $$ Hs8
  icases Hs6 with ⟨A0, A1⟩
  icases Hs8 with ⟨B0, B1⟩
  isplitr [Hp A1 wa1 B1 wb1]
  · isplitl [HW]; · iexact HW
    isplitl [HX x0 x1 x2 Hs0]
    · isplitl [HX]; · iexact HX
      isplitl [x0 x1 x2]
      · isplitl [x0]; · iexact x0
        isplitl [x1]; · iexact x1
        iexact x2
      iapply (x_open c); iexact Hs0
    isplitl [HMA a0 a1 a2 Hs2]
    · isplitl [HMA]; · iexact HMA
      isplitl [a0 a1 a2]
      · isplitl [a0]; · iexact a0
        isplitl [a1]; · iexact a1
        iexact a2
      iapply (ma_open c); iexact Hs2
    isplitl [HMB b0 b1 b2 Hs4]
    · isplitl [HMB]; · iexact HMB
      isplitl [b0 b1 b2]
      · isplitl [b0]; · iexact b0
        isplitl [b1]; · iexact b1
        iexact b2
      iapply (mb_open c); iexact Hs4
    isplitl [A0 HWt wa0 B0 HWb wb0]
    · isplitl [A0]; · iexact A0
      isplitl [HWt]; · iexact HWt
      isplitl [wa0]; · iexact wa0
      isplitl [B0]; · iexact B0
      isplitl [HWb]; · iexact HWb
      iexact wb0
    isplitl [HG Hs10 g0]
    · isplitl [HG]; · iexact HG
      isplitl [Hs10]; · iexact Hs10
      iexact g0
    isplitl [HO o0 o1 Hs11]
    · isplitl [HO]; · iexact HO
      isplitl [o0 o1]
      · isplitl [o0]; · iexact o0
        iexact o1
      iapply (o_open c); iexact Hs11
    isplitl [HH]; · iexact HH
    isplitl [h0 h1]
    · isplitl [h0]; · iexact h0
      iexact h1
    iapply (h_open c); iexact Hs13
  · isplitl [Hp]; · iexact Hp
    isplitl [A1 wa1]
    · isplitl [A1]; · iexact A1
      iexact wa1
    isplitl [B1]; · iexact B1
    iexact wb1

theorem leave (c : Dev nD) :
    (iprop(finish c (V m c main_v0) (V m c main_arg1) (V m c main_arg2) (V m c main_arg3) (V m c main_v2) ∗ aside c) : sProp 𝕄)
      ⊢ iprop(holds m c (after m) ∗ ∃ W, owes (c : Thread nD τ) 0 W) := by
  unfold holds
  rw [Pipeline.ΦDRG_eq, scopedRest0_eq, sems_eq, read_eq, written_eq, after_out, after_norm, x_blocks, ma_blocks, mb_blocks, w_halves, gM_whole, o_blocks, h_blocks, g_whole]
  unfold finish aside Ring.At₀ Ring.AtBEnd
  rw [free_three, free_three, free_three]
  rw [show (oFree (F := F) c) = Ring.free (fun s => zero_ c (co s)) (fun s f => at_ c (osl s) f) from rfl,
    show (hFree (F := F) c) = Ring.free (fun s => zero_ c (ch s)) (fun s f => at_ c (hsl s) f) from rfl, free_two, free_two]
  iintro ⟨⟨HW, ⟨HX, ⟨x0, x1, x2⟩, Hs0⟩, ⟨HMA, ⟨a0, a1, a2⟩, Hs2⟩, ⟨HMB, ⟨b0, b1, b2⟩, Hs4⟩, ⟨A0, HWt, wa0, B0, HWb, wb0⟩,
    ⟨HG, Hs10, g0⟩, ⟨HO, ⟨o0, o1⟩, Hs11⟩, HH, ⟨h0, h1⟩, Hs13⟩, Hp, ⟨A1, wa1⟩, B1, wb1⟩
  ihave Hs6 := (wa_close c (m _)) $$ [A0 A1]
  · isplitl [A0]; · iexact A0
    iexact A1
  ihave Hs8 := (wb_close c (m _)) $$ [B0 B1]
  · isplitl [B0]; · iexact B0
    iexact B1
  isplitr [HW]
  · isplitl [Hs0 Hs2 Hs4 Hs6 Hs8 Hs10 Hs11 Hs13]
    · isplitl [Hs0]; · iapply (x_close c (m _)); iexact Hs0
      isplitl [Hs2]; · iapply (ma_close c (m _)); iexact Hs2
      isplitl [Hs4]; · iapply (mb_close c (m _)); iexact Hs4
      isplitl [Hs6]; · iexact Hs6
      isplitl [Hs8]; · iexact Hs8
      isplitl [Hs10]; · iexact Hs10
      isplitl [Hs11]; · iapply (o_close c (m _)); iexact Hs11
      iapply (h_close c (m _)); iexact Hs13
    isplitl [Hp]; · iexact Hp
    isplitl [x0 x1 x2 a0 a1 a2 b0 b1 b2 wa0 wa1 wb0 wb1 o0 o1 h0 h1 g0]
    · isplitl [x0]; · iexact x0
      isplitl [x1]; · iexact x1
      isplitl [x2]; · iexact x2
      isplitl [a0]; · iexact a0
      isplitl [a1]; · iexact a1
      isplitl [a2]; · iexact a2
      isplitl [b0]; · iexact b0
      isplitl [b1]; · iexact b1
      isplitl [b2]; · iexact b2
      isplitl [wa0]; · iexact wa0
      isplitl [wa1]; · iexact wa1
      isplitl [wb0]; · iexact wb0
      isplitl [wb1]; · iexact wb1
      isplitl [o0]; · iexact o0
      isplitl [o1]; · iexact o1
      isplitl [h0]; · iexact h0
      isplitl [h1]; · iexact h1
      iexact g0
    isplitl [HX HMA HMB HWt HWb HG]
    · isplitl [HX]; · iexact HX
      isplitl [HMA]; · iexact HMA
      isplitl [HMB]; · iexact HMB
      isplitl [HWt HWb]
      · isplitl [HWt]; · iexact HWt
        iexact HWb
      iexact HG
    isplitl [HO]; · iexact HO
    iexact HH
  · iexact HW

/-! ## The body between them -/

/-- The proof data of the one call: before its one point everything as launched, after it the results written. -/
def dats (_ : Fin 1) (c : Dev nD) : Dat τ (Elt F) Unit ℕ (Pipeline.UD sig nD τ) ℕ cfg0 c where
  A w := V m c (Pipeline.arrRef cfg0.spec w)
  after w _ := w.elim0
  Φ t := if t.val = 0 then holds m c (V m) else holds m c (after m)
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem owes_eq (c : Dev nD) (t : Fin (cfg0.N + 1)) : (dats m 0 c).owesAt () t ⊢ (iprop(∃ W, owes (c : Thread nD τ) 0 W) : sProp 𝕄) := by
  unfold Dat.owesAt Pipeline.owesWithin
  rw [show (dats m 0 c).owed t = 0 from rfl]
  iintro ⟨%W, -, HW⟩
  iexists W; iexact HW
theorem owes_back (c : Dev nD) (t : Fin (cfg0.N + 1)) : (iprop(∃ W, owes (c : Thread nD τ) 0 W) : sProp 𝕄) ⊢ (dats m 0 c).owesAt () t := by
  unfold Dat.owesAt Pipeline.owesWithin
  rw [show (dats m 0 c).owed t = 0 from rfl]
  iintro ⟨%W, HW⟩
  iexists W
  isplitr; · ipureintro; exact fun _ _ => Or.inl trivial
  iexact HW

/-- The one point, with anything else held beside it. -/
theorem body_sound (c : Dev nD) (t : Fin cfg0.N) (R : sProp 𝕄) :
    iprop((dats m 0 c).Φ t.castSucc ∗ (dats m 0 c).owesAt () t.castSucc ∗ R)
      ⊢ wp frame (wpE (defs₀ (F := F)) 𝒱₀ (c : Thread nD τ) none) Set.univ (bodyAt0 t)
          (fun _ => iprop((dats m 0 c).Φ t.succ ∗ (dats m 0 c).owesAt () t.succ ∗ R)) := by
  have ht := fin_N0 t
  subst ht
  have e0 : (dats m 0 c).Φ t0_0.castSucc = holds m c (V m) := by dsimp only [dats]; exact if_pos rfl
  have e1 : (dats m 0 c).Φ t0_0.succ = holds m c (after m) := by dsimp only [dats]; exact if_neg (Nat.succ_ne_zero _)
  have hpost : (iprop(finish c (V m c main_v0) (V m c main_arg1) (V m c main_arg2) (V m c main_arg3) (V m c main_v2) ∗ aside c ∗ R) : sProp 𝕄)
      ⊢ iprop((dats m 0 c).Φ t0_0.succ ∗ (dats m 0 c).owesAt () t0_0.succ ∗ R) := by
    rw [e1]
    iintro ⟨Hf, Ha, HR⟩
    ihave H := (leave m c) $$ [Hf Ha]
    · isplitl [Hf]; · iexact Hf
      iexact Ha
    icases H with ⟨H, HW⟩
    isplitl [H]; · iexact H
    isplitl [HW]; · iapply (owes_back m c t0_0.succ); iexact HW
    iexact HR
  refine .trans ?_ (wp_mono frame (wpE (defs₀ (F := F)) 𝒱₀ (c : Thread nD τ) none) Set.univ (fun _ => hpost))
  refine .trans ?_ (wp_frame_r frame (wpE (defs₀ (F := F)) 𝒱₀ (c : Thread nD τ) none) Set.univ)
  rw [e0]
  iintro ⟨H, HW, HR⟩
  ihave HW := (owes_eq m c t0_0.castSucc) $$ HW
  ihave H2 := (enter m c) $$ [H HW]
  · isplitl [H]; · iexact H
    iexact HW
  icases H2 with ⟨Hs, Ha⟩
  isplitl [Hs]; · iapply (body_run c _ _ _ _ _ _ _ t0_0); iexact Hs
  isplitl [Ha]; · iexact Ha
  iexact HR

theorem body_obligation (c : Dev nD) : BodyObligation (dats (F := F) m 0 c) (defs₀ (F := F)) 𝒱₀ () Set.univ := fun t => by
  rw [defs₀_row]
  refine (body_sound m c t _).trans (wp_mono frame _ Set.univ fun _ => of_eq (congrArg (fun B => iprop((dats m 0 c).Φ t.succ ∗ (dats m 0 c).owesAt () t.succ ∗ B)) ?_))
  exact bigSep_congr fun w _ => w.elim0

/-! ## The run -/

/-- @main up to the call. -/
theorem main_prefix : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_post : θ_run defs (onTc (τ := τ) (main (F := F))) (s₀ m ρ)
    (fun r => Pipeline.FramePostRG cfgs (dats m) 0 writtenSet (V m) (after m) r ∧ r.2.sem = fun _ => 0) :=
  Pipeline.θ_run_frame_dmaRG (Q' := _) cfgs (dats m) (0 : Fin 1) launch0 sems defs₀ 𝒱₀ ownSemFacts readSet writtenSet readSet_sub writtenSet_sub m ρ main
    (hbody := fun c => (body_obligation m c).loose) (hshare := fun c => (dats m 0 c).share_full fun _ => rfl)
    (howed := fun _ _ => rfl) (V := V m) (hmain := main_prefix m) (hA := fun _ w => w.elim0) (G := after m)
    (hin := fun c => of_eq (show _ = (dats m 0 c).Φ 0 by dsimp only [dats]; exact (if_pos rfl).symm))
    (hout := fun c => of_eq (show (dats m 0 c).Φ (Fin.last _) = _ by dsimp only [dats]; exact if_neg (by decide)))

/-- The run of the program: its arguments unchanged, its two results whole, every semaphore back at zero. -/
theorem run_main : θ_run defs (onTc (τ := τ) (main (F := F))) ⟨m, fun _ => 0, ρ⟩ (fun r => (∀ c : Dev nD,
      r.2.mem ((c.tc : Thread nD τ).loc main_v3_0) = outOf m c
      ∧ r.2.mem ((c.tc : Thread nD τ).loc main_v3_1) = normOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  have kept (r) (h : Pipeline.FramePostRG cfgs (dats m) 0 writtenSet (V m) (after m) r) (c : Dev nD) (b : Ref sig .tc)
      (hb : b ∈ Pipeline.restRefs sig cfg0.spec \ writtenSet) : r.2.mem ((c.tc : Thread nD τ).loc b) = V m c b := (h.toR c).2 b hb
  (θ_run defs _ _).mono (fun r h => ⟨fun c =>
    ⟨(h.1.written c (b := main_v3_0) (by decide)).trans (after_out m c), (h.1.written c (b := main_v3_1) (by decide)).trans (after_norm m c),
      (kept r h.1 c main_arg0 (Finset.mem_sdiff.mpr ⟨Pipeline.mem_restRefs_of main_arg0 (by decide) (by decide), by decide⟩)).trans (V_main_arg0 m c),
      (kept r h.1 c main_arg1 (Finset.mem_sdiff.mpr ⟨Pipeline.mem_restRefs_of main_arg1 (by decide) (by decide), by decide⟩)).trans (V_main_arg1 m c),
      (kept r h.1 c main_arg2 (Finset.mem_sdiff.mpr ⟨Pipeline.mem_restRefs_of main_arg2 (by decide) (by decide), by decide⟩)).trans (V_main_arg2 m c),
      (kept r h.1 c main_arg3 (Finset.mem_sdiff.mpr ⟨Pipeline.mem_restRefs_of main_arg3 (by decide) (by decide), by decide⟩)).trans (V_main_arg3 m c),
      (kept r h.1 c main_arg4 (Finset.mem_sdiff.mpr ⟨Pipeline.mem_restRefs_of main_arg4 (by decide) (by decide), by decide⟩)).trans (V_main_arg4 m c)⟩, h.2⟩) (run_post m ρ)

end Cert.Proof.Outproj

end
-- ==== Proof.Value.lean ====
/-
  The values of the output projection over the extended reals: the kernel's two results and the reference's are the same
  sums. The kernel adds two products of 1024 terms where the reference has one of 2048.
-/
module

public import proofs.«01_k».proof.Defs
public import proofs.«01_k».proof.Proof.Run
public import proofs.«01_k».proof.Proof.Gen.ReferenceIdeal.Run
public import Idealize.ShloMosaic.Lib.Pointwise

@[expose] public section

set_option maxRecDepth 16384

noncomputable section

namespace Cert.Proof.Outproj

open Idealize.ShloMosaic Idealize.ShloMosaic.TcCoe Idealize.ShloMosaic.Tactic Idealize.ShloMosaic.StableHlo

/-! ## The reference's two results, as functions of its arguments -/

section Reference

open Cert.ReferenceIdeal Cert.ReferenceIdeal.Gen

/-- The reference's new residual stream. -/
def refOut (x : S1x8192x2048.Idx → EReal) (a b : S8192x1024.Idx → EReal) (w : S2048x2048.Idx → EReal) : S8192x2048.Idx → EReal :=
  addf (F := Ideal) (φ := .f32) (shapeCast S8192x2048 x shapeCasts_S1x8192x2048_S8192x2048)
    (Host.dotGeneral (F := Ideal) (φ₁ := .f32) (φ₂ := .f32) dot_S8192x2048_S2048x2048_S8192x2048_1_0_0_1_n_n none
      (concatenate S8192x2048 1 [⟨S8192x1024, extf (F := Ideal) .f32 (φ := .bf16) a bitsLt_bf16_f32⟩, ⟨S8192x1024, extf (F := Ideal) .f32 (φ := .bf16) b bitsLt_bf16_f32⟩]
        concatenates_S8192x1024_S8192x1024_S8192x2048_d1)
      (extf (F := Ideal) .f32 (φ := .bf16) w bitsLt_bf16_f32))

/-- The reference's normalised copy of a residual stream. -/
def refNorm (o : S8192x2048.Idx → EReal) (g : S1x2048.Idx → EReal) : S8192x2048.Idx → EReal :=
  truncf (F := Ideal) (φ := .f32) .bf16 (mulf (F := Ideal) (φ := .f32) (mulf (F := Ideal) (φ := .f32) o
    (broadcastInDim S8192x2048 ![0, 1] bcast_S8192x1_S8192x2048_0_1 (Host.rsqrt (F := Ideal) (φ := .f32) (addf (F := Ideal) (φ := .f32)
      (Host.divf (F := Ideal) (φ := .f32) (broadcastInDim S8192x1 ![0] bcast_S8192_S8192x1_0
        (Host.reduceAdd (F := Ideal) (φ := .f32) (mulf (F := Ideal) (φ := .f32) o o) (constant S_ .f32 0x00000000#32) reducesTo_S8192x2048_S8192_d1 h_S_))
        (broadcastInDim S8192x1 ![] bcast_S_S8192x1 (constant (F := Ideal) S_ .f32 0x45000000#32)))
      (broadcastInDim S8192x1 ![] bcast_S_S8192x1 (constant (F := Ideal) S_ .f32 0x358637BD#32))))))
    (broadcastInDim S8192x2048 ![0, 1] bcast_S1x2048_S8192x2048_0_1 (broadcastInDim S1x2048 ![1] bcast_S2048_S1x2048_1
      (shapeCast S2048 g shapeCasts_S1x2048_S2048)))) bitsLt_bf16_f32

end Reference

open Cert.KernelIdeal Cert.KernelIdeal.Gen

/-! ## The kernel's tiles -/

section Tiles

variable (a b : S256x1024.Idx → EReal) (u l : S1x1024x2048.Idx → EReal) (x : S256x2048.Idx → EReal) (g : S1x2048.Idx → EReal)

/-- A tile's new residual stream: the old one's element and two sums of 1024 products. -/
theorem pay1_value (i : S256x2048.Idx) :
    k0_pay1 (F := Ideal) a u b l x i = x i + (∑ k : Fin 1024, a (ix2 (i 0) k) * u (ix3 0 k (i 1)) + ∑ k : Fin 1024, b (ix2 (i 0) k) * l (ix3 0 k (i 1))) := by
  unfold k0_pay1
  pointwise

/-- A tile's normalised copy: each element of the new stream over the root of its row's mean square, times the gain. -/
theorem pay2_value (i : S256x2048.Idx) :
    k0_pay2 (F := Ideal) a u b l x g i = k0_pay1 (F := Ideal) a u b l x i
      * Ideal.rsqrt (Ideal.div (∑ k : Fin 2048, k0_pay1 (F := Ideal) a u b l x (ix2 (i 0) k) * k0_pay1 (F := Ideal) a u b l x (ix2 (i 0) k)) (Ideal.ofBits .f32 0x45000000#32)
          + Ideal.ofBits .f32 0x358637BD#32) * g (ix2 0 (i 1)) := by
  unfold k0_pay2
  generalize k0_pay1 (F := Ideal) a u b l x = p
  pointwise

end Tiles

/-! ## The weights' halves -/

/-- Row `k` of the upper half is row `k` of the weights; -/
theorem upper_value (W : S2048x2048.Idx → EReal) (k : Fin 1024) (c : Fin 2048) :
    upper (F := Ideal) W (ix3 0 k c) = W (ix2 ⟨k.val, by omega⟩ c) := by
  unfold upper
  pointwise
  refine congrArg W (funext (Fin.forall_fin_two.mpr ⟨Fin.ext ?_, Fin.ext ?_⟩))
  · show 0 + 1 * k.val = k.val
    omega
  · show 0 + 1 * c.val = c.val
    omega

/-- row `k` of the lower half is row `1024 + k`. -/
theorem lower_value (W : S2048x2048.Idx → EReal) (k : Fin 1024) (c : Fin 2048) :
    lower (F := Ideal) W (ix3 0 k c) = W (ix2 ⟨1024 + k.val, by omega⟩ c) := by
  unfold lower
  pointwise
  refine congrArg W (funext (Fin.forall_fin_two.mpr ⟨Fin.ext ?_, Fin.ext ?_⟩))
  · show 1024 + 1 * k.val = 1024 + k.val
    omega
  · show 0 + 1 * c.val = c.val
    omega

/-! ## The whole results -/

section Whole

variable (x : S1x8192x2048.Idx → EReal) (X : S8192x2048.Idx → EReal) (A B : S8192x1024.Idx → EReal) (W : S2048x2048.Idx → EReal)
  (g G : S1x2048.Idx → EReal)

/-- Row `256 j + r` of the new residual stream, by its tile. -/
theorem outAll_row (j : Fin 32) (r : Fin 256) (c : Fin 2048) :
    outAll (F := Ideal) X A B W (ix2 ⟨256 * j.val + r.val, by omega⟩ c) = outTile (F := Ideal) X A B W j (ix2 r c) := by
  rw [← outAll_emb]
  refine congrArg _ (funext (Fin.forall_fin_two.mpr ⟨Fin.ext ?_, Fin.ext ?_⟩))
  · show 256 * j.val + r.val = 256 * j.val + 1 * r.val
    omega
  · show c.val = 0 + 1 * c.val
    omega

theorem normAll_row (j : Fin 32) (r : Fin 256) (c : Fin 2048) :
    normAll (F := Ideal) X A B W G (ix2 ⟨256 * j.val + r.val, by omega⟩ c) = normTile (F := Ideal) X A B W G j (ix2 r c) := by
  rw [← normAll_emb]
  refine congrArg _ (funext (Fin.forall_fin_two.mpr ⟨Fin.ext ?_, Fin.ext ?_⟩))
  · show 256 * j.val + r.val = 256 * j.val + 1 * r.val
    omega
  · show c.val = 0 + 1 * c.val
    omega

theorem wideTile_row (j : Fin 32) (r : Fin 256) (c : Fin 2048) : wideTile X j (ix2 r c) = X (ix2 ⟨256 * j.val + r.val, by omega⟩ c) := by
  refine congrArg X (funext (Fin.forall_fin_two.mpr ⟨Fin.ext ?_, Fin.ext ?_⟩))
  · show 256 * j.val + 1 * r.val = 256 * j.val + r.val
    omega
  · show 0 + 1 * c.val = c.val
    omega

theorem narrowTile_row (j : Fin 32) (r : Fin 256) (k : Fin 1024) : narrowTile A j (ix2 r k) = A (ix2 ⟨256 * j.val + r.val, by omega⟩ k) := by
  refine congrArg A (funext (Fin.forall_fin_two.mpr ⟨Fin.ext ?_, Fin.ext ?_⟩))
  · show 256 * j.val + 1 * r.val = 256 * j.val + r.val
    omega
  · show 0 + 1 * k.val = k.val
    omega

/-- A row of the stream lies in a tile. -/
theorem row_in_tile (r : Fin 8192) : ∃ (j : Fin 32) (q : Fin 256), r = ⟨256 * j.val + q.val, by omega⟩ :=
  ⟨⟨r.val / 256, by omega⟩, ⟨r.val % 256, by omega⟩, Fin.ext (Nat.div_add_mod r.val 256).symm⟩

/-- The kernel's new residual stream, element by element. -/
theorem outAll_value (r : Fin 8192) (c : Fin 2048) :
    outAll (F := Ideal) X A B W (ix2 r c) = X (ix2 r c)
      + (∑ k : Fin 1024, A (ix2 r k) * W (ix2 ⟨k.val, by omega⟩ c) + ∑ k : Fin 1024, B (ix2 r k) * W (ix2 ⟨1024 + k.val, by omega⟩ c)) := by
  obtain ⟨j, q, rfl⟩ := row_in_tile r
  rw [outAll_row]
  unfold outTile
  rw [pay1_value, wideTile_row]
  refine congrArg _ (congrArg₂ _ (Finset.sum_congr rfl fun k _ => ?_) (Finset.sum_congr rfl fun k _ => ?_))
  · exact congrArg₂ _ (narrowTile_row A j q k) (upper_value W k c)
  · exact congrArg₂ _ (narrowTile_row B j q k) (lower_value W k c)

/-- The kernel's normalised copy, element by element. -/
theorem normAll_value (r : Fin 8192) (c : Fin 2048) :
    normAll (F := Ideal) X A B W G (ix2 r c) = outAll (F := Ideal) X A B W (ix2 r c)
      * Ideal.rsqrt (Ideal.div (∑ k : Fin 2048, outAll (F := Ideal) X A B W (ix2 r k) * outAll (F := Ideal) X A B W (ix2 r k)) (Ideal.ofBits .f32 0x45000000#32)
          + Ideal.ofBits .f32 0x358637BD#32) * G (ix2 0 c) := by
  obtain ⟨j, q, rfl⟩ := row_in_tile r
  rw [normAll_row]
  simp only [outAll_row]
  unfold normTile
  rw [pay2_value]
  rfl

/-- The reference's new residual stream is the kernel's. -/
theorem refOut_eq (hX : X = shapeCast S8192x2048 x shapeCasts_S1x8192x2048_S8192x2048) : refOut x A B W = outAll (F := Ideal) X A B W := by
  subst hX
  funext y
  obtain ⟨r, c, rfl⟩ : ∃ (r : Fin 8192) (c : Fin 2048), y = ix2 r c := ⟨y 0, y 1, eq_ix2 y⟩
  rw [outAll_value]
  unfold refOut
  pointwise

/-- The reference's normalised copy is the kernel's. -/
theorem refNorm_eq (hG : G = broadcastInDim S1x2048 ![1] bcast_S2048_S1x2048_1 (shapeCast S2048 g shapeCasts_S1x2048_S2048)) :
    refNorm (outAll (F := Ideal) X A B W) g = normAll (F := Ideal) X A B W G := by
  subst hG
  funext y
  obtain ⟨r, c, rfl⟩ : ∃ (r : Fin 8192) (c : Fin 2048), y = ix2 r c := ⟨y 0, y 1, eq_ix2 y⟩
  rw [normAll_value]
  unfold refNorm
  generalize outAll (F := Ideal) X A B W = o
  pointwise

end Whole

/-! ## What the call finds -/

section Found

variable {F : FTy → Type} [FloatOps F] (m : (ℓ : Loc nD τ sig) → Buf (Elt F) ℓ)

theorem V_main_v0 (c : Dev nD) : V m c main_v0 = shapeCast S8192x2048 (m ((c.tc : Thread nD τ).loc main_arg0)) shapeCasts_S1x8192x2048_S8192x2048 := by
  show StableHlo.after hostOps0 (fun b => m (c, b)) (Proc.devRef .tc main_v0) = _
  after_results <;> rfl

theorem V_main_v2 (c : Dev nD) : V m c main_v2 = broadcastInDim S1x2048 ![1] bcast_S2048_S1x2048_1
    (shapeCast S2048 (m ((c.tc : Thread nD τ).loc main_arg4)) shapeCasts_S1x2048_S2048) := by
  show StableHlo.after hostOps0 (fun b => m (c, b)) (Proc.devRef .tc main_v2) = _
  after_results <;> rfl

end Found

/-- The reference's run, its results named by `refOut` and `refNorm`. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v6)
        = refOut (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v21)
        = refNorm (refOut (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3)))
            (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  Cert.ReferenceIdeal.Value.run (F := Ideal) m ρ

/-- The kernel and the reference, over the extended reals, from equal arguments end with equal results. -/
theorem algebraic : Cert.algebraic_KernelIdeal_ReferenceIdeal := by
  intro m g m' g' _ hargs
  refine ⟨outOf m, normOf m, ?_, ?_⟩
  · exact (θ_run _ _ _).mono (fun _ h => h.1) (run_main (F := Ideal) m g)
  · refine (θ_run _ _ _).mono (fun _ h c => ?_) (reference_run m' g')
    obtain ⟨h0, h1, hrest⟩ := h c
    obtain ⟨e0, e1, e2, e3, e4⟩ := hargs c
    have ho : refOut (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3)) = outOf m c := by
      rw [e0, e1, e2, e3]
      unfold outOf
      rw [V_main_arg1, V_main_arg2, V_main_arg3]
      exact refOut_eq _ _ _ _ _ (V_main_v0 m c)
    have hn : refNorm (outOf m c) (m' ((c.tc : Thread Cert.ReferenceIdeal.nD Cert.ReferenceIdeal.τ).loc Cert.ReferenceIdeal.main_arg4)) = normOf m c := by
      rw [e4]
      unfold outOf normOf
      exact refNorm_eq _ _ _ _ _ _ (V_main_v2 m c)
    exact ⟨h0.trans ho, (h1.trans (congrArg (fun o => refNorm o _) ho)).trans hn, hrest⟩

end Cert.Proof.Outproj

end
-- ==== Proof.UpValue.lean ====
/-
  The values of the gate and up projections over the extended reals: the activations array the kernel writes block by block
  is the reference's, and so is its copy of the down-projection's weights.
-/
module

public import proofs.«01_k».proof.Defs
public import proofs.«01_k».proof.Proof.Gen.UpIdeal.Value
public import proofs.«01_k».proof.Proof.Gen.UpReferenceIdeal.Run
public import Idealize.ShloMosaic.Lib.Pipeline.ValueKit

@[expose] public section

set_option maxRecDepth 16384

noncomputable section

namespace Cert.Proof.Up

open Idealize.ShloMosaic Idealize.ShloMosaic.TcCoe Idealize.ShloMosaic.Tactic Idealize.ShloMosaic.StableHlo

/-! ## The reference's two results, as functions of its arguments -/

section Reference

open Cert.UpReferenceIdeal Cert.UpReferenceIdeal.Gen

/-- One of the reference's two projections of the normalised rows. -/
def refDot (h : S8192x2048.Idx → EReal) (w : S1x2048x5632.Idx → EReal) : S8192x5632.Idx → EReal :=
  Host.dotGeneral (F := Ideal) (φ₁ := .f32) (φ₂ := .f32) dot_S8192x2048_S2048x5632_S8192x5632_1_0_0_1_n_n none
    (extf (F := Ideal) .f32 (φ := .bf16) h bitsLt_bf16_f32) (shapeCast S2048x5632 w shapeCasts_S1x2048x5632_S2048x5632)

/-- The reference's activations: `silu` of the gate projection times the up projection. -/
def refAct (h : S8192x2048.Idx → EReal) (g u : S1x2048x5632.Idx → EReal) : S8192x5632.Idx → EReal :=
  truncf (F := Ideal) (φ := .f32) .bf16 (mulf (F := Ideal) (φ := .f32) (mulf (F := Ideal) (φ := .f32) (refDot h g)
    (Host.divf (F := Ideal) (φ := .f32) (broadcastInDim S8192x5632 ![] bcast_S_S8192x5632 (constant (F := Ideal) S_ .f32 0x3F800000#32))
      (addf (F := Ideal) (φ := .f32) (broadcastInDim S8192x5632 ![] bcast_S_S8192x5632 (constant (F := Ideal) S_ .f32 0x3F800000#32))
        (Host.exp (F := Ideal) (φ := .f32) (Host.negf (F := Ideal) (φ := .f32) (refDot h g)))))) (refDot h u)) bitsLt_bf16_f32

/-- The reference's copy of the down-projection's weights. -/
def refWdb (w : S1x5632x2048.Idx → EReal) : S5632x2048.Idx → EReal :=
  truncf (F := Ideal) (φ := .f32) .bf16 (shapeCast S5632x2048 w shapeCasts_S1x5632x2048_S5632x2048) bitsLt_bf16_f32

/-- The reference's run, its results named by `refAct` and `refWdb`. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = refAct (m ((c.tc : Thread nD τ).loc main_arg0)) (m ((c.tc : Thread nD τ).loc main_arg1)) (m ((c.tc : Thread nD τ).loc main_arg2))
      ∧ r.2.mem ((c.tc : Thread nD τ).loc main_v9) = refWdb (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.UpReferenceIdeal.Value.run (F := Ideal) m ρ

end Reference

open Cert.UpIdeal Cert.UpIdeal.Gen

variable (m : (ℓ : Loc nD τ sig) → Buf (Elt Ideal) ℓ)

/-! ## The windows -/

/-- Where each window's block stands at grid point `t`: the row block moves fastest. -/
theorem idx : ∀ t : Fin cfg0.N, win0_0.index t = ![t.val % 4, 0] ∧ win0_1.index t = ![0, t.val / 4] ∧ win0_2.index t = ![0, t.val / 4]
    ∧ win0_3.index t = ![t.val, 0] ∧ win0_4.index t = ![t.val % 4, t.val / 4] ∧ win0_5.index t = ![t.val, 0] ∧ t.val / 4 < 11 ∧ t.val < 44 :=
  (by decide +kernel : ∀ t : Fin grid0.N, _)

theorem V_main_v0 (c : Dev nD) : V m c main_v0 = shapeCast S2048x5632 (m ((c.tc : Thread nD τ).loc main_arg1)) shapeCasts_S1x2048x5632_S2048x5632 := by
  show StableHlo.after hostOps0 (fun b => m (c, b)) (Proc.devRef .tc main_v0) = _
  after_results <;> rfl

theorem V_main_v1 (c : Dev nD) : V m c main_v1 = shapeCast S2048x5632 (m ((c.tc : Thread nD τ).loc main_arg2)) shapeCasts_S1x2048x5632_S2048x5632 := by
  show StableHlo.after hostOps0 (fun b => m (c, b)) (Proc.devRef .tc main_v1) = _
  after_results <;> rfl

theorem V_main_v2 (c : Dev nD) : V m c main_v2 = shapeCast S5632x2048 (m ((c.tc : Thread nD τ).loc main_arg3)) shapeCasts_S1x5632x2048_S5632x2048 := by
  show StableHlo.after hostOps0 (fun b => m (c, b)) (Proc.devRef .tc main_v2) = _
  after_results <;> rfl

/-! ## The two output arrays -/

/-- The logistic function, spelt out. -/
theorem logistic_eq (x : EReal) : Ideal.logistic x = Ideal.div 1 (1 + Ideal.exp (-x)) := rfl

/-- The left half of an activations block, at an index of it. -/
theorem piece_left (c : Dev nD) (t : Fin cfg0.N) (x : S2048x256.Idx) :
    k0_pay2 (F := Ideal) (View.ld (iblk m c 0 t) r0_1) (View.ld (iblk m c 1 t) r0_2) (View.ld (iblk m c 2 t) r0_2) x
      = refAct (m ((c.tc : Thread nD τ).loc main_arg0)) (m ((c.tc : Thread nD τ).loc main_arg1)) (m ((c.tc : Thread nD τ).loc main_arg2))
          (((cfg0.win 4).blk t).view.emb (r0_2.idx x)) := by
  pointwise [k0_pay2, refAct, refDot]
  rw [logistic_eq]
  blk_point [iblk, idx t]

/-- The right half of an activations block, at an index of it. -/
theorem piece_right (c : Dev nD) (t : Fin cfg0.N) (x : S2048x256.Idx) :
    k0_pay3 (F := Ideal) (View.ld (iblk m c 0 t) r0_1) (View.ld (iblk m c 1 t) r0_3) (View.ld (iblk m c 2 t) r0_3) x
      = refAct (m ((c.tc : Thread nD τ).loc main_arg0)) (m ((c.tc : Thread nD τ).loc main_arg1)) (m ((c.tc : Thread nD τ).loc main_arg2))
          (((cfg0.win 4).blk t).view.emb (r0_3.idx x)) := by
  pointwise [k0_pay3, refAct, refDot]
  rw [logistic_eq]
  blk_point [iblk, idx t]

/-- What a grid point leaves in its activations block. -/
theorem act_point (c : Dev nD) (t : Fin cfg0.N) (y : S2048x512.Idx) :
    out0_4 (F := Ideal) (iblk m c 0 t) (iblk m c 1 t) (iblk m c 2 t) (iblk m c 3 t) y
      = refAct (m ((c.tc : Thread nD τ).loc main_arg0)) (m ((c.tc : Thread nD τ).loc main_arg1)) (m ((c.tc : Thread nD τ).loc main_arg2))
          (((cfg0.win 4).blk t).view.emb y) := by
  unfold out0_4
  refine View.canon_apply_of_pieces (fun y => show Elt Ideal .bf16 from refAct (m ((c.tc : Thread nD τ).loc main_arg0)) (m ((c.tc : Thread nD τ).loc main_arg1))
    (m ((c.tc : Thread nD τ).loc main_arg2)) (((cfg0.win 4).blk t).view.emb y)) _ ?_ y (cover0_4 _ _ y)
  intro pc hpc
  rcases List.mem_cons.mp hpc with rfl | hpc
  · exact fun x => piece_right m c t x
  rcases List.mem_cons.mp hpc with rfl | hpc
  · exact fun x => piece_left m c t x
  nomatch hpc

/-- The activations after the run are the reference's. -/
theorem act_final (c : Dev nD) : (dats m 0 c).arrAt 4 cfg0.N
    = refAct (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  exact act_point m c t y

/-- What a grid point leaves in its slab of the weights' copy. -/
theorem wdb_point (c : Dev nD) (t : Fin cfg0.N) (y : S128x2048.Idx) :
    k0_pay1 (F := Ideal) (iblk m c 3 t) y = refWdb (m ((c.tc : Thread nD τ).loc main_arg3)) (((cfg0.win 5).blk t).view.emb y) := by
  pointwise [k0_pay1, refWdb]
  blk_point [iblk, idx t]

/-- The weights' copy after the run is the reference's. -/
theorem wdb_final (c : Dev nD) : (dats m 0 c).arrAt 5 cfg0.N = refWdb (m ((c.tc : Thread nD τ).loc main_arg3)) := by
  refine (dats m 0 c).arrAt_eq_of_covers 5 _ (by decide +kernel) fun t _ y => ?_
  blk_simp
  rw [after0_5]
  frame_out
  exact wdb_point m c t y

/-- The kernel and the reference, over the extended reals, from equal arguments end with equal results. -/
theorem algebraic : Cert.algebraic_UpIdeal_UpReferenceIdeal := by
  intro m g m' g' _ hargs
  refine ⟨fun c => (dats m 0 c).arrAt 4 cfg0.N, fun c => (dats m 0 c).arrAt 5 cfg0.N, Cert.UpIdeal.Value.run_blocks m g, ?_⟩
  refine (θ_run _ _ _).mono (fun _ h c => ?_) (reference_run m' g')
  obtain ⟨h0, h1, hrest⟩ := h c
  obtain ⟨e0, e1, e2, e3⟩ := hargs c
  refine ⟨h0.trans ?_, h1.trans ?_, hrest⟩
  · rw [e0, e1, e2]; exact (act_final m c).symm
  · rw [e3]; exact (wdb_final m c).symm

end Cert.Proof.Up

end
-- ==== Proof.DownBody.lean ====
/-
  The body of the down-projection at one grid point: it puts the point's column tile over its quarter of the output block, and
  at the last of a row block's four points normalises the whole block.
-/
module

public import proofs.«01_k».proof.Proof.Gen.DownIdeal.Skeleton
public import proofs.«01_k».proof.Proof.Gen.DownIdeal.Frame
public import Idealize.ShloMosaic.Lib.VecWindow

@[expose] public section

set_option maxRecDepth 16384

noncomputable section

namespace Cert.Proof.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The column tile of a grid point: the residual tile plus the product of the activations and the weight columns. -/
abbrev tile (act : Vec F S1024x5632 .bf16) (wd : Vec F S5632x512 .bf16) (x1 : Vec F S1024x512 .f32) : Vec F S1024x512 .f32 :=
  k0_pay1 x1 act wd

/-- The output block `Y` with tile `n` put over its columns. -/
def putTile (n : ℕ) (act : Vec F S1024x5632 .bf16) (wd : Vec F S5632x512 .bf16) (x1 : Vec F S1024x512 .f32) (Y : Vec F S1024x2048 .f32) :
    Vec F S1024x2048 .f32 :=
  VecWindow.put Y ![0, 512 * n] S1024x512.size (tile act wd x1)

/-- What the body leaves in the output block that it finds at `Y`, at a row block's point `n`. -/
def left (n : ℕ) (act : Vec F S1024x5632 .bf16) (wd : Vec F S5632x512 .bf16) (x1 : Vec F S1024x512 .f32) (g : Vec F S1x2048 .f32)
    (Y : Vec F S1024x2048 .f32) : Vec F S1024x2048 .f32 :=
  if n = 3 then k0_pay5 (putTile n act wd x1 Y) g else putTile n act wd x1 Y

set_option maxHeartbeats 2000000 in
/-- The body on whole staging memrefs, at the point whose conditions single out column tile `n`. -/
theorem sound_kernel (c : Dev nD) (E : Set ℕ) (i : grid0.Coords) (arg2 : Memref sig .tc .vmem S1024x5632 .bf16) (harg2 : arg2.IsWhole)
    (arg3 : Memref sig .tc .vmem S5632x512 .bf16) (harg3 : arg3.IsWhole) (arg4 : Memref sig .tc .vmem S1024x512 .f32) (harg4 : arg4.IsWhole)
    (arg5 : Memref sig .tc .vmem S1x2048 .f32) (harg5 : arg5.IsWhole) (arg6 : Memref sig .tc .vmem S1024x2048 .f32) (harg6 : arg6.IsWhole)
    (n : ℕ) (hn : n < 4) (h1 : k0_cond1 i = 1#1 ↔ n = 0) (h2 : k0_cond2 i = 1#1 ↔ n = 1) (h3 : k0_cond3 i = 1#1 ↔ n = 2)
    (h4 : k0_cond4 i = 1#1 ↔ n = 3) (h5 : k0_cond5 i = 1#1 ↔ n = 3)
    (act : Vec F S1024x5632 .bf16) (wd : Vec F S5632x512 .bf16) (x1 : Vec F S1024x512 .f32) (g : Vec F S1x2048 .f32) (Y : Vec F S1024x2048 .f32)
    (K : PUnit → sProp 𝕄) :
    iprop(owns (c : Thread nD τ) arg2 fullShare act ∗ owns (c : Thread nD τ) arg3 fullShare wd ∗ owns (c : Thread nD τ) arg4 fullShare x1
        ∗ owns (c : Thread nD τ) arg5 fullShare g ∗ owns (c : Thread nD τ) arg6 fullShare Y
        ∗ (iprop(owns (c : Thread nD τ) arg2 fullShare act ∗ owns (c : Thread nD τ) arg3 fullShare wd ∗ owns (c : Thread nD τ) arg4 fullShare x1
            ∗ owns (c : Thread nD τ) arg5 fullShare g ∗ owns (c : Thread nD τ) arg6 fullShare (left n act wd x1 g Y)) -∗ K ⟨⟩))
      ⊢ wp frame (wpE (defs₀ (F := F)) Variants.none c none) E
          (cc0_ffn_down i arg2 harg2 arg3 harg3 arg4 harg4 arg5 harg5 arg6 harg6) K := by
  simp only [cc0_ffn_down_eq_skeleton]; unfold cc0_ffn_down_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  have e0 := View.readAt_full arg2.view f0 inb_S1024x5632_S1024x5632_0_0
  have e1 := View.readAt_full arg3.view f1 inb_S5632x512_S5632x512_0_0
  have e2 := View.readAt_full arg4.view f2 inb_S1024x512_S1024x512_0_0
  have e3 := View.readAt_full arg5.view f3 inb_S1x2048_S1x2048_0_0
  obtain rfl | rfl | rfl | rfl : n = 0 ∨ n = 1 ∨ n = 2 ∨ n = 3 := by omega
  all_goals
    simp only [reduceIte, iff_true, iff_false, Nat.reduceEqDiff, OfNat.ofNat_ne_zero, OfNat.zero_ne_ofNat, OfNat.ofNat_ne_one, OfNat.one_ne_ofNat, one_ne_zero, zero_ne_one] at h1 h2 h3 h4 h5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
  · exact (View.read_writes_cons_put arg6.view f4 _ _ [] rfl).trans (by rw [View.writes_nil]; rfl)
  · exact (View.read_writes_cons_put arg6.view f4 _ _ [] rfl).trans (by rw [View.writes_nil]; rfl)
  · exact (View.read_writes_cons_put arg6.view f4 _ _ [] rfl).trans (by rw [View.writes_nil]; rfl)
  · refine (View.read_writes_full arg6.view f4 _ _ _).trans ?_
    unfold sound_kernel.sl.H4_1
    refine (congrArg (fun Z => k0_pay5 Z (View.read (Elt F) arg5.view f3)) ((View.readAt_full arg6.view _ _).trans
      ((View.read_writes_cons_put arg6.view f4 _ _ [] rfl).trans (by rw [View.writes_nil]; rfl)))).trans rfl

end Cert.Proof.Down

end
-- ==== Proof.DownRun.lean ====
/-
  The run of the down-projection. An output block is carried over its four grid points: each puts one column tile into it, the last
  normalises it. What it holds before its first tile is nobody's, so the proof data say of it only what the tiles so far fix.
-/
module

public import proofs.«01_k».proof.Proof.DownBody
public import Idealize.ShloMosaic.Lib.Pipeline.DatRel
public import Idealize.ShloMosaic.Lib.Pipeline.ArrRel

@[expose] public section

set_option maxRecDepth 16384

noncomputable section

namespace Cert.Proof.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block, tile by tile -/

/-- The grid point that computes column tile `k` of point `t`'s row block. -/
def pt (t : Fin cfg0.N) (k : ℕ) (hk : k < 4) : Fin cfg0.N :=
  ⟨4 * (t.val / 4) + k, by have h : t.val < 32 := t.isLt; show _ < 32; omega⟩

/-- Column tile `k` of point `t`'s row block. -/
def tileAt (c : Dev nD) (t : Fin cfg0.N) (k : ℕ) (hk : k < 4) : Vec F S1024x512 .f32 :=
  tile (iblk m c 0 (pt t k hk)) (iblk m c 1 (pt t k hk)) (iblk m c 2 (pt t k hk))

/-- Point `t`'s row block before the norm: its four column tiles side by side. -/
def block (c : Dev nD) (t : Fin cfg0.N) : Vec F S1024x2048 .f32 := fun y =>
  tileAt m c t ((y 1).val / 512) (by have h : (y 1).val < 2048 := (y 1).isLt; omega)
    (fun a => match a with
      | ⟨0, _⟩ => ⟨(y 0).val, (y 0).isLt⟩
      | ⟨1, _⟩ => ⟨(y 1).val % 512, Nat.mod_lt _ (by decide)⟩)

/-- What is known of point `t`'s output block after it: up to the row block's last point, the columns of the tiles so far; at it, all. -/
def Known (c : Dev nD) (t : Fin cfg0.N) (X : Vec F S1024x2048 .f32) : Prop :=
  if t.val % 4 = 3 then X = k0_pay5 (block m c t) (iblk m c 3 t)
  else ∀ y : S1024x2048.Idx, (y 1).val < 512 * (t.val % 4 + 1) → X y = block m c t y

theorem pt_self (t : Fin cfg0.N) (k : ℕ) (hk : k < 4) (h : k = t.val % 4) : pt t k hk = t :=
  Fin.ext (by show 4 * (t.val / 4) + k = t.val; omega)

/-- The points of a row block speak of one block. -/
theorem block_congr (c : Dev nD) (t t' : Fin cfg0.N) (h : t.val / 4 = t'.val / 4) : block m c t = block m c t' := by
  have e : ∀ k hk, pt t k hk = pt t' k hk := fun k hk => Fin.ext (by show 4 * (t.val / 4) + k = 4 * (t'.val / 4) + k; rw [h])
  funext y
  unfold block tileAt
  rw [e]

/-- A tile put over a block right in the columns before it leaves a block right in its columns too. -/
theorem putTile_known (c : Dev nD) (t : Fin cfg0.N) (Y : Vec F S1024x2048 .f32)
    (hY : ∀ y : S1024x2048.Idx, (y 1).val < 512 * (t.val % 4) → Y y = block m c t y) (y : S1024x2048.Idx)
    (hy : (y 1).val < 512 * (t.val % 4 + 1)) :
    putTile (t.val % 4) (iblk m c 0 t) (iblk m c 1 t) (iblk m c 2 t) Y y = block m c t y := by
  unfold putTile VecWindow.put
  by_cases hlt : (y 1).val < 512 * (t.val % 4)
  · rw [dif_neg fun h => absurd (h 1).1 (by show ¬ 512 * (t.val % 4) ≤ (y 1).val; omega)]
    exact hY y hlt
  · have hk : (y 1).val / 512 = t.val % 4 := by omega
    have hin : ∀ a : Fin 2, (![0, 512 * (t.val % 4)] : Fin 2 → ℕ) a ≤ (y a).val
        ∧ (y a).val < (![0, 512 * (t.val % 4)] : Fin 2 → ℕ) a + S1024x512.size a :=
      Fin.forall_fin_two.mpr ⟨⟨Nat.zero_le _, by have h : (y 0).val < 1024 := (y 0).isLt; show (y 0).val < 0 + 1024; omega⟩,
        by show 512 * (t.val % 4) ≤ (y 1).val; omega, by show (y 1).val < 512 * (t.val % 4) + 512; omega⟩
    rw [dif_pos hin]
    unfold block tileAt
    rw [pt_self t _ _ hk]
    refine congrArg (tile (iblk m c 0 t) (iblk m c 1 t) (iblk m c 2 t)) (funext fun a => Fin.ext ?_)
    match a with
    | ⟨0, _⟩ => exact Nat.sub_zero _
    | ⟨1, _⟩ => show (y 1).val - 512 * (t.val % 4) = (y 1).val % 512; omega

/-- What the body leaves in a block right in the columns before its tile. -/
theorem left_known (c : Dev nD) (t : Fin cfg0.N) (Y : Vec F S1024x2048 .f32)
    (hY : ∀ y : S1024x2048.Idx, (y 1).val < 512 * (t.val % 4) → Y y = block m c t y) :
    Known m c t (left (t.val % 4) (iblk m c 0 t) (iblk m c 1 t) (iblk m c 2 t) (iblk m c 3 t) Y) := by
  unfold Known left
  split
  · next h =>
    refine congrArg (fun Z => k0_pay5 Z (iblk m c 3 t)) (funext fun y => putTile_known m c t Y hY y ?_)
    have hb : (y 1).val < 2048 := (y 1).isLt
    omega
  · exact putTile_known m c t Y hY

/-! ## The proof data -/

/-- The inputs' buffers hold their blocks; the output's exact contents are not used (`Known` speaks of them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- The output window is the one held to a predicate, -/
def marked : Fin cfg0.W → Bool := fun w => match w with
  | ⟨4, _⟩ => true
  | _ => false
/-- which is `Known`. -/
def rel (c : Dev nD) : (w : Fin cfg0.W) → Fin cfg0.N → ((cfg0.win w).block.Idx → Elt F (cfg0.win w).elt) → Prop := fun w => match w with
  | ⟨4, _⟩ => fun t X => Known m c t X
  | _ => fun _ _ => True

/-- The proof data with the output window held to `Known`. -/
def rdats (c : Dev nD) : RDat τ (Elt F) Unit ℕ (UR sig nD τ) ℕ cfg0 c := (dats m 0 c).toRRel marked (rel m c)

/-- What the body finds in the output window's buffer is right in the columns before the point's tile. -/
theorem finds_out (c : Dev nD) (t : Fin cfg0.N) (Y : Vec F S1024x2048 .f32) (hY : (rdats m c).Finds 4 t Y) (y : S1024x2048.Idx)
    (hy : (y 1).val < 512 * (t.val % 4)) : Y y = block m c t y := by
  have h4 : t.val % 4 ≠ 0 := by intro e; rw [e] at hy; omega
  have h0 : t.val ≠ 0 := by intro e; rw [e] at h4; exact h4 rfl
  rcases ((rdats m c).finds_of_pos (w := 4) rfl h0 Y).mp hY with hf | hL
  · have := (flush0_4 _).mp hf
    simp only at this
    omega
  · have hK : Known m c _ Y := (dats m 0 c).toRRel_leaves (w := 4) rfl hL
    unfold Known at hK
    rw [if_neg (by simp only; omega)] at hK
    rw [hK y (by simp only; omega)]
    exact congrFun (block_congr m c _ t (by simp only; omega)) y

/-! ## The body obligation -/

/-- Each point's conditions single out its column tile. -/
theorem conds : ∀ t : Fin cfg0.N, (k0_cond1 (grid0.coords t) = 1#1 ↔ t.val % 4 = 0) ∧ (k0_cond2 (grid0.coords t) = 1#1 ↔ t.val % 4 = 1)
    ∧ (k0_cond3 (grid0.coords t) = 1#1 ↔ t.val % 4 = 2) ∧ (k0_cond4 (grid0.coords t) = 1#1 ↔ t.val % 4 = 3)
    ∧ (k0_cond5 (grid0.coords t) = 1#1 ↔ t.val % 4 = 3) :=
  (by decide +kernel : ∀ t : Fin grid0.N, _)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdats m c).Finds 4 t Y⌝ ∗ owns (c : Thread nD τ) (st0_4 t) fullShare Y))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜rel m c 4 t X⌝ ∗ owns (c : Thread nD τ) (st0_4 t) fullShare X))

/-- The body at any point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  obtain ⟨h1, h2, h3, h4, h5⟩ := conds t
  iintro ⟨HΦ, Ho, ⟨%d0, H0⟩, ⟨%d1, H1⟩, ⟨%d2, H2⟩, ⟨%d3, H3⟩, ⟨%Y, %hY, H4⟩⟩
  iapply (sound_kernel c Set.univ (grid0.coords t) _ _ _ _ _ _ _ _ _ _ (t.val % 4) (Nat.mod_lt _ (by decide)) h1 h2 h3 h4 h5
    (iblk m c 0 t) (iblk m c 1 t) (iblk m c 2 t) (iblk m c 3 t) Y _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists _; isplitr
  swap; · iexact H4
  ipureintro
  exact left_known m c t Y (finds_out m c t Y hY)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) :
    BodyObligationRel (dats (F := F) m 0 c) (defs₀ (F := F)) Variants.none () Set.univ marked (rel m c) := fun t => by
  rw [bigSep_W0, bigSep_W0, defs₀_row]
  exact triple_restated (sound_body m c t) rfl .rfl fun _ => .rfl

/-! ## The run -/

set_option backward.isDefEq.respectTransparency.types false in
set_option maxHeartbeats 2000000 in
/-- Every weakly fair execution terminates, with the arrays as the proof data allow and every semaphore at zero. -/
theorem run_main : θ_run defs (onTc (τ := τ) (main (F := F))) (s₀ m ρ)
    (fun r => RDat.FramePost cfg0 (rdats m) (V m) r ∧ r.2.sem = fun _ => 0) :=
  RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The frame: the arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : _ ∧ _) => ⟨fun c => ⟨(h.1.arr_in c 0 rfl).trans (V_main_arg0 m c),
      (h.1.arr_in c 1 rfl).trans (V_main_arg1 m c), (h.1.arr_in c 2 rfl).trans (V_main_arg2 m c),
      ((h.1 c).2 main_arg3 (Pipeline.mem_restRefs_of main_arg3 (by decide) (by decide))).trans (V_main_arg3 m c)⟩, h.2⟩) (run_main m ρ)

end Cert.Proof.Down

end
-- ==== Proof.DownValue.lean ====
/-
  The values of the down-projection over the extended reals: the array that the kernel writes row block by row block is the reference's
  normalised sum of the residual stream and the projected activations.
-/
module

public import proofs.«01_k».proof.Defs
public import proofs.«01_k».proof.Proof.DownRun
public import proofs.«01_k».proof.Proof.Gen.DownReferenceIdeal.Run
public import Idealize.ShloMosaic.Lib.Pipeline.ValueKit

@[expose] public section

set_option maxRecDepth 16384

noncomputable section

namespace Cert.Proof.Down

open Idealize.ShloMosaic Idealize.ShloMosaic.TcCoe Idealize.ShloMosaic.Tactic Idealize.ShloMosaic.StableHlo

/-! ## The reference's result, as a function of its arguments -/

section Reference

open Cert.DownReferenceIdeal Cert.DownReferenceIdeal.Gen

/-- The reference's residual stream after the feed-forward layer. -/
def refSum (act : S8192x5632.Idx → EReal) (wd : S5632x2048.Idx → EReal) (x1 : S8192x2048.Idx → EReal) : S8192x2048.Idx → EReal :=
  addf (F := Ideal) (φ := .f32) x1 (Host.dotGeneral (F := Ideal) (φ₁ := .f32) (φ₂ := .f32) dot_S8192x5632_S5632x2048_S8192x2048_1_0_0_1_n_n none
    (extf (F := Ideal) .f32 (φ := .bf16) act bitsLt_bf16_f32) (extf (F := Ideal) .f32 (φ := .bf16) wd bitsLt_bf16_f32))

/-- The reference's final norm of a stream. -/
def refNorm (x : S8192x2048.Idx → EReal) (g : S2048.Idx → EReal) : S8192x2048.Idx → EReal :=
  mulf (F := Ideal) (φ := .f32) (mulf (F := Ideal) (φ := .f32) x (broadcastInDim S8192x2048 ![0, 1] bcast_S8192x1_S8192x2048_0_1
    (Host.rsqrt (F := Ideal) (φ := .f32) (addf (F := Ideal) (φ := .f32) (Host.divf (F := Ideal) (φ := .f32)
      (broadcastInDim S8192x1 ![0] bcast_S8192_S8192x1_0 (Host.reduceAdd (F := Ideal) (φ := .f32) (mulf (F := Ideal) (φ := .f32) x x)
        (constant (F := Ideal) S_ .f32 0x00000000#32) reducesTo_S8192x2048_S8192_d1 h_S_))
      (broadcastInDim S8192x1 ![] bcast_S_S8192x1 (constant (F := Ideal) S_ .f32 0x45000000#32)))
      (broadcastInDim S8192x1 ![] bcast_S_S8192x1 (constant (F := Ideal) S_ .f32 0x358637BD#32))))))
    (broadcastInDim S8192x2048 ![0, 1] bcast_S1x2048_S8192x2048_0_1 (broadcastInDim S1x2048 ![1] bcast_S2048_S1x2048_1 g))

/-- The reference's run, its result named by `refNorm` and `refSum`. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = refNorm (refSum (m ((c.tc : Thread nD τ).loc main_arg0)) (m ((c.tc : Thread nD τ).loc main_arg1))
        (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.DownReferenceIdeal.Value.run (F := Ideal) m ρ

end Reference

open Cert.DownIdeal Cert.DownIdeal.Gen
open Idealize.ShloMosaic.Pipeline (Dat RDat)

variable (m : (ℓ : Loc nD τ sig) → Buf (Elt Ideal) ℓ)

/-! ## The windows -/

/-- Where each window's block stands at grid point `t`: the column tile moves fastest. -/
theorem idx : ∀ t : Fin cfg0.N, win0_0.index t = ![t.val / 4, 0] ∧ win0_1.index t = ![0, t.val % 4] ∧ win0_2.index t = ![t.val / 4, t.val % 4]
    ∧ win0_3.index t = ![0, 0] ∧ win0_4.index t = ![t.val / 4, 0] ∧ t.val / 4 < 8 ∧ t.val < 32 :=
  (by decide +kernel : ∀ t : Fin grid0.N, _)

theorem V_main_v0 (c : Dev nD) : V m c main_v0 = broadcastInDim S1x2048 ![1] bcast_S2048_S1x2048_1 (m ((c.tc : Thread nD τ).loc main_arg3)) := by
  show StableHlo.after hostOps0 (fun b => m (c, b)) (Proc.devRef .tc main_v0) = _
  after_results <;> rfl

/-- The reference's stream, of the kernel's arguments. -/
abbrev sumOf (c : Dev nD) : S8192x2048.Idx → EReal :=
  refSum (m ((c.tc : Thread nD τ).loc main_arg0)) (m ((c.tc : Thread nD τ).loc main_arg1)) (m ((c.tc : Thread nD τ).loc main_arg2))

/-! ## The output array -/

/-- A grid point's column tile is the stream's there. -/
theorem tile_point (c : Dev nD) (t : Fin cfg0.N) (x : S1024x512.Idx) :
    k0_pay1 (F := Ideal) (iblk m c 2 t) (iblk m c 0 t) (iblk m c 1 t) x = sumOf m c (((cfg0.win 2).blk t).view.emb x) := by
  pointwise [k0_pay1, sumOf, refSum]
  blk_point [iblk, idx t]

/-- A row block before the norm is the stream's. -/
theorem block_point (c : Dev nD) (t : Fin cfg0.N) (y : S1024x2048.Idx) :
    block (F := Ideal) m c t y = sumOf m c (((cfg0.win 4).blk t).view.emb y) := by
  unfold block tileAt tile
  refine (tile_point m c _ _).trans (congrArg (sumOf m c) ?_)
  have hy : (y 1).val < 2048 := (y 1).isLt
  have hk : (y 1).val / 512 < 4 := by omega
  have hp : (pt t ((y 1).val / 512) hk).val = 4 * (t.val / 4) + (y 1).val / 512 := rfl
  refine funext (Fin.forall_fin_two.mpr ⟨Fin.ext ?_, Fin.ext ?_⟩)
  · show win0_2.index (pt t ((y 1).val / 512) hk) 0 * 1024 + 1 * (y 0).val = win0_4.index t 0 * 1024 + 1 * (y 0).val
    rw [(idx (pt t ((y 1).val / 512) hk)).2.2.1, (idx t).2.2.2.2.1]
    show (pt t ((y 1).val / 512) hk).val / 4 * 1024 + 1 * (y 0).val = t.val / 4 * 1024 + 1 * (y 0).val
    omega
  · show win0_2.index (pt t ((y 1).val / 512) hk) 1 * 512 + 1 * ((y 1).val % 512) = win0_4.index t 1 * 2048 + 1 * (y 1).val
    rw [(idx (pt t ((y 1).val / 512) hk)).2.2.1, (idx t).2.2.2.2.1]
    show (pt t ((y 1).val / 512) hk).val % 4 * 512 + 1 * ((y 1).val % 512) = 0 * 2048 + 1 * (y 1).val
    omega

/-- The norm of a stream's row block, at an index of it. -/
theorem norm_point (c : Dev nD) (t : Fin cfg0.N) (x : S8192x2048.Idx → EReal) (y : S1024x2048.Idx) :
    k0_pay5 (F := Ideal) (fun y => x (((cfg0.win 4).blk t).view.emb y)) (iblk m c 3 t) y
      = refNorm x (m ((c.tc : Thread nD τ).loc main_arg3)) (((cfg0.win 4).blk t).view.emb y) := by
  pointwise [k0_pay5, refNorm]
  blk_point [iblk, idx t]

/-- The output array after the run is the reference's. -/
theorem out_final (c : Dev nD) (G : Buf (Elt Ideal) ((cfg0.win 4).arr.view.loc (c.tc : Thread nD τ))) (hG : (rdats m c).ArrAt 4 cfg0.N G) :
    G = refNorm (sumOf m c) (m ((c.tc : Thread nD τ).loc main_arg3)) := by
  obtain ⟨X, hX, hA⟩ := hG.exists_exact
  let aft : (w : Fin cfg0.W) → Fin cfg0.N → (cfg0.win w).block.Idx → Elt Ideal (cfg0.win w).elt := Function.update (fun _ _ _ => Classical.arbitrary _) 4 X
  have e : aft 4 = X := Function.update_self ..
  rw [hA aft fun u _ _ => congrFun e u]
  refine ((rdats m c).withAfter aft).arrAt_eq_of_covers 4 _ (by decide +kernel) fun t ht y => ?_
  blk_simp
  have hK : Known m c t (X t) := (dats m 0 c).toRRel_leaves (w := 4) rfl (hX t t.isLt ht)
  unfold Known at hK
  rw [if_pos ((flush0_4 t).mp ht), funext (block_point m c t)] at hK
  rw [Pipeline.RDat.withAfter_after, e, hK]
  exact norm_point m c t (sumOf m c) y

/-- The kernel and the reference, over the extended reals, from equal arguments end with equal results. -/
theorem algebraic : Cert.algebraic_DownIdeal_DownReferenceIdeal := by
  intro m g m' g' _ hargs
  refine ⟨fun c => refNorm (sumOf m c) (m ((c.tc : Thread nD τ).loc main_arg3)), ?_, ?_⟩
  · exact (θ_run _ _ _).mono (fun r h c => ⟨out_final m c _ ((h.1.1 c).1 4), h.2.1 c⟩) (θ_run_and (run_main m g) (frame m g))
  · refine (θ_run _ _ _).mono (fun _ h c => ?_) (reference_run m' g')
    obtain ⟨h0, hrest⟩ := h c
    obtain ⟨e0, e1, e2, e3⟩ := hargs c
    refine ⟨h0.trans ?_, hrest⟩
    rw [e0, e1, e2, e3]

end Cert.Proof.Down

end
-- ==== Proof.ParamsValue.lean ====
/-
  The values of the parameter call of S5 over the extended reals: the two parts of the discretised transition, and the
  groups' input, output and gate matrices packed as diagonal blocks, are the reference's. The kernel packs with one-hot
  products and masks, the reference with an identity matrix; `pack*_apply` and `tile_*` read both at an index.
-/
module

public import proofs.«01_k».proof.Defs
public import proofs.«01_k».proof.Proof.Gen.ParamsIdeal.Value
public import proofs.«01_k».proof.Proof.Gen.ParamsReferenceIdeal.Run
public import Idealize.ShloMosaic.Lib.Pipeline.ValueKit

@[expose] public section

set_option maxRecDepth 16384

noncomputable section

namespace Cert.Proof.Params

open Idealize.ShloMosaic Idealize.ShloMosaic.TcCoe Idealize.ShloMosaic.Tactic Idealize.ShloMosaic.StableHlo

/-! ## The reference's five results, as functions of its arguments -/

section Reference

open Cert.ParamsReferenceIdeal Cert.ParamsReferenceIdeal.Gen

/-- The step sizes, one to a group. -/
def step (ldt : S1x64.Idx → EReal) : S64x1.Idx → EReal :=
  broadcastInDim S64x1 ![0] bcast_S64_S64x1_0 (Host.exp (F := Ideal) (φ := .f32) (shapeCast S64 ldt shapeCasts_S1x64_S64))

/-- The real parts of the poles. -/
def lr (lre : S1x64x64.Idx → EReal) : S64x64.Idx → EReal := shapeCast S64x64 lre shapeCasts_S1x64x64_S64x64

/-- A pole's part times the step size. -/
def scaled (l : S1x64x64.Idx → EReal) (ldt : S1x64.Idx → EReal) : S64x64.Idx → EReal :=
  mulf (F := Ideal) (φ := .f32) (lr l) (broadcastInDim S64x64 ![0, 1] bcast_S64x1_S64x64_0_1 (step ldt))

/-- The real part of the discretised transition. -/
def abRe (lre lim : S1x64x64.Idx → EReal) (ldt : S1x64.Idx → EReal) : S64x64.Idx → EReal :=
  mulf (F := Ideal) (φ := .f32) (Host.exp (F := Ideal) (φ := .f32) (scaled lre ldt)) (Host.cos (F := Ideal) (φ := .f32) (scaled lim ldt))

/-- The imaginary part of the discretised transition. -/
def abIm (lre lim : S1x64x64.Idx → EReal) (ldt : S1x64.Idx → EReal) : S64x64.Idx → EReal :=
  mulf (F := Ideal) (φ := .f32) (Host.exp (F := Ideal) (φ := .f32) (scaled lre ldt)) (Host.sin (F := Ideal) (φ := .f32) (scaled lim ldt))

/-- The squared modulus of the poles. -/
def den (lre lim : S1x64x64.Idx → EReal) : S64x64.Idx → EReal :=
  addf (F := Ideal) (φ := .f32) (mulf (F := Ideal) (φ := .f32) (lr lre) (lr lre)) (mulf (F := Ideal) (φ := .f32) (lr lim) (lr lim))

/-- The real part of the transition, less one. -/
def abRe1 (lre lim : S1x64x64.Idx → EReal) (ldt : S1x64.Idx → EReal) : S64x64.Idx → EReal :=
  subf (F := Ideal) (φ := .f32) (abRe lre lim ldt) (broadcastInDim S64x64 ![] bcast_S_S64x64 (constant (F := Ideal) S_ .f32 0x3F800000#32))

/-- The real part of the input's coefficient. -/
def coRe (lre lim : S1x64x64.Idx → EReal) (ldt : S1x64.Idx → EReal) : S64x64.Idx → EReal :=
  Host.divf (F := Ideal) (φ := .f32) (addf (F := Ideal) (φ := .f32) (mulf (F := Ideal) (φ := .f32) (abRe1 lre lim ldt) (lr lre))
    (mulf (F := Ideal) (φ := .f32) (abIm lre lim ldt) (lr lim))) (den lre lim)

/-- The imaginary part of the input's coefficient. -/
def coIm (lre lim : S1x64x64.Idx → EReal) (ldt : S1x64.Idx → EReal) : S64x64.Idx → EReal :=
  Host.divf (F := Ideal) (φ := .f32) (subf (F := Ideal) (φ := .f32) (mulf (F := Ideal) (φ := .f32) (abIm lre lim ldt) (lr lre))
    (mulf (F := Ideal) (φ := .f32) (abRe1 lre lim ldt) (lr lim))) (den lre lim)

/-- A coefficient of the groups' states, times an input matrix. -/
def times (co : S64x64.Idx → EReal) (b : S1x64x64x16.Idx → EReal) : S64x64x16.Idx → EReal :=
  mulf (F := Ideal) (φ := .f32) (broadcastInDim S64x64x16 ![0, 1, 2] bcast_S64x64x1_S64x64x16_0_1_2
    (broadcastInDim S64x64x1 ![0, 1] bcast_S64x64_S64x64x1_0_1 co)) (shapeCast S64x64x16 b shapeCasts_S1x64x64x16_S64x64x16)

/-- The real part of the discretised input matrices, transposed. -/
def bbRe (cr ci : S64x64.Idx → EReal) (br bi : S1x64x64x16.Idx → EReal) : S64x16x64.Idx → EReal :=
  transpose S64x16x64 [0, 2, 1] (subf (F := Ideal) (φ := .f32) (times cr br) (times ci bi)) transposes_S64x64x16_S64x16x64_0_2_1

/-- The imaginary part of the discretised input matrices, transposed. -/
def bbIm (cr ci : S64x64.Idx → EReal) (br bi : S1x64x64x16.Idx → EReal) : S64x16x64.Idx → EReal :=
  transpose S64x16x64 [0, 2, 1] (addf (F := Ideal) (φ := .f32) (times cr bi) (times ci br)) transposes_S64x64x16_S64x16x64_0_2_1

/-- The identity matrix that places a tile's eight groups on its diagonal. -/
def eye : S8x8.Idx → EReal :=
  uitofp (F := Ideal) .f32 (cmpi .eq (broadcastInDim S8x8 ![0, 1] bcast_S8x1_S8x8_0_1 (broadcastInDim S8x1 ![0] bcast_S8_S8x1_0 (iotaInDim S8 32 0)))
    (broadcastInDim S8x8 ![0, 1] bcast_S1x8_S8x8_0_1 (broadcastInDim S1x8 ![1] bcast_S8_S1x8_1 (iotaInDim S8 32 0))))

/-- The identity matrix, spread over the axes of a stack of blocks. -/
def eye5 : S1x8x1x8x1.Idx → EReal :=
  broadcastInDim S1x8x1x8x1 ![1, 2, 3, 4] bcast_S8x1x8x1_S1x8x1x8x1_1_2_3_4 (broadcastInDim S8x1x8x1 ![0, 2] bcast_S8x8_S8x1x8x1_0_2 eye)

/-- Groups' 16 × 64 matrices as diagonal blocks, eight to a tile. -/
def packB (g : S64x16x64.Idx → EReal) : S8x128x512.Idx → EReal :=
  shapeCast S8x128x512 (mulf (F := Ideal) (φ := .f32)
    (broadcastInDim S8x8x16x8x64 ![0, 1, 2, 3, 4] bcast_S8x8x16x1x64_S8x8x16x8x64_0_1_2_3_4 (shapeCast S8x8x16x1x64 g shapeCasts_S64x16x64_S8x8x16x1x64))
    (broadcastInDim S8x8x16x8x64 ![0, 1, 2, 3, 4] bcast_S1x8x1x8x1_S8x8x16x8x64_0_1_2_3_4 eye5)) shapeCasts_S8x8x16x8x64_S8x128x512

/-- Groups' 16 × 64 matrices, transposed, as diagonal blocks, eight to a tile. -/
def packC (g : S64x16x64.Idx → EReal) : S8x512x128.Idx → EReal :=
  shapeCast S8x512x128 (mulf (F := Ideal) (φ := .f32)
    (broadcastInDim S8x8x64x8x16 ![0, 1, 2, 3, 4] bcast_S8x8x64x1x16_S8x8x64x8x16_0_1_2_3_4
      (shapeCast S8x8x64x1x16 (transpose S64x64x16 [0, 2, 1] g transposes_S64x16x64_S64x64x16_0_2_1) shapeCasts_S64x64x16_S8x8x64x1x16))
    (broadcastInDim S8x8x64x8x16 ![0, 1, 2, 3, 4] bcast_S1x8x1x8x1_S8x8x64x8x16_0_1_2_3_4 eye5)) shapeCasts_S8x8x64x8x16_S8x512x128

/-- Groups' 16 × 16 matrices as diagonal blocks, eight to a tile. -/
def packG (g : S64x16x16.Idx → EReal) : S8x128x128.Idx → EReal :=
  shapeCast S8x128x128 (mulf (F := Ideal) (φ := .f32)
    (broadcastInDim S8x8x16x8x16 ![0, 1, 2, 3, 4] bcast_S8x8x16x1x16_S8x8x16x8x16_0_1_2_3_4 (shapeCast S8x8x16x1x16 g shapeCasts_S64x16x16_S8x8x16x1x16))
    (broadcastInDim S8x8x16x8x16 ![0, 1, 2, 3, 4] bcast_S1x8x1x8x1_S8x8x16x8x16_0_1_2_3_4 eye5)) shapeCasts_S8x8x16x8x16_S8x128x128

/-- The packed input matrices of a real and an imaginary part, side by side. -/
def packedB (g h : S64x16x64.Idx → EReal) : S8x128x1024.Idx → EReal :=
  truncf (F := Ideal) (φ := .f32) .bf16 (concatenate S8x128x1024 2 [⟨S8x128x512, packB g⟩, ⟨S8x128x512, packB h⟩]
    concatenates_S8x128x512_S8x128x512_S8x128x1024_d2) bitsLt_bf16_f32

/-- The packed output matrices of a real and an imaginary part, one above the other. -/
def packedC (g h : S64x16x64.Idx → EReal) : S8x1024x128.Idx → EReal :=
  truncf (F := Ideal) (φ := .f32) .bf16 (concatenate S8x1024x128 1 [⟨S8x512x128, packC g⟩, ⟨S8x512x128, packC h⟩]
    concatenates_S8x512x128_S8x512x128_S8x1024x128_d1) bitsLt_bf16_f32

/-- The reference's packed input matrices. -/
def refB (lre lim : S1x64x64.Idx → EReal) (ldt : S1x64.Idx → EReal) (br bi : S1x64x64x16.Idx → EReal) : S8x128x1024.Idx → EReal :=
  packedB (bbRe (coRe lre lim ldt) (coIm lre lim ldt) br bi) (bbIm (coRe lre lim ldt) (coIm lre lim ldt) br bi)

/-- The reference's packed output matrices: the imaginary part enters with its sign changed. -/
def refC (cr ci : S1x64x16x64.Idx → EReal) : S8x1024x128.Idx → EReal :=
  packedC (shapeCast S64x16x64 cr shapeCasts_S1x64x16x64_S64x16x64)
    (Host.negf (F := Ideal) (φ := .f32) (shapeCast S64x16x64 ci shapeCasts_S1x64x16x64_S64x16x64))

/-- The reference's packed gate matrices. -/
def refG (w : S1x64x16x16.Idx → EReal) : S8x128x128.Idx → EReal :=
  truncf (F := Ideal) (φ := .f32) .bf16 (packG (shapeCast S64x16x16 w shapeCasts_S1x64x16x16_S64x16x16)) bitsLt_bf16_f32

set_option maxHeartbeats 4000000 in
/-- The reference's run, its results named. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = abRe (m ((c.tc : Thread nD τ).loc main_arg0)) (m ((c.tc : Thread nD τ).loc main_arg1)) (m ((c.tc : Thread nD τ).loc main_arg2))
      ∧ r.2.mem ((c.tc : Thread nD τ).loc main_v15) = abIm (m ((c.tc : Thread nD τ).loc main_arg0)) (m ((c.tc : Thread nD τ).loc main_arg1)) (m ((c.tc : Thread nD τ).loc main_arg2))
      ∧ r.2.mem ((c.tc : Thread nD τ).loc main_v92) = refB (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v93) = refC (m ((c.tc : Thread nD τ).loc main_arg5)) (m ((c.tc : Thread nD τ).loc main_arg6))
      ∧ r.2.mem ((c.tc : Thread nD τ).loc main_v102) = refG (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.ParamsReferenceIdeal.Value.run (F := Ideal) m ρ

/-- The identity matrix at an index. -/
theorem eye_apply (i j : Fin 8) : eye (ix2 i j) = if i.val = j.val then 1 else 0 := by
  have h : IntOp.cmpi CmpIPredicate.eq (BitVec.ofNat 32 i.val) (BitVec.ofNat 32 j.val) = if i.val = j.val then 1#1 else 0#1 := by
    revert i j; decide
  pointwise [eye]
  rw [h]
  split <;> simp [FloatOps.uitofp]

/-- A number times a bit. -/
theorem mul_bit {p : Prop} [Decidable p] {a e : EReal} (h : e = if p then 1 else 0) : a * e = if p then a else 0 := by
  subst h
  split
  · exact mul_one a
  · exact mul_zero a

/-- The packed 16 × 64 matrices at an index. -/
theorem packB_apply (g : S64x16x64.Idx → EReal) (y : S8x128x512.Idx) : packB g y
    = if (y 1).val / 16 = (y 2).val / 64 then g (ix3 ⟨(y 0).val * 8 + (y 1).val / 16, by have := (y 0).isLt; have := (y 1).isLt; simp at *; omega⟩
        ⟨(y 1).val % 16, by omega⟩ ⟨(y 2).val % 64, by omega⟩) else 0 := by
  pointwise [packB, eye5]
  exact mul_bit (eye_apply _ _)

/-- The packed, transposed 16 × 64 matrices at an index. -/
theorem packC_apply (g : S64x16x64.Idx → EReal) (y : S8x512x128.Idx) : packC g y
    = if (y 1).val / 64 = (y 2).val / 16 then g (ix3 ⟨(y 0).val * 8 + (y 1).val / 64, by have := (y 0).isLt; have := (y 1).isLt; simp at *; omega⟩
        ⟨(y 2).val % 16, by omega⟩ ⟨(y 1).val % 64, by omega⟩) else 0 := by
  pointwise [packC, eye5]
  exact mul_bit (eye_apply _ _)

/-- The packed 16 × 16 matrices at an index. -/
theorem packG_apply (g : S64x16x16.Idx → EReal) (y : S8x128x128.Idx) : packG g y
    = if (y 1).val / 16 = (y 2).val / 16 then g (ix3 ⟨(y 0).val * 8 + (y 1).val / 16, by have := (y 0).isLt; have := (y 1).isLt; simp at *; omega⟩
        ⟨(y 1).val % 16, by omega⟩ ⟨(y 2).val % 16, by omega⟩) else 0 := by
  pointwise [packG, eye5]
  exact mul_bit (eye_apply _ _)

end Reference

/-! ## The kernel's masks and one-hot matrices -/

open Cert.ParamsIdeal Cert.ParamsIdeal.Gen

/-- The kernel's floor division of index words. -/
def quot (d x : BitVec 32) : BitVec 32 :=
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi ArithUnit.vector x d) 0#32))
    (IntOp.subi (IntOp.divsi ArithUnit.vector x d) 1#32) (IntOp.divsi ArithUnit.vector x d)

/-- The kernel's remainder of index words. -/
def rem (d x : BitVec 32) : BitVec 32 :=
  Scalar.select (IntOp.andi
      (IntOp.xori (IntOp.cmpi .slt (IntOp.remsi ArithUnit.vector x (Scalar.select (Scalar.cmpi .eq d 0#32) 1#32 d)) 0#32)
        (Scalar.cmpi .slt (Scalar.select (Scalar.cmpi .eq d 0#32) 1#32 d) 0#32))
      (IntOp.cmpi .ne (IntOp.remsi ArithUnit.vector x (Scalar.select (Scalar.cmpi .eq d 0#32) 1#32 d)) 0#32))
    (IntOp.addi (IntOp.remsi ArithUnit.vector x (Scalar.select (Scalar.cmpi .eq d 0#32) 1#32 d)) (Scalar.select (Scalar.cmpi .eq d 0#32) 1#32 d))
    (IntOp.remsi ArithUnit.vector x (Scalar.select (Scalar.cmpi .eq d 0#32) 1#32 d))

/-- Dividing a row number by sixteen. -/
theorem quot_16 : ∀ n : Fin 128, quot 16#32 (BitVec.ofNat 32 n.val) = BitVec.ofNat 32 (n.val / 16) := by decide +kernel

/-- Dividing a column number by sixty-four. -/
theorem quot_64 : ∀ n : Fin 512, quot 64#32 (BitVec.ofNat 32 n.val) = BitVec.ofNat 32 (n.val / 64) := by decide +kernel

/-- A column number modulo sixteen. -/
theorem rem_16 : ∀ n : Fin 128, rem 16#32 (BitVec.ofNat 32 n.val) = BitVec.ofNat 32 (n.val % 16) := by decide +kernel

/-- A column number modulo sixty-four. -/
theorem rem_64 : ∀ n : Fin 512, rem 64#32 (BitVec.ofNat 32 n.val) = BitVec.ofNat 32 (n.val % 64) := by decide +kernel

/-- A column number modulo a hundred and twenty-eight. -/
theorem rem_128 : ∀ n : Fin 128, rem 128#32 (BitVec.ofNat 32 n.val) = BitVec.ofNat 32 n.val := by decide +kernel

/-- The comparison of two small numbers' words. -/
theorem cmpi_ofNat {a b : ℕ} (ha : a < 512) (hb : b < 512) :
    IntOp.cmpi .eq (BitVec.ofNat 32 a) (BitVec.ofNat 32 b) = if a = b then 1#1 else 0#1 := by
  have h : BitVec.ofNat 32 a = BitVec.ofNat 32 b ↔ a = b := by
    rw [← BitVec.toNat_inj, BitVec.toNat_ofNat, BitVec.toNat_ofNat, Nat.mod_eq_of_lt (by omega), Nat.mod_eq_of_lt (by omega)]
  have g : (BitVec.ofNat 32 a == BitVec.ofNat 32 b) = decide (a = b) := by rw [Bool.eq_iff_iff, beq_iff_eq, decide_eq_true_iff, h]
  show BitVec.ofBool (BitVec.ofNat 32 a == BitVec.ofNat 32 b) = _
  rw [g]
  by_cases e : a = b <;> simp [e]

/-- A choice by a comparison's bit. -/
theorem select_ite {α : Type} (p : Prop) [Decidable p] (a b : α) : Scalar.select (if p then 1#1 else 0#1) a b = if p then a else b := by
  split <;> rfl

/-- The mask of the packed input matrices: row and column in one group. -/
theorem mask_b (x0 x1 x2 x3 x4 x5 x6 x7) (i : S128x512.Idx) :
    k0_pay124 (F := Ideal) x0 x1 x2 x3 x4 x5 x6 x7 i = if (i 0).val / 16 = (i 1).val / 64 then 1#1 else 0#1 := by
  pointwise [k0_pay124, k0_pay23, k0_pay20, k0_pay21, k0_pay22]
  show IntOp.cmpi .eq (quot 16#32 (BitVec.ofNat 32 (i 0).val)) (quot 64#32 (BitVec.ofNat 32 (i 1).val)) = _
  have h0 : (i 0).val < 128 := (i 0).isLt
  have h1 : (i 1).val < 512 := (i 1).isLt
  rw [quot_16 (i 0), quot_64 (i 1), cmpi_ofNat (by omega) (by omega)]

/-- The mask of the packed output matrices. -/
theorem mask_c (x0 x1 x2 x3 x4 x5 x6 x7) (i : S512x128.Idx) :
    k0_pay125 (F := Ideal) x0 x1 x2 x3 x4 x5 x6 x7 i = if (i 0).val / 64 = (i 1).val / 16 then 1#1 else 0#1 := by
  pointwise [k0_pay125, k0_pay26, k0_pay24, k0_pay25]
  show IntOp.cmpi .eq (quot 64#32 (BitVec.ofNat 32 (i 0).val)) (quot 16#32 (BitVec.ofNat 32 (i 1).val)) = _
  have h0 : (i 0).val < 512 := (i 0).isLt
  have h1 : (i 1).val < 128 := (i 1).isLt
  rw [quot_64 (i 0), quot_16 (i 1), cmpi_ofNat (by omega) (by omega)]

/-- The mask of the packed gate matrices. -/
theorem mask_g (x0 x1 x2 x3 x4 x5 x6 x7) (i : S128x128.Idx) :
    k0_pay126 (F := Ideal) x0 x1 x2 x3 x4 x5 x6 x7 i = if (i 0).val / 16 = (i 1).val / 16 then 1#1 else 0#1 := by
  pointwise [k0_pay126, k0_pay30, k0_pay27, k0_pay28, k0_pay29]
  show IntOp.cmpi .eq (quot 16#32 (BitVec.ofNat 32 (i 0).val)) (quot 16#32 (BitVec.ofNat 32 (i 1).val)) = _
  have h0 : (i 0).val < 128 := (i 0).isLt
  have h1 : (i 1).val < 128 := (i 1).isLt
  rw [quot_16 (i 0), quot_16 (i 1), cmpi_ofNat (by omega) (by omega)]

/-- The matrix that repeats 64 columns eight times. -/
theorem spread_p (x0 x1 x2 x3 x4 x5 x6 x7) (i : S64x512.Idx) :
    k0_pay121 (F := Ideal) x0 x1 x2 x3 x4 x5 x6 x7 i = if (i 0).val = (i 1).val % 64 then (1 : EReal) else 0 := by
  pointwise [k0_pay121, k0_pay15, k0_pay12, k0_pay13, k0_pay14]
  show Scalar.select (IntOp.cmpi .eq (BitVec.ofNat 32 (i 0).val) (rem 64#32 (BitVec.ofNat 32 (i 1).val))) (1 : EReal) 0 = _
  have h0 : (i 0).val < 64 := (i 0).isLt
  rw [rem_64 (i 1), cmpi_ofNat (by omega) (by omega), select_ite]

/-- The matrix that repeats 16 columns eight times. -/
theorem spread_h (x0 x1 x2 x3 x4 x5 x6 x7) (i : S16x128.Idx) :
    k0_pay122 (F := Ideal) x0 x1 x2 x3 x4 x5 x6 x7 i = if (i 0).val = (i 1).val % 16 then (1 : EReal) else 0 := by
  pointwise [k0_pay122, k0_pay16]
  show Scalar.select (IntOp.cmpi .eq (BitVec.ofNat 32 (i 0).val) (rem 16#32 (BitVec.ofNat 32 (i 1).val))) (1 : EReal) 0 = _
  have h0 : (i 0).val < 16 := (i 0).isLt
  rw [rem_16 (i 1), cmpi_ofNat (by omega) (by omega), select_ite]

/-- The identity matrix that transposes a tile's output matrices. -/
theorem eye_gh (x0 x1 x2 x3 x4 x5 x6 x7) (i : S128x128.Idx) :
    k0_pay123 (F := Ideal) x0 x1 x2 x3 x4 x5 x6 x7 i = if (i 0).val = (i 1).val then (1 : EReal) else 0 := by
  pointwise [k0_pay123, k0_pay19, k0_pay17, k0_pay18]
  show Scalar.select (IntOp.cmpi .eq (BitVec.ofNat 32 (i 0).val) (rem 128#32 (BitVec.ofNat 32 (i 1).val))) (1 : EReal) 0 = _
  have h0 : (i 0).val < 128 := (i 0).isLt
  have h1 : (i 1).val < 128 := (i 1).isLt
  rw [rem_128 (i 1), cmpi_ofNat (by omega) (by omega), select_ite]

/-- A sum against a column of zeros and a single one. -/
theorem sum_onehot {n : ℕ} (f : Fin n → EReal) (k : ℕ) (hk : k < n) :
    ∑ x : Fin n, f x * (if x.val = k then (1 : EReal) else 0) = f ⟨k, hk⟩ := by
  rw [Finset.sum_eq_single ⟨k, hk⟩]
  · rw [if_pos rfl, mul_one]
  · intro b _ hb
    rw [if_neg fun e => hb (Fin.ext e), mul_zero]
  · intro h; exact absurd (Finset.mem_univ _) h

/-! ## One tile of each packed result -/

/-- A tile of packed 16 × 64 matrices. -/
theorem tile_b (S : FVec Ideal S64x512 .bf16) (M : IVec S128x512 1)
    (hS : ∀ i, S i = if (i 0).val = (i 1).val % 64 then (1 : EReal) else 0) (hM : ∀ i, M i = if (i 0).val / 16 = (i 1).val / 64 then 1#1 else 0#1)
    (G : S8x16x64.Idx → EReal) (g : S64x16x64.Idx → EReal) (k : ℕ) (hk : k < 8)
    (hG : ∀ (a : Fin 8) (b : Fin 16) (e : Fin 64), G (ix3 a b e) = g (ix3 ⟨8 * k + a.val, by omega⟩ b e)) (x : S1x128x512.Idx) :
    k0_pay38 (F := Ideal) S M G x = packB g (ix3 ⟨k, hk⟩ (x 1) (x 2)) := by
  have h1 : (x 1).val < 128 := (x 1).isLt
  rw [packB_apply]
  pointwise [k0_pay38]
  rw [hM, select_ite]
  show (if (x 1).val / 16 = (x 2).val / 64 then _ else _) = if (x 1).val / 16 = (x 2).val / 64 then _ else _
  refine if_congr Iff.rfl ?_ rfl
  refine (Finset.sum_congr rfl fun z _ => congrArg (_ * ·) (hS _)).trans ((sum_onehot _ ((x 2).val % 64) (Nat.mod_lt _ (by omega))).trans ?_)
  rw [hG]
  congr 3
  exact congrArg (· + _) (Nat.mul_comm 8 k)

/-- A tile of packed, transposed 16 × 64 matrices. -/
theorem tile_c (S : FVec Ideal S128x128 .bf16) (M : IVec S512x128 1)
    (hS : ∀ i, S i = if (i 0).val = (i 1).val then (1 : EReal) else 0) (hM : ∀ i, M i = if (i 0).val / 64 = (i 1).val / 16 then 1#1 else 0#1)
    (G : S8x16x64.Idx → EReal) (g : S64x16x64.Idx → EReal) (k : ℕ) (hk : k < 8)
    (hG : ∀ (a : Fin 8) (b : Fin 16) (e : Fin 64), G (ix3 a b e) = g (ix3 ⟨8 * k + a.val, by omega⟩ b e)) (x : S1x512x128.Idx) :
    k0_pay41 (F := Ideal) S M G x = packC g (ix3 ⟨k, hk⟩ (x 1) (x 2)) := by
  have h1 : (x 1).val < 512 := (x 1).isLt
  have h2 : (x 2).val < 128 := (x 2).isLt
  have hsum : ∀ e : Fin 64, ∑ z : Fin 128, G (ix3 ⟨z.val / 16, by omega⟩ ⟨z.val % 16, by omega⟩ e) * S (ix2 z (x 2))
      = g (ix3 ⟨8 * k + (x 2).val / 16, by omega⟩ ⟨(x 2).val % 16, by omega⟩ e) := fun e => by
    refine (Finset.sum_congr rfl fun z _ => congrArg (_ * ·) (hS _)).trans ((sum_onehot (fun z : Fin 128 => G (ix3 ⟨z.val / 16, by omega⟩ ⟨z.val % 16, by omega⟩ e)) (x 2).val h2).trans ?_)
    exact hG _ _ _
  rw [packC_apply]
  pointwise [k0_pay41]
  rw [hM, select_ite]
  show (if (x 1).val / 64 = (x 2).val / 16 then _ else _) = if (x 1).val / 64 = (x 2).val / 16 then _ else _
  by_cases hd : (x 1).val / 64 = (x 2).val / 16
  · rw [if_pos hd, if_pos hd]
    simp only [hsum]
    split_ifs <;> (refine congrArg g ?_; congr 2) <;> first | omega | skip
  · rw [if_neg hd, if_neg hd]

/-- A tile of packed gate matrices. -/
theorem tile_g (S : FVec Ideal S16x128 .bf16) (M : IVec S128x128 1)
    (hS : ∀ i, S i = if (i 0).val = (i 1).val % 16 then (1 : EReal) else 0) (hM : ∀ i, M i = if (i 0).val / 16 = (i 1).val / 16 then 1#1 else 0#1)
    (G : S8x16x16.Idx → EReal) (g : S64x16x16.Idx → EReal) (k : ℕ) (hk : k < 8)
    (hG : ∀ (a : Fin 8) (b : Fin 16) (e : Fin 16), G (ix3 a b e) = g (ix3 ⟨8 * k + a.val, by omega⟩ b e)) (x : S1x128x128.Idx) :
    k0_pay42 (F := Ideal) S M G x = packG g (ix3 ⟨k, hk⟩ (x 1) (x 2)) := by
  have h1 : (x 1).val < 128 := (x 1).isLt
  rw [packG_apply]
  pointwise [k0_pay42]
  rw [hM, select_ite]
  show (if (x 1).val / 16 = (x 2).val / 16 then _ else _) = if (x 1).val / 16 = (x 2).val / 16 then _ else _
  refine if_congr Iff.rfl ?_ rfl
  refine (Finset.sum_congr rfl fun z _ => congrArg (_ * ·) (hS _)).trans ((sum_onehot _ ((x 2).val % 16) (Nat.mod_lt _ (by omega))).trans ?_)
  rw [hG]
  congr 3
  exact congrArg (· + _) (Nat.mul_comm 8 k)

/-- The left half of a tile of packed input matrices. -/
theorem packedB_left (g h : S64x16x64.Idx → EReal) (k : ℕ) (hk : k < 8) (ho) (x : S1x128x512.Idx) :
    packedB g h ((Rect.unit (s := S8x128x1024) ![k, 0, 0] S1x128x512.size ho).idx x) = packB g (ix3 ⟨k, hk⟩ (x 1) (x 2)) := by
  pointwise [packedB]

/-- The right half of a tile of packed input matrices. -/
theorem packedB_right (g h : S64x16x64.Idx → EReal) (k : ℕ) (hk : k < 8) (ho) (x : S1x128x512.Idx) :
    packedB g h ((Rect.unit (s := S8x128x1024) ![k, 0, 512] S1x128x512.size ho).idx x) = packB h (ix3 ⟨k, hk⟩ (x 1) (x 2)) := by
  pointwise [packedB]

/-- The upper half of a tile of packed output matrices. -/
theorem packedC_upper (g h : S64x16x64.Idx → EReal) (k : ℕ) (hk : k < 8) (ho) (x : S1x512x128.Idx) :
    packedC g h ((Rect.unit (s := S8x1024x128) ![k, 0, 0] S1x512x128.size ho).idx x) = packC g (ix3 ⟨k, hk⟩ (x 1) (x 2)) := by
  pointwise [packedC]

/-- The lower half of a tile of packed output matrices. -/
theorem packedC_lower (g h : S64x16x64.Idx → EReal) (k : ℕ) (hk : k < 8) (ho) (x : S1x512x128.Idx) :
    packedC g h ((Rect.unit (s := S8x1024x128) ![k, 512, 0] S1x512x128.size ho).idx x) = packC h (ix3 ⟨k, hk⟩ (x 1) (x 2)) := by
  pointwise [packedC]

/-- A tile of packed gate matrices, in the whole array. -/
theorem packG_tile (g : S64x16x16.Idx → EReal) (k : ℕ) (hk : k < 8) (ho) (x : S1x128x128.Idx) :
    packG g ((Rect.unit (s := S8x128x128) ![k, 0, 0] S1x128x128.size ho).idx x) = packG g (ix3 ⟨k, hk⟩ (x 1) (x 2)) := by
  refine congrArg (packG g) ?_
  funext a
  apply Fin.ext
  fin_cases a <;> simp

/-! ## The packed results, as the kernel computes them from its windows -/

/-- The real part of a complex coefficient times a complex matrix. -/
def mixRe (cr ci : S64x64.Idx → EReal) (br bi : S64x16x64.Idx → EReal) : S64x16x64.Idx → EReal :=
  fun i => cr (ix2 (i 0) (i 2)) * br i - ci (ix2 (i 0) (i 2)) * bi i

/-- The imaginary part of a complex coefficient times a complex matrix. -/
def mixIm (cr ci : S64x64.Idx → EReal) (br bi : S64x16x64.Idx → EReal) : S64x16x64.Idx → EReal :=
  fun i => cr (ix2 (i 0) (i 2)) * bi i + ci (ix2 (i 0) (i 2)) * br i

/-- The slices of eight groups' coefficients. -/
theorem slices8 : ∀ k : Fin 8, S64x64.Slices ![8 * k.val, 0] S8x64 := by decide +kernel

/-- The slices of eight groups' matrices. -/
theorem inb8 (k : ℕ) (hk : k < 8) : ∀ a, (![8 * k, 0, 0] : Fin 3 → Nat) a + S8x16x64.size a ≤ S64x16x64.size a := by
  intro a
  fin_cases a <;> simp <;> omega

/-- The slices of eight groups' gate matrices. -/
theorem inb8g (k : ℕ) (hk : k < 8) : ∀ a, (![8 * k, 0, 0] : Fin 3 → Nat) a + S8x16x16.size a ≤ S64x16x16.size a := by
  intro a
  fin_cases a <;> simp <;> omega

/-- Eight groups' coefficients, repeated along the rows of their matrices. -/
def coef (k : ℕ) (hk : k < 8) (co : FVec Ideal S64x64 .f32) : FVec Ideal S8x16x64 .f32 :=
  broadcastTo S8x16x64 (shapeCast S8x1x64 (extractStridedSlice S8x64 ![8 * k, 0] co (slices8 ⟨k, hk⟩)) shapeCasts_S8x64_S8x1x64) broadcasts_S8x1x64_S8x16x64

/-- Eight groups' matrices. -/
def mats (k : ℕ) (hk : k < 8) (b : Vec Ideal S64x16x64 .f32) : FVec Ideal S8x16x64 .f32 :=
  shapeCast S8x16x64 (View.ld b (Rect.unit (s := S64x16x64) ![8 * k, 0, 0] S8x16x64.size (inb8 k hk))) shapeCasts_S8x16x64_S8x16x64

/-- Eight groups' coefficients at an index. -/
theorem coef_apply (k : ℕ) (hk : k < 8) (co : FVec Ideal S64x64 .f32) (a : Fin 8) (b : Fin 16) (e : Fin 64) :
    coef k hk co (ix3 a b e) = co (ix2 ⟨8 * k + a.val, by omega⟩ e) := by
  pointwise [coef]

/-- Eight groups' matrices at an index. -/
theorem mats_apply (k : ℕ) (hk : k < 8) (v : Vec Ideal S64x16x64 .f32) (a : Fin 8) (b : Fin 16) (e : Fin 64) :
    mats k hk v (ix3 a b e) = v (ix3 ⟨8 * k + a.val, by omega⟩ b e) := by
  pointwise [mats]

/-- The word of minus one. -/
theorem ofBits_neg_one : Ideal.ofBits FTy.f32 3212836864#32 = -1 := by
  have h : Ideal.ofBits FTy.f32 3212836864#32 = ((-(1 : ℝ)) : EReal) := by
    simp [Ideal.ofBits, Ideal.ieee, -EReal.coe_mul, -EReal.coe_neg]
    norm_num
  rw [h, EReal.coe_one]

section Tiles

variable (x0 x1 : Vec Ideal S64x64 .f32) (x2 : Vec Ideal S64x1 .f32) (x3 x4 x5 x6 : Vec Ideal S64x16x64 .f32) (x7 : Vec Ideal S64x16x16 .f32)

/-- The real half of tile `k` of the packed input matrices. -/
theorem piece_b_left (k : ℕ) (hk : k < 8) (cr ci : FVec Ideal S64x64 .f32) (ho) (x : S1x128x512.Idx) :
    k0_pay38 (F := Ideal) (k0_pay121 x0 x1 x2 x3 x4 x5 x6 x7) (k0_pay124 x0 x1 x2 x3 x4 x5 x6 x7)
        (subf (mulf (coef k hk cr) (mats k hk x3)) (mulf (coef k hk ci) (mats k hk x4))) x
      = packedB (mixRe cr ci x3 x4) (mixIm cr ci x3 x4) ((Rect.unit (s := S8x128x1024) ![k, 0, 0] S1x128x512.size ho).idx x) := by
  rw [packedB_left _ _ k hk]
  refine tile_b _ _ (spread_p x0 x1 x2 x3 x4 x5 x6 x7) (mask_b x0 x1 x2 x3 x4 x5 x6 x7) _ _ k hk (fun a b e => ?_) x
  show coef k hk cr _ * mats k hk x3 _ - coef k hk ci _ * mats k hk x4 _ = _
  rw [coef_apply, coef_apply, mats_apply, mats_apply]
  rfl

/-- The imaginary half of tile `k` of the packed input matrices. -/
theorem piece_b_right (k : ℕ) (hk : k < 8) (cr ci : FVec Ideal S64x64 .f32) (ho) (x : S1x128x512.Idx) :
    k0_pay38 (F := Ideal) (k0_pay121 x0 x1 x2 x3 x4 x5 x6 x7) (k0_pay124 x0 x1 x2 x3 x4 x5 x6 x7)
        (addf (mulf (coef k hk cr) (mats k hk x4)) (mulf (coef k hk ci) (mats k hk x3))) x
      = packedB (mixRe cr ci x3 x4) (mixIm cr ci x3 x4) ((Rect.unit (s := S8x128x1024) ![k, 0, 512] S1x128x512.size ho).idx x) := by
  rw [packedB_right _ _ k hk]
  refine tile_b _ _ (spread_p x0 x1 x2 x3 x4 x5 x6 x7) (mask_b x0 x1 x2 x3 x4 x5 x6 x7) _ _ k hk (fun a b e => ?_) x
  show coef k hk cr _ * mats k hk x4 _ + coef k hk ci _ * mats k hk x3 _ = _
  rw [coef_apply, coef_apply, mats_apply, mats_apply]
  rfl

/-- The real half of tile `k` of the packed output matrices. -/
theorem piece_c_upper (k : ℕ) (hk : k < 8) (ho) (x : S1x512x128.Idx) :
    k0_pay41 (F := Ideal) (k0_pay123 x0 x1 x2 x3 x4 x5 x6 x7) (k0_pay125 x0 x1 x2 x3 x4 x5 x6 x7)
        (mulf (broadcast S8x16x64 (Scalar.ofBits .f32 0x3F800000#32)) (mats k hk x5)) x
      = packedC x5 (fun i => - x6 i) ((Rect.unit (s := S8x1024x128) ![k, 0, 0] S1x512x128.size ho).idx x) := by
  rw [packedC_upper _ _ k hk]
  refine tile_c _ _ (eye_gh x0 x1 x2 x3 x4 x5 x6 x7) (mask_c x0 x1 x2 x3 x4 x5 x6 x7) _ _ k hk (fun a b e => ?_) x
  pointwise [mats]

/-- The imaginary half of tile `k` of the packed output matrices. -/
theorem piece_c_lower (k : ℕ) (hk : k < 8) (ho) (x : S1x512x128.Idx) :
    k0_pay41 (F := Ideal) (k0_pay123 x0 x1 x2 x3 x4 x5 x6 x7) (k0_pay125 x0 x1 x2 x3 x4 x5 x6 x7)
        (mulf (broadcast S8x16x64 (Scalar.ofBits .f32 0xBF800000#32)) (mats k hk x6)) x
      = packedC x5 (fun i => - x6 i) ((Rect.unit (s := S8x1024x128) ![k, 512, 0] S1x512x128.size ho).idx x) := by
  rw [packedC_lower _ _ k hk]
  refine tile_c _ _ (eye_gh x0 x1 x2 x3 x4 x5 x6 x7) (mask_c x0 x1 x2 x3 x4 x5 x6 x7) _ _ k hk (fun a b e => ?_) x
  show Ideal.ofBits FTy.f32 3212836864#32 * mats k hk x6 _ = _
  rw [ofBits_neg_one, mats_apply, neg_mul, one_mul]

/-- Tile `k` of the packed gate matrices. -/
theorem piece_g (k : ℕ) (hk : k < 8) (ho) (x : S1x128x128.Idx) :
    k0_pay42 (F := Ideal) (k0_pay122 x0 x1 x2 x3 x4 x5 x6 x7) (k0_pay126 x0 x1 x2 x3 x4 x5 x6 x7)
        (View.ld x7 (Rect.unit (s := S64x16x16) ![8 * k, 0, 0] S8x16x16.size (inb8g k hk))) x
      = packG x7 ((Rect.unit (s := S8x128x128) ![k, 0, 0] S1x128x128.size ho).idx x) := by
  rw [packG_tile _ k hk]
  refine tile_g _ _ (spread_h x0 x1 x2 x3 x4 x5 x6 x7) (mask_g x0 x1 x2 x3 x4 x5 x6 x7) _ _ k hk (fun a b e => ?_) x
  pointwise []

/-- The packed gate matrices the kernel leaves. -/
theorem out_g (y : S8x128x128.Idx) : out0_12 (F := Ideal) x0 x1 x2 x3 x4 x5 x6 x7 y = packG x7 y := by
  unfold out0_12
  refine View.canon_apply_of_pieces (fun y => show Elt Ideal .bf16 from packG x7 y) _ ?_ y (cover0_12 _ _ _ _ _ _ _ _ y)
  intro pc hpc
  rcases List.mem_cons.mp hpc with rfl | hpc
  · exact fun x => piece_g x0 x1 x2 x3 x4 x5 x6 x7 7 (by decide) inb_S8x128x128_S1x128x128_7_0_0 x
  rcases List.mem_cons.mp hpc with rfl | hpc
  · exact fun x => piece_g x0 x1 x2 x3 x4 x5 x6 x7 6 (by decide) inb_S8x128x128_S1x128x128_6_0_0 x
  rcases List.mem_cons.mp hpc with rfl | hpc
  · exact fun x => piece_g x0 x1 x2 x3 x4 x5 x6 x7 5 (by decide) inb_S8x128x128_S1x128x128_5_0_0 x
  rcases List.mem_cons.mp hpc with rfl | hpc
  · exact fun x => piece_g x0 x1 x2 x3 x4 x5 x6 x7 4 (by decide) inb_S8x128x128_S1x128x128_4_0_0 x
  rcases List.mem_cons.mp hpc with rfl | hpc
  · exact fun x => piece_g x0 x1 x2 x3 x4 x5 x6 x7 3 (by decide) inb_S8x128x128_S1x128x128_3_0_0 x
  rcases List.mem_cons.mp hpc with rfl | hpc
  · exact fun x => piece_g x0 x1 x2 x3 x4 x5 x6 x7 2 (by decide) inb_S8x128x128_S1x128x128_2_0_0 x
  rcases List.mem_cons.mp hpc with rfl | hpc
  · exact fun x => piece_g x0 x1 x2 x3 x4 x5 x6 x7 1 (by decide) inb_S8x128x128_S1x128x128_1_0_0 x
  rcases List.mem_cons.mp hpc with rfl | hpc
  · exact fun x => piece_g x0 x1 x2 x3 x4 x5 x6 x7 0 (by decide) inb_S8x128x128_S1x128x128_0_0_0 x
  nomatch hpc

/-- The packed input matrices the kernel leaves. -/
theorem out_b (y : S8x128x1024.Idx) : out0_10 (F := Ideal) x0 x1 x2 x3 x4 x5 x6 x7 y
    = packedB (mixRe (k0_pay119 x0 x1 x2 x3 x4 x5 x6 x7) (k0_pay120 x0 x1 x2 x3 x4 x5 x6 x7) x3 x4)
        (mixIm (k0_pay119 x0 x1 x2 x3 x4 x5 x6 x7) (k0_pay120 x0 x1 x2 x3 x4 x5 x6 x7) x3 x4) y := by
  unfold out0_10
  refine View.canon_apply_of_pieces (fun y => show Elt Ideal .bf16 from packedB (mixRe (k0_pay119 x0 x1 x2 x3 x4 x5 x6 x7) (k0_pay120 x0 x1 x2 x3 x4 x5 x6 x7) x3 x4)
    (mixIm (k0_pay119 x0 x1 x2 x3 x4 x5 x6 x7) (k0_pay120 x0 x1 x2 x3 x4 x5 x6 x7) x3 x4) y) _ ?_ y (cover0_10 _ _ _ _ _ _ _ _ _ _ _ _ _ _ _ _ y)
  intro pc hpc
  rcases List.mem_cons.mp hpc with rfl | hpc
  · exact fun x => piece_b_right x0 x1 x2 x3 x4 x5 x6 x7 7 (by decide) (k0_pay119 x0 x1 x2 x3 x4 x5 x6 x7) (k0_pay120 x0 x1 x2 x3 x4 x5 x6 x7) inb_S8x128x1024_S1x128x512_7_0_512 x
  rcases List.mem_cons.mp hpc with rfl | hpc
  · exact fun x => piece_b_left x0 x1 x2 x3 x4 x5 x6 x7 7 (by decide) (k0_pay119 x0 x1 x2 x3 x4 x5 x6 x7) (k0_pay120 x0 x1 x2 x3 x4 x5 x6 x7) inb_S8x128x1024_S1x128x512_7_0_0 x
  rcases List.mem_cons.mp hpc with rfl | hpc
  · exact fun x => piece_b_right x0 x1 x2 x3 x4 x5 x6 x7 6 (by decide) (k0_pay119 x0 x1 x2 x3 x4 x5 x6 x7) (k0_pay120 x0 x1 x2 x3 x4 x5 x6 x7) inb_S8x128x1024_S1x128x512_6_0_512 x
  rcases List.mem_cons.mp hpc with rfl | hpc
  · exact fun x => piece_b_left x0 x1 x2 x3 x4 x5 x6 x7 6 (by decide) (k0_pay119 x0 x1 x2 x3 x4 x5 x6 x7) (k0_pay120 x0 x1 x2 x3 x4 x5 x6 x7) inb_S8x128x1024_S1x128x512_6_0_0 x
  rcases List.mem_cons.mp hpc with rfl | hpc
  · exact fun x => piece_b_right x0 x1 x2 x3 x4 x5 x6 x7 5 (by decide) (k0_pay119 x0 x1 x2 x3 x4 x5 x6 x7) (k0_pay120 x0 x1 x2 x3 x4 x5 x6 x7) inb_S8x128x1024_S1x128x512_5_0_512 x
  rcases List.mem_cons.mp hpc with rfl | hpc
  · exact fun x => piece_b_left x0 x1 x2 x3 x4 x5 x6 x7 5 (by decide) (k0_pay119 x0 x1 x2 x3 x4 x5 x6 x7) (k0_pay120 x0 x1 x2 x3 x4 x5 x6 x7) inb_S8x128x1024_S1x128x512_5_0_0 x
  rcases List.mem_cons.mp hpc with rfl | hpc
  · exact fun x => piece_b_right x0 x1 x2 x3 x4 x5 x6 x7 4 (by decide) (k0_pay119 x0 x1 x2 x3 x4 x5 x6 x7) (k0_pay120 x0 x1 x2 x3 x4 x5 x6 x7) inb_S8x128x1024_S1x128x512_4_0_512 x
  rcases List.mem_cons.mp hpc with rfl | hpc
  · exact fun x => piece_b_left x0 x1 x2 x3 x4 x5 x6 x7 4 (by decide) (k0_pay119 x0 x1 x2 x3 x4 x5 x6 x7) (k0_pay120 x0 x1 x2 x3 x4 x5 x6 x7) inb_S8x128x1024_S1x128x512_4_0_0 x
  rcases List.mem_cons.mp hpc with rfl | hpc
  · exact fun x => piece_b_right x0 x1 x2 x3 x4 x5 x6 x7 3 (by decide) (k0_pay119 x0 x1 x2 x3 x4 x5 x6 x7) (k0_pay120 x0 x1 x2 x3 x4 x5 x6 x7) inb_S8x128x1024_S1x128x512_3_0_512 x
  rcases List.mem_cons.mp hpc with rfl | hpc
  · exact fun x => piece_b_left x0 x1 x2 x3 x4 x5 x6 x7 3 (by decide) (k0_pay119 x0 x1 x2 x3 x4 x5 x6 x7) (k0_pay120 x0 x1 x2 x3 x4 x5 x6 x7) inb_S8x128x1024_S1x128x512_3_0_0 x
  rcases List.mem_cons.mp hpc with rfl | hpc
  · exact fun x => piece_b_right x0 x1 x2 x3 x4 x5 x6 x7 2 (by decide) (k0_pay119 x0 x1 x2 x3 x4 x5 x6 x7) (k0_pay120 x0 x1 x2 x3 x4 x5 x6 x7) inb_S8x128x1024_S1x128x512_2_0_512 x
  rcases List.mem_cons.mp hpc with rfl | hpc
  · exact fun x => piece_b_left x0 x1 x2 x3 x4 x5 x6 x7 2 (by decide) (k0_pay119 x0 x1 x2 x3 x4 x5 x6 x7) (k0_pay120 x0 x1 x2 x3 x4 x5 x6 x7) inb_S8x128x1024_S1x128x512_2_0_0 x
  rcases List.mem_cons.mp hpc with rfl | hpc
  · exact fun x => piece_b_right x0 x1 x2 x3 x4 x5 x6 x7 1 (by decide) (k0_pay119 x0 x1 x2 x3 x4 x5 x6 x7) (k0_pay120 x0 x1 x2 x3 x4 x5 x6 x7) inb_S8x128x1024_S1x128x512_1_0_512 x
  rcases List.mem_cons.mp hpc with rfl | hpc
  · exact fun x => piece_b_left x0 x1 x2 x3 x4 x5 x6 x7 1 (by decide) (k0_pay119 x0 x1 x2 x3 x4 x5 x6 x7) (k0_pay120 x0 x1 x2 x3 x4 x5 x6 x7) inb_S8x128x1024_S1x128x512_1_0_0 x
  rcases List.mem_cons.mp hpc with rfl | hpc
  · exact fun x => piece_b_right x0 x1 x2 x3 x4 x5 x6 x7 0 (by decide) (k0_pay119 x0 x1 x2 x3 x4 x5 x6 x7) (k0_pay120 x0 x1 x2 x3 x4 x5 x6 x7) inb_S8x128x1024_S1x128x512_0_0_512 x
  rcases List.mem_cons.mp hpc with rfl | hpc
  · exact fun x => piece_b_left x0 x1 x2 x3 x4 x5 x6 x7 0 (by decide) (k0_pay119 x0 x1 x2 x3 x4 x5 x6 x7) (k0_pay120 x0 x1 x2 x3 x4 x5 x6 x7) inb_S8x128x1024_S1x128x512_0_0_0 x
  nomatch hpc

/-- The packed output matrices the kernel leaves. -/
theorem out_c (y : S8x1024x128.Idx) : out0_11 (F := Ideal) x0 x1 x2 x3 x4 x5 x6 x7 y = packedC x5 (fun i => - x6 i) y := by
  unfold out0_11
  refine View.canon_apply_of_pieces (fun y => show Elt Ideal .bf16 from packedC x5 (fun i => - x6 i) y) _ ?_ y (cover0_11 _ _ _ _ _ _ _ _ _ _ _ _ _ _ _ _ y)
  intro pc hpc
  rcases List.mem_cons.mp hpc with rfl | hpc
  · exact fun x => piece_c_lower x0 x1 x2 x3 x4 x5 x6 x7 7 (by decide) inb_S8x1024x128_S1x512x128_7_512_0 x
  rcases List.mem_cons.mp hpc with rfl | hpc
  · exact fun x => piece_c_upper x0 x1 x2 x3 x4 x5 x6 x7 7 (by decide) inb_S8x1024x128_S1x512x128_7_0_0 x
  rcases List.mem_cons.mp hpc with rfl | hpc
  · exact fun x => piece_c_lower x0 x1 x2 x3 x4 x5 x6 x7 6 (by decide) inb_S8x1024x128_S1x512x128_6_512_0 x
  rcases List.mem_cons.mp hpc with rfl | hpc
  · exact fun x => piece_c_upper x0 x1 x2 x3 x4 x5 x6 x7 6 (by decide) inb_S8x1024x128_S1x512x128_6_0_0 x
  rcases List.mem_cons.mp hpc with rfl | hpc
  · exact fun x => piece_c_lower x0 x1 x2 x3 x4 x5 x6 x7 5 (by decide) inb_S8x1024x128_S1x512x128_5_512_0 x
  rcases List.mem_cons.mp hpc with rfl | hpc
  · exact fun x => piece_c_upper x0 x1 x2 x3 x4 x5 x6 x7 5 (by decide) inb_S8x1024x128_S1x512x128_5_0_0 x
  rcases List.mem_cons.mp hpc with rfl | hpc
  · exact fun x => piece_c_lower x0 x1 x2 x3 x4 x5 x6 x7 4 (by decide) inb_S8x1024x128_S1x512x128_4_512_0 x
  rcases List.mem_cons.mp hpc with rfl | hpc
  · exact fun x => piece_c_upper x0 x1 x2 x3 x4 x5 x6 x7 4 (by decide) inb_S8x1024x128_S1x512x128_4_0_0 x
  rcases List.mem_cons.mp hpc with rfl | hpc
  · exact fun x => piece_c_lower x0 x1 x2 x3 x4 x5 x6 x7 3 (by decide) inb_S8x1024x128_S1x512x128_3_512_0 x
  rcases List.mem_cons.mp hpc with rfl | hpc
  · exact fun x => piece_c_upper x0 x1 x2 x3 x4 x5 x6 x7 3 (by decide) inb_S8x1024x128_S1x512x128_3_0_0 x
  rcases List.mem_cons.mp hpc with rfl | hpc
  · exact fun x => piece_c_lower x0 x1 x2 x3 x4 x5 x6 x7 2 (by decide) inb_S8x1024x128_S1x512x128_2_512_0 x
  rcases List.mem_cons.mp hpc with rfl | hpc
  · exact fun x => piece_c_upper x0 x1 x2 x3 x4 x5 x6 x7 2 (by decide) inb_S8x1024x128_S1x512x128_2_0_0 x
  rcases List.mem_cons.mp hpc with rfl | hpc
  · exact fun x => piece_c_lower x0 x1 x2 x3 x4 x5 x6 x7 1 (by decide) inb_S8x1024x128_S1x512x128_1_512_0 x
  rcases List.mem_cons.mp hpc with rfl | hpc
  · exact fun x => piece_c_upper x0 x1 x2 x3 x4 x5 x6 x7 1 (by decide) inb_S8x1024x128_S1x512x128_1_0_0 x
  rcases List.mem_cons.mp hpc with rfl | hpc
  · exact fun x => piece_c_lower x0 x1 x2 x3 x4 x5 x6 x7 0 (by decide) inb_S8x1024x128_S1x512x128_0_512_0 x
  rcases List.mem_cons.mp hpc with rfl | hpc
  · exact fun x => piece_c_upper x0 x1 x2 x3 x4 x5 x6 x7 0 (by decide) inb_S8x1024x128_S1x512x128_0_0_0 x
  nomatch hpc

end Tiles

/-! ## The windows and the result arrays -/

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0] ∧ win0_3.index t = ![0, 0, 0]
    ∧ win0_4.index t = ![0, 0, 0] ∧ win0_5.index t = ![0, 0, 0] ∧ win0_6.index t = ![0, 0, 0] ∧ win0_7.index t = ![0, 0, 0]
    ∧ win0_8.index t = ![0, 0] ∧ win0_9.index t = ![0, 0] ∧ win0_10.index t = ![0, 0, 0] ∧ win0_11.index t = ![0, 0, 0] ∧ win0_12.index t = ![0, 0, 0] :=
  (by decide +kernel : ∀ t : Fin grid0.N, _)

/-- The real part of the transition, as the kernel computes it from its blocks. -/
theorem abRe_point (c : Dev nD) (t : Fin cfg0.N) (y : S64x64.Idx) : out0_8 (F := Ideal) (iblk m c 0 t) (iblk m c 1 t) (iblk m c 2 t) (iblk m c 3 t) (iblk m c 4 t) (iblk m c 5 t) (iblk m c 6 t) (iblk m c 7 t) y
    = abRe (m ((c.tc : Thread nD τ).loc main_arg0)) (m ((c.tc : Thread nD τ).loc main_arg1)) (m ((c.tc : Thread nD τ).loc main_arg2)) (((cfg0.win 8).blk t).view.emb y) := by
  unfold out0_8
  refine View.canon_apply_of_pieces (fun y => show Elt Ideal .f32 from abRe (m ((c.tc : Thread nD τ).loc main_arg0)) (m ((c.tc : Thread nD τ).loc main_arg1)) (m ((c.tc : Thread nD τ).loc main_arg2)) (((cfg0.win 8).blk t).view.emb y)) _ ?_ y (cover0_8 _ y)
  intro pc hpc
  rcases List.mem_cons.mp hpc with rfl | hpc
  · intro x
    pointwise [k0_pay6, k0_pay5, k0_pay4, k0_pay3, k0_pay2, abRe, scaled, lr, step]
    blk_point [iblk, idx t]
  nomatch hpc

/-- The input matrices' coefficient, real part. -/
theorem coRe_point (c : Dev nD) (t : Fin cfg0.N) (y : S64x64.Idx) : k0_pay119 (F := Ideal) (iblk m c 0 t) (iblk m c 1 t) (iblk m c 2 t) (iblk m c 3 t) (iblk m c 4 t) (iblk m c 5 t) (iblk m c 6 t) (iblk m c 7 t) y = coRe (m ((c.tc : Thread nD τ).loc main_arg0)) (m ((c.tc : Thread nD τ).loc main_arg1)) (m ((c.tc : Thread nD τ).loc main_arg2)) y := by
  pointwise [k0_pay119, k0_pay10, k0_pay9, k0_pay8, k0_pay7, k0_pay6, k0_pay5, k0_pay4, k0_pay3, k0_pay2, coRe, den, abRe1, abRe, abIm, scaled, lr, step]
  blk_point [iblk, idx t]

/-- The input matrices' coefficient, imaginary part. -/
theorem coIm_point (c : Dev nD) (t : Fin cfg0.N) (y : S64x64.Idx) : k0_pay120 (F := Ideal) (iblk m c 0 t) (iblk m c 1 t) (iblk m c 2 t) (iblk m c 3 t) (iblk m c 4 t) (iblk m c 5 t) (iblk m c 6 t) (iblk m c 7 t) y = coIm (m ((c.tc : Thread nD τ).loc main_arg0)) (m ((c.tc : Thread nD τ).loc main_arg1)) (m ((c.tc : Thread nD τ).loc main_arg2)) y := by
  pointwise [k0_pay120, k0_pay11, k0_pay9, k0_pay8, k0_pay7, k0_pay6, k0_pay5, k0_pay4, k0_pay3, k0_pay2, coIm, den, abRe1, abRe, abIm, scaled, lr, step]
  blk_point [iblk, idx t]

/-- The input matrices' block, real part, at an index. -/
theorem b3 (c : Dev nD) (t : Fin cfg0.N) (i : S64x16x64.Idx) : iblk m c 3 t i = (m ((c.tc : Thread nD τ).loc main_arg3)) (ix4 0 (i 0) (i 2) (i 1)) := by
  blk_point [iblk, idx t]

/-- The input matrices' block, imaginary part, at an index. -/
theorem b4 (c : Dev nD) (t : Fin cfg0.N) (i : S64x16x64.Idx) : iblk m c 4 t i = (m ((c.tc : Thread nD τ).loc main_arg4)) (ix4 0 (i 0) (i 2) (i 1)) := by
  blk_point [iblk, idx t]

/-- The output matrices, real part. -/
theorem b5 (c : Dev nD) (t : Fin cfg0.N) : iblk m c 5 t = shapeCast S64x16x64 (m ((c.tc : Thread nD τ).loc main_arg5)) shapeCasts_S1x64x16x64_S64x16x64 := by
  funext i
  blk_point [iblk, idx t]

/-- The output matrices, imaginary part. -/
theorem b6 (c : Dev nD) (t : Fin cfg0.N) : iblk m c 6 t = shapeCast S64x16x64 (m ((c.tc : Thread nD τ).loc main_arg6)) shapeCasts_S1x64x16x64_S64x16x64 := by
  funext i
  blk_point [iblk, idx t]

/-- The gate matrices. -/
theorem b7 (c : Dev nD) (t : Fin cfg0.N) : iblk m c 7 t = shapeCast S64x16x16 (m ((c.tc : Thread nD τ).loc main_arg7)) shapeCasts_S1x64x16x16_S64x16x16 := by
  funext i
  blk_point [iblk, idx t]

/-- The imaginary part of the transition, as the kernel computes it from its blocks. -/
theorem abIm_point (c : Dev nD) (t : Fin cfg0.N) (y : S64x64.Idx) : out0_9 (F := Ideal) (iblk m c 0 t) (iblk m c 1 t) (iblk m c 2 t) (iblk m c 3 t) (iblk m c 4 t) (iblk m c 5 t) (iblk m c 6 t) (iblk m c 7 t) y
    = abIm (m ((c.tc : Thread nD τ).loc main_arg0)) (m ((c.tc : Thread nD τ).loc main_arg1)) (m ((c.tc : Thread nD τ).loc main_arg2)) (((cfg0.win 9).blk t).view.emb y) := by
  unfold out0_9
  refine View.canon_apply_of_pieces (fun y => show Elt Ideal .f32 from abIm (m ((c.tc : Thread nD τ).loc main_arg0)) (m ((c.tc : Thread nD τ).loc main_arg1)) (m ((c.tc : Thread nD τ).loc main_arg2)) (((cfg0.win 9).blk t).view.emb y)) _ ?_ y (cover0_9 _ y)
  intro pc hpc
  rcases List.mem_cons.mp hpc with rfl | hpc
  · intro x
    pointwise [k0_pay7, k0_pay5, k0_pay4, k0_pay3, k0_pay2, abIm, scaled, lr, step]
    blk_point [iblk, idx t]
  nomatch hpc

/-- The discretised input matrices, real part. -/
theorem bbRe_eq (c : Dev nD) (t : Fin cfg0.N) : mixRe (k0_pay119 (F := Ideal) (iblk m c 0 t) (iblk m c 1 t) (iblk m c 2 t) (iblk m c 3 t) (iblk m c 4 t) (iblk m c 5 t) (iblk m c 6 t) (iblk m c 7 t)) (k0_pay120 (F := Ideal) (iblk m c 0 t) (iblk m c 1 t) (iblk m c 2 t) (iblk m c 3 t) (iblk m c 4 t) (iblk m c 5 t) (iblk m c 6 t) (iblk m c 7 t)) (iblk m c 3 t) (iblk m c 4 t)
    = bbRe (coRe (m ((c.tc : Thread nD τ).loc main_arg0)) (m ((c.tc : Thread nD τ).loc main_arg1)) (m ((c.tc : Thread nD τ).loc main_arg2))) (coIm (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) := by
  funext i
  show k0_pay119 (F := Ideal) (iblk m c 0 t) (iblk m c 1 t) (iblk m c 2 t) (iblk m c 3 t) (iblk m c 4 t) (iblk m c 5 t) (iblk m c 6 t) (iblk m c 7 t) (ix2 (i 0) (i 2)) * iblk m c 3 t i - k0_pay120 (F := Ideal) (iblk m c 0 t) (iblk m c 1 t) (iblk m c 2 t) (iblk m c 3 t) (iblk m c 4 t) (iblk m c 5 t) (iblk m c 6 t) (iblk m c 7 t) (ix2 (i 0) (i 2)) * iblk m c 4 t i = _
  rw [coRe_point, coIm_point, b3, b4]
  pointwise [bbRe, times]

/-- The discretised input matrices, imaginary part. -/
theorem bbIm_eq (c : Dev nD) (t : Fin cfg0.N) : mixIm (k0_pay119 (F := Ideal) (iblk m c 0 t) (iblk m c 1 t) (iblk m c 2 t) (iblk m c 3 t) (iblk m c 4 t) (iblk m c 5 t) (iblk m c 6 t) (iblk m c 7 t)) (k0_pay120 (F := Ideal) (iblk m c 0 t) (iblk m c 1 t) (iblk m c 2 t) (iblk m c 3 t) (iblk m c 4 t) (iblk m c 5 t) (iblk m c 6 t) (iblk m c 7 t)) (iblk m c 3 t) (iblk m c 4 t)
    = bbIm (coRe (m ((c.tc : Thread nD τ).loc main_arg0)) (m ((c.tc : Thread nD τ).loc main_arg1)) (m ((c.tc : Thread nD τ).loc main_arg2))) (coIm (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) := by
  funext i
  show k0_pay119 (F := Ideal) (iblk m c 0 t) (iblk m c 1 t) (iblk m c 2 t) (iblk m c 3 t) (iblk m c 4 t) (iblk m c 5 t) (iblk m c 6 t) (iblk m c 7 t) (ix2 (i 0) (i 2)) * iblk m c 4 t i + k0_pay120 (F := Ideal) (iblk m c 0 t) (iblk m c 1 t) (iblk m c 2 t) (iblk m c 3 t) (iblk m c 4 t) (iblk m c 5 t) (iblk m c 6 t) (iblk m c 7 t) (ix2 (i 0) (i 2)) * iblk m c 3 t i = _
  rw [coRe_point, coIm_point, b3, b4]
  pointwise [bbIm, times]

/-- The real part of the transition after the run is the reference's. -/
theorem abRe_final (c : Dev nD) : (dats m 0 c).arrAt 8 cfg0.N = abRe (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  blk_simp
  rw [after0_8]
  exact abRe_point m c t y

/-- The imaginary part of the transition after the run is the reference's. -/
theorem abIm_final (c : Dev nD) : (dats m 0 c).arrAt 9 cfg0.N = abIm (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]
  exact abIm_point m c t y

/-- The packed input matrices after the run are the reference's. -/
theorem b_final (c : Dev nD) : (dats m 0 c).arrAt 10 cfg0.N = refB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 10 _ (by decide +kernel) fun t _ y => ?_
  blk_simp
  rw [after0_10]
  refine (out_b _ _ _ _ _ _ _ _ y).trans ?_
  rw [bbRe_eq, bbIm_eq]
  refine congrArg (refB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ?_
  funext a
  apply Fin.ext
  fin_cases a <;> blk_point [idx t]

/-- The packed output matrices after the run are the reference's. -/
theorem c_final (c : Dev nD) : (dats m 0 c).arrAt 11 cfg0.N = refC (m ((c.tc : Thread nD τ).loc main_arg5)) (m ((c.tc : Thread nD τ).loc main_arg6)) := by
  refine (dats m 0 c).arrAt_eq_of_covers 11 _ (by decide +kernel) fun t _ y => ?_
  blk_simp
  rw [after0_11]
  refine (out_c _ _ _ _ _ _ _ _ y).trans ?_
  rw [b5, b6]
  refine congrArg (refC (m ((c.tc : Thread nD τ).loc main_arg5)) (m ((c.tc : Thread nD τ).loc main_arg6))) ?_
  funext a
  apply Fin.ext
  fin_cases a <;> blk_point [idx t]

/-- The packed gate matrices after the run are the reference's. -/
theorem g_final (c : Dev nD) : (dats m 0 c).arrAt 12 cfg0.N = refG (m ((c.tc : Thread nD τ).loc main_arg7)) := by
  refine (dats m 0 c).arrAt_eq_of_covers 12 _ (by decide +kernel) fun t _ y => ?_
  blk_simp
  rw [after0_12]
  refine (out_g _ _ _ _ _ _ _ _ y).trans ?_
  rw [b7]
  refine congrArg (refG (m ((c.tc : Thread nD τ).loc main_arg7))) ?_
  funext a
  apply Fin.ext
  fin_cases a <;> blk_point [idx t]

/-- The kernel and the reference, over the extended reals, from equal arguments end with equal results. -/
theorem algebraic : Cert.algebraic_ParamsIdeal_ParamsReferenceIdeal := by
  intro m g m' g' _ hargs
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, Cert.ParamsIdeal.Value.run_blocks m g, ?_⟩
  refine (θ_run _ _ _).mono (fun _ h c => ?_) (reference_run m' g')
  obtain ⟨h0, h1, h2, h3, h4, hrest⟩ := h c
  obtain ⟨e0, e1, e2, e3, e4, e5, e6, e7⟩ := hargs c
  refine ⟨h0.trans ?_, h1.trans ?_, h2.trans ?_, h3.trans ?_, h4.trans ?_, hrest⟩
  · rw [e0, e1, e2]; exact (abRe_final m c).symm
  · rw [e0, e1, e2]; exact (abIm_final m c).symm
  · rw [e0, e1, e2, e3, e4]; exact (b_final m c).symm
  · rw [e5, e6]; exact (c_final m c).symm
  · rw [e7]; exact (g_final m c).symm

end Cert.Proof.Params
end
-- ==== Proof.FfnUp.lean ====
/-
  The first call of the feed-forward layer, the gate and up projections: its body at one grid point, and the body's obligation
  at every point over the arrays as the call finds them.
-/
module

public import proofs.«01_k».proof.Proof.Gen.FfnIdeal.Skeleton
public import proofs.«01_k».proof.Proof.Gen.FfnIdeal.Points
public import proofs.«01_k».proof.Proof.Gen.FfnIdeal.Regions
public import Idealize.ShloMosaic.Lib.Pipeline.FrameBody
public import Idealize.ShloMosaic.Lib.Pipeline.DatRel
public import Idealize.ShloMosaic.Lib.Tactic
public import Idealize.ShloMosaic.Lib.WordCmp

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Core `c`'s buffers when the first call is entered. -/
abbrev entryUp (c : Dev nD) (b : Ref sig .tc) : Buf (Elt F) ((c : Thread nD τ).loc b) := V1 m c b

/-- Window `w`'s block at point `t`, read off its array as the call finds it. -/
def blkUp (c : Dev nD) (w : Fin cfg0.W) (t : Fin cfg0.N) : ((cfg0.win w).xblock (cfg0.grid.coords t)).Idx → Elt F (cfg0.win w).elt :=
  ((cfg0.win w).blk t).view.read (Elt F) (entryUp m c (Pipeline.arrRef spec0 w))

/-! ## The body's accesses -/

abbrev r0_0 : Rect S128x2048 := Rect.unit (s := S128x2048) ![0, 0] S128x2048.size inb_S128x2048_S128x2048_0_0
abbrev r0_1 : Rect S2048x2048 := Rect.unit (s := S2048x2048) ![0, 0] S2048x2048.size inb_S2048x2048_S2048x2048_0_0
abbrev r0_2 : Rect S2048x512 := Rect.unit (s := S2048x512) ![0, 0] S2048x256.size inb_S2048x512_S2048x256_0_0
abbrev r0_3 : Rect S2048x512 := Rect.unit (s := S2048x512) ![0, 256] S2048x256.size inb_S2048x512_S2048x256_0_256

/-! ## What the body leaves in each output window's buffer -/

/-- The activations block after the body: its two stores, the last first. -/
def out0_4 (x0 : Vec F S2048x2048 .bf16) (x1 : Vec F S2048x512 .f32) (x2 : Vec F S2048x512 .f32) (x3 : Vec F S128x2048 .f32) : Vec F S2048x512 .bf16 :=
  View.canon [⟨r0_3, k0_pay3 (View.ld x0 r0_1) (View.ld x1 r0_3) (View.ld x2 r0_3)⟩,
    ⟨r0_2, k0_pay2 (View.ld x0 r0_1) (View.ld x1 r0_2) (View.ld x2 r0_2)⟩]

/-- The stores tile the block. -/
theorem cover0_4 (p0 : Vec F S2048x256 .bf16) (p1 : Vec F S2048x256 .bf16) (y : S2048x512.Idx) :
    ∃ pc ∈ ([⟨r0_3, p0⟩, ⟨r0_2, p1⟩] : List (View.Piece (Elt F) S2048x512 .bf16)), y ∈ pc.1.set :=
  View.cover_of_tiled [⟨r0_3, p0⟩, ⟨r0_2, p1⟩] S2048x256.size (by rfl) y

/-- The weights' slab after the body: its one store. -/
def out0_5 (x0 : Vec F S2048x2048 .bf16) (x1 : Vec F S2048x512 .f32) (x2 : Vec F S2048x512 .f32) (x3 : Vec F S128x2048 .f32) : Vec F S128x2048 .bf16 :=
  View.canon [⟨r0_0, k0_pay1 (View.ld x3 r0_0)⟩]

/-- The stores tile the block. -/
theorem cover0_5 (p0 : Vec F S128x2048 .bf16) (y : S128x2048.Idx) :
    ∃ pc ∈ ([⟨r0_0, p0⟩] : List (View.Piece (Elt F) S128x2048 .bf16)), y ∈ pc.1.set :=
  View.cover_of_tiled [⟨r0_0, p0⟩] S128x2048.size (by rfl) y

/-! ## The body's triple -/

set_option maxHeartbeats 1000000 in
/-- The body on whole staging memrefs: the inputs as they were, the outputs at `out0_4` and `out0_5` of them. -/
theorem sound_kernel_up (c : Dev nD) (E : Set ℕ) (i : grid0.Coords) (arg2 : Memref sig .tc .vmem S2048x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S128x2048 .f32) (harg5 : arg5.IsWhole) (arg6 : Memref sig .tc .vmem S2048x512 .bf16) (harg6 : arg6.IsWhole) (arg7 : Memref sig .tc .vmem S128x2048 .bf16) (harg7 : arg7.IsWhole)
    (x0 : Vec F S2048x2048 .bf16) (x1 : Vec F S2048x512 .f32) (x2 : Vec F S2048x512 .f32) (x3 : Vec F S128x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3) ∗ owns (c : Thread nD τ) arg7 fullShare (out0_5 x0 x1 x2 x3)) -∗ K ⟨⟩))
      ⊢ wp frame (wpE (defs₀ (F := F)) Variants.none c none) E (cc0_ffn_up i arg2 harg2 arg3 harg3 arg4 harg4 arg5 harg5 arg6 harg6 arg7 harg7) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _ _)
  iexists _; isplitr
  swap; · iexact H5
  ipureintro
  exact View.read_writes_eq_canon _ _ _ (cover0_5 _)

/-! ## The pipeline's proof data -/

/-- The proof data: the arrays as the call finds them, the inputs' buffers at their blocks, the outputs' at what the body leaves. -/
def up (c : Dev nD) : Dat τ (Elt F) Unit ℕ (UR sig nD τ) ℕ cfg0 c where
  A w := entryUp m c (Pipeline.arrRef spec0 w)
  after w t := match w with
    | ⟨0, _⟩ => blkUp m c 0 t
    | ⟨1, _⟩ => blkUp m c 1 t
    | ⟨2, _⟩ => blkUp m c 2 t
    | ⟨3, _⟩ => blkUp m c 3 t
    | ⟨4, _⟩ => out0_4 (blkUp m c 0 t) (blkUp m c 1 t) (blkUp m c 2 t) (blkUp m c 3 t)
    | ⟨5, _⟩ => out0_5 (blkUp m c 0 t) (blkUp m c 1 t) (blkUp m c 2 t) (blkUp m c 3 t)
  Φ _ := Pipeline.ΦA spec0 c
  q _ := fullShare
  owed _ := 0

theorem A_eq_up (c : Dev nD) (w : Fin cfg0.W) : (up m c).A w = entryUp m c (Pipeline.arrRef spec0 w) := by
  dsimp only [up]

theorem after_up_0 (c : Dev nD) (t : Fin cfg0.N) : (up m c).after 0 t = blkUp m c 0 t := by dsimp only [up]
theorem after_up_1 (c : Dev nD) (t : Fin cfg0.N) : (up m c).after 1 t = blkUp m c 1 t := by dsimp only [up]
theorem after_up_2 (c : Dev nD) (t : Fin cfg0.N) : (up m c).after 2 t = blkUp m c 2 t := by dsimp only [up]
theorem after_up_3 (c : Dev nD) (t : Fin cfg0.N) : (up m c).after 3 t = blkUp m c 3 t := by dsimp only [up]
theorem after_up_4 (c : Dev nD) (t : Fin cfg0.N) : (up m c).after 4 t = out0_4 (blkUp m c 0 t) (blkUp m c 1 t) (blkUp m c 2 t) (blkUp m c 3 t) := by dsimp only [up]
theorem after_up_5 (c : Dev nD) (t : Fin cfg0.N) : (up m c).after 5 t = out0_5 (blkUp m c 0 t) (blkUp m c 1 t) (blkUp m c 2 t) (blkUp m c 3 t) := by dsimp only [up]

theorem before_up_0 (c : Dev nD) (t : Fin cfg0.N) (d) : (up m c).before 0 t d = blkUp m c 0 t :=
  ((up m c).before_in_eq_fetched 0 rfl (fun _ => rfl) (fun _ _ _ => rfl) (fun t => by rw [after_up_0]; rfl) t d).trans rfl
theorem before_up_1 (c : Dev nD) (t : Fin cfg0.N) (d) : (up m c).before 1 t d = blkUp m c 1 t :=
  ((up m c).before_in_eq_fetched 1 rfl (fun _ => rfl) (fun _ _ _ => rfl) (fun t => by rw [after_up_1]; rfl) t d).trans rfl
theorem before_up_2 (c : Dev nD) (t : Fin cfg0.N) (d) : (up m c).before 2 t d = blkUp m c 2 t :=
  ((up m c).before_in_eq_fetched 2 rfl (fun _ => rfl) (fun _ _ _ => rfl) (fun t => by rw [after_up_2]; rfl) t d).trans rfl
theorem before_up_3 (c : Dev nD) (t : Fin cfg0.N) (d) : (up m c).before 3 t d = blkUp m c 3 t :=
  ((up m c).before_in_eq_fetched 3 rfl (fun _ => rfl) (fun _ _ _ => rfl) (fun t => by rw [after_up_3]; rfl) t d).trans rfl

/-! ## The body obligation, at a generic point -/

/-- What the body is handed at point `t`, -/
def bodyPre_up (c : Dev nD) (t : Fin cfg0.N) : sProp 𝕄 :=
  iprop((up m c).Φ t.castSucc ∗ (up m c).owesAt () t.castSucc
    ∗ (∃ d, owns (c : Thread nD τ) (st0_0 t) fullShare ((up m c).before 0 t d))
    ∗ (∃ d, owns (c : Thread nD τ) (st0_1 t) fullShare ((up m c).before 1 t d))
    ∗ (∃ d, owns (c : Thread nD τ) (st0_2 t) fullShare ((up m c).before 2 t d))
    ∗ (∃ d, owns (c : Thread nD τ) (st0_3 t) fullShare ((up m c).before 3 t d))
    ∗ (∃ d, owns (c : Thread nD τ) (st0_4 t) fullShare ((up m c).before 4 t d))
    ∗ (∃ d, owns (c : Thread nD τ) (st0_5 t) fullShare ((up m c).before 5 t d)))

/-- and what it hands back. -/
def bodyPost_up (c : Dev nD) (t : Fin cfg0.N) : sProp 𝕄 :=
  iprop((up m c).Φ t.succ ∗ (up m c).owesAt () t.succ
    ∗ owns (c : Thread nD τ) (st0_0 t) fullShare ((up m c).after 0 t)
    ∗ owns (c : Thread nD τ) (st0_1 t) fullShare ((up m c).after 1 t)
    ∗ owns (c : Thread nD τ) (st0_2 t) fullShare ((up m c).after 2 t)
    ∗ owns (c : Thread nD τ) (st0_3 t) fullShare ((up m c).after 3 t)
    ∗ owns (c : Thread nD τ) (st0_4 t) fullShare ((up m c).after 4 t)
    ∗ owns (c : Thread nD τ) (st0_5 t) fullShare ((up m c).after 5 t))

/-- The body at any point, between the two. -/
theorem sound_body_up (c : Dev nD) (t : Fin cfg0.N) :
    bodyPre_up m c t ⊢ wp frame (wpE (defs₀ (F := F)) Variants.none c none) Set.univ (bodyAt0 t) (fun _ => bodyPost_up m c t) := by
  unfold bodyPre_up bodyPost_up bodyAt0
  simp only [before_up_0, before_up_1, before_up_2, before_up_3]
  rw [show (up m c).Φ t.succ = (up m c).Φ t.castSucc from rfl,
    show (up m c).owesAt () t.succ = (up m c).owesAt () t.castSucc from rfl,
    after_up_0, after_up_1, after_up_2, after_up_3, after_up_4, after_up_5]
  iintro ⟨HΦ, Ho, ⟨%d0, H0⟩, ⟨%d1, H1⟩, ⟨%d2, H2⟩, ⟨%d3, H3⟩, ⟨%d4, H4⟩, ⟨%d5, H5⟩⟩
  iapply (sound_kernel_up c Set.univ (grid0.coords t) _ _ _ _ _ _ _ _ _ _ _ _ (blkUp m c 0 t) (blkUp m c 1 t) (blkUp m c 2 t) (blkUp m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row_up (t : Fin cfg0.N) :
    defs₀ (F := F) .tc cfg0.body (cfg0.bodyArgs t (cfg0.slots t)) = bodyAt0 t := by
  unfold defs₀; rw [Defs.onTc_tc]

/-- The body obligation, at every point. -/
theorem body_obligation_up (c : Dev nD) : BodyObligation (up (F := F) m c) (defs₀ (F := F)) Variants.none () Set.univ := fun t => by
  rw [bigSep_W0, bigSep_W0, defs₀_row_up]
  exact triple_restated (sound_body_up m c t) rfl .rfl fun _ => .rfl

end Cert.Proof.Ffn

end
-- ==== Proof.FfnDown.lean ====
/-
  The second call of the feed-forward layer, the down-projection with the final norm: its body at one grid point, and the body's
  obligation at every point over the arrays as the first call and the host operation after it leave them. An output block is carried
  over its four grid points, so the proof data say of it only what the tiles so far fix.
-/
module

public import proofs.«01_k».proof.Proof.FfnUp
public import Idealize.ShloMosaic.Lib.VecWindow
public import Idealize.ShloMosaic.Lib.Pipeline.DatRel
public import Idealize.ShloMosaic.Lib.Pipeline.ArrRel

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

local notation "𝕄" => MT nD τ sig Unit (Elt F) ℕ (UR sig nD τ) ℕ

variable (m : (ℓ : Loc nD τ sig) → Buf (Elt F) ℓ)

/-! ## What the second call finds -/

/-- What the first call leaves in its two output arrays. -/
def outs : Outs (F := F) := fun _ r c =>
  Function.update (β := fun r : Ref sig .tc => Buf (Elt F) ((c : Thread nD τ).loc r))
    (Function.update (β := fun r : Ref sig .tc => Buf (Elt F) ((c : Thread nD τ).loc r)) (fun r => m ((c : Thread nD τ).loc r))
      main_v3_0 ((up m c).arrAt 4 cfg0.N)) main_v3_1 ((up m c).arrAt 5 cfg0.N) r

theorem outs_act (c : Dev nD) (n : ℕ) : outs m n main_v3_0 c = (up m c).arrAt 4 cfg0.N := by
  unfold outs
  rw [Function.update_of_ne (by decide), Function.update_self]

theorem outs_wdb (c : Dev nD) (n : ℕ) : outs m n main_v3_1 c = (up m c).arrAt 5 cfg0.N := by
  unfold outs
  rw [Function.update_self]

/-- Core `c`'s buffers when the second call is entered. -/
abbrev entryDown (c : Dev nD) (b : Ref sig .tc) : Buf (Elt F) ((c : Thread nD τ).loc b) := V3 m (outs m) c b

/-- Window `w`'s block at point `t`, read off its array as the call finds it. -/
def blkDown (c : Dev nD) (w : Fin cfg1.W) (t : Fin cfg1.N) : ((cfg1.win w).xblock (cfg1.grid.coords t)).Idx → Elt F (cfg1.win w).elt :=
  ((cfg1.win w).blk t).view.read (Elt F) (entryDown m c (Pipeline.arrRef spec1 w))

/-! ## The body -/

/-- The column tile of a grid point: the residual tile plus the product of the activations and the weight columns. -/
abbrev tile (act : Vec F S1024x5632 .bf16) (wd : Vec F S5632x512 .bf16) (x1 : Vec F S1024x512 .f32) : Vec F S1024x512 .f32 :=
  k1_pay1 x1 act wd

/-- The output block `Y` with tile `n` put over its columns. -/
def putTile (n : ℕ) (act : Vec F S1024x5632 .bf16) (wd : Vec F S5632x512 .bf16) (x1 : Vec F S1024x512 .f32) (Y : Vec F S1024x2048 .f32) :
    Vec F S1024x2048 .f32 :=
  VecWindow.put Y ![0, 512 * n] S1024x512.size (tile act wd x1)

/-- What the body leaves in the output block that it finds at `Y`, at a row block's point `n`. -/
def left (n : ℕ) (act : Vec F S1024x5632 .bf16) (wd : Vec F S5632x512 .bf16) (x1 : Vec F S1024x512 .f32) (g : Vec F S1x2048 .f32)
    (Y : Vec F S1024x2048 .f32) : Vec F S1024x2048 .f32 :=
  if n = 3 then k1_pay5 (putTile n act wd x1 Y) g else putTile n act wd x1 Y

set_option maxHeartbeats 2000000 in
/-- The body on whole staging memrefs, at the point whose conditions single out column tile `n`. -/
theorem sound_kernel (c : Dev nD) (E : Set ℕ) (i : grid1.Coords) (arg2 : Memref sig .tc .vmem S1024x5632 .bf16) (harg2 : arg2.IsWhole)
    (arg3 : Memref sig .tc .vmem S5632x512 .bf16) (harg3 : arg3.IsWhole) (arg4 : Memref sig .tc .vmem S1024x512 .f32) (harg4 : arg4.IsWhole)
    (arg5 : Memref sig .tc .vmem S1x2048 .f32) (harg5 : arg5.IsWhole) (arg6 : Memref sig .tc .vmem S1024x2048 .f32) (harg6 : arg6.IsWhole)
    (n : ℕ) (hn : n < 4) (h1 : k1_cond1 i = 1#1 ↔ n = 0) (h2 : k1_cond2 i = 1#1 ↔ n = 1) (h3 : k1_cond3 i = 1#1 ↔ n = 2)
    (h4 : k1_cond4 i = 1#1 ↔ n = 3) (h5 : k1_cond5 i = 1#1 ↔ n = 3)
    (act : Vec F S1024x5632 .bf16) (wd : Vec F S5632x512 .bf16) (x1 : Vec F S1024x512 .f32) (g : Vec F S1x2048 .f32) (Y : Vec F S1024x2048 .f32)
    (K : PUnit → sProp 𝕄) :
    iprop(owns (c : Thread nD τ) arg2 fullShare act ∗ owns (c : Thread nD τ) arg3 fullShare wd ∗ owns (c : Thread nD τ) arg4 fullShare x1
        ∗ owns (c : Thread nD τ) arg5 fullShare g ∗ owns (c : Thread nD τ) arg6 fullShare Y
        ∗ (iprop(owns (c : Thread nD τ) arg2 fullShare act ∗ owns (c : Thread nD τ) arg3 fullShare wd ∗ owns (c : Thread nD τ) arg4 fullShare x1
            ∗ owns (c : Thread nD τ) arg5 fullShare g ∗ owns (c : Thread nD τ) arg6 fullShare (left n act wd x1 g Y)) -∗ K ⟨⟩))
      ⊢ wp frame (wpE (defs₀ (F := F)) Variants.none c none) E
          (cc1_ffn_down i arg2 harg2 arg3 harg3 arg4 harg4 arg5 harg5 arg6 harg6) K := by
  simp only [cc1_ffn_down_eq_skeleton]; unfold cc1_ffn_down_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  have e0 := View.readAt_full arg2.view f0 inb_S1024x5632_S1024x5632_0_0
  have e1 := View.readAt_full arg3.view f1 inb_S5632x512_S5632x512_0_0
  have e2 := View.readAt_full arg4.view f2 inb_S1024x512_S1024x512_0_0
  have e3 := View.readAt_full arg5.view f3 inb_S1x2048_S1x2048_0_0
  obtain rfl | rfl | rfl | rfl : n = 0 ∨ n = 1 ∨ n = 2 ∨ n = 3 := by omega
  all_goals
    simp only [reduceIte, iff_true, iff_false, Nat.reduceEqDiff, OfNat.ofNat_ne_zero, OfNat.zero_ne_ofNat, OfNat.ofNat_ne_one, OfNat.one_ne_ofNat, one_ne_zero, zero_ne_one] at h1 h2 h3 h4 h5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
  · exact (View.read_writes_cons_put arg6.view f4 _ _ [] rfl).trans (by rw [View.writes_nil]; rfl)
  · exact (View.read_writes_cons_put arg6.view f4 _ _ [] rfl).trans (by rw [View.writes_nil]; rfl)
  · exact (View.read_writes_cons_put arg6.view f4 _ _ [] rfl).trans (by rw [View.writes_nil]; rfl)
  · refine (View.read_writes_full arg6.view f4 _ _ _).trans ?_
    unfold sound_kernel.sl.H4_1
    refine (congrArg (fun Z => k1_pay5 Z (View.read (Elt F) arg5.view f3)) ((View.readAt_full arg6.view _ _).trans
      ((View.read_writes_cons_put arg6.view f4 _ _ [] rfl).trans (by rw [View.writes_nil]; rfl)))).trans rfl

/-! ## The output block, tile by tile -/

/-- The grid point that computes column tile `k` of point `t`'s row block. -/
def pt (t : Fin cfg1.N) (k : ℕ) (hk : k < 4) : Fin cfg1.N :=
  ⟨4 * (t.val / 4) + k, by have h : t.val < 32 := t.isLt; show _ < 32; omega⟩

/-- Column tile `k` of point `t`'s row block. -/
def tileAt (c : Dev nD) (t : Fin cfg1.N) (k : ℕ) (hk : k < 4) : Vec F S1024x512 .f32 :=
  tile (blkDown m c 0 (pt t k hk)) (blkDown m c 1 (pt t k hk)) (blkDown m c 2 (pt t k hk))

/-- Point `t`'s row block before the norm: its four column tiles side by side. -/
def block (c : Dev nD) (t : Fin cfg1.N) : Vec F S1024x2048 .f32 := fun y =>
  tileAt m c t ((y 1).val / 512) (by have h : (y 1).val < 2048 := (y 1).isLt; omega)
    (fun a => match a with
      | ⟨0, _⟩ => ⟨(y 0).val, (y 0).isLt⟩
      | ⟨1, _⟩ => ⟨(y 1).val % 512, Nat.mod_lt _ (by decide)⟩)

/-- What is known of point `t`'s output block after it: up to the row block's last point, the columns of the tiles so far; at it, all. -/
def Known (c : Dev nD) (t : Fin cfg1.N) (X : Vec F S1024x2048 .f32) : Prop :=
  if t.val % 4 = 3 then X = k1_pay5 (block m c t) (blkDown m c 3 t)
  else ∀ y : S1024x2048.Idx, (y 1).val < 512 * (t.val % 4 + 1) → X y = block m c t y

theorem pt_self (t : Fin cfg1.N) (k : ℕ) (hk : k < 4) (h : k = t.val % 4) : pt t k hk = t :=
  Fin.ext (by show 4 * (t.val / 4) + k = t.val; omega)

/-- The points of a row block speak of one block. -/
theorem block_congr (c : Dev nD) (t t' : Fin cfg1.N) (h : t.val / 4 = t'.val / 4) : block m c t = block m c t' := by
  have e : ∀ k hk, pt t k hk = pt t' k hk := fun k hk => Fin.ext (by show 4 * (t.val / 4) + k = 4 * (t'.val / 4) + k; rw [h])
  funext y
  unfold block tileAt
  rw [e]

/-- A tile put over a block right in the columns before it leaves a block right in its columns too. -/
theorem putTile_known (c : Dev nD) (t : Fin cfg1.N) (Y : Vec F S1024x2048 .f32)
    (hY : ∀ y : S1024x2048.Idx, (y 1).val < 512 * (t.val % 4) → Y y = block m c t y) (y : S1024x2048.Idx)
    (hy : (y 1).val < 512 * (t.val % 4 + 1)) :
    putTile (t.val % 4) (blkDown m c 0 t) (blkDown m c 1 t) (blkDown m c 2 t) Y y = block m c t y := by
  unfold putTile VecWindow.put
  by_cases hlt : (y 1).val < 512 * (t.val % 4)
  · rw [dif_neg fun h => absurd (h 1).1 (by show ¬ 512 * (t.val % 4) ≤ (y 1).val; omega)]
    exact hY y hlt
  · have hk : (y 1).val / 512 = t.val % 4 := by omega
    have hin : ∀ a : Fin 2, (![0, 512 * (t.val % 4)] : Fin 2 → ℕ) a ≤ (y a).val
        ∧ (y a).val < (![0, 512 * (t.val % 4)] : Fin 2 → ℕ) a + S1024x512.size a :=
      Fin.forall_fin_two.mpr ⟨⟨Nat.zero_le _, by have h : (y 0).val < 1024 := (y 0).isLt; show (y 0).val < 0 + 1024; omega⟩,
        by show 512 * (t.val % 4) ≤ (y 1).val; omega, by show (y 1).val < 512 * (t.val % 4) + 512; omega⟩
    rw [dif_pos hin]
    unfold block tileAt
    rw [pt_self t _ _ hk]
    refine congrArg (tile (blkDown m c 0 t) (blkDown m c 1 t) (blkDown m c 2 t)) (funext fun a => Fin.ext ?_)
    match a with
    | ⟨0, _⟩ => exact Nat.sub_zero _
    | ⟨1, _⟩ => show (y 1).val - 512 * (t.val % 4) = (y 1).val % 512; omega

/-- What the body leaves in a block right in the columns before its tile. -/
theorem left_known (c : Dev nD) (t : Fin cfg1.N) (Y : Vec F S1024x2048 .f32)
    (hY : ∀ y : S1024x2048.Idx, (y 1).val < 512 * (t.val % 4) → Y y = block m c t y) :
    Known m c t (left (t.val % 4) (blkDown m c 0 t) (blkDown m c 1 t) (blkDown m c 2 t) (blkDown m c 3 t) Y) := by
  unfold Known left
  split
  · next h =>
    refine congrArg (fun Z => k1_pay5 Z (blkDown m c 3 t)) (funext fun y => putTile_known m c t Y hY y ?_)
    have hb : (y 1).val < 2048 := (y 1).isLt
    omega
  · exact putTile_known m c t Y hY

/-! ## The proof data -/

/-- The inputs' buffers hold their blocks; the output's exact contents are not used (`Known` speaks of them). -/
def down (c : Dev nD) : Dat τ (Elt F) Unit ℕ (UR sig nD τ) ℕ cfg1 c where
  A w := entryDown m c (Pipeline.arrRef spec1 w)
  after w t := match w with
    | ⟨0, _⟩ => blkDown m c 0 t
    | ⟨1, _⟩ => blkDown m c 1 t
    | ⟨2, _⟩ => blkDown m c 2 t
    | ⟨3, _⟩ => blkDown m c 3 t
    | ⟨4, _⟩ => block m c t
  Φ _ := Pipeline.ΦA spec1 c
  q _ := fullShare
  owed _ := 0

theorem A_eq (c : Dev nD) (w : Fin cfg1.W) : (down m c).A w = entryDown m c (Pipeline.arrRef spec1 w) := by
  dsimp only [down]

theorem after_0 (c : Dev nD) (t : Fin cfg1.N) : (down m c).after 0 t = blkDown m c 0 t := by dsimp only [down]
theorem after_1 (c : Dev nD) (t : Fin cfg1.N) : (down m c).after 1 t = blkDown m c 1 t := by dsimp only [down]
theorem after_2 (c : Dev nD) (t : Fin cfg1.N) : (down m c).after 2 t = blkDown m c 2 t := by dsimp only [down]
theorem after_3 (c : Dev nD) (t : Fin cfg1.N) : (down m c).after 3 t = blkDown m c 3 t := by dsimp only [down]

/-- The output window is the one held to a predicate, -/
def marked : Fin cfg1.W → Bool := fun w => match w with
  | ⟨4, _⟩ => true
  | _ => false
/-- which is `Known`. -/
def rel (c : Dev nD) : (w : Fin cfg1.W) → Fin cfg1.N → ((cfg1.win w).block.Idx → Elt F (cfg1.win w).elt) → Prop := fun w => match w with
  | ⟨4, _⟩ => fun t X => Known m c t X
  | _ => fun _ _ => True

/-- The proof data with the output window held to `Known`. -/
def rdown (c : Dev nD) : RDat τ (Elt F) Unit ℕ (UR sig nD τ) ℕ cfg1 c := (down m c).toRRel marked (rel m c)

/-- What the body finds in the output window's buffer is right in the columns before the point's tile. -/
theorem finds_out (c : Dev nD) (t : Fin cfg1.N) (Y : Vec F S1024x2048 .f32) (hY : (rdown m c).Finds 4 t Y) (y : S1024x2048.Idx)
    (hy : (y 1).val < 512 * (t.val % 4)) : Y y = block m c t y := by
  have h4 : t.val % 4 ≠ 0 := by intro e; rw [e] at hy; omega
  have h0 : t.val ≠ 0 := by intro e; rw [e] at h4; exact h4 rfl
  rcases ((rdown m c).finds_of_pos (w := 4) rfl h0 Y).mp hY with hf | hL
  · have := (flush1_4 _).mp hf
    simp only at this
    omega
  · have hK : Known m c _ Y := (down m c).toRRel_leaves (w := 4) rfl hL
    unfold Known at hK
    rw [if_neg (by simp only; omega)] at hK
    rw [hK y (by simp only; omega)]
    exact congrFun (block_congr m c _ t (by simp only; omega)) y

/-! ## The body obligation -/

/-- Each point's conditions single out its column tile. -/
theorem conds : ∀ t : Fin cfg1.N, (k1_cond1 (grid1.coords t) = 1#1 ↔ t.val % 4 = 0) ∧ (k1_cond2 (grid1.coords t) = 1#1 ↔ t.val % 4 = 1)
    ∧ (k1_cond3 (grid1.coords t) = 1#1 ↔ t.val % 4 = 2) ∧ (k1_cond4 (grid1.coords t) = 1#1 ↔ t.val % 4 = 3)
    ∧ (k1_cond5 (grid1.coords t) = 1#1 ↔ t.val % 4 = 3) :=
  (by decide +kernel : ∀ t : Fin grid1.N, _)

theorem before_0 (c : Dev nD) (t : Fin cfg1.N) (d) : (down m c).before 0 t d = blkDown m c 0 t :=
  ((down m c).before_in_eq_fetched 0 rfl (fun _ => rfl) (fun _ _ _ => rfl) (fun t => by rw [after_0]; rfl) t d).trans rfl
theorem before_1 (c : Dev nD) (t : Fin cfg1.N) (d) : (down m c).before 1 t d = blkDown m c 1 t :=
  ((down m c).before_in_eq_fetched 1 rfl (fun _ => rfl) (fun _ _ _ => rfl) (fun t => by rw [after_1]; rfl) t d).trans rfl
theorem before_2 (c : Dev nD) (t : Fin cfg1.N) (d) : (down m c).before 2 t d = blkDown m c 2 t :=
  ((down m c).before_in_eq_fetched 2 rfl (fun _ => rfl) (fun _ _ _ => rfl) (fun t => by rw [after_2]; rfl) t d).trans rfl
theorem before_3 (c : Dev nD) (t : Fin cfg1.N) (d) : (down m c).before 3 t d = blkDown m c 3 t :=
  ((down m c).before_in_eq_fetched 3 rfl (fun _ => rfl) (fun _ _ _ => rfl) (fun t => by rw [after_3]; rfl) t d).trans rfl

/-- What the body is handed at point `t`, -/
def bodyPre (c : Dev nD) (t : Fin cfg1.N) : sProp 𝕄 :=
  iprop((down m c).Φ t.castSucc ∗ (down m c).owesAt () t.castSucc
    ∗ (∃ d, owns (c : Thread nD τ) (st1_0 t) fullShare ((down m c).before 0 t d))
    ∗ (∃ d, owns (c : Thread nD τ) (st1_1 t) fullShare ((down m c).before 1 t d))
    ∗ (∃ d, owns (c : Thread nD τ) (st1_2 t) fullShare ((down m c).before 2 t d))
    ∗ (∃ d, owns (c : Thread nD τ) (st1_3 t) fullShare ((down m c).before 3 t d))
    ∗ (∃ Y, ⌜(rdown m c).Finds 4 t Y⌝ ∗ owns (c : Thread nD τ) (st1_4 t) fullShare Y))

/-- and what it hands back. -/
def bodyPost (c : Dev nD) (t : Fin cfg1.N) : sProp 𝕄 :=
  iprop((down m c).Φ t.succ ∗ (down m c).owesAt () t.succ
    ∗ owns (c : Thread nD τ) (st1_0 t) fullShare ((down m c).after 0 t)
    ∗ owns (c : Thread nD τ) (st1_1 t) fullShare ((down m c).after 1 t)
    ∗ owns (c : Thread nD τ) (st1_2 t) fullShare ((down m c).after 2 t)
    ∗ owns (c : Thread nD τ) (st1_3 t) fullShare ((down m c).after 3 t)
    ∗ (∃ X, ⌜rel m c 4 t X⌝ ∗ owns (c : Thread nD τ) (st1_4 t) fullShare X))

/-- The body at any point, between the two. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before_0, before_1, before_2, before_3]
  rw [show (down m c).Φ t.succ = (down m c).Φ t.castSucc from rfl,
    show (down m c).owesAt () t.succ = (down m c).owesAt () t.castSucc from rfl,
    after_0, after_1, after_2, after_3]
  obtain ⟨h1, h2, h3, h4, h5⟩ := conds t
  iintro ⟨HΦ, Ho, ⟨%d0, H0⟩, ⟨%d1, H1⟩, ⟨%d2, H2⟩, ⟨%d3, H3⟩, ⟨%Y, %hY, H4⟩⟩
  iapply (sound_kernel c Set.univ (grid1.coords t) _ _ _ _ _ _ _ _ _ _ (t.val % 4) (Nat.mod_lt _ (by decide)) h1 h2 h3 h4 h5
    (blkDown m c 0 t) (blkDown m c 1 t) (blkDown m c 2 t) (blkDown m c 3 t) Y _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists _; isplitr
  swap; · iexact H4
  ipureintro
  exact left_known m c t Y (finds_out m c t Y hY)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) :
    BodyObligationRel (down (F := F) m c) (defs₀ (F := F)) Variants.none () Set.univ marked (rel m c) := fun t => by
  rw [bigSep_W1, bigSep_W1, defs₀_row]
  exact triple_restated (sound_body m c t) rfl .rfl fun _ => .rfl

end Cert.Proof.Ffn

end
-- ==== Proof.FfnRun.lean ====
/-
  The run of the feed-forward layer: the reshapes, the up-projections, the spread of the norm's gain and the down-projection, one after
  the other. Each call starts from what the one before it left. The last call's output is held to what its proof data allow, so the run
  ends saying that of the result, and that the arguments are as they were.
-/
module

public import proofs.«01_k».proof.Proof.FfnDown
public import Idealize.ShloMosaic.Lib.Pipeline.RegionArrays
public import Idealize.ShloMosaic.Lib.Pipeline.DatRel

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two calls' proof data -/

/-- The proof data of each call, -/
def pdats : (p : Fin 2) → (c : Dev nD) → Dat τ (Elt F) Unit ℕ (UR sig nD τ) ℕ (Pipeline.pin (pcfgs (F := F)) adm p) c
  | 0, c => up m c
  | 1, c => down m c

/-- with the windows held to a predicate only, -/
def marks : (p : Fin 2) → Fin (Pipeline.pin (pcfgs (F := F)) adm p).W → Bool
  | 0 => fun _ => false
  | 1 => marked

/-- and those predicates. -/
def rels : (p : Fin 2) → (c : Dev nD) → (w : Fin (Pipeline.pin (pcfgs (F := F)) adm p).W) → Fin (Pipeline.pin (pcfgs (F := F)) adm p).N
    → (((Pipeline.pin (pcfgs (F := F)) adm p).win w).block.Idx → Elt F ((Pipeline.pin (pcfgs (F := F)) adm p).win w).elt) → Prop
  | 0, _ => fun _ _ _ => True
  | 1, c => rel m c

/-- The two together. -/
def rpdats (p : Fin 2) (c : Dev nD) : RDat τ (Elt F) Unit ℕ (UR sig nD τ) ℕ (Pipeline.pin (pcfgs (F := F)) adm p) c :=
  (pdats m p c).toRRel (marks p) (rels m p c)

/-- No core owes another anything: no level is assigned. -/
abbrev L : GSem nD τ sig → Finset Unit := fun _ => ∅
abbrev lv : GSem nD τ sig → Unit → ℕ := fun _ _ => 0

/-- What rides beside the buffers: the generator's register and the core's dues. -/
abbrev beside (c : Dev nD) : sProp 𝕄 :=
  iprop((∃ r, prngReg c r) ∗ ∃ W, owes (c : Thread nD τ) (0 : CellTallies nD τ sig Unit) W)

/-! ## A call, entered with every buffer at a valuation -/

/-- The buffers of a core's outside call `p`'s arrays. -/
abbrev others (p : Fin 2) (c : Dev nD) (W : Valuation τ sig (Elt F)) : sProp 𝕄 :=
  StableHlo.held (c : Thread nD τ) (Pipeline.ucRefs τ sig \ Pipeline.arrRefs (pcfgs (F := F) p).spec) W

set_option backward.isDefEq.respectTransparency.types false in
/-- Call `p` from every buffer at `W`, its arrays there being those its proof data start from: it leaves the arrays as the proof data
    allow and the other buffers as they were. -/
def region (p : Fin 2) (kit : Pipeline.PLaunchFacts (nD := nD) (τ := τ) (pcfgs (F := F)) p) (hK : (pcfgs (F := F) p).pre.K = 0)
    (hbody : ∀ c, (rpdats m p c).BodyObligation defs₀ Variants.none () Set.univ)
    (howed : ∀ c t, (pdats m p c).owed t = 0) (hrec : ∀ c, (pdats m p c).recorded 0 = Set.univ)
    (hshare : ∀ c w, (pdats m p c).share w = fullShare)
    (hΦ : ∀ c t, (pdats m p c).Φ t = Pipeline.ΦA (Pipeline.pin (pcfgs (F := F)) adm p).spec c)
    (W : Dev nD → Valuation τ sig (Elt F))
    (hW : ∀ c w, (pdats m p c).A w = W c (Proc.devRef .tc (Pipeline.arrRef (Pipeline.pin (pcfgs (F := F)) adm p).spec w))) :
    RDat.RegionSeg (pcfgs (F := F)) adm (rpdats m) () defs₀ Variants.none L lv p where
  win := kit.to₀.win
  block_pos := kit.to₀.block_pos
  stage_whole := kit.to₀.stage_whole
  K := PEmpty
  osem k := k.elim
  ho := Pipeline.OwnSemFacts.none _
  hbody := hbody
  hwaits := RDat.hwaits_of_owed_zero (pcfgs (F := F)) adm (rpdats m) () L lv p howed
  pre c := iprop(StableHlo.held (c : Thread nD τ) (Pipeline.ucRefs τ sig) (W c) ∗ beside c)
  post c := iprop(((rpdats m p c).arraysAt (Pipeline.pin (pcfgs (F := F)) adm p).N ∗ others p c (W c)) ∗ beside c)
  X c := iprop(∃ r, prngReg c r)
  Y c := iprop(∃ r, prngReg c r)
  Z c := others p c (W c)
  hentry c := by
    rw [show (rpdats m p c).arrays (rpdats m p c).A = (pdats m p c).arrays (pdats m p c).A from rfl,
      show (rpdats m p c).owesAt () 0 = (pdats m p c).owesAt () 0 from rfl, Pipeline.ownSems0_none, Pipeline.prefHeld_of_none _ hK,
      StableHlo.held_sub_split (c : Thread nD τ) (Pipeline.arrRefs_sub_ucRefs (pcfgs (F := F) p).spec kit.win.arr_unscoped) (W c),
      ← Pipeline.arrays_held (pcfgs (F := F)) adm (pdats m) p kit c (hshare c) (pdats m p c).A (W c) (hW c)]
    iintro ⟨⟨⟨Ha, HZ⟩, HX, HO⟩, -, -⟩
    imodintro
    isplitl [Ha]; · iexact Ha
    isplitr; · iempintro
    isplitl [HO]
    · unfold Dat.owesAt Pipeline.owesWithin Dat.bound
      rw [howed c 0, hrec c]
      icases HO with ⟨%Wd, HO⟩; iexists Wd; isplitr; · ipureintro; exact fun _ _ => Or.inl trivial
      iexact HO
    isplitl [HX]; · iexact HX
    iexact HZ
  hin c := by
    show _ ⊢ (pdats m p c).Φ 0
    rw [hΦ c 0]; unfold Pipeline.ΦA
    iintro ⟨HX, -, Hr⟩
    isplitl [Hr]; · iexact Hr
    iexact HX
  hout c := by
    show (pdats m p c).Φ (Fin.last _) ⊢ _
    rw [hΦ c (Fin.last _), Pipeline.ownSems0_none]; unfold Pipeline.ΦA
    iintro ⟨Hr, HX⟩
    isplitl [HX]; · iexact HX
    isplitr; · iempintro
    iexact Hr
  hexit c := by
    rw [show (rpdats m p c).owesAt () (Fin.last _) = (pdats m p c).owesAt () (Fin.last _) from rfl]
    iintro ⟨Ha, HO, HY, HZ⟩
    imodintro
    isplitl [Ha HZ]
    · isplitl [Ha] <;> iassumption
    isplitl [HY]; · iexact HY
    unfold Dat.owesAt Pipeline.owesWithin
    rw [howed c (Fin.last _)]
    icases HO with ⟨%Wd, -, HO⟩; iexists Wd; iexact HO

/-- The up-projections, entered from what the reshapes left. -/
def region0 : RDat.RegionSeg (pcfgs (F := F)) adm (rpdats m) () defs₀ Variants.none L lv 0 :=
  region m 0 launch0.toP rfl (fun c => (body_obligation_up m c).toR) (fun _ _ => rfl) (fun _ => rfl)
    (fun c => (up m c).share_full fun _ => rfl) (fun _ _ => rfl) (V1 m) (fun c w => A_eq_up m c w)

/-- The down-projection, entered from what the spread of the gain left. -/
def region1 : RDat.RegionSeg (pcfgs (F := F)) adm (rpdats m) () defs₀ Variants.none L lv 1 :=
  region m 1 launch1.toP rfl (fun c => (body_obligation m c).toRRel) (fun _ _ => rfl) (fun _ => rfl)
    (fun c => (down m c).share_full fun _ => rfl) (fun _ _ => rfl) (V3 m (outs m)) (fun c w => A_eq m c w)

/-! ## Between the calls -/

/-- What the first call's arrays hold after it, by window. -/
theorem left_up (c : Dev nD) : ∀ w : Fin cfg0.W, (up m c).arrAt w cfg0.N = V2 m (outs m) c (Proc.devRef .tc (Pipeline.arrRef spec0 w)) := by
  intro w
  fin_cases w
  · exact ((up m c).arrAt_in 0 rfl _).trans ((A_eq_up m c 0).trans (V2_of m (outs m) c main_arg0 (by decide)).symm)
  · exact ((up m c).arrAt_in 1 rfl _).trans ((A_eq_up m c 1).trans (V2_of m (outs m) c main_v0 (by decide)).symm)
  · exact ((up m c).arrAt_in 2 rfl _).trans ((A_eq_up m c 2).trans (V2_of m (outs m) c main_v1 (by decide)).symm)
  · exact ((up m c).arrAt_in 3 rfl _).trans ((A_eq_up m c 3).trans (V2_of m (outs m) c main_v2 (by decide)).symm)
  · refine (outs_act m c 2).symm.trans ?_
    show _ = V2 m (outs m) c main_v3_0
    rw [V2, Function.update_of_ne (StableHlo.devRef_ne_of_ne (by decide)), Function.update_self]
  · refine (outs_wdb m c 2).symm.trans ?_
    show _ = V2 m (outs m) c main_v3_1
    rw [V2, Function.update_self]

set_option backward.isDefEq.respectTransparency.types false in
/-- The first call leaves every buffer at the next valuation. -/
theorem between (c : Dev nD) :
    (region0 m).post c ⊢ iprop(StableHlo.held (c : Thread nD τ) (Pipeline.ucRefs τ sig) (V2 m (outs m) c) ∗ beside (F := F) c) := by
  refine sep_mono ?_ .rfl
  rw [StableHlo.held_sub_split (c : Thread nD τ) (Pipeline.arrRefs_sub_ucRefs (pcfgs (F := F) 0).spec launch0.win.arr_unscoped) (V2 m (outs m) c),
    ← Pipeline.arrays_held (pcfgs (F := F)) adm (pdats m) 0 launch0.toP c ((up m c).share_full fun _ => rfl)
      (fun w => (up m c).arrAt w cfg0.N) (V2 m (outs m) c) (left_up m c)]
  refine BI.sep_mono ((up m c).toR_arraysAt_post cfg0.N) (Entails.of_eq (StableHlo.held_congr (c : Thread nD τ) fun b hb => ?_))
  have hb' := (Finset.mem_sdiff.mp hb).2
  have h (w : Fin cfg0.W) : b ≠ Proc.devRef .tc (Pipeline.arrRef spec0 w) := fun e => hb' (by
    rw [e]; exact Finset.mem_map.mpr ⟨_, Finset.mem_image.mpr ⟨w, Finset.mem_univ _, rfl⟩, rfl⟩)
  show V1 m c b = V2 m (outs m) c b
  rw [V2, Function.update_of_ne (h 5), Function.update_of_ne (h 4)]

/-! ## The run -/

/-- The program's items: the reshapes, the first call, the spread of the gain, the second call. -/
abbrev items (_ : Dev nD) : List (RDat.Seg (pcfgs (F := F)) adm (rpdats m) () defs₀ Variants.none L lv) :=
  [.host (seg0 m Variants.none L lv fun _ => beside), .region (region0 m),
    .host (seg2 m (outs m) Variants.none L lv fun _ => beside), .region (region1 m)]

/-- What the run leaves: the second call's arrays as its proof data allow, the other buffers as it found them. -/
abbrev endState (c : Dev nD) : sProp 𝕄 := iprop((rpdats m 1 c).arraysAt cfg1.N ∗ others 1 c (V3 m (outs m) c))

/-- What is read off it: the result as the last call's proof data allow, the arguments as launched. -/
def EndPost (c : Dev nD) (s : MemSt nD τ sig (Elt F)) : Prop :=
  (rdown m c).ArrAt 4 cfg1.N (s.mem ((c.tc : Thread nD τ).loc main_v5))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)

/-- No item before the last call changes an argument. -/
theorem V3_arg (c : Dev nD) (r : Ref sig .tc) (h1 : r ∉ hostOps1_W) (h2 : r ∉ ([main_v3_0, main_v3_1] : List (Ref sig .tc))) (h0 : r ∉ hostOps0_W) :
    V3 m (outs m) c r = m ((c : Thread nD τ).loc r) :=
  (V3_of m (outs m) c r h1).trans ((V2_of m (outs m) c r h2).trans ((V1_of m c r h0).trans rfl))

/-- A buffer outside the second call's arrays is among the others. -/
theorem mem_others (r : Ref sig .tc) (hs : r.isScoped = false) (h : ∀ w : Fin cfg1.W, Pipeline.arrRef spec1 w ≠ r) :
    Proc.devRef (τ := τ) .tc r ∈ Pipeline.ucRefs τ sig \ Pipeline.arrRefs (pcfgs (F := F) 1).spec := by
  refine Finset.mem_sdiff.mpr ⟨Finset.mem_filter.mpr ⟨StableHlo.devRef_mem_tcRefs r, fun h' => Bool.false_ne_true (hs.symm.trans h')⟩, fun hm => ?_⟩
  obtain ⟨b, hb, e⟩ := Finset.mem_map.mp hm
  obtain ⟨w, -, rfl⟩ := Finset.mem_image.mp hb
  exact h w (Proc.devRef_injective _ e)

set_option backward.isDefEq.respectTransparency.types false in
/-- The end state read. -/
theorem read_end (c : Dev nD) (s' : Phys nD τ sig (Elt F)) :
    iprop(endState m c ∗ SI s') ⊢ |={Set.univ}=> iprop(⌜EndPost m c s'.mem⌝ ∗ SI s') := by
  unfold endState others StableHlo.held
  iintro ⟨⟨Ha, Hh⟩, HSI⟩
  ihave Hr := (RDat.arrays_read (pcfgs (F := F)) adm (rpdats m) (p := 1) launch1.arr_whole c cfg1.N s') $$ [Ha HSI]
  · isplitl [Ha] <;> iassumption
  icases Hr with ⟨%ha, HSI⟩
  ihave Hr := (pointsTo_read_all (Pipeline.ucRefs τ sig \ Pipeline.arrRefs (pcfgs (F := F) 1).spec) (fun b => ((c : Thread nD τ).1, b))
    (V3 m (outs m) c) s') $$ [Hh HSI]
  · isplitl [Hh] <;> iassumption
  icases Hr with ⟨%h, HSI⟩
  imodintro
  isplitr
  · ipureintro
    have arg (r : Ref sig .tc) (hs : r.isScoped = false) (hw : ∀ w : Fin cfg1.W, Pipeline.arrRef spec1 w ≠ r)
        (h1 : r ∉ hostOps1_W) (h2 : r ∉ ([main_v3_0, main_v3_1] : List (Ref sig .tc))) (h0 : r ∉ hostOps0_W) :
        s'.mem.mem ((c.tc : Thread nD τ).loc r) = m ((c.tc : Thread nD τ).loc r) :=
      (h _ (mem_others (F := F) r hs hw)).trans (V3_arg m c r h1 h2 h0)
    have h4 : s'.mem.mem ((c.tc : Thread nD τ).loc main_arg4) = (rdown m c).A 2 := by
      have := ha 2
      rwa [RDat.ArrAt_in (rpdats m 1 c) 2 rfl] at this
    exact ⟨ha 4, arg main_arg0 rfl (by decide) (by decide) (by decide) (by decide), arg main_arg1 rfl (by decide) (by decide) (by decide) (by decide),
      arg main_arg2 rfl (by decide) (by decide) (by decide) (by decide), arg main_arg3 rfl (by decide) (by decide) (by decide) (by decide),
      h4.trans ((A_eq m c 2).trans (V3_arg m c main_arg4 (by decide) (by decide) (by decide))),
      arg main_arg5 rfl (by decide) (by decide) (by decide) (by decide)⟩
  · iexact HSI

set_option backward.isDefEq.respectTransparency.types false in
set_option maxHeartbeats 2000000 in
/-- Every weakly fair execution terminates, with the result as the last call's proof data allow, the arguments as they were and every
    semaphore at zero. -/
theorem run_main : θ_run defs (onTc (τ := τ) (main (F := F))) ⟨m, fun _ => 0, ρ⟩
    (fun r => (∀ c : Dev nD, EndPost m c r.2) ∧ r.2.sem = fun _ => 0) :=
  RDat.θ_run_regions_kit_dev_sems (pcfgs (F := F)) adm (rpdats m) () cellOf_inj emb₁ defs₀ Variants.none L lv m ρ main (items m)
    (fun c Q => by
      rewrite [main_chain c, RDat.Seg.run_eq_chain,
        show (items m c).map RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c)) (Tₙ := endState m)
    (hch := fun c => ⟨.rfl, .rfl, between m c, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := EndPost m) (hfin := read_end m)
    (hQ := fun _ h hz => ⟨h, funext fun g => hz g (.inr (regions_no_unscoped g.2))⟩)

/-- The frame: the arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_main m ρ)

end Cert.Proof.Ffn

end
-- ==== Proof.FfnValue.lean ====
/-
  The values of the feed-forward layer over the extended reals: the first call's arrays are the reference's activations and its copy of
  the weights, and the second call, over those, writes the reference's normalised sum of the residual stream and the projected activations.
-/
module

public import proofs.«01_k».proof.Defs
public import proofs.«01_k».proof.Proof.FfnRun
public import proofs.«01_k».proof.Proof.Gen.FfnReferenceIdeal.Run
public import Idealize.ShloMosaic.Lib.Pipeline.ValueKit

@[expose] public section

set_option maxRecDepth 16384

noncomputable section

namespace Cert.Proof.Ffn

open Idealize.ShloMosaic Idealize.ShloMosaic.TcCoe Idealize.ShloMosaic.Tactic Idealize.ShloMosaic.StableHlo

/-! ## The reference's result, as a function of its arguments -/

section Reference

open Cert.FfnReferenceIdeal Cert.FfnReferenceIdeal.Gen

/-- One of the reference's two projections of the normalised rows. -/
def refDot (h : S8192x2048.Idx → EReal) (w : S1x2048x5632.Idx → EReal) : S8192x5632.Idx → EReal :=
  Host.dotGeneral (F := Ideal) (φ₁ := .f32) (φ₂ := .f32) dot_S8192x2048_S2048x5632_S8192x5632_1_0_0_1_n_n none
    (extf (F := Ideal) .f32 (φ := .bf16) h bitsLt_bf16_f32) (shapeCast S2048x5632 w shapeCasts_S1x2048x5632_S2048x5632)

/-- The reference's activations: `silu` of the gate projection times the up projection. -/
def refAct (h : S8192x2048.Idx → EReal) (g u : S1x2048x5632.Idx → EReal) : S8192x5632.Idx → EReal :=
  mulf (F := Ideal) (φ := .f32) (mulf (F := Ideal) (φ := .f32) (refDot h g)
    (Host.divf (F := Ideal) (φ := .f32) (broadcastInDim S8192x5632 ![] bcast_S_S8192x5632 (constant (F := Ideal) S_ .f32 0x3F800000#32))
      (addf (F := Ideal) (φ := .f32) (broadcastInDim S8192x5632 ![] bcast_S_S8192x5632 (constant (F := Ideal) S_ .f32 0x3F800000#32))
        (Host.exp (F := Ideal) (φ := .f32) (Host.negf (F := Ideal) (φ := .f32) (refDot h g)))))) (refDot h u)

/-- The down-projection's weights as a matrix. -/
def refWd (wd : S1x5632x2048.Idx → EReal) : S5632x2048.Idx → EReal := shapeCast S5632x2048 wd shapeCasts_S1x5632x2048_S5632x2048

/-- The residual stream plus the projected activations. -/
def refSum (act : S8192x5632.Idx → EReal) (wd : S5632x2048.Idx → EReal) (x1 : S8192x2048.Idx → EReal) : S8192x2048.Idx → EReal :=
  addf (F := Ideal) (φ := .f32) x1 (Host.dotGeneral (F := Ideal) (φ₁ := .f32) (φ₂ := .f32) dot_S8192x5632_S5632x2048_S8192x2048_1_0_0_1_n_n none act wd)

/-- The reference's final norm of a stream. -/
def refNorm (x : S8192x2048.Idx → EReal) (g : S2048.Idx → EReal) : S8192x2048.Idx → EReal :=
  mulf (F := Ideal) (φ := .f32) (mulf (F := Ideal) (φ := .f32) x (broadcastInDim S8192x2048 ![0, 1] bcast_S8192x1_S8192x2048_0_1
    (Host.rsqrt (F := Ideal) (φ := .f32) (addf (F := Ideal) (φ := .f32) (Host.divf (F := Ideal) (φ := .f32)
      (broadcastInDim S8192x1 ![0] bcast_S8192_S8192x1_0 (Host.reduceAdd (F := Ideal) (φ := .f32) (mulf (F := Ideal) (φ := .f32) x x)
        (constant (F := Ideal) S_ .f32 0x00000000#32) reducesTo_S8192x2048_S8192_d1 h_S_))
      (broadcastInDim S8192x1 ![] bcast_S_S8192x1 (constant (F := Ideal) S_ .f32 0x45000000#32)))
      (broadcastInDim S8192x1 ![] bcast_S_S8192x1 (constant (F := Ideal) S_ .f32 0x358637BD#32))))))
    (broadcastInDim S8192x2048 ![0, 1] bcast_S1x2048_S8192x2048_0_1 (broadcastInDim S1x2048 ![1] bcast_S2048_S1x2048_1 g))

/-- The reference's run, its result named by the functions above. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = refNorm (refSum
        (refAct (m ((c.tc : Thread nD τ).loc main_arg0)) (m ((c.tc : Thread nD τ).loc main_arg1)) (m ((c.tc : Thread nD τ).loc main_arg2)))
        (refWd (m ((c.tc : Thread nD τ).loc main_arg3))) (m ((c.tc : Thread nD τ).loc main_arg4))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.FfnReferenceIdeal.Value.run (F := Ideal) m ρ

end Reference

open Cert.FfnIdeal Cert.FfnIdeal.Gen
open Idealize.ShloMosaic.Pipeline (Dat RDat)

variable (m : (ℓ : Loc nD τ sig) → Buf (Elt Ideal) ℓ)

/-! ## The first call -/

/-- Where each window's block stands at the first call's grid point `t`: the row block moves fastest. -/
theorem idx_up : ∀ t : Fin cfg0.N, win0_0.index t = ![t.val % 4, 0] ∧ win0_1.index t = ![0, t.val / 4] ∧ win0_2.index t = ![0, t.val / 4]
    ∧ win0_3.index t = ![t.val, 0] ∧ win0_4.index t = ![t.val % 4, t.val / 4] ∧ win0_5.index t = ![t.val, 0] ∧ t.val / 4 < 11 ∧ t.val < 44 :=
  (by decide +kernel : ∀ t : Fin grid0.N, _)

/-- The first call's blocks, read off the arguments. -/
theorem blkUp_0 (c : Dev nD) (t : Fin cfg0.N) : blkUp m c 0 t
    = fun y => m ((c.tc : Thread nD τ).loc main_arg0) (((cfg0.win 0).blk t).view.emb y) := by
  unfold blkUp
  rw [show entryUp m c (Pipeline.arrRef spec0 0) = m ((c.tc : Thread nD τ).loc main_arg0) from V1_of m c main_arg0 (by decide)]
  rfl

theorem blkUp_1 (c : Dev nD) (t : Fin cfg0.N) : blkUp m c 1 t
    = fun y => shapeCast S2048x5632 (m ((c.tc : Thread nD τ).loc main_arg1)) shapeCasts_S1x2048x5632_S2048x5632 (((cfg0.win 1).blk t).view.emb y) := by
  unfold blkUp
  rw [show entryUp m c (Pipeline.arrRef spec0 1) = shapeCast S2048x5632 (m ((c.tc : Thread nD τ).loc main_arg1)) shapeCasts_S1x2048x5632_S2048x5632 from by
    show StableHlo.after hostOps0 (fun b => m (c, b)) (Proc.devRef .tc main_v0) = _
    after_results <;> rfl]
  rfl

theorem blkUp_2 (c : Dev nD) (t : Fin cfg0.N) : blkUp m c 2 t
    = fun y => shapeCast S2048x5632 (m ((c.tc : Thread nD τ).loc main_arg2)) shapeCasts_S1x2048x5632_S2048x5632 (((cfg0.win 2).blk t).view.emb y) := by
  unfold blkUp
  rw [show entryUp m c (Pipeline.arrRef spec0 2) = shapeCast S2048x5632 (m ((c.tc : Thread nD τ).loc main_arg2)) shapeCasts_S1x2048x5632_S2048x5632 from by
    show StableHlo.after hostOps0 (fun b => m (c, b)) (Proc.devRef .tc main_v1) = _
    after_results <;> rfl]
  rfl

theorem blkUp_3 (c : Dev nD) (t : Fin cfg0.N) : blkUp m c 3 t
    = fun y => shapeCast S5632x2048 (m ((c.tc : Thread nD τ).loc main_arg3)) shapeCasts_S1x5632x2048_S5632x2048 (((cfg0.win 3).blk t).view.emb y) := by
  unfold blkUp
  rw [show entryUp m c (Pipeline.arrRef spec0 3) = shapeCast S5632x2048 (m ((c.tc : Thread nD τ).loc main_arg3)) shapeCasts_S1x5632x2048_S5632x2048 from by
    show StableHlo.after hostOps0 (fun b => m (c, b)) (Proc.devRef .tc main_v2) = _
    after_results <;> rfl]
  rfl

/-- The reference's activations, of the kernel's arguments. -/
abbrev actOf (c : Dev nD) : S8192x5632.Idx → EReal :=
  refAct (m ((c.tc : Thread nD τ).loc main_arg0)) (m ((c.tc : Thread nD τ).loc main_arg1)) (m ((c.tc : Thread nD τ).loc main_arg2))

/-- The logistic function, spelt out. -/
theorem logistic_eq (x : EReal) : Ideal.logistic x = Ideal.div 1 (1 + Ideal.exp (-x)) := rfl

/-- The left half of an activations block over any arguments, at an index of it. -/
theorem piece_left_of (h : S8192x2048.Idx → EReal) (g u : S1x2048x5632.Idx → EReal) (t : Fin cfg0.N) (x : S2048x256.Idx) :
    k0_pay2 (F := Ideal) (View.ld (Val := Elt Ideal) (S := S2048x2048) (e' := .bf16) (fun y => h (((cfg0.win 0).blk t).view.emb y)) r0_1)
        (View.ld (Val := Elt Ideal) (S := S2048x512) (e' := .f32) (fun y => shapeCast (α := EReal) S2048x5632 g shapeCasts_S1x2048x5632_S2048x5632 (((cfg0.win 1).blk t).view.emb y)) r0_2)
        (View.ld (Val := Elt Ideal) (S := S2048x512) (e' := .f32) (fun y => shapeCast (α := EReal) S2048x5632 u shapeCasts_S1x2048x5632_S2048x5632 (((cfg0.win 2).blk t).view.emb y)) r0_2) x
      = refAct h g u (((cfg0.win 4).blk t).view.emb (r0_2.idx x)) := by
  pointwise [k0_pay2, refAct, refDot]
  rw [logistic_eq]
  blk_point [idx_up t]

/-- The left half of an activations block. -/
theorem piece_left (c : Dev nD) (t : Fin cfg0.N) (x : S2048x256.Idx) :
    k0_pay2 (F := Ideal) (View.ld (blkUp m c 0 t) r0_1) (View.ld (blkUp m c 1 t) r0_2) (View.ld (blkUp m c 2 t) r0_2) x
      = actOf m c (((cfg0.win 4).blk t).view.emb (r0_2.idx x)) := by
  rw [blkUp_0, blkUp_1, blkUp_2]
  exact piece_left_of _ _ _ t x

/-- The right half of an activations block over any arguments, at an index of it. -/
theorem piece_right_of (h : S8192x2048.Idx → EReal) (g u : S1x2048x5632.Idx → EReal) (t : Fin cfg0.N) (x : S2048x256.Idx) :
    k0_pay3 (F := Ideal) (View.ld (Val := Elt Ideal) (S := S2048x2048) (e' := .bf16) (fun y => h (((cfg0.win 0).blk t).view.emb y)) r0_1)
        (View.ld (Val := Elt Ideal) (S := S2048x512) (e' := .f32) (fun y => shapeCast (α := EReal) S2048x5632 g shapeCasts_S1x2048x5632_S2048x5632 (((cfg0.win 1).blk t).view.emb y)) r0_3)
        (View.ld (Val := Elt Ideal) (S := S2048x512) (e' := .f32) (fun y => shapeCast (α := EReal) S2048x5632 u shapeCasts_S1x2048x5632_S2048x5632 (((cfg0.win 2).blk t).view.emb y)) r0_3) x
      = refAct h g u (((cfg0.win 4).blk t).view.emb (r0_3.idx x)) := by
  pointwise [k0_pay3, refAct, refDot]
  rw [logistic_eq]
  blk_point [idx_up t]

/-- The right half of an activations block. -/
theorem piece_right (c : Dev nD) (t : Fin cfg0.N) (x : S2048x256.Idx) :
    k0_pay3 (F := Ideal) (View.ld (blkUp m c 0 t) r0_1) (View.ld (blkUp m c 1 t) r0_3) (View.ld (blkUp m c 2 t) r0_3) x
      = actOf m c (((cfg0.win 4).blk t).view.emb (r0_3.idx x)) := by
  rw [blkUp_0, blkUp_1, blkUp_2]
  exact piece_right_of _ _ _ t x

/-- What a grid point leaves in its activations block. -/
theorem act_point (c : Dev nD) (t : Fin cfg0.N) (y : S2048x512.Idx) :
    out0_4 (F := Ideal) (blkUp m c 0 t) (blkUp m c 1 t) (blkUp m c 2 t) (blkUp m c 3 t) y
      = actOf m c (((cfg0.win 4).blk t).view.emb y) := by
  unfold out0_4
  refine View.canon_apply_of_pieces (fun y => show Elt Ideal .bf16 from actOf m c (((cfg0.win 4).blk t).view.emb y)) _ ?_ y (cover0_4 _ _ y)
  intro pc hpc
  rcases List.mem_cons.mp hpc with rfl | hpc
  · exact fun x => piece_right m c t x
  rcases List.mem_cons.mp hpc with rfl | hpc
  · exact fun x => piece_left m c t x
  nomatch hpc

/-- The activations the first call leaves are the reference's. -/
theorem act_final (c : Dev nD) : (up m c).arrAt 4 cfg0.N = actOf m c := by
  refine (up m c).arrAt_eq_of_covers 4 _ (by decide +kernel) fun t _ y => ?_
  blk_simp
  rw [after_up_4]
  exact act_point m c t y

/-- A slab of the weights' copy over any weights. -/
theorem wdb_of (w : S1x5632x2048.Idx → EReal) (t : Fin cfg0.N) (y : S128x2048.Idx) :
    k0_pay1 (F := Ideal) (fun y => shapeCast S5632x2048 w shapeCasts_S1x5632x2048_S5632x2048 (((cfg0.win 3).blk t).view.emb y)) y
      = refWd w (((cfg0.win 5).blk t).view.emb y) := by
  pointwise [k0_pay1, refWd]
  blk_point [idx_up t]

/-- What a grid point leaves in its slab of the weights' copy. -/
theorem wdb_point (c : Dev nD) (t : Fin cfg0.N) (y : S128x2048.Idx) :
    k0_pay1 (F := Ideal) (blkUp m c 3 t) y = refWd (m ((c.tc : Thread nD τ).loc main_arg3)) (((cfg0.win 5).blk t).view.emb y) := by
  rw [blkUp_3]
  exact wdb_of _ t y

/-- The weights' copy the first call leaves is the reference's. -/
theorem wdb_final (c : Dev nD) : (up m c).arrAt 5 cfg0.N = refWd (m ((c.tc : Thread nD τ).loc main_arg3)) := by
  refine (up m c).arrAt_eq_of_covers 5 _ (by decide +kernel) fun t _ y => ?_
  blk_simp
  rw [after_up_5]
  frame_out
  exact wdb_point m c t y

/-! ## The second call -/

/-- Where each window's block stands at the second call's grid point `t`: the column tile moves fastest. -/
theorem idx_down : ∀ t : Fin cfg1.N, win1_0.index t = ![t.val / 4, 0] ∧ win1_1.index t = ![0, t.val % 4] ∧ win1_2.index t = ![t.val / 4, t.val % 4]
    ∧ win1_3.index t = ![0, 0] ∧ win1_4.index t = ![t.val / 4, 0] ∧ t.val / 4 < 8 ∧ t.val < 32 :=
  (by decide +kernel : ∀ t : Fin grid1.N, _)

/-- The second call's blocks, read off what the first call left and off the arguments. -/
theorem blkDown_0 (c : Dev nD) (t : Fin cfg1.N) : blkDown m c 0 t = fun y => actOf m c (((cfg1.win 0).blk t).view.emb y) := by
  unfold blkDown
  rw [show entryDown m c (Pipeline.arrRef spec1 0) = actOf m c from
    (V3_of m (outs m) c main_v3_0 (by decide)).trans ((left_up m c 4).symm.trans (act_final m c))]
  rfl

theorem blkDown_1 (c : Dev nD) (t : Fin cfg1.N) : blkDown m c 1 t
    = fun y => refWd (m ((c.tc : Thread nD τ).loc main_arg3)) (((cfg1.win 1).blk t).view.emb y) := by
  unfold blkDown
  rw [show entryDown m c (Pipeline.arrRef spec1 1) = refWd (m ((c.tc : Thread nD τ).loc main_arg3)) from
    (V3_of m (outs m) c main_v3_1 (by decide)).trans ((left_up m c 5).symm.trans (wdb_final m c))]
  rfl

theorem blkDown_2 (c : Dev nD) (t : Fin cfg1.N) : blkDown m c 2 t
    = fun y => m ((c.tc : Thread nD τ).loc main_arg4) (((cfg1.win 2).blk t).view.emb y) := by
  unfold blkDown
  rw [show entryDown m c (Pipeline.arrRef spec1 2) = m ((c.tc : Thread nD τ).loc main_arg4) from
    V3_arg m c main_arg4 (by decide) (by decide) (by decide)]
  rfl

theorem blkDown_3 (c : Dev nD) (t : Fin cfg1.N) : blkDown m c 3 t
    = fun y => broadcastInDim S1x2048 ![1] bcast_S2048_S1x2048_1 (m ((c.tc : Thread nD τ).loc main_arg5)) (((cfg1.win 3).blk t).view.emb y) := by
  have h5 : V2 m (outs m) c main_arg5 = m ((c.tc : Thread nD τ).loc main_arg5) :=
    (V2_of m (outs m) c main_arg5 (by decide)).trans (V1_of m c main_arg5 (by decide))
  unfold blkDown
  rw [show entryDown m c (Pipeline.arrRef spec1 3) = broadcastInDim S1x2048 ![1] bcast_S2048_S1x2048_1 (m ((c.tc : Thread nD τ).loc main_arg5)) from by
    rw [← h5]
    show StableHlo.after hostOps1 (V2 m (outs m) c) (Proc.devRef .tc main_v4) = _
    generalize V2 m (outs m) c = W
    after_results <;> rfl]
  rfl

/-- The reference's stream, of the kernel's arguments. -/
abbrev sumOf (c : Dev nD) : S8192x2048.Idx → EReal :=
  refSum (actOf m c) (refWd (m ((c.tc : Thread nD τ).loc main_arg3))) (m ((c.tc : Thread nD τ).loc main_arg4))

/-- A grid point's column tile over any arrays is the stream of those there. -/
theorem tile_of (act : S8192x5632.Idx → EReal) (wd : S5632x2048.Idx → EReal) (x1 : S8192x2048.Idx → EReal) (t : Fin cfg1.N) (x : S1024x512.Idx) :
    k1_pay1 (F := Ideal) (fun y => x1 (((cfg1.win 2).blk t).view.emb y)) (fun y => act (((cfg1.win 0).blk t).view.emb y))
        (fun y => wd (((cfg1.win 1).blk t).view.emb y)) x = refSum act wd x1 (((cfg1.win 2).blk t).view.emb x) := by
  pointwise [k1_pay1, refSum]
  blk_point [idx_down t]

/-- A grid point's column tile is the stream's there. -/
theorem tile_point (c : Dev nD) (t : Fin cfg1.N) (x : S1024x512.Idx) :
    k1_pay1 (F := Ideal) (blkDown m c 2 t) (blkDown m c 0 t) (blkDown m c 1 t) x = sumOf m c (((cfg1.win 2).blk t).view.emb x) := by
  rw [blkDown_0, blkDown_1, blkDown_2]
  exact tile_of _ _ _ t x

/-- A row block before the norm is the stream's. -/
theorem block_point (c : Dev nD) (t : Fin cfg1.N) (y : S1024x2048.Idx) :
    block (F := Ideal) m c t y = sumOf m c (((cfg1.win 4).blk t).view.emb y) := by
  unfold block tileAt tile
  refine (tile_point m c _ _).trans (congrArg (sumOf m c) ?_)
  have hy : (y 1).val < 2048 := (y 1).isLt
  have hk : (y 1).val / 512 < 4 := by omega
  have hp : (pt t ((y 1).val / 512) hk).val = 4 * (t.val / 4) + (y 1).val / 512 := rfl
  refine funext (Fin.forall_fin_two.mpr ⟨Fin.ext ?_, Fin.ext ?_⟩)
  · show win1_2.index (pt t ((y 1).val / 512) hk) 0 * 1024 + 1 * (y 0).val = win1_4.index t 0 * 1024 + 1 * (y 0).val
    rw [(idx_down (pt t ((y 1).val / 512) hk)).2.2.1, (idx_down t).2.2.2.2.1]
    show (pt t ((y 1).val / 512) hk).val / 4 * 1024 + 1 * (y 0).val = t.val / 4 * 1024 + 1 * (y 0).val
    omega
  · show win1_2.index (pt t ((y 1).val / 512) hk) 1 * 512 + 1 * ((y 1).val % 512) = win1_4.index t 1 * 2048 + 1 * (y 1).val
    rw [(idx_down (pt t ((y 1).val / 512) hk)).2.2.1, (idx_down t).2.2.2.2.1]
    show (pt t ((y 1).val / 512) hk).val % 4 * 512 + 1 * ((y 1).val % 512) = 0 * 2048 + 1 * (y 1).val
    omega

/-- The norm of a stream's row block, at an index of it. -/
theorem norm_point (c : Dev nD) (t : Fin cfg1.N) (x : S8192x2048.Idx → EReal) (y : S1024x2048.Idx) :
    k1_pay5 (F := Ideal) (fun y => x (((cfg1.win 4).blk t).view.emb y)) (blkDown m c 3 t) y
      = refNorm x (m ((c.tc : Thread nD τ).loc main_arg5)) (((cfg1.win 4).blk t).view.emb y) := by
  rw [blkDown_3]
  pointwise [k1_pay5, refNorm]
  blk_point [idx_down t]

/-- The result after the run is the reference's. -/
theorem out_final (c : Dev nD) (G : Buf (Elt Ideal) ((cfg1.win 4).arr.view.loc (c.tc : Thread nD τ))) (hG : (rdown m c).ArrAt 4 cfg1.N G) :
    G = refNorm (sumOf m c) (m ((c.tc : Thread nD τ).loc main_arg5)) := by
  obtain ⟨X, hX, hA⟩ := hG.exists_exact
  let aft : (w : Fin cfg1.W) → Fin cfg1.N → (cfg1.win w).block.Idx → Elt Ideal (cfg1.win w).elt := Function.update (fun _ _ _ => Classical.arbitrary _) 4 X
  have e : aft 4 = X := Function.update_self ..
  rw [hA aft fun u _ _ => congrFun e u]
  refine ((rdown m c).withAfter aft).arrAt_eq_of_covers 4 _ (by decide +kernel) fun t ht y => ?_
  blk_simp
  have hK : Known m c t (X t) := (down m c).toRRel_leaves (w := 4) rfl (hX t t.isLt ht)
  unfold Known at hK
  rw [if_pos ((flush1_4 t).mp ht), funext (block_point m c t)] at hK
  rw [Pipeline.RDat.withAfter_after, e, hK]
  exact norm_point m c t (sumOf m c) y

/-- The kernel and the reference, over the extended reals, from equal arguments end with equal results. -/
theorem algebraic : Cert.algebraic_FfnIdeal_FfnReferenceIdeal := by
  intro m g m' g' _ hargs
  refine ⟨fun c => refNorm (sumOf m c) (m ((c.tc : Thread nD τ).loc main_arg5)), ?_, ?_⟩
  · exact (θ_run _ _ _).mono (fun r h c => ⟨out_final m c _ (h.1 c).1, (h.1 c).2⟩) (run_main m g)
  · refine (θ_run _ _ _).mono (fun _ h c => ?_) (reference_run m' g')
    obtain ⟨h0, hrest⟩ := h c
    obtain ⟨e0, e1, e2, e3, e4, e5⟩ := hargs c
    refine ⟨h0.trans ?_, hrest⟩
    rw [e0, e1, e2, e3, e4, e5]

end Cert.Proof.Ffn

end
-- ==== Proof.lean ====
/-
  The proof of `Cert.Claim`: for the output projection (`Kernel`), the gate and up projections (`Up`), the down-projection
  (`Down`) and the parameters of S5 (`Params`) of the block, and for the feed-forward layer that joins the second and the third
  (`Ffn`), the frames of kernel, idealised kernel and reference, and the equality of kernel and reference over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.Down
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Run
public import proofs.«01_k».proof.Proof.Gen.Params
public import proofs.«01_k».proof.Proof.Gen.Params.Frame
public import proofs.«01_k».proof.Proof.Gen.ParamsIdeal
public import proofs.«01_k».proof.Proof.Gen.ParamsIdeal.Frame
public import proofs.«01_k».proof.Proof.Gen.ParamsIdeal.Value
public import proofs.«01_k».proof.Proof.Gen.ParamsReferenceIdeal
public import proofs.«01_k».proof.Proof.Gen.ParamsReferenceIdeal.Run
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Regions
public import proofs.«01_k».proof.Proof.Gen.FfnReferenceIdeal
public import proofs.«01_k».proof.Proof.Gen.FfnReferenceIdeal.Run
public import proofs.«01_k».proof.Proof.Run
public import proofs.«01_k».proof.Proof.Value
public import proofs.«01_k».proof.Proof.UpValue
public import proofs.«01_k».proof.Proof.DownRun
public import proofs.«01_k».proof.Proof.DownValue
public import proofs.«01_k».proof.Proof.ParamsValue
public import proofs.«01_k».proof.Proof.FfnRun
public import proofs.«01_k».proof.Proof.FfnValue
public import Idealize.ShloMosaic.Lib.Quiescent

@[expose] public section

noncomputable section

namespace Cert.Proof

open Idealize.ShloMosaic Idealize.ShloMosaic.TcCoe

/-! ## The output projection -/

set_option maxHeartbeats 2000000 in
/-- The printed kernel's frame: the run of `Proof.Run`, at the machine's floats. -/
theorem frame_kernel : Cert.quiescent_Kernel := fun m ρ _ =>
  (θ_run Cert.KernelIdeal.defs _ _).mono (fun _ h => ⟨fun c => (h.1 c).2.2, h.2⟩) (Outproj.run_main (F := Bits) m ρ)

/-- The idealised kernel's frame: the same run, over the extended reals. -/
theorem frame_kernelIdeal : Cert.quiescent_KernelIdeal := fun m ρ _ =>
  (θ_run Cert.KernelIdeal.defs _ _).mono (fun _ h => ⟨fun c => (h.1 c).2.2, h.2⟩) (Outproj.run_main (F := Ideal) m ρ)

/-- The reference's frame: it declares no semaphore. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Outproj.reference_run m ρ)

/-! ## The gate and up projections -/

/-- The printed kernel's frame. -/
theorem frame_up : Cert.quiescent_Up := fun m ρ _ => Cert.Up.Gen.frame m ρ

/-- The idealised kernel's frame. -/
theorem frame_upIdeal : Cert.quiescent_UpIdeal := fun m ρ _ => Cert.UpIdeal.Gen.frame m ρ

/-- The reference's frame: it declares no semaphore. -/
theorem frame_upReferenceIdeal : Cert.quiescent_UpReferenceIdeal := fun m ρ _ =>
  (θ_run Cert.UpReferenceIdeal.defs _ _).mono (fun r h => ⟨fun c => (h c).2.2, sem_eq_zero_of_no_sems (by decide) r.2⟩)
    (Up.reference_run m ρ)

/-! ## The down-projection with the final norm -/

/-- The printed kernel's body table is the idealised kernel's, row by row. -/
theorem down_bodies : Cert.Down.defs₀ (F := Bits) = Cert.DownIdeal.defs₀ (F := Bits) := by
  unfold Cert.Down.defs₀ Cert.DownIdeal.defs₀
  refine congrArg Defs.onTc (funext fun l => funext fun a => ?_)
  match l, a with
  | 0, (t, s) => rfl

/-- So is the whole table, the calls' regions and pipelines included. -/
theorem down_defs : Cert.Down.defs (F := Bits) = Cert.DownIdeal.defs (F := Bits) :=
  congrArg (Pipeline.defs Cert.DownIdeal.pcfgs) down_bodies

/-- The printed kernel's frame: the run of `Proof.DownRun`, at the machine's floats. -/
theorem frame_down : Cert.quiescent_Down := fun m ρ _ => by
  rw [down_defs]
  exact Down.frame (F := Bits) m ρ

/-- The idealised kernel's frame: the same run, over the extended reals. -/
theorem frame_downIdeal : Cert.quiescent_DownIdeal := fun m ρ _ => Down.frame (F := Ideal) m ρ

/-- The reference's frame: it declares no semaphore. -/
theorem frame_downReferenceIdeal : Cert.quiescent_DownReferenceIdeal := fun m ρ _ =>
  (θ_run Cert.DownReferenceIdeal.defs _ _).mono (fun r h => ⟨fun c => (h c).2, sem_eq_zero_of_no_sems (by decide) r.2⟩)
    (Down.reference_run m ρ)

/-! ## The parameters of S5 -/

/-- The printed kernel's frame. -/
theorem frame_params : Cert.quiescent_Params := fun m ρ _ => Cert.Params.Gen.frame m ρ

/-- The idealised kernel's frame. -/
theorem frame_paramsIdeal : Cert.quiescent_ParamsIdeal := fun m ρ _ => Cert.ParamsIdeal.Gen.frame m ρ

/-- The reference's frame: it declares no semaphore. -/
theorem frame_paramsReferenceIdeal : Cert.quiescent_ParamsReferenceIdeal := fun m ρ _ =>
  (θ_run Cert.ParamsReferenceIdeal.defs _ _).mono (fun r h => ⟨fun c => (h c).2.2.2.2.2, sem_eq_zero_of_no_sems (by decide) r.2⟩)
    (Params.reference_run m ρ)

/-! ## The feed-forward layer: the projections and the down-projection, one after the other -/

/-- The printed kernel's body table is the idealised kernel's, row by row. -/
theorem ffn_bodies : Cert.Ffn.defs₀ (F := Bits) = Cert.FfnIdeal.defs₀ (F := Bits) := by
  unfold Cert.Ffn.defs₀ Cert.FfnIdeal.defs₀
  refine congrArg Defs.onTc (funext fun l => funext fun a => ?_)
  match l, a with
  | 0, (t, s) => rfl
  | 1, (t, s) => rfl

/-- So is the whole table, the calls' regions and pipelines included. -/
theorem ffn_defs : Cert.Ffn.defs (F := Bits) = Cert.FfnIdeal.defs (F := Bits) :=
  congrArg (Pipeline.defs Cert.FfnIdeal.pcfgs) ffn_bodies

/-- The printed kernel's frame: the run of `Proof.FfnRun`, at the machine's floats. -/
theorem frame_ffn : Cert.quiescent_Ffn := fun m ρ _ => by
  rw [ffn_defs]
  exact Ffn.frame (F := Bits) m ρ

/-- The idealised kernel's frame: the same run, over the extended reals. -/
theorem frame_ffnIdeal : Cert.quiescent_FfnIdeal := fun m ρ _ => Ffn.frame (F := Ideal) m ρ

/-- The reference's frame: it declares no semaphore. -/
theorem frame_ffnReferenceIdeal : Cert.quiescent_FfnReferenceIdeal := fun m ρ _ =>
  (θ_run Cert.FfnReferenceIdeal.defs _ _).mono (fun r h => ⟨fun c => (h c).2, sem_eq_zero_of_no_sems (by decide) r.2⟩)
    (Ffn.reference_run m ρ)

/-- Everything claimed of the four calls and the layer. -/
theorem claim : Cert.Claim :=
  ⟨Cert.Kernel.Gen.facts, Cert.KernelIdeal.Gen.facts, Cert.ReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.Params.Gen.facts, Cert.ParamsIdeal.Gen.facts, Cert.ParamsReferenceIdeal.Gen.facts,
    Cert.Ffn.Gen.facts, Cert.FfnIdeal.Gen.facts, Cert.FfnReferenceIdeal.Gen.facts,
    frame_kernel, frame_kernelIdeal, frame_referenceIdeal, frame_up, frame_upIdeal, frame_upReferenceIdeal,
    frame_down, frame_downIdeal, frame_downReferenceIdeal,
    frame_params, frame_paramsIdeal, frame_paramsReferenceIdeal,
    frame_ffn, frame_ffnIdeal, frame_ffnReferenceIdeal,
    trivial, Outproj.algebraic, trivial, Up.algebraic, trivial, Down.algebraic, trivial, Params.algebraic,
    trivial, Ffn.algebraic⟩

end Cert.Proof

end
